-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "log2_decay" .f32 0xBD978D9E#32 (((Real.log (19 / 20)) * (Real.log 2)⁻¹ : ℝ) : EReal)
  ∧ IdealRules.named_const.Statement Cert.KernelIdeal.κ "decay_1" .f32 0x3AB88EB0#32 ((47913833785768504931539100806813606725215752967902333327106257800233702202700834294096866349571611959343693375577669086602318905371571733409819659324637792472240641 / 34028236692093846346337460743176821145600000000000000000000000000000000000000000000000000000000000000000000000000000000000000000000000000000000000000000000000000000000 : ℝ) : EReal)
  ∧ IdealRules.named_const.Statement Cert.KernelIdeal.κ "decay_2" .f32 0x36050D6D#32 ((2295735468050251461331025160401853014234666811947738896406015820125190654959807865961601196509416737091322136424523501079982230319224253706449643495700299167199480126964268328340111789958700324662074923814336204752566946940187705161293656157896913249015993322083719124856453517445405028608008663164255222372420196820567012090881 / 1157920892373161954235709850086879078532699846656405640394575840079131296399360000000000000000000000000000000000000000000000000000000000000000000000000000000000000000000000000000000000000000000000000000000000000000000000000000000000000000000000000000000000000000000000000000000000000000000000000000000000000000000000000000000000000000 : ℝ) : EReal)
  ∧ IdealRules.named_const.Statement Cert.KernelIdeal.κ "decay_4" .f32 0x2C8A4DE7#32 ((5270401339263907148195455108435749712387949529665984818890620327035744349038628439617672883017393890763061219202260682972977184100496482728047499695132235246977163768388262982383521988158526984488514182175771023674030519940106998759942664102683396206157922481991497974714863127939185112786080931720317865988299695036795106943899746195021750350379035186643851468681819417825315567347811932359399166247507103533898684257079775801837106945088879150233633336705712533604904809882555396179531077319756497089140338277024890606081010949651264290103497684120447916179134371231055558546206124722455998406996112137188896687443077804557282534764997108045243403356161 / 1340780792994259709957402499820584612747936582059239337772356144372176403007354697680187429816690342769003185818648605085375388281194656994643364900608409600000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16384 : Shape := ⟨3, ![2, 1024, 16384]⟩
abbrev S2x1024 : Shape := ⟨2, ![2, 1024]⟩
abbrev S16384 : Shape := ⟨1, ![16384]⟩
abbrev S1 : Shape := ⟨1, ![1]⟩
abbrev S2 : Shape := ⟨1, ![2]⟩
abbrev S128x128 : Shape := ⟨2, ![128, 128]⟩
abbrev S32x16384 : Shape := ⟨2, ![32, 16384]⟩
abbrev S16x128 : Shape := ⟨2, ![16, 128]⟩
abbrev S16 : Shape := ⟨1, ![16]⟩
abbrev S_ : Shape := ⟨0, ![]⟩
abbrev S1x32x16384 : Shape := ⟨3, ![1, 32, 16384]⟩
abbrev S1x128 : Shape := ⟨2, ![1, 128]⟩
abbrev S32x128 : Shape := ⟨2, ![32, 128]⟩
abbrev S1x128x16384 : Shape := ⟨3, ![1, 128, 16384]⟩
abbrev S128x16384 : Shape := ⟨2, ![128, 16384]⟩
abbrev S2x128 : Shape := ⟨2, ![2, 128]⟩
abbrev S16x1 : Shape := ⟨2, ![16, 1]⟩
abbrev S128x256 : Shape := ⟨2, ![128, 256]⟩
abbrev S16x256 : Shape := ⟨2, ![16, 256]⟩
abbrev S1x16x128 : Shape := ⟨3, ![1, 16, 128]⟩
abbrev S1x1x1 : Shape := ⟨3, ![1, 1, 1]⟩
abbrev S1x1 : Shape := ⟨2, ![1, 1]⟩

abbrev nBuf : Space → Nat
  | .hbm => 14
  | .vmem => 10
  | .smem => 5
  | _ => 0

abbrev bufTy : (tb : Table) → Fin (tcTables nBuf tb) → BufTy
  | .hbm, ⟨0, _⟩ => ⟨S2x1024x16384, .fp8e4m3⟩
  | .hbm, ⟨1, _⟩ => ⟨S2x1024, .f32⟩
  | .hbm, ⟨2, _⟩ => ⟨S16384, .fp8e4m3⟩
  | .hbm, ⟨3, _⟩ => ⟨S1, .f32⟩
  | .hbm, ⟨4, _⟩ => ⟨S1, .f32⟩
  | .hbm, ⟨5, _⟩ => ⟨S2x1024, .bf16⟩
  | .hbm, ⟨6, _⟩ => ⟨S2x1024, .bf16⟩
  | .hbm, ⟨7, _⟩ => ⟨S2, .f32⟩
  | .hbm, ⟨8, _⟩ => ⟨S2, .i32⟩
  | .hbm, ⟨9, _⟩ => ⟨S2, .i32⟩
  | .hbm, ⟨10, _⟩ => ⟨S128x128, .fp8e4m3⟩
  | .hbm, ⟨11, _⟩ => ⟨S2x1024, .f32⟩
  | .hbm, ⟨12, _⟩ => ⟨S2x1024, .f32⟩
  | .hbm, ⟨13, _⟩ => ⟨S2x1024, .f32⟩
  | .local _ .vmem, ⟨0, _⟩ => ⟨S128x128, .fp8e4m3⟩
  | .local _ .vmem, ⟨1, _⟩ => ⟨S2x1024, .f32⟩
  | .local _ .vmem, ⟨2, _⟩ => ⟨S2x1024, .bf16⟩
  | .local _ .vmem, ⟨3, _⟩ => ⟨S2x1024, .bf16⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024x16384, .fp8e4m3⟩
  | .local _ .vmem, ⟨8, _⟩ => ⟨S32x16384, .fp8e4m3⟩
  | .local _ .vmem, ⟨9, _⟩ => ⟨S16x128, .f32⟩
  | .local _ .smem, ⟨0, _⟩ => ⟨S2, .i32⟩
  | .local _ .smem, ⟨1, _⟩ => ⟨S2, .i32⟩
  | .local _ .smem, ⟨2, _⟩ => ⟨S2, .f32⟩
  | .local _ .smem, ⟨3, _⟩ => ⟨S1, .f32⟩
  | .local _ .smem, ⟨4, _⟩ => ⟨S1, .f32⟩
  | _, _ => ⟨S2x1024x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev cc0_stg5_0 : Ref sig .tc := ⟨.vmem, 0, rfl⟩
abbrev cc0_stg6_0 : Ref sig .tc := ⟨.vmem, 1, rfl⟩
abbrev cc0_stg7_0 : Ref sig .tc := ⟨.vmem, 2, rfl⟩
abbrev cc0_stg8_0 : Ref sig .tc := ⟨.vmem, 3, rfl⟩
abbrev cc0_stg9_0 : Ref sig .tc := ⟨.vmem, 4, rfl⟩
abbrev cc0_stg10_0 : Ref sig .tc := ⟨.vmem, 5, rfl⟩
abbrev cc0_stg11_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop (v0 : BitVec 32) (v1 : BitVec 32) (v2 : BitVec 32) (v3 : BitVec 32) (v5 : BitVec 32) (v6 : BitVec 32) : Scf.Loop 32 :=
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_87 : BitVec 32 := 1#32
  ⟨c0_i32_85, v183, c1_i32_87⟩

@[reducible] def k0_t2_loop (v0 : BitVec 32) (v1 : BitVec 32) (v2 : BitVec 32) (v3 : BitVec 32) (v5 : BitVec 32) (v6 : BitVec 32) (k0_t1 : Fin (k0_t1_loop v0 v1 v2 v3 v5 v6).trips) : Scf.Loop 32 :=
  let c0_i32_521 : BitVec 32 := 0#32
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let v1380 : BitVec 32 := Scalar.select v1371 v95 v74
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_523 : BitVec 32 := 1#32
  ⟨c0_i32_521, v1392, c1_i32_523⟩
def k0_mult1 (v0 : BitVec 32) (v1 : BitVec 32) (v2 : BitVec 32) (v3 : BitVec 32) (v5 : BitVec 32) (v6 : BitVec 32) (k0_t1 : Fin (k0_t1_loop v0 v1 v2 v3 v5 v6).trips) (k0_t2 : Fin (k0_t2_loop v0 v1 v2 v3 v5 v6 k0_t1).trips) : BitVec 32 :=
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t2
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  v1395
def k0_off1 (v0 : BitVec 32) (v1 : BitVec 32) (v2 : BitVec 32) (v3 : BitVec 32) (v5 : BitVec 32) (v6 : BitVec 32) (k0_t1 : Fin (k0_t1_loop v0 v1 v2 v3 v5 v6).trips) : Fin 1 → Nat :=
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_526 : BitVec 32 := 2#32
  let v1397 : BitVec 32 := Scalar.muli v1376 c2_i32_526
  let c1_i32_512 : BitVec 32 := 1#32
  let c0_i32_513 : BitVec 32 := 0#32
  let v1372 : BitVec 32 := Scalar.select v1371 c1_i32_512 c0_i32_513
  let v1398 : BitVec 32 := Scalar.addi v1397 v1372
  ![v1398.toNat]
def k0_off2 (v0 : BitVec 32) (v1 : BitVec 32) (v2 : BitVec 32) (v3 : BitVec 32) (v5 : BitVec 32) (v6 : BitVec 32) (k0_t1 : Fin (k0_t1_loop v0 v1 v2 v3 v5 v6).trips) (k0_t2 : Fin (k0_t2_loop v0 v1 v2 v3 v5 v6 k0_t1).trips) : Fin 3 → Nat :=
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t2
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  let v1396 : BitVec 32 := v1395
  let c0_i32_527 : BitVec 32 := 0#32
  ![v1372.toNat, v1396.toNat, 0]
@[reducible] def k0_t3_loop (v0 : BitVec 32) (v1 : BitVec 32) (v2 : BitVec 32) (v3 : BitVec 32) (v5 : BitVec 32) (v6 : BitVec 32) (k0_t1 : Fin (k0_t1_loop v0 v1 v2 v3 v5 v6).trips) : Scf.Loop 32 :=
  let c0_i32_521 : BitVec 32 := 0#32
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let v1380 : BitVec 32 := Scalar.select v1371 v95 v74
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let v1389 : BitVec 32 := Scalar.addi c0_i32_521 v1388
  let c1_i32_524 : BitVec 32 := 1#32
  ⟨v1392, v1389, c1_i32_524⟩
def k0_mult2 (v0 : BitVec 32) (v1 : BitVec 32) (v2 : BitVec 32) (v3 : BitVec 32) (v5 : BitVec 32) (v6 : BitVec 32) (k0_t1 : Fin (k0_t1_loop v0 v1 v2 v3 v5 v6).trips) (k0_t3 : Fin (k0_t3_loop v0 v1 v2 v3 v5 v6 k0_t1).trips) : BitVec 32 :=
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let v95 : BitVec 32 := Scalar.select v75 v94 v53
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t3
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  v1395
def k0_off3 (v0 : BitVec 32) (v1 : BitVec 32) (v2 : BitVec 32) (v3 : BitVec 32) (v5 : BitVec 32) (v6 : BitVec 32) (k0_t1 : Fin (k0_t1_loop v0 v1 v2 v3 v5 v6).trips) : Fin 1 → Nat :=
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_526 : BitVec 32 := 2#32
  let v1397 : BitVec 32 := Scalar.muli v1376 c2_i32_526
  let c1_i32_512 : BitVec 32 := 1#32
  let c0_i32_513 : BitVec 32 := 0#32
  let v1372 : BitVec 32 := Scalar.select v1371 c1_i32_512 c0_i32_513
  let v1398 : BitVec 32 := Scalar.addi v1397 v1372
  ![v1398.toNat]
def k0_off4 (v0 : BitVec 32) (v1 : BitVec 32) (v2 : BitVec 32) (v3 : BitVec 32) (v5 : BitVec 32) (v6 : BitVec 32) (k0_t1 : Fin (k0_t1_loop v0 v1 v2 v3 v5 v6).trips) (k0_t3 : Fin (k0_t3_loop v0 v1 v2 v3 v5 v6 k0_t1).trips) : Fin 3 → Nat :=
  let c0_i32_84 : BitVec 32 := 0#32
  let c0_i32_85 : BitVec 32 := 0#32
  let c1_i32_87 : BitVec 32 := 1#32
  let arg17 : BitVec 32 := Scf.iv c0_i32_85 c1_i32_87 k0_t1
  let c1_i32_83 : BitVec 32 := 1#32
  let v1369 : BitVec 32 := Scalar.muli arg17 c1_i32_83
  let v1370 : BitVec 32 := Scalar.addi c0_i32_84 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let v95 : BitVec 32 := Scalar.select v75 v94 v53
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t3
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  let v1396 : BitVec 32 := v1395
  let c0_i32_527 : BitVec 32 := 0#32
  ![v1372.toNat, v1396.toNat, 0]
@[reducible] def k0_t4_loop (v0 : BitVec 32) (v1 : BitVec 32) (v2 : BitVec 32) (v3 : BitVec 32) (v5 : BitVec 32) (v6 : BitVec 32) : Scf.Loop 32 :=
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let v180 : BitVec 32 := Scalar.addi c0_i32_85 v179
  let c1_i32_88 : BitVec 32 := 1#32
  ⟨v183, v180, c1_i32_88⟩
@[reducible] def k0_t5_loop (v0 : BitVec 32) (v1 : BitVec 32) (v2 : BitVec 32) (v3 : BitVec 32) (v5 : BitVec 32) (v6 : BitVec 32) (k0_t4 : Fin (k0_t4_loop v0 v1 v2 v3 v5 v6).trips) : Scf.Loop 32 :=
  let c0_i32_521 : BitVec 32 := 0#32
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let v1380 : BitVec 32 := Scalar.select v1371 v95 v74
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_523 : BitVec 32 := 1#32
  ⟨c0_i32_521, v1392, c1_i32_523⟩
def k0_mult3 (v0 : BitVec 32) (v1 : BitVec 32) (v2 : BitVec 32) (v3 : BitVec 32) (v5 : BitVec 32) (v6 : BitVec 32) (k0_t4 : Fin (k0_t4_loop v0 v1 v2 v3 v5 v6).trips) (k0_t5 : Fin (k0_t5_loop v0 v1 v2 v3 v5 v6 k0_t4).trips) : BitVec 32 :=
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t5
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  v1395
def k0_off5 (v0 : BitVec 32) (v1 : BitVec 32) (v2 : BitVec 32) (v3 : BitVec 32) (v5 : BitVec 32) (v6 : BitVec 32) (k0_t4 : Fin (k0_t4_loop v0 v1 v2 v3 v5 v6).trips) : Fin 1 → Nat :=
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_526 : BitVec 32 := 2#32
  let v1397 : BitVec 32 := Scalar.muli v1376 c2_i32_526
  let c1_i32_512 : BitVec 32 := 1#32
  let c0_i32_513 : BitVec 32 := 0#32
  let v1372 : BitVec 32 := Scalar.select v1371 c1_i32_512 c0_i32_513
  let v1398 : BitVec 32 := Scalar.addi v1397 v1372
  ![v1398.toNat]
def k0_off6 (v0 : BitVec 32) (v1 : BitVec 32) (v2 : BitVec 32) (v3 : BitVec 32) (v5 : BitVec 32) (v6 : BitVec 32) (k0_t4 : Fin (k0_t4_loop v0 v1 v2 v3 v5 v6).trips) (k0_t5 : Fin (k0_t5_loop v0 v1 v2 v3 v5 v6 k0_t4).trips) : Fin 3 → Nat :=
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t5
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  let v1396 : BitVec 32 := v1395
  let c0_i32_527 : BitVec 32 := 0#32
  ![v1372.toNat, v1396.toNat, 0]
@[reducible] def k0_t6_loop (v0 : BitVec 32) (v1 : BitVec 32) (v2 : BitVec 32) (v3 : BitVec 32) (v5 : BitVec 32) (v6 : BitVec 32) (k0_t4 : Fin (k0_t4_loop v0 v1 v2 v3 v5 v6).trips) : Scf.Loop 32 :=
  let c0_i32_521 : BitVec 32 := 0#32
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let v1380 : BitVec 32 := Scalar.select v1371 v95 v74
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let v1389 : BitVec 32 := Scalar.addi c0_i32_521 v1388
  let c1_i32_524 : BitVec 32 := 1#32
  ⟨v1392, v1389, c1_i32_524⟩
def k0_mult4 (v0 : BitVec 32) (v1 : BitVec 32) (v2 : BitVec 32) (v3 : BitVec 32) (v5 : BitVec 32) (v6 : BitVec 32) (k0_t4 : Fin (k0_t4_loop v0 v1 v2 v3 v5 v6).trips) (k0_t6 : Fin (k0_t6_loop v0 v1 v2 v3 v5 v6 k0_t4).trips) : BitVec 32 :=
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t6
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  v1395
def k0_off7 (v0 : BitVec 32) (v1 : BitVec 32) (v2 : BitVec 32) (v3 : BitVec 32) (v5 : BitVec 32) (v6 : BitVec 32) (k0_t4 : Fin (k0_t4_loop v0 v1 v2 v3 v5 v6).trips) : Fin 1 → Nat :=
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_526 : BitVec 32 := 2#32
  let v1397 : BitVec 32 := Scalar.muli v1376 c2_i32_526
  let c1_i32_512 : BitVec 32 := 1#32
  let c0_i32_513 : BitVec 32 := 0#32
  let v1372 : BitVec 32 := Scalar.select v1371 c1_i32_512 c0_i32_513
  let v1398 : BitVec 32 := Scalar.addi v1397 v1372
  ![v1398.toNat]
def k0_off8 (v0 : BitVec 32) (v1 : BitVec 32) (v2 : BitVec 32) (v3 : BitVec 32) (v5 : BitVec 32) (v6 : BitVec 32) (k0_t4 : Fin (k0_t4_loop v0 v1 v2 v3 v5 v6).trips) (k0_t6 : Fin (k0_t6_loop v0 v1 v2 v3 v5 v6 k0_t4).trips) : Fin 3 → Nat :=
  let c0_i32_84 : BitVec 32 := 0#32
  let c0_i32_85 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_79 : BitVec 32 := 0#32
  let v175 : BitVec 32 := Scalar.subi v174 c0_i32_79
  let c1_i32_80 : BitVec 32 := 1#32
  let c1_i32_81 : BitVec 32 := 1#32
  let v176 : BitVec 32 := Scalar.subi c1_i32_80 c1_i32_81
  let v177 : BitVec 32 := Scalar.addi v175 v176
  let c1_i32_82 : BitVec 32 := 1#32
  let v178 : BitVec 32 := Scalar.divsi v177 c1_i32_82
  let v179 : BitVec 32 := Scalar.subi v178 c0_i32_85
  let c1_i32_86 : BitVec 32 := 1#32
  let v181 : BitVec 32 := Scalar.divsi v179 c1_i32_86
  let v182 : BitVec 32 := Scalar.muli v181 c1_i32_86
  let v183 : BitVec 32 := Scalar.addi c0_i32_85 v182
  let c1_i32_88 : BitVec 32 := 1#32
  let arg17 : BitVec 32 := Scf.iv v183 c1_i32_88 k0_t4
  let c1_i32_83 : BitVec 32 := 1#32
  let v1369 : BitVec 32 := Scalar.muli arg17 c1_i32_83
  let v1370 : BitVec 32 := Scalar.addi c0_i32_84 v1369
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t6
  let c1_i32_520 : BitVec 32 := 1#32
  let v1393 : BitVec 32 := Scalar.muli arg18 c1_i32_520
  let v1394 : BitVec 32 := Scalar.addi v1379 v1393
  let c32_i32_525 : BitVec 32 := 32#32
  let v1395 : BitVec 32 := Scalar.muli v1394 c32_i32_525
  let v1396 : BitVec 32 := v1395
  let c0_i32_527 : BitVec 32 := 0#32
  ![v1372.toNat, v1396.toNat, 0]
@[reducible] def k0_t7_loop (v0 : BitVec 32) (v1 : BitVec 32) (v2 : BitVec 32) (v3 : BitVec 32) (v5 : BitVec 32) (v6 : BitVec 32) : Scf.Loop 32 :=
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_358 : BitVec 32 := 1#32
  ⟨c0_i32_356, v1092, c1_i32_358⟩
@[reducible] def k0_t8_loop (v0 : BitVec 32) (v1 : BitVec 32) (v2 : BitVec 32) (v3 : BitVec 32) (v5 : BitVec 32) (v6 : BitVec 32) (k0_t7 : Fin (k0_t7_loop v0 v1 v2 v3 v5 v6).trips) : Scf.Loop 32 :=
  let c0_i32_521 : BitVec 32 := 0#32
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let v1380 : BitVec 32 := Scalar.select v1371 v95 v74
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_523 : BitVec 32 := 1#32
  ⟨c0_i32_521, v1392, c1_i32_523⟩
def k0_mult5 (v0 : BitVec 32) (v1 : BitVec 32) (v2 : BitVec 32) (v3 : BitVec 32) (v5 : BitVec 32) (v6 : BitVec 32) (k0_t7 : Fin (k0_t7_loop v0 v1 v2 v3 v5 v6).trips) (k0_t8 : Fin (k0_t8_loop v0 v1 v2 v3 v5 v6 k0_t7).trips) : BitVec 32 :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t8
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  v1410
def k0_off9 (v0 : BitVec 32) (v1 : BitVec 32) (v2 : BitVec 32) (v3 : BitVec 32) (v5 : BitVec 32) (v6 : BitVec 32) (k0_t7 : Fin (k0_t7_loop v0 v1 v2 v3 v5 v6).trips) : Fin 1 → Nat :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_533 : BitVec 32 := 2#32
  let v1412 : BitVec 32 := Scalar.muli v1376 c2_i32_533
  let c1_i32_512 : BitVec 32 := 1#32
  let c0_i32_513 : BitVec 32 := 0#32
  let v1372 : BitVec 32 := Scalar.select v1371 c1_i32_512 c0_i32_513
  let v1413 : BitVec 32 := Scalar.addi v1412 v1372
  ![v1413.toNat]
def k0_off10 (v0 : BitVec 32) (v1 : BitVec 32) (v2 : BitVec 32) (v3 : BitVec 32) (v5 : BitVec 32) (v6 : BitVec 32) (k0_t7 : Fin (k0_t7_loop v0 v1 v2 v3 v5 v6).trips) (k0_t8 : Fin (k0_t8_loop v0 v1 v2 v3 v5 v6 k0_t7).trips) : Fin 3 → Nat :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t8
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  let v1411 : BitVec 32 := v1410
  let c0_i32_534 : BitVec 32 := 0#32
  ![v1372.toNat, v1411.toNat, 0]
@[reducible] def k0_t9_loop (v0 : BitVec 32) (v1 : BitVec 32) (v2 : BitVec 32) (v3 : BitVec 32) (v5 : BitVec 32) (v6 : BitVec 32) (k0_t7 : Fin (k0_t7_loop v0 v1 v2 v3 v5 v6).trips) : Scf.Loop 32 :=
  let c0_i32_521 : BitVec 32 := 0#32
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let v1380 : BitVec 32 := Scalar.select v1371 v95 v74
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let v1389 : BitVec 32 := Scalar.addi c0_i32_521 v1388
  let c1_i32_524 : BitVec 32 := 1#32
  ⟨v1392, v1389, c1_i32_524⟩
def k0_mult6 (v0 : BitVec 32) (v1 : BitVec 32) (v2 : BitVec 32) (v3 : BitVec 32) (v5 : BitVec 32) (v6 : BitVec 32) (k0_t7 : Fin (k0_t7_loop v0 v1 v2 v3 v5 v6).trips) (k0_t9 : Fin (k0_t9_loop v0 v1 v2 v3 v5 v6 k0_t7).trips) : BitVec 32 :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let v95 : BitVec 32 := Scalar.select v75 v94 v53
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t9
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  v1410
def k0_off11 (v0 : BitVec 32) (v1 : BitVec 32) (v2 : BitVec 32) (v3 : BitVec 32) (v5 : BitVec 32) (v6 : BitVec 32) (k0_t7 : Fin (k0_t7_loop v0 v1 v2 v3 v5 v6).trips) : Fin 1 → Nat :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_533 : BitVec 32 := 2#32
  let v1412 : BitVec 32 := Scalar.muli v1376 c2_i32_533
  let c1_i32_512 : BitVec 32 := 1#32
  let c0_i32_513 : BitVec 32 := 0#32
  let v1372 : BitVec 32 := Scalar.select v1371 c1_i32_512 c0_i32_513
  let v1413 : BitVec 32 := Scalar.addi v1412 v1372
  ![v1413.toNat]
def k0_off12 (v0 : BitVec 32) (v1 : BitVec 32) (v2 : BitVec 32) (v3 : BitVec 32) (v5 : BitVec 32) (v6 : BitVec 32) (k0_t7 : Fin (k0_t7_loop v0 v1 v2 v3 v5 v6).trips) (k0_t9 : Fin (k0_t9_loop v0 v1 v2 v3 v5 v6 k0_t7).trips) : Fin 3 → Nat :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v1377 : BitVec 32 := Scalar.select v1371 v53 v36
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let v18 : BitVec 32 := Scalar.subi v15 v11
  let c0_i32_11 : BitVec 32 := 0#32
  let v19 : BitVec 32 := Scalar.maxsi v18 c0_i32_11
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let v95 : BitVec 32 := Scalar.select v75 v94 v53
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t9
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  let v1411 : BitVec 32 := v1410
  let c0_i32_534 : BitVec 32 := 0#32
  ![v1372.toNat, v1411.toNat, 0]
def k0_mult7 (v0 : BitVec 32) (v1 : BitVec 32) (v2 : BitVec 32) (v3 : BitVec 32) (v5 : BitVec 32) (v6 : BitVec 32) (k0_t7 : Fin (k0_t7_loop v0 v1 v2 v3 v5 v6).trips) : BitVec 32 :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c128_i32_525 : BitVec 32 := 128#32
  let v1393 : BitVec 32 := Scalar.muli v1376 c128_i32_525
  v1393
def k0_off13 (v0 : BitVec 32) (v1 : BitVec 32) (v2 : BitVec 32) (v3 : BitVec 32) (v5 : BitVec 32) (v6 : BitVec 32) (k0_t7 : Fin (k0_t7_loop v0 v1 v2 v3 v5 v6).trips) : Fin 3 → Nat :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let v1396 : Index := Scalar.indexCast v1372
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c128_i32_525 : BitVec 32 := 128#32
  let v1393 : BitVec 32 := Scalar.muli v1376 c128_i32_525
  let v1394 : BitVec 32 := v1393
  let v1397 : Index := Scalar.indexCast v1394
  let c0_528 : Index := 0#32
  ![v1396.toNat, v1397.toNat, 0]
def k0_off14 (v0 : BitVec 32) (v1 : BitVec 32) (v2 : BitVec 32) (v3 : BitVec 32) (v5 : BitVec 32) (v6 : BitVec 32) (k0_t7 : Fin (k0_t7_loop v0 v1 v2 v3 v5 v6).trips) : Fin 2 → Nat :=
  let c0_i32_355 : BitVec 32 := 0#32
  let c0_i32_356 : BitVec 32 := 0#32
  let c1_i32_358 : BitVec 32 := 1#32
  let arg17 : BitVec 32 := Scf.iv c0_i32_356 c1_i32_358 k0_t7
  let c1_i32_354 : BitVec 32 := 1#32
  let v1369 : BitVec 32 := Scalar.muli arg17 c1_i32_354
  let v1370 : BitVec 32 := Scalar.addi c0_i32_355 v1369
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let v1371 : BitVec 1 := Scalar.cmpi .sge v1370 v151
  let c1024_i32_5 : BitVec 32 := 1024#32
  let c0_i32_4 : BitVec 32 := 0#32
  let v10 : BitVec 32 := Scalar.maxsi c0_i32_4 v1
  let v11 : BitVec 32 := Scalar.minsi c1024_i32_5 v10
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_530 : BitVec 32 := 2#32
  let v1402 : BitVec 32 := Scalar.muli v1376 c2_i32_530
  let c1_i32_512 : BitVec 32 := 1#32
  let c0_i32_513 : BitVec 32 := 0#32
  let v1372 : BitVec 32 := Scalar.select v1371 c1_i32_512 c0_i32_513
  let v1403 : BitVec 32 := Scalar.addi v1402 v1372
  let v1404 : Index := Scalar.indexCast v1403
  let c0_531 : Index := 0#32
  ![v1404.toNat, 0]
@[reducible] def k0_t10_loop (v0 : BitVec 32) (v1 : BitVec 32) (v2 : BitVec 32) (v3 : BitVec 32) (v5 : BitVec 32) (v6 : BitVec 32) : Scf.Loop 32 :=
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let v1089 : BitVec 32 := Scalar.addi c0_i32_356 v1088
  let c1_i32_359 : BitVec 32 := 1#32
  ⟨v1092, v1089, c1_i32_359⟩
@[reducible] def k0_t11_loop (v0 : BitVec 32) (v1 : BitVec 32) (v2 : BitVec 32) (v3 : BitVec 32) (v5 : BitVec 32) (v6 : BitVec 32) (k0_t10 : Fin (k0_t10_loop v0 v1 v2 v3 v5 v6).trips) : Scf.Loop 32 :=
  let c0_i32_521 : BitVec 32 := 0#32
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1380 : BitVec 32 := Scalar.select v1371 v95 v74
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_523 : BitVec 32 := 1#32
  ⟨c0_i32_521, v1392, c1_i32_523⟩
def k0_mult8 (v0 : BitVec 32) (v1 : BitVec 32) (v2 : BitVec 32) (v3 : BitVec 32) (v5 : BitVec 32) (v6 : BitVec 32) (k0_t10 : Fin (k0_t10_loop v0 v1 v2 v3 v5 v6).trips) (k0_t11 : Fin (k0_t11_loop v0 v1 v2 v3 v5 v6 k0_t10).trips) : BitVec 32 :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t11
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  v1410
def k0_off15 (v0 : BitVec 32) (v1 : BitVec 32) (v2 : BitVec 32) (v3 : BitVec 32) (v5 : BitVec 32) (v6 : BitVec 32) (k0_t10 : Fin (k0_t10_loop v0 v1 v2 v3 v5 v6).trips) : Fin 1 → Nat :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_533 : BitVec 32 := 2#32
  let v1412 : BitVec 32 := Scalar.muli v1376 c2_i32_533
  let c1_i32_512 : BitVec 32 := 1#32
  let c0_i32_513 : BitVec 32 := 0#32
  let v1372 : BitVec 32 := Scalar.select v1371 c1_i32_512 c0_i32_513
  let v1413 : BitVec 32 := Scalar.addi v1412 v1372
  ![v1413.toNat]
def k0_off16 (v0 : BitVec 32) (v1 : BitVec 32) (v2 : BitVec 32) (v3 : BitVec 32) (v5 : BitVec 32) (v6 : BitVec 32) (k0_t10 : Fin (k0_t10_loop v0 v1 v2 v3 v5 v6).trips) (k0_t11 : Fin (k0_t11_loop v0 v1 v2 v3 v5 v6 k0_t10).trips) : Fin 3 → Nat :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let c1_i32_523 : BitVec 32 := 1#32
  let arg18 : BitVec 32 := Scf.iv c0_i32_521 c1_i32_523 k0_t11
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  let v1411 : BitVec 32 := v1410
  let c0_i32_534 : BitVec 32 := 0#32
  ![v1372.toNat, v1411.toNat, 0]
@[reducible] def k0_t12_loop (v0 : BitVec 32) (v1 : BitVec 32) (v2 : BitVec 32) (v3 : BitVec 32) (v5 : BitVec 32) (v6 : BitVec 32) (k0_t10 : Fin (k0_t10_loop v0 v1 v2 v3 v5 v6).trips) : Scf.Loop 32 :=
  let c0_i32_521 : BitVec 32 := 0#32
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1380 : BitVec 32 := Scalar.select v1371 v95 v74
  let v1373 : BitVec 32 := Scalar.addi v129 v1370
  let v1374 : BitVec 32 := Scalar.subi v1373 v151
  let v1375 : BitVec 32 := Scalar.addi v112 v1370
  let v1376 : BitVec 32 := Scalar.select v1371 v1374 v1375
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1377 : BitVec 32 := Scalar.select v1371 v53 v36
  let c4_i32_514 : BitVec 32 := 4#32
  let v1378 : BitVec 32 := Scalar.muli v1376 c4_i32_514
  let v1379 : BitVec 32 := Scalar.maxsi v1377 v1378
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let v1389 : BitVec 32 := Scalar.addi c0_i32_521 v1388
  let c1_i32_524 : BitVec 32 := 1#32
  ⟨v1392, v1389, c1_i32_524⟩
def k0_mult9 (v0 : BitVec 32) (v1 : BitVec 32) (v2 : BitVec 32) (v3 : BitVec 32) (v5 : BitVec 32) (v6 : BitVec 32) (k0_t10 : Fin (k0_t10_loop v0 v1 v2 v3 v5 v6).trips) (k0_t12 : Fin (k0_t12_loop v0 v1 v2 v3 v5 v6 k0_t10).trips) : BitVec 32 :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t12
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  v1410
def k0_off17 (v0 : BitVec 32) (v1 : BitVec 32) (v2 : BitVec 32) (v3 : BitVec 32) (v5 : BitVec 32) (v6 : BitVec 32) (k0_t10 : Fin (k0_t10_loop v0 v1 v2 v3 v5 v6).trips) : Fin 1 → Nat :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_533 : BitVec 32 := 2#32
  let v1412 : BitVec 32 := Scalar.muli v1376 c2_i32_533
  let c1_i32_512 : BitVec 32 := 1#32
  let c0_i32_513 : BitVec 32 := 0#32
  let v1372 : BitVec 32 := Scalar.select v1371 c1_i32_512 c0_i32_513
  let v1413 : BitVec 32 := Scalar.addi v1412 v1372
  ![v1413.toNat]
def k0_off18 (v0 : BitVec 32) (v1 : BitVec 32) (v2 : BitVec 32) (v3 : BitVec 32) (v5 : BitVec 32) (v6 : BitVec 32) (k0_t10 : Fin (k0_t10_loop v0 v1 v2 v3 v5 v6).trips) (k0_t12 : Fin (k0_t12_loop v0 v1 v2 v3 v5 v6 k0_t10).trips) : Fin 3 → Nat :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let v1377 : BitVec 32 := Scalar.select v1371 v53 v36
  let v1373 : BitVec 32 := Scalar.addi v129 v1370
  let v1374 : BitVec 32 := Scalar.subi v1373 v151
  let v1375 : BitVec 32 := Scalar.addi v112 v1370
  let v1376 : BitVec 32 := Scalar.select v1371 v1374 v1375
  let c4_i32_514 : BitVec 32 := 4#32
  let v1378 : BitVec 32 := Scalar.muli v1376 c4_i32_514
  let v1379 : BitVec 32 := Scalar.maxsi v1377 v1378
  let c0_i32_521 : BitVec 32 := 0#32
  let v1380 : BitVec 32 := Scalar.select v1371 v95 v74
  let c1_i32_515 : BitVec 32 := 1#32
  let v1381 : BitVec 32 := Scalar.addi v1376 c1_i32_515
  let c4_i32_516 : BitVec 32 := 4#32
  let v1382 : BitVec 32 := Scalar.muli v1381 c4_i32_516
  let v1383 : BitVec 32 := Scalar.minsi v1380 v1382
  let v1384 : BitVec 32 := Scalar.subi v1383 v1379
  let c1_i32_517 : BitVec 32 := 1#32
  let c1_i32_518 : BitVec 32 := 1#32
  let v1385 : BitVec 32 := Scalar.subi c1_i32_517 c1_i32_518
  let v1386 : BitVec 32 := Scalar.addi v1384 v1385
  let c1_i32_519 : BitVec 32 := 1#32
  let v1387 : BitVec 32 := Scalar.divsi v1386 c1_i32_519
  let v1388 : BitVec 32 := Scalar.subi v1387 c0_i32_521
  let c1_i32_522 : BitVec 32 := 1#32
  let v1390 : BitVec 32 := Scalar.divsi v1388 c1_i32_522
  let v1391 : BitVec 32 := Scalar.muli v1390 c1_i32_522
  let v1392 : BitVec 32 := Scalar.addi c0_i32_521 v1391
  let c1_i32_524 : BitVec 32 := 1#32
  let arg18 : BitVec 32 := Scf.iv v1392 c1_i32_524 k0_t12
  let c1_i32_520 : BitVec 32 := 1#32
  let v1408 : BitVec 32 := Scalar.muli arg18 c1_i32_520
  let v1409 : BitVec 32 := Scalar.addi v1379 v1408
  let c32_i32_532 : BitVec 32 := 32#32
  let v1410 : BitVec 32 := Scalar.muli v1409 c32_i32_532
  let v1411 : BitVec 32 := v1410
  let c0_i32_534 : BitVec 32 := 0#32
  ![v1372.toNat, v1411.toNat, 0]
def k0_mult10 (v0 : BitVec 32) (v1 : BitVec 32) (v2 : BitVec 32) (v3 : BitVec 32) (v5 : BitVec 32) (v6 : BitVec 32) (k0_t10 : Fin (k0_t10_loop v0 v1 v2 v3 v5 v6).trips) : BitVec 32 :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1373 : BitVec 32 := Scalar.addi v129 v1370
  let v1374 : BitVec 32 := Scalar.subi v1373 v151
  let v1375 : BitVec 32 := Scalar.addi v112 v1370
  let v1376 : BitVec 32 := Scalar.select v1371 v1374 v1375
  let c128_i32_525 : BitVec 32 := 128#32
  let v1393 : BitVec 32 := Scalar.muli v1376 c128_i32_525
  v1393
def k0_off19 (v0 : BitVec 32) (v1 : BitVec 32) (v2 : BitVec 32) (v3 : BitVec 32) (v5 : BitVec 32) (v6 : BitVec 32) (k0_t10 : Fin (k0_t10_loop v0 v1 v2 v3 v5 v6).trips) : Fin 3 → Nat :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let c1_i32_512 : BitVec 32 := 1#32
  let c0_i32_513 : BitVec 32 := 0#32
  let v1372 : BitVec 32 := Scalar.select v1371 c1_i32_512 c0_i32_513
  let v1396 : Index := Scalar.indexCast v1372
  let v1373 : BitVec 32 := Scalar.addi v129 v1370
  let v1374 : BitVec 32 := Scalar.subi v1373 v151
  let v1375 : BitVec 32 := Scalar.addi v112 v1370
  let v1376 : BitVec 32 := Scalar.select v1371 v1374 v1375
  let c128_i32_525 : BitVec 32 := 128#32
  let v1393 : BitVec 32 := Scalar.muli v1376 c128_i32_525
  let v1394 : BitVec 32 := v1393
  let v1397 : Index := Scalar.indexCast v1394
  let c0_528 : Index := 0#32
  ![v1396.toNat, v1397.toNat, 0]
def k0_off20 (v0 : BitVec 32) (v1 : BitVec 32) (v2 : BitVec 32) (v3 : BitVec 32) (v5 : BitVec 32) (v6 : BitVec 32) (k0_t10 : Fin (k0_t10_loop v0 v1 v2 v3 v5 v6).trips) : Fin 2 → Nat :=
  let c0_i32_355 : BitVec 32 := 0#32
  let c0_i32_356 : BitVec 32 := 0#32
  let c1024_i32_7 : BitVec 32 := 1024#32
  let c0_i32_6 : BitVec 32 := 0#32
  let v4 : BitVec 32 := Scalar.addi v2 v3
  let v12 : BitVec 32 := Scalar.maxsi c0_i32_6 v4
  let v13 : BitVec 32 := Scalar.minsi c1024_i32_7 v12
  let c1024_i32 : BitVec 32 := 1024#32
  let c0_i32 : BitVec 32 := 0#32
  let v8 : BitVec 32 := Scalar.maxsi c0_i32 v0
  let v9 : BitVec 32 := Scalar.minsi c1024_i32 v8
  let v16 : BitVec 32 := Scalar.subi v13 v9
  let c0_i32_10 : BitVec 32 := 0#32
  let v17 : BitVec 32 := Scalar.maxsi v16 c0_i32_10
  let c0_i32_57 : BitVec 32 := 0#32
  let v130 : BitVec 1 := Scalar.cmpi .sgt v17 c0_i32_57
  let c0_i32_24 : BitVec 32 := 0#32
  let v54 : BitVec 1 := Scalar.cmpi .sgt v17 c0_i32_24
  let c32_i32_25 : BitVec 32 := 32#32
  let v55 : BitVec 32 := Scalar.addi v13 c32_i32_25
  let c1_i32_26 : BitVec 32 := 1#32
  let v56 : BitVec 32 := Scalar.subi v55 c1_i32_26
  let c0_i32_28 : BitVec 32 := 0#32
  let v58 : BitVec 1 := Scalar.cmpi .sgt v56 c0_i32_28
  let v59 : BitVec 32 := Scalar.extui v58
  let c0_i32_29 : BitVec 32 := 0#32
  let v60 : BitVec 1 := Scalar.cmpi .slt v56 c0_i32_29
  let v61 : BitVec 32 := Scalar.extui v60
  let v62 : BitVec 32 := Scalar.subi v59 v61
  let c32_i32_27 : BitVec 32 := 32#32
  let c0_i32_30 : BitVec 32 := 0#32
  let v63 : BitVec 1 := Scalar.cmpi .sgt c32_i32_27 c0_i32_30
  let v64 : BitVec 32 := Scalar.extui v63
  let c0_i32_31 : BitVec 32 := 0#32
  let v65 : BitVec 1 := Scalar.cmpi .slt c32_i32_27 c0_i32_31
  let v66 : BitVec 32 := Scalar.extui v65
  let v67 : BitVec 32 := Scalar.subi v64 v66
  let v68 : BitVec 1 := Scalar.cmpi .ne v62 v67
  let v69 : BitVec 32 := Scalar.remsi v56 c32_i32_27
  let c0_i32_32 : BitVec 32 := 0#32
  let v70 : BitVec 1 := Scalar.cmpi .ne v69 c0_i32_32
  let v71 : BitVec 1 := Scalar.andi v68 v70
  let v57 : BitVec 32 := Scalar.divsi v56 c32_i32_27
  let c1_i32_33 : BitVec 32 := 1#32
  let v72 : BitVec 32 := Scalar.subi v57 c1_i32_33
  let v73 : BitVec 32 := Scalar.select v71 v72 v57
  let c0_i32_12 : BitVec 32 := 0#32
  let v21 : BitVec 1 := Scalar.cmpi .sgt v9 c0_i32_12
  let v22 : BitVec 32 := Scalar.extui v21
  let c0_i32_13 : BitVec 32 := 0#32
  let v23 : BitVec 1 := Scalar.cmpi .slt v9 c0_i32_13
  let v24 : BitVec 32 := Scalar.extui v23
  let v25 : BitVec 32 := Scalar.subi v22 v24
  let c32_i32 : BitVec 32 := 32#32
  let c0_i32_14 : BitVec 32 := 0#32
  let v26 : BitVec 1 := Scalar.cmpi .sgt c32_i32 c0_i32_14
  let v27 : BitVec 32 := Scalar.extui v26
  let c0_i32_15 : BitVec 32 := 0#32
  let v28 : BitVec 1 := Scalar.cmpi .slt c32_i32 c0_i32_15
  let v29 : BitVec 32 := Scalar.extui v28
  let v30 : BitVec 32 := Scalar.subi v27 v29
  let v31 : BitVec 1 := Scalar.cmpi .ne v25 v30
  let v32 : BitVec 32 := Scalar.remsi v9 c32_i32
  let c0_i32_16 : BitVec 32 := 0#32
  let v33 : BitVec 1 := Scalar.cmpi .ne v32 c0_i32_16
  let v34 : BitVec 1 := Scalar.andi v31 v33
  let v20 : BitVec 32 := Scalar.divsi v9 c32_i32
  let c1_i32 : BitVec 32 := 1#32
  let v35 : BitVec 32 := Scalar.subi v20 c1_i32
  let v36 : BitVec 32 := Scalar.select v34 v35 v20
  let v74 : BitVec 32 := Scalar.select v54 v73 v36
  let c4_i32_58 : BitVec 32 := 4#32
  let v131 : BitVec 32 := Scalar.addi v74 c4_i32_58
  let c1_i32_59 : BitVec 32 := 1#32
  let v132 : BitVec 32 := Scalar.subi v131 c1_i32_59
  let c0_i32_61 : BitVec 32 := 0#32
  let v134 : BitVec 1 := Scalar.cmpi .sgt v132 c0_i32_61
  let v135 : BitVec 32 := Scalar.extui v134
  let c0_i32_62 : BitVec 32 := 0#32
  let v136 : BitVec 1 := Scalar.cmpi .slt v132 c0_i32_62
  let v137 : BitVec 32 := Scalar.extui v136
  let v138 : BitVec 32 := Scalar.subi v135 v137
  let c4_i32_60 : BitVec 32 := 4#32
  let c0_i32_63 : BitVec 32 := 0#32
  let v139 : BitVec 1 := Scalar.cmpi .sgt c4_i32_60 c0_i32_63
  let v140 : BitVec 32 := Scalar.extui v139
  let c0_i32_64 : BitVec 32 := 0#32
  let v141 : BitVec 1 := Scalar.cmpi .slt c4_i32_60 c0_i32_64
  let v142 : BitVec 32 := Scalar.extui v141
  let v143 : BitVec 32 := Scalar.subi v140 v142
  let v144 : BitVec 1 := Scalar.cmpi .ne v138 v143
  let v145 : BitVec 32 := Scalar.remsi v132 c4_i32_60
  let c0_i32_65 : BitVec 32 := 0#32
  let v146 : BitVec 1 := Scalar.cmpi .ne v145 c0_i32_65
  let v147 : BitVec 1 := Scalar.andi v144 v146
  let v133 : BitVec 32 := Scalar.divsi v132 c4_i32_60
  let c1_i32_66 : BitVec 32 := 1#32
  let v148 : BitVec 32 := Scalar.subi v133 c1_i32_66
  let v149 : BitVec 32 := Scalar.select v147 v148 v133
  let c0_i32_44 : BitVec 32 := 0#32
  let v97 : BitVec 1 := Scalar.cmpi .sgt v36 c0_i32_44
  let v98 : BitVec 32 := Scalar.extui v97
  let c0_i32_45 : BitVec 32 := 0#32
  let v99 : BitVec 1 := Scalar.cmpi .slt v36 c0_i32_45
  let v100 : BitVec 32 := Scalar.extui v99
  let v101 : BitVec 32 := Scalar.subi v98 v100
  let c4_i32 : BitVec 32 := 4#32
  let c0_i32_46 : BitVec 32 := 0#32
  let v102 : BitVec 1 := Scalar.cmpi .sgt c4_i32 c0_i32_46
  let v103 : BitVec 32 := Scalar.extui v102
  let c0_i32_47 : BitVec 32 := 0#32
  let v104 : BitVec 1 := Scalar.cmpi .slt c4_i32 c0_i32_47
  let v105 : BitVec 32 := Scalar.extui v104
  let v106 : BitVec 32 := Scalar.subi v103 v105
  let v107 : BitVec 1 := Scalar.cmpi .ne v101 v106
  let v108 : BitVec 32 := Scalar.remsi v36 c4_i32
  let c0_i32_48 : BitVec 32 := 0#32
  let v109 : BitVec 1 := Scalar.cmpi .ne v108 c0_i32_48
  let v110 : BitVec 1 := Scalar.andi v107 v109
  let v96 : BitVec 32 := Scalar.divsi v36 c4_i32
  let c1_i32_49 : BitVec 32 := 1#32
  let v111 : BitVec 32 := Scalar.subi v96 c1_i32_49
  let v112 : BitVec 32 := Scalar.select v110 v111 v96
  let v150 : BitVec 32 := Scalar.subi v149 v112
  let c0_i32_67 : BitVec 32 := 0#32
  let v151 : BitVec 32 := Scalar.select v130 v150 c0_i32_67
  let c1024_i32_9 : BitVec 32 := 1024#32
  let c0_i32_8 : BitVec 32 := 0#32
  let v7 : BitVec 32 := Scalar.addi v5 v6
  let v14 : BitVec 32 := Scalar.maxsi c0_i32_8 v7
  let v15 : BitVec 32 := Scalar.minsi c1024_i32_9 v14
  let c1024_i32_5 : BitVec 32 := 1024#32
  let c0_i32_4 : BitVec 32 := 0#32
  let v10 : BitVec 32 := Scalar.maxsi c0_i32_4 v1
  let v11 : BitVec 32 := Scalar.minsi c1024_i32_5 v10
  let v18 : BitVec 32 := Scalar.subi v15 v11
  let c0_i32_11 : BitVec 32 := 0#32
  let v19 : BitVec 32 := Scalar.maxsi v18 c0_i32_11
  let c0_i32_68 : BitVec 32 := 0#32
  let v152 : BitVec 1 := Scalar.cmpi .sgt v19 c0_i32_68
  let c0_i32_34 : BitVec 32 := 0#32
  let v75 : BitVec 1 := Scalar.cmpi .sgt v19 c0_i32_34
  let c32_i32_35 : BitVec 32 := 32#32
  let v76 : BitVec 32 := Scalar.addi v15 c32_i32_35
  let c1_i32_36 : BitVec 32 := 1#32
  let v77 : BitVec 32 := Scalar.subi v76 c1_i32_36
  let c0_i32_38 : BitVec 32 := 0#32
  let v79 : BitVec 1 := Scalar.cmpi .sgt v77 c0_i32_38
  let v80 : BitVec 32 := Scalar.extui v79
  let c0_i32_39 : BitVec 32 := 0#32
  let v81 : BitVec 1 := Scalar.cmpi .slt v77 c0_i32_39
  let v82 : BitVec 32 := Scalar.extui v81
  let v83 : BitVec 32 := Scalar.subi v80 v82
  let c32_i32_37 : BitVec 32 := 32#32
  let c0_i32_40 : BitVec 32 := 0#32
  let v84 : BitVec 1 := Scalar.cmpi .sgt c32_i32_37 c0_i32_40
  let v85 : BitVec 32 := Scalar.extui v84
  let c0_i32_41 : BitVec 32 := 0#32
  let v86 : BitVec 1 := Scalar.cmpi .slt c32_i32_37 c0_i32_41
  let v87 : BitVec 32 := Scalar.extui v86
  let v88 : BitVec 32 := Scalar.subi v85 v87
  let v89 : BitVec 1 := Scalar.cmpi .ne v83 v88
  let v90 : BitVec 32 := Scalar.remsi v77 c32_i32_37
  let c0_i32_42 : BitVec 32 := 0#32
  let v91 : BitVec 1 := Scalar.cmpi .ne v90 c0_i32_42
  let v92 : BitVec 1 := Scalar.andi v89 v91
  let v78 : BitVec 32 := Scalar.divsi v77 c32_i32_37
  let c1_i32_43 : BitVec 32 := 1#32
  let v93 : BitVec 32 := Scalar.subi v78 c1_i32_43
  let v94 : BitVec 32 := Scalar.select v92 v93 v78
  let c0_i32_18 : BitVec 32 := 0#32
  let v38 : BitVec 1 := Scalar.cmpi .sgt v11 c0_i32_18
  let v39 : BitVec 32 := Scalar.extui v38
  let c0_i32_19 : BitVec 32 := 0#32
  let v40 : BitVec 1 := Scalar.cmpi .slt v11 c0_i32_19
  let v41 : BitVec 32 := Scalar.extui v40
  let v42 : BitVec 32 := Scalar.subi v39 v41
  let c32_i32_17 : BitVec 32 := 32#32
  let c0_i32_20 : BitVec 32 := 0#32
  let v43 : BitVec 1 := Scalar.cmpi .sgt c32_i32_17 c0_i32_20
  let v44 : BitVec 32 := Scalar.extui v43
  let c0_i32_21 : BitVec 32 := 0#32
  let v45 : BitVec 1 := Scalar.cmpi .slt c32_i32_17 c0_i32_21
  let v46 : BitVec 32 := Scalar.extui v45
  let v47 : BitVec 32 := Scalar.subi v44 v46
  let v48 : BitVec 1 := Scalar.cmpi .ne v42 v47
  let v49 : BitVec 32 := Scalar.remsi v11 c32_i32_17
  let c0_i32_22 : BitVec 32 := 0#32
  let v50 : BitVec 1 := Scalar.cmpi .ne v49 c0_i32_22
  let v51 : BitVec 1 := Scalar.andi v48 v50
  let v37 : BitVec 32 := Scalar.divsi v11 c32_i32_17
  let c1_i32_23 : BitVec 32 := 1#32
  let v52 : BitVec 32 := Scalar.subi v37 c1_i32_23
  let v53 : BitVec 32 := Scalar.select v51 v52 v37
  let v95 : BitVec 32 := Scalar.select v75 v94 v53
  let c4_i32_69 : BitVec 32 := 4#32
  let v153 : BitVec 32 := Scalar.addi v95 c4_i32_69
  let c1_i32_70 : BitVec 32 := 1#32
  let v154 : BitVec 32 := Scalar.subi v153 c1_i32_70
  let c0_i32_72 : BitVec 32 := 0#32
  let v156 : BitVec 1 := Scalar.cmpi .sgt v154 c0_i32_72
  let v157 : BitVec 32 := Scalar.extui v156
  let c0_i32_73 : BitVec 32 := 0#32
  let v158 : BitVec 1 := Scalar.cmpi .slt v154 c0_i32_73
  let v159 : BitVec 32 := Scalar.extui v158
  let v160 : BitVec 32 := Scalar.subi v157 v159
  let c4_i32_71 : BitVec 32 := 4#32
  let c0_i32_74 : BitVec 32 := 0#32
  let v161 : BitVec 1 := Scalar.cmpi .sgt c4_i32_71 c0_i32_74
  let v162 : BitVec 32 := Scalar.extui v161
  let c0_i32_75 : BitVec 32 := 0#32
  let v163 : BitVec 1 := Scalar.cmpi .slt c4_i32_71 c0_i32_75
  let v164 : BitVec 32 := Scalar.extui v163
  let v165 : BitVec 32 := Scalar.subi v162 v164
  let v166 : BitVec 1 := Scalar.cmpi .ne v160 v165
  let v167 : BitVec 32 := Scalar.remsi v154 c4_i32_71
  let c0_i32_76 : BitVec 32 := 0#32
  let v168 : BitVec 1 := Scalar.cmpi .ne v167 c0_i32_76
  let v169 : BitVec 1 := Scalar.andi v166 v168
  let v155 : BitVec 32 := Scalar.divsi v154 c4_i32_71
  let c1_i32_77 : BitVec 32 := 1#32
  let v170 : BitVec 32 := Scalar.subi v155 c1_i32_77
  let v171 : BitVec 32 := Scalar.select v169 v170 v155
  let c0_i32_51 : BitVec 32 := 0#32
  let v114 : BitVec 1 := Scalar.cmpi .sgt v53 c0_i32_51
  let v115 : BitVec 32 := Scalar.extui v114
  let c0_i32_52 : BitVec 32 := 0#32
  let v116 : BitVec 1 := Scalar.cmpi .slt v53 c0_i32_52
  let v117 : BitVec 32 := Scalar.extui v116
  let v118 : BitVec 32 := Scalar.subi v115 v117
  let c4_i32_50 : BitVec 32 := 4#32
  let c0_i32_53 : BitVec 32 := 0#32
  let v119 : BitVec 1 := Scalar.cmpi .sgt c4_i32_50 c0_i32_53
  let v120 : BitVec 32 := Scalar.extui v119
  let c0_i32_54 : BitVec 32 := 0#32
  let v121 : BitVec 1 := Scalar.cmpi .slt c4_i32_50 c0_i32_54
  let v122 : BitVec 32 := Scalar.extui v121
  let v123 : BitVec 32 := Scalar.subi v120 v122
  let v124 : BitVec 1 := Scalar.cmpi .ne v118 v123
  let v125 : BitVec 32 := Scalar.remsi v53 c4_i32_50
  let c0_i32_55 : BitVec 32 := 0#32
  let v126 : BitVec 1 := Scalar.cmpi .ne v125 c0_i32_55
  let v127 : BitVec 1 := Scalar.andi v124 v126
  let v113 : BitVec 32 := Scalar.divsi v53 c4_i32_50
  let c1_i32_56 : BitVec 32 := 1#32
  let v128 : BitVec 32 := Scalar.subi v113 c1_i32_56
  let v129 : BitVec 32 := Scalar.select v127 v128 v113
  let v172 : BitVec 32 := Scalar.subi v171 v129
  let c0_i32_78 : BitVec 32 := 0#32
  let v173 : BitVec 32 := Scalar.select v152 v172 c0_i32_78
  let v174 : BitVec 32 := Scalar.addi v151 v173
  let c0_i32_350 : BitVec 32 := 0#32
  let v1084 : BitVec 32 := Scalar.subi v174 c0_i32_350
  let c1_i32_351 : BitVec 32 := 1#32
  let c1_i32_352 : BitVec 32 := 1#32
  let v1085 : BitVec 32 := Scalar.subi c1_i32_351 c1_i32_352
  let v1086 : BitVec 32 := Scalar.addi v1084 v1085
  let c1_i32_353 : BitVec 32 := 1#32
  let v1087 : BitVec 32 := Scalar.divsi v1086 c1_i32_353
  let v1088 : BitVec 32 := Scalar.subi v1087 c0_i32_356
  let c1_i32_357 : BitVec 32 := 1#32
  let v1090 : BitVec 32 := Scalar.divsi v1088 c1_i32_357
  let v1091 : BitVec 32 := Scalar.muli v1090 c1_i32_357
  let v1092 : BitVec 32 := Scalar.addi c0_i32_356 v1091
  let c1_i32_359 : BitVec 32 := 1#32
  let arg17 : BitVec 32 := Scf.iv v1092 c1_i32_359 k0_t10
  let c1_i32_354 : BitVec 32 := 1#32
  let v1369 : BitVec 32 := Scalar.muli arg17 c1_i32_354
  let v1370 : BitVec 32 := Scalar.addi c0_i32_355 v1369
  let v1371 : BitVec 1 := Scalar.cmpi .sge v1370 v151
  let v1373 : BitVec 32 := Scalar.addi v129 v1370
  let v1374 : BitVec 32 := Scalar.subi v1373 v151
  let v1375 : BitVec 32 := Scalar.addi v112 v1370
  let v1376 : BitVec 32 := Scalar.select v1371 v1374 v1375
  let c2_i32_530 : BitVec 32 := 2#32
  let v1402 : BitVec 32 := Scalar.muli v1376 c2_i32_530
  let c1_i32_512 : BitVec 32 := 1#32
  let c0_i32_513 : BitVec 32 := 0#32
  let v1372 : BitVec 32 := Scalar.select v1371 c1_i32_512 c0_i32_513
  let v1403 : BitVec 32 := Scalar.addi v1402 v1372
  let v1404 : Index := Scalar.indexCast v1403
  let c0_531 : Index := 0#32
  ![v1404.toNat, 0]

def k0_chk1_0 (v0 : BitVec 32) (v1 : BitVec 32) (v2 : BitVec 32) (v3 : BitVec 32) (v5 : BitVec 32) (v6 : BitVec 32) : Prop :=
  ((k0_t1_loop v0 v1 v2 v3 v5 v6).OK) ∧
  (∀ k0_t1 : Fin (k0_t1_loop v0 v1 v2 v3 v5 v6).trips, (k0_t2_loop v0 v1 v2 v3 v5 v6 k0_t1).OK) ∧
  (∀ (k0_t1 : Fin (k0_t1_loop v0 v1 v2 v3 v5 v6).trips) (k0_t2 : Fin (k0_t2_loop v0 v1 v2 v3 v5 v6 k0_t1).trips), 32 ∣ (k0_mult1 v0 v1 v2 v3 v5 v6 k0_t1 k0_t2).toNat) ∧
  (∀ (k0_t1 : Fin (k0_t1_loop v0 v1 v2 v3 v5 v6).trips) (k0_t2 : Fin (k0_t2_loop v0 v1 v2 v3 v5 v6 k0_t1).trips), ∀ a, (k0_off1 v0 v1 v2 v3 v5 v6 k0_t1) a + S1.size a ≤ S16.size a) ∧
  (∀ (k0_t1 : Fin (k0_t1_loop v0 v1 v2 v3 v5 v6).trips) (k0_t2 : Fin (k0_t2_loop v0 v1 v2 v3 v5 v6 k0_t1).trips), ∀ a, (k0_off2 v0 v1 v2 v3 v5 v6 k0_t1 k0_t2) a + S1x32x16384.size a ≤ S2x1024x16384.size a) ∧
  (∀ (k0_t1 : Fin (k0_t1_loop v0 v1 v2 v3 v5 v6).trips) (k0_t2 : Fin (k0_t2_loop v0 v1 v2 v3 v5 v6 k0_t1).trips), ∀ (hinb : ∀ a, (k0_off2 v0 v1 v2 v3 v5 v6 k0_t1 k0_t2) a + S1x32x16384.size a ≤ S2x1024x16384.size a), (Rect.unit (s := S2x1024x16384) (k0_off2 v0 v1 v2 v3 v5 v6 k0_t1 k0_t2) S1x32x16384.size hinb).WholeWords (EltTy.packing .fp8e4m3)) ∧
  (∀ k0_t1 : Fin (k0_t1_loop v0 v1 v2 v3 v5 v6).trips, (k0_t3_loop v0 v1 v2 v3 v5 v6 k0_t1).OK) ∧
  (∀ (k0_t1 : Fin (k0_t1_loop v0 v1 v2 v3 v5 v6).trips) (k0_t3 : Fin (k0_t3_loop v0 v1 v2 v3 v5 v6 k0_t1).trips), 32 ∣ (k0_mult2 v0 v1 v2 v3 v5 v6 k0_t1 k0_t3).toNat) ∧
  (∀ (k0_t1 : Fin (k0_t1_loop v0 v1 v2 v3 v5 v6).trips) (k0_t3 : Fin (k0_t3_loop v0 v1 v2 v3 v5 v6 k0_t1).trips), ∀ a, (k0_off3 v0 v1 v2 v3 v5 v6 k0_t1) a + S1.size a ≤ S16.size a) ∧
  (∀ (k0_t1 : Fin (k0_t1_loop v0 v1 v2 v3 v5 v6).trips) (k0_t3 : Fin (k0_t3_loop v0 v1 v2 v3 v5 v6 k0_t1).trips), ∀ a, (k0_off4 v0 v1 v2 v3 v5 v6 k0_t1 k0_t3) a + S1x32x16384.size a ≤ S2x1024x16384.size a) ∧
  (∀ (k0_t1 : Fin (k0_t1_loop v0 v1 v2 v3 v5 v6).trips) (k0_t3 : Fin (k0_t3_loop v0 v1 v2 v3 v5 v6 k0_t1).trips), ∀ (hinb : ∀ a, (k0_off4 v0 v1 v2 v3 v5 v6 k0_t1 k0_t3) a + S1x32x16384.size a ≤ S2x1024x16384.size a), (Rect.unit (s := S2x1024x16384) (k0_off4 v0 v1 v2 v3 v5 v6 k0_t1 k0_t3) S1x32x16384.size hinb).WholeWords (EltTy.packing .fp8e4m3)) ∧
  ((k0_t4_loop v0 v1 v2 v3 v5 v6).OK) ∧
  (∀ k0_t4 : Fin (k0_t4_loop v0 v1 v2 v3 v5 v6).trips, (k0_t5_loop v0 v1 v2 v3 v5 v6 k0_t4).OK) ∧
  (∀ (k0_t4 : Fin (k0_t4_loop v0 v1 v2 v3 v5 v6).trips) (k0_t5 : Fin (k0_t5_loop v0 v1 v2 v3 v5 v6 k0_t4).trips), 32 ∣ (k0_mult3 v0 v1 v2 v3 v5 v6 k0_t4 k0_t5).toNat) ∧
  (∀ (k0_t4 : Fin (k0_t4_loop v0 v1 v2 v3 v5 v6).trips) (k0_t5 : Fin (k0_t5_loop v0 v1 v2 v3 v5 v6 k0_t4).trips), ∀ a, (k0_off5 v0 v1 v2 v3 v5 v6 k0_t4) a + S1.size a ≤ S16.size a) ∧
  (∀ (k0_t4 : Fin (k0_t4_loop v0 v1 v2 v3 v5 v6).trips) (k0_t5 : Fin (k0_t5_loop v0 v1 v2 v3 v5 v6 k0_t4).trips), ∀ a, (k0_off6 v0 v1 v2 v3 v5 v6 k0_t4 k0_t5) a + S1x32x16384.size a ≤ S2x1024x16384.size a) ∧
  (∀ (k0_t4 : Fin (k0_t4_loop v0 v1 v2 v3 v5 v6).trips) (k0_t5 : Fin (k0_t5_loop v0 v1 v2 v3 v5 v6 k0_t4).trips), ∀ (hinb : ∀ a, (k0_off6 v0 v1 v2 v3 v5 v6 k0_t4 k0_t5) a + S1x32x16384.size a ≤ S2x1024x16384.size a), (Rect.unit (s := S2x1024x16384) (k0_off6 v0 v1 v2 v3 v5 v6 k0_t4 k0_t5) S1x32x16384.size hinb).WholeWords (EltTy.packing .fp8e4m3)) ∧
  (∀ k0_t4 : Fin (k0_t4_loop v0 v1 v2 v3 v5 v6).trips, (k0_t6_loop v0 v1 v2 v3 v5 v6 k0_t4).OK) ∧
  (∀ (k0_t4 : Fin (k0_t4_loop v0 v1 v2 v3 v5 v6).trips) (k0_t6 : Fin (k0_t6_loop v0 v1 v2 v3 v5 v6 k0_t4).trips), 32 ∣ (k0_mult4 v0 v1 v2 v3 v5 v6 k0_t4 k0_t6).toNat) ∧
  (∀ (k0_t4 : Fin (k0_t4_loop v0 v1 v2 v3 v5 v6).trips) (k0_t6 : Fin (k0_t6_loop v0 v1 v2 v3 v5 v6 k0_t4).trips), ∀ a, (k0_off7 v0 v1 v2 v3 v5 v6 k0_t4) a + S1.size a ≤ S16.size a) ∧
  (∀ (k0_t4 : Fin (k0_t4_loop v0 v1 v2 v3 v5 v6).trips) (k0_t6 : Fin (k0_t6_loop v0 v1 v2 v3 v5 v6 k0_t4).trips), ∀ a, (k0_off8 v0 v1 v2 v3 v5 v6 k0_t4 k0_t6) a + S1x32x16384.size a ≤ S2x1024x16384.size a) ∧
  (∀ (k0_t4 : Fin (k0_t4_loop v0 v1 v2 v3 v5 v6).trips) (k0_t6 : Fin (k0_t6_loop v0 v1 v2 v3 v5 v6 k0_t4).trips), ∀ (hinb : ∀ a, (k0_off8 v0 v1 v2 v3 v5 v6 k0_t4 k0_t6) a + S1x32x16384.size a ≤ S2x1024x16384.size a), (Rect.unit (s := S2x1024x16384) (k0_off8 v0 v1 v2 v3 v5 v6 k0_t4 k0_t6) S1x32x16384.size hinb).WholeWords (EltTy.packing .fp8e4m3)) ∧
  ((k0_t7_loop v0 v1 v2 v3 v5 v6).OK) ∧
  (∀ k0_t7 : Fin (k0_t7_loop v0 v1 v2 v3 v5 v6).trips, (k0_t8_loop v0 v1 v2 v3 v5 v6 k0_t7).OK) ∧
  (∀ (k0_t7 : Fin (k0_t7_loop v0 v1 v2 v3 v5 v6).trips) (k0_t8 : Fin (k0_t8_loop v0 v1 v2 v3 v5 v6 k0_t7).trips), 32 ∣ (k0_mult5 v0 v1 v2 v3 v5 v6 k0_t7 k0_t8).toNat) ∧
  (∀ (k0_t7 : Fin (k0_t7_loop v0 v1 v2 v3 v5 v6).trips) (k0_t8 : Fin (k0_t8_loop v0 v1 v2 v3 v5 v6 k0_t7).trips), ∀ a, (k0_off9 v0 v1 v2 v3 v5 v6 k0_t7) a + S1.size a ≤ S16.size a) ∧
  (∀ (k0_t7 : Fin (k0_t7_loop v0 v1 v2 v3 v5 v6).trips) (k0_t8 : Fin (k0_t8_loop v0 v1 v2 v3 v5 v6 k0_t7).trips), ∀ a, (k0_off10 v0 v1 v2 v3 v5 v6 k0_t7 k0_t8) a + S1x32x16384.size a ≤ S2x1024x16384.size a) ∧
  (∀ (k0_t7 : Fin (k0_t7_loop v0 v1 v2 v3 v5 v6).trips) (k0_t8 : Fin (k0_t8_loop v0 v1 v2 v3 v5 v6 k0_t7).trips), ∀ (hinb : ∀ a, (k0_off10 v0 v1 v2 v3 v5 v6 k0_t7 k0_t8) a + S1x32x16384.size a ≤ S2x1024x16384.size a), (Rect.unit (s := S2x1024x16384) (k0_off10 v0 v1 v2 v3 v5 v6 k0_t7 k0_t8) S1x32x16384.size hinb).WholeWords (EltTy.packing .fp8e4m3)) ∧
  (∀ k0_t7 : Fin (k0_t7_loop v0 v1 v2 v3 v5 v6).trips, (k0_t9_loop v0 v1 v2 v3 v5 v6 k0_t7).OK) ∧
  (∀ (k0_t7 : Fin (k0_t7_loop v0 v1 v2 v3 v5 v6).trips) (k0_t9 : Fin (k0_t9_loop v0 v1 v2 v3 v5 v6 k0_t7).trips), 32 ∣ (k0_mult6 v0 v1 v2 v3 v5 v6 k0_t7 k0_t9).toNat) ∧
  (∀ (k0_t7 : Fin (k0_t7_loop v0 v1 v2 v3 v5 v6).trips) (k0_t9 : Fin (k0_t9_loop v0 v1 v2 v3 v5 v6 k0_t7).trips), ∀ a, (k0_off11 v0 v1 v2 v3 v5 v6 k0_t7) a + S1.size a ≤ S16.size a) ∧
  (∀ (k0_t7 : Fin (k0_t7_loop v0 v1 v2 v3 v5 v6).trips) (k0_t9 : Fin (k0_t9_loop v0 v1 v2 v3 v5 v6 k0_t7).trips), ∀ a, (k0_off12 v0 v1 v2 v3 v5 v6 k0_t7 k0_t9) a + S1x32x16384.size a ≤ S2x1024x16384.size a)
def k0_chk1_1 (v0 : BitVec 32) (v1 : BitVec 32) (v2 : BitVec 32) (v3 : BitVec 32) (v5 : BitVec 32) (v6 : BitVec 32) : Prop :=
  (∀ (k0_t7 : Fin (k0_t7_loop v0 v1 v2 v3 v5 v6).trips) (k0_t9 : Fin (k0_t9_loop v0 v1 v2 v3 v5 v6 k0_t7).trips), ∀ (hinb : ∀ a, (k0_off12 v0 v1 v2 v3 v5 v6 k0_t7 k0_t9) a + S1x32x16384.size a ≤ S2x1024x16384.size a), (Rect.unit (s := S2x1024x16384) (k0_off12 v0 v1 v2 v3 v5 v6 k0_t7 k0_t9) S1x32x16384.size hinb).WholeWords (EltTy.packing .fp8e4m3)) ∧
  (∀ k0_t7 : Fin (k0_t7_loop v0 v1 v2 v3 v5 v6).trips, 128 ∣ (k0_mult7 v0 v1 v2 v3 v5 v6 k0_t7).toNat) ∧
  (∀ k0_t7 : Fin (k0_t7_loop v0 v1 v2 v3 v5 v6).trips, ∀ a, (k0_off13 v0 v1 v2 v3 v5 v6 k0_t7) a + S1x128x16384.size a ≤ S2x1024x16384.size a) ∧
  (∀ k0_t7 : Fin (k0_t7_loop v0 v1 v2 v3 v5 v6).trips, ∀ a, (k0_off14 v0 v1 v2 v3 v5 v6 k0_t7) a + S1x128.size a ≤ S16x128.size a) ∧
  ((k0_t10_loop v0 v1 v2 v3 v5 v6).OK) ∧
  (∀ k0_t10 : Fin (k0_t10_loop v0 v1 v2 v3 v5 v6).trips, (k0_t11_loop v0 v1 v2 v3 v5 v6 k0_t10).OK) ∧
  (∀ (k0_t10 : Fin (k0_t10_loop v0 v1 v2 v3 v5 v6).trips) (k0_t11 : Fin (k0_t11_loop v0 v1 v2 v3 v5 v6 k0_t10).trips), 32 ∣ (k0_mult8 v0 v1 v2 v3 v5 v6 k0_t10 k0_t11).toNat) ∧
  (∀ (k0_t10 : Fin (k0_t10_loop v0 v1 v2 v3 v5 v6).trips) (k0_t11 : Fin (k0_t11_loop v0 v1 v2 v3 v5 v6 k0_t10).trips), ∀ a, (k0_off15 v0 v1 v2 v3 v5 v6 k0_t10) a + S1.size a ≤ S16.size a) ∧
  (∀ (k0_t10 : Fin (k0_t10_loop v0 v1 v2 v3 v5 v6).trips) (k0_t11 : Fin (k0_t11_loop v0 v1 v2 v3 v5 v6 k0_t10).trips), ∀ a, (k0_off16 v0 v1 v2 v3 v5 v6 k0_t10 k0_t11) a + S1x32x16384.size a ≤ S2x1024x16384.size a) ∧
  (∀ (k0_t10 : Fin (k0_t10_loop v0 v1 v2 v3 v5 v6).trips) (k0_t11 : Fin (k0_t11_loop v0 v1 v2 v3 v5 v6 k0_t10).trips), ∀ (hinb : ∀ a, (k0_off16 v0 v1 v2 v3 v5 v6 k0_t10 k0_t11) a + S1x32x16384.size a ≤ S2x1024x16384.size a), (Rect.unit (s := S2x1024x16384) (k0_off16 v0 v1 v2 v3 v5 v6 k0_t10 k0_t11) S1x32x16384.size hinb).WholeWords (EltTy.packing .fp8e4m3)) ∧
  (∀ k0_t10 : Fin (k0_t10_loop v0 v1 v2 v3 v5 v6).trips, (k0_t12_loop v0 v1 v2 v3 v5 v6 k0_t10).OK) ∧
  (∀ (k0_t10 : Fin (k0_t10_loop v0 v1 v2 v3 v5 v6).trips) (k0_t12 : Fin (k0_t12_loop v0 v1 v2 v3 v5 v6 k0_t10).trips), 32 ∣ (k0_mult9 v0 v1 v2 v3 v5 v6 k0_t10 k0_t12).toNat) ∧
  (∀ (k0_t10 : Fin (k0_t10_loop v0 v1 v2 v3 v5 v6).trips) (k0_t12 : Fin (k0_t12_loop v0 v1 v2 v3 v5 v6 k0_t10).trips), ∀ a, (k0_off17 v0 v1 v2 v3 v5 v6 k0_t10) a + S1.size a ≤ S16.size a) ∧
  (∀ (k0_t10 : Fin (k0_t10_loop v0 v1 v2 v3 v5 v6).trips) (k0_t12 : Fin (k0_t12_loop v0 v1 v2 v3 v5 v6 k0_t10).trips), ∀ a, (k0_off18 v0 v1 v2 v3 v5 v6 k0_t10 k0_t12) a + S1x32x16384.size a ≤ S2x1024x16384.size a) ∧
  (∀ (k0_t10 : Fin (k0_t10_loop v0 v1 v2 v3 v5 v6).trips) (k0_t12 : Fin (k0_t12_loop v0 v1 v2 v3 v5 v6 k0_t10).trips), ∀ (hinb : ∀ a, (k0_off18 v0 v1 v2 v3 v5 v6 k0_t10 k0_t12) a + S1x32x16384.size a ≤ S2x1024x16384.size a), (Rect.unit (s := S2x1024x16384) (k0_off18 v0 v1 v2 v3 v5 v6 k0_t10 k0_t12) S1x32x16384.size hinb).WholeWords (EltTy.packing .fp8e4m3)) ∧
  (∀ k0_t10 : Fin (k0_t10_loop v0 v1 v2 v3 v5 v6).trips, 128 ∣ (k0_mult10 v0 v1 v2 v3 v5 v6 k0_t10).toNat) ∧
  (∀ k0_t10 : Fin (k0_t10_loop v0 v1 v2 v3 v5 v6).trips, ∀ a, (k0_off19 v0 v1 v2 v3 v5 v6 k0_t10) a + S1x128x16384.size a ≤ S2x1024x16384.size a) ∧
  (∀ k0_t10 : Fin (k0_t10_loop v0 v1 v2 v3 v5 v6).trips, ∀ a, (k0_off20 v0 v1 v2 v3 v5 v6 k0_t10) a + S1x128.size a ≤ S16x128.size a)
def k0_chk1 (v0 : BitVec 32) (v1 : BitVec 32) (v2 : BitVec 32) (v3 : BitVec 32) (v5 : BitVec 32) (v6 : BitVec 32) : Prop :=
  k0_chk1_0 v0 v1 v2 v3 v5 v6 ∧
  k0_chk1_1 v0 v1 v2 v3 v5 v6
theorem k0_t1_ok : ∀ (v0 : BitVec 32) (v1 : BitVec 32) (v2 : BitVec 32) (v3 : BitVec 32) (v5 : BitVec 32) (v6 : BitVec 32) (k0_hw1 : k0_chk1 v0 v1 v2 v3 v5 v6), (k0_t1_loop v0 v1 v2 v3 v5 v6).OK := fun v0 v1 v2 v3 v5 v6 k0_hw1 => k0_hw1.1.1
theorem k0_t2_ok : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips), (k0_t2_loop v0 v1 v2 v3 v5 v6 k0_t1).OK := fun v0 v1 v2 v3 v5 v6 k0_hw1 k0_t1 => k0_hw1.1.2.1 k0_t1
theorem k0_mult1_dvd : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t2 : Fin (k0_t2_loop v0 v1 v2 v3 v5 v6 k0_t1).trips), 32 ∣ (k0_mult1 v0 v1 v2 v3 v5 v6 k0_t1 k0_t2).toNat := fun v0 v1 v2 v3 v5 v6 k0_hw1 k0_t1 k0_t2 => k0_hw1.1.2.2.1 k0_t1 k0_t2
theorem k0_off1_inb : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t2 : Fin (k0_t2_loop v0 v1 v2 v3 v5 v6 k0_t1).trips), ∀ a, (k0_off1 v0 v1 v2 v3 v5 v6 k0_t1) a + S1.size a ≤ S16.size a := fun v0 v1 v2 v3 v5 v6 k0_hw1 k0_t1 k0_t2 => k0_hw1.1.2.2.2.1 k0_t1 k0_t2
theorem k0_off2_inb : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t2 : Fin (k0_t2_loop v0 v1 v2 v3 v5 v6 k0_t1).trips), ∀ a, (k0_off2 v0 v1 v2 v3 v5 v6 k0_t1 k0_t2) a + S1x32x16384.size a ≤ S2x1024x16384.size a := fun v0 v1 v2 v3 v5 v6 k0_hw1 k0_t1 k0_t2 => k0_hw1.1.2.2.2.2.1 k0_t1 k0_t2
theorem k0_off2_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t2 : Fin (k0_t2_loop v0 v1 v2 v3 v5 v6 k0_t1).trips), (Rect.unit (s := S2x1024x16384) (k0_off2 v0 v1 v2 v3 v5 v6 k0_t1 k0_t2) S1x32x16384.size (k0_off2_inb v0 v1 v2 v3 v5 v6 k0_hw1 k0_t1 k0_t2)).WholeWords (EltTy.packing .fp8e4m3) := fun v0 v1 v2 v3 v5 v6 k0_hw1 k0_t1 k0_t2 => k0_hw1.1.2.2.2.2.2.1 k0_t1 k0_t2 (k0_off2_inb v0 v1 v2 v3 v5 v6 k0_hw1 k0_t1 k0_t2)
theorem k0_t3_ok : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips), (k0_t3_loop v0 v1 v2 v3 v5 v6 k0_t1).OK := fun v0 v1 v2 v3 v5 v6 k0_hw1 k0_t1 => k0_hw1.1.2.2.2.2.2.2.1 k0_t1
theorem k0_mult2_dvd : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t3 : Fin (k0_t3_loop v0 v1 v2 v3 v5 v6 k0_t1).trips), 32 ∣ (k0_mult2 v0 v1 v2 v3 v5 v6 k0_t1 k0_t3).toNat := fun v0 v1 v2 v3 v5 v6 k0_hw1 k0_t1 k0_t3 => k0_hw1.1.2.2.2.2.2.2.2.1 k0_t1 k0_t3
theorem k0_off3_inb : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t3 : Fin (k0_t3_loop v0 v1 v2 v3 v5 v6 k0_t1).trips), ∀ a, (k0_off3 v0 v1 v2 v3 v5 v6 k0_t1) a + S1.size a ≤ S16.size a := fun v0 v1 v2 v3 v5 v6 k0_hw1 k0_t1 k0_t3 => k0_hw1.1.2.2.2.2.2.2.2.2.1 k0_t1 k0_t3
theorem k0_off4_inb : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t3 : Fin (k0_t3_loop v0 v1 v2 v3 v5 v6 k0_t1).trips), ∀ a, (k0_off4 v0 v1 v2 v3 v5 v6 k0_t1 k0_t3) a + S1x32x16384.size a ≤ S2x1024x16384.size a := fun v0 v1 v2 v3 v5 v6 k0_hw1 k0_t1 k0_t3 => k0_hw1.1.2.2.2.2.2.2.2.2.2.1 k0_t1 k0_t3
theorem k0_off4_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t1 : Fin (k0_t1_loop v0 v1 v2 v3 v5 v6).trips) (k0_t3 : Fin (k0_t3_loop v0 v1 v2 v3 v5 v6 k0_t1).trips), (Rect.unit (s := S2x1024x16384) (k0_off4 v0 v1 v2 v3 v5 v6 k0_t1 k0_t3) S1x32x16384.size (k0_off4_inb v0 v1 v2 v3 v5 v6 k0_hw1 k0_t1 k0_t3)).WholeWords (EltTy.packing .fp8e4m3) := fun v0 v1 v2 v3 v5 v6 k0_hw1 k0_t1 k0_t3 => k0_hw1.1.2.2.2.2.2.2.2.2.2.2.1 k0_t1 k0_t3 (k0_off4_inb v0 v1 v2 v3 v5 v6 k0_hw1 k0_t1 k0_t3)
theorem k0_t4_ok : ∀ (v0 : BitVec 32) (v1 : BitVec 32) (v2 : BitVec 32) (v3 : BitVec 32) (v5 : BitVec 32) (v6 : BitVec 32) (k0_hw1 : k0_chk1 v0 v1 v2 v3 v5 v6), (k0_t4_loop v0 v1 v2 v3 v5 v6).OK := fun v0 v1 v2 v3 v5 v6 k0_hw1 => k0_hw1.1.2.2.2.2.2.2.2.2.2.2.2.1
theorem k0_t5_ok : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips), (k0_t5_loop v0 v1 v2 v3 v5 v6 k0_t4).OK := fun v0 v1 v2 v3 v5 v6 k0_hw1 k0_t4 => k0_hw1.1.2.2.2.2.2.2.2.2.2.2.2.2.1 k0_t4
theorem k0_mult3_dvd : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t5 : Fin (k0_t5_loop v0 v1 v2 v3 v5 v6 k0_t4).trips), 32 ∣ (k0_mult3 v0 v1 v2 v3 v5 v6 k0_t4 k0_t5).toNat := fun v0 v1 v2 v3 v5 v6 k0_hw1 k0_t4 k0_t5 => k0_hw1.1.2.2.2.2.2.2.2.2.2.2.2.2.2.1 k0_t4 k0_t5
theorem k0_off5_inb : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t5 : Fin (k0_t5_loop v0 v1 v2 v3 v5 v6 k0_t4).trips), ∀ a, (k0_off5 v0 v1 v2 v3 v5 v6 k0_t4) a + S1.size a ≤ S16.size a := fun v0 v1 v2 v3 v5 v6 k0_hw1 k0_t4 k0_t5 => k0_hw1.1.2.2.2.2.2.2.2.2.2.2.2.2.2.2.1 k0_t4 k0_t5
theorem k0_off6_inb : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t5 : Fin (k0_t5_loop v0 v1 v2 v3 v5 v6 k0_t4).trips), ∀ a, (k0_off6 v0 v1 v2 v3 v5 v6 k0_t4 k0_t5) a + S1x32x16384.size a ≤ S2x1024x16384.size a := fun v0 v1 v2 v3 v5 v6 k0_hw1 k0_t4 k0_t5 => k0_hw1.1.2.2.2.2.2.2.2.2.2.2.2.2.2.2.2.1 k0_t4 k0_t5
theorem k0_off6_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t5 : Fin (k0_t5_loop v0 v1 v2 v3 v5 v6 k0_t4).trips), (Rect.unit (s := S2x1024x16384) (k0_off6 v0 v1 v2 v3 v5 v6 k0_t4 k0_t5) S1x32x16384.size (k0_off6_inb v0 v1 v2 v3 v5 v6 k0_hw1 k0_t4 k0_t5)).WholeWords (EltTy.packing .fp8e4m3) := fun v0 v1 v2 v3 v5 v6 k0_hw1 k0_t4 k0_t5 => k0_hw1.1.2.2.2.2.2.2.2.2.2.2.2.2.2.2.2.2.1 k0_t4 k0_t5 (k0_off6_inb v0 v1 v2 v3 v5 v6 k0_hw1 k0_t4 k0_t5)
theorem k0_t6_ok : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips), (k0_t6_loop v0 v1 v2 v3 v5 v6 k0_t4).OK := fun v0 v1 v2 v3 v5 v6 k0_hw1 k0_t4 => k0_hw1.1.2.2.2.2.2.2.2.2.2.2.2.2.2.2.2.2.2.1 k0_t4
theorem k0_mult4_dvd : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t6 : Fin (k0_t6_loop v0 v1 v2 v3 v5 v6 k0_t4).trips), 32 ∣ (k0_mult4 v0 v1 v2 v3 v5 v6 k0_t4 k0_t6).toNat := fun v0 v1 v2 v3 v5 v6 k0_hw1 k0_t4 k0_t6 => k0_hw1.1.2.2.2.2.2.2.2.2.2.2.2.2.2.2.2.2.2.2.1 k0_t4 k0_t6
theorem k0_off7_inb : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t6 : Fin (k0_t6_loop v0 v1 v2 v3 v5 v6 k0_t4).trips), ∀ a, (k0_off7 v0 v1 v2 v3 v5 v6 k0_t4) a + S1.size a ≤ S16.size a := fun v0 v1 v2 v3 v5 v6 k0_hw1 k0_t4 k0_t6 => k0_hw1.1.2.2.2.2.2.2.2.2.2.2.2.2.2.2.2.2.2.2.2.1 k0_t4 k0_t6
theorem k0_off8_inb : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t6 : Fin (k0_t6_loop v0 v1 v2 v3 v5 v6 k0_t4).trips), ∀ a, (k0_off8 v0 v1 v2 v3 v5 v6 k0_t4 k0_t6) a + S1x32x16384.size a ≤ S2x1024x16384.size a := fun v0 v1 v2 v3 v5 v6 k0_hw1 k0_t4 k0_t6 => k0_hw1.1.2.2.2.2.2.2.2.2.2.2.2.2.2.2.2.2.2.2.2.2.1 k0_t4 k0_t6
theorem k0_off8_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t4 : Fin (k0_t4_loop v0 v1 v2 v3 v5 v6).trips) (k0_t6 : Fin (k0_t6_loop v0 v1 v2 v3 v5 v6 k0_t4).trips), (Rect.unit (s := S2x1024x16384) (k0_off8 v0 v1 v2 v3 v5 v6 k0_t4 k0_t6) S1x32x16384.size (k0_off8_inb v0 v1 v2 v3 v5 v6 k0_hw1 k0_t4 k0_t6)).WholeWords (EltTy.packing .fp8e4m3) := fun v0 v1 v2 v3 v5 v6 k0_hw1 k0_t4 k0_t6 => k0_hw1.1.2.2.2.2.2.2.2.2.2.2.2.2.2.2.2.2.2.2.2.2.2.1 k0_t4 k0_t6 (k0_off8_inb v0 v1 v2 v3 v5 v6 k0_hw1 k0_t4 k0_t6)
theorem k0_t7_ok : ∀ (v0 : BitVec 32) (v1 : BitVec 32) (v2 : BitVec 32) (v3 : BitVec 32) (v5 : BitVec 32) (v6 : BitVec 32) (k0_hw1 : k0_chk1 v0 v1 v2 v3 v5 v6), (k0_t7_loop v0 v1 v2 v3 v5 v6).OK := fun v0 v1 v2 v3 v5 v6 k0_hw1 => k0_hw1.1.2.2.2.2.2.2.2.2.2.2.2.2.2.2.2.2.2.2.2.2.2.2.1
theorem k0_t8_ok : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips), (k0_t8_loop v0 v1 v2 v3 v5 v6 k0_t7).OK := fun v0 v1 v2 v3 v5 v6 k0_hw1 k0_t7 => k0_hw1.1.2.2.2.2.2.2.2.2.2.2.2.2.2.2.2.2.2.2.2.2.2.2.2.1 k0_t7
theorem k0_mult5_dvd : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t8 : Fin (k0_t8_loop v0 v1 v2 v3 v5 v6 k0_t7).trips), 32 ∣ (k0_mult5 v0 v1 v2 v3 v5 v6 k0_t7 k0_t8).toNat := fun v0 v1 v2 v3 v5 v6 k0_hw1 k0_t7 k0_t8 => k0_hw1.1.2.2.2.2.2.2.2.2.2.2.2.2.2.2.2.2.2.2.2.2.2.2.2.2.1 k0_t7 k0_t8
theorem k0_off9_inb : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t8 : Fin (k0_t8_loop v0 v1 v2 v3 v5 v6 k0_t7).trips), ∀ a, (k0_off9 v0 v1 v2 v3 v5 v6 k0_t7) a + S1.size a ≤ S16.size a := fun v0 v1 v2 v3 v5 v6 k0_hw1 k0_t7 k0_t8 => k0_hw1.1.2.2.2.2.2.2.2.2.2.2.2.2.2.2.2.2.2.2.2.2.2.2.2.2.2.1 k0_t7 k0_t8
theorem k0_off10_inb : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t8 : Fin (k0_t8_loop v0 v1 v2 v3 v5 v6 k0_t7).trips), ∀ a, (k0_off10 v0 v1 v2 v3 v5 v6 k0_t7 k0_t8) a + S1x32x16384.size a ≤ S2x1024x16384.size a := fun v0 v1 v2 v3 v5 v6 k0_hw1 k0_t7 k0_t8 => k0_hw1.1.2.2.2.2.2.2.2.2.2.2.2.2.2.2.2.2.2.2.2.2.2.2.2.2.2.2.1 k0_t7 k0_t8
theorem k0_off10_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t8 : Fin (k0_t8_loop v0 v1 v2 v3 v5 v6 k0_t7).trips), (Rect.unit (s := S2x1024x16384) (k0_off10 v0 v1 v2 v3 v5 v6 k0_t7 k0_t8) S1x32x16384.size (k0_off10_inb v0 v1 v2 v3 v5 v6 k0_hw1 k0_t7 k0_t8)).WholeWords (EltTy.packing .fp8e4m3) := fun v0 v1 v2 v3 v5 v6 k0_hw1 k0_t7 k0_t8 => k0_hw1.1.2.2.2.2.2.2.2.2.2.2.2.2.2.2.2.2.2.2.2.2.2.2.2.2.2.2.2.1 k0_t7 k0_t8 (k0_off10_inb v0 v1 v2 v3 v5 v6 k0_hw1 k0_t7 k0_t8)
theorem k0_t9_ok : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips), (k0_t9_loop v0 v1 v2 v3 v5 v6 k0_t7).OK := fun v0 v1 v2 v3 v5 v6 k0_hw1 k0_t7 => k0_hw1.1.2.2.2.2.2.2.2.2.2.2.2.2.2.2.2.2.2.2.2.2.2.2.2.2.2.2.2.2.1 k0_t7
theorem k0_mult6_dvd : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t9 : Fin (k0_t9_loop v0 v1 v2 v3 v5 v6 k0_t7).trips), 32 ∣ (k0_mult6 v0 v1 v2 v3 v5 v6 k0_t7 k0_t9).toNat := fun v0 v1 v2 v3 v5 v6 k0_hw1 k0_t7 k0_t9 => k0_hw1.1.2.2.2.2.2.2.2.2.2.2.2.2.2.2.2.2.2.2.2.2.2.2.2.2.2.2.2.2.2.1 k0_t7 k0_t9
theorem k0_off11_inb : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t9 : Fin (k0_t9_loop v0 v1 v2 v3 v5 v6 k0_t7).trips), ∀ a, (k0_off11 v0 v1 v2 v3 v5 v6 k0_t7) a + S1.size a ≤ S16.size a := fun v0 v1 v2 v3 v5 v6 k0_hw1 k0_t7 k0_t9 => k0_hw1.1.2.2.2.2.2.2.2.2.2.2.2.2.2.2.2.2.2.2.2.2.2.2.2.2.2.2.2.2.2.2.1 k0_t7 k0_t9
theorem k0_off12_inb : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t9 : Fin (k0_t9_loop v0 v1 v2 v3 v5 v6 k0_t7).trips), ∀ a, (k0_off12 v0 v1 v2 v3 v5 v6 k0_t7 k0_t9) a + S1x32x16384.size a ≤ S2x1024x16384.size a := fun v0 v1 v2 v3 v5 v6 k0_hw1 k0_t7 k0_t9 => k0_hw1.1.2.2.2.2.2.2.2.2.2.2.2.2.2.2.2.2.2.2.2.2.2.2.2.2.2.2.2.2.2.2.2 k0_t7 k0_t9
theorem k0_off12_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips) (k0_t9 : Fin (k0_t9_loop v0 v1 v2 v3 v5 v6 k0_t7).trips), (Rect.unit (s := S2x1024x16384) (k0_off12 v0 v1 v2 v3 v5 v6 k0_t7 k0_t9) S1x32x16384.size (k0_off12_inb v0 v1 v2 v3 v5 v6 k0_hw1 k0_t7 k0_t9)).WholeWords (EltTy.packing .fp8e4m3) := fun v0 v1 v2 v3 v5 v6 k0_hw1 k0_t7 k0_t9 => k0_hw1.2.1 k0_t7 k0_t9 (k0_off12_inb v0 v1 v2 v3 v5 v6 k0_hw1 k0_t7 k0_t9)
theorem k0_mult7_dvd : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips), 128 ∣ (k0_mult7 v0 v1 v2 v3 v5 v6 k0_t7).toNat := fun v0 v1 v2 v3 v5 v6 k0_hw1 k0_t7 => k0_hw1.2.2.1 k0_t7
theorem k0_off13_inb : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips), ∀ a, (k0_off13 v0 v1 v2 v3 v5 v6 k0_t7) a + S1x128x16384.size a ≤ S2x1024x16384.size a := fun v0 v1 v2 v3 v5 v6 k0_hw1 k0_t7 => k0_hw1.2.2.2.1 k0_t7
theorem k0_off14_inb : ∀ (v0 : BitVec 32) (v1 : BitVec 32) (v2 : BitVec 32) (v3 : BitVec 32) (v5 : BitVec 32) (v6 : BitVec 32) (k0_hw1 : k0_chk1 v0 v1 v2 v3 v5 v6) (k0_t7 : Fin (k0_t7_loop v0 v1 v2 v3 v5 v6).trips), ∀ a, (k0_off14 v0 v1 v2 v3 v5 v6 k0_t7) a + S1x128.size a ≤ S16x128.size a := fun v0 v1 v2 v3 v5 v6 k0_hw1 k0_t7 => k0_hw1.2.2.2.2.1 k0_t7
theorem k0_t10_ok : ∀ (v0 : BitVec 32) (v1 : BitVec 32) (v2 : BitVec 32) (v3 : BitVec 32) (v5 : BitVec 32) (v6 : BitVec 32) (k0_hw1 : k0_chk1 v0 v1 v2 v3 v5 v6), (k0_t10_loop v0 v1 v2 v3 v5 v6).OK := fun v0 v1 v2 v3 v5 v6 k0_hw1 => k0_hw1.2.2.2.2.2.1
theorem k0_t11_ok : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips), (k0_t11_loop v0 v1 v2 v3 v5 v6 k0_t10).OK := fun v0 v1 v2 v3 v5 v6 k0_hw1 k0_t10 => k0_hw1.2.2.2.2.2.2.1 k0_t10
theorem k0_mult8_dvd : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t11 : Fin (k0_t11_loop v0 v1 v2 v3 v5 v6 k0_t10).trips), 32 ∣ (k0_mult8 v0 v1 v2 v3 v5 v6 k0_t10 k0_t11).toNat := fun v0 v1 v2 v3 v5 v6 k0_hw1 k0_t10 k0_t11 => k0_hw1.2.2.2.2.2.2.2.1 k0_t10 k0_t11
theorem k0_off15_inb : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t11 : Fin (k0_t11_loop v0 v1 v2 v3 v5 v6 k0_t10).trips), ∀ a, (k0_off15 v0 v1 v2 v3 v5 v6 k0_t10) a + S1.size a ≤ S16.size a := fun v0 v1 v2 v3 v5 v6 k0_hw1 k0_t10 k0_t11 => k0_hw1.2.2.2.2.2.2.2.2.1 k0_t10 k0_t11
theorem k0_off16_inb : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t11 : Fin (k0_t11_loop v0 v1 v2 v3 v5 v6 k0_t10).trips), ∀ a, (k0_off16 v0 v1 v2 v3 v5 v6 k0_t10 k0_t11) a + S1x32x16384.size a ≤ S2x1024x16384.size a := fun v0 v1 v2 v3 v5 v6 k0_hw1 k0_t10 k0_t11 => k0_hw1.2.2.2.2.2.2.2.2.2.1 k0_t10 k0_t11
theorem k0_off16_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t11 : Fin (k0_t11_loop v0 v1 v2 v3 v5 v6 k0_t10).trips), (Rect.unit (s := S2x1024x16384) (k0_off16 v0 v1 v2 v3 v5 v6 k0_t10 k0_t11) S1x32x16384.size (k0_off16_inb v0 v1 v2 v3 v5 v6 k0_hw1 k0_t10 k0_t11)).WholeWords (EltTy.packing .fp8e4m3) := fun v0 v1 v2 v3 v5 v6 k0_hw1 k0_t10 k0_t11 => k0_hw1.2.2.2.2.2.2.2.2.2.2.1 k0_t10 k0_t11 (k0_off16_inb v0 v1 v2 v3 v5 v6 k0_hw1 k0_t10 k0_t11)
theorem k0_t12_ok : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips), (k0_t12_loop v0 v1 v2 v3 v5 v6 k0_t10).OK := fun v0 v1 v2 v3 v5 v6 k0_hw1 k0_t10 => k0_hw1.2.2.2.2.2.2.2.2.2.2.2.1 k0_t10
theorem k0_mult9_dvd : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t12 : Fin (k0_t12_loop v0 v1 v2 v3 v5 v6 k0_t10).trips), 32 ∣ (k0_mult9 v0 v1 v2 v3 v5 v6 k0_t10 k0_t12).toNat := fun v0 v1 v2 v3 v5 v6 k0_hw1 k0_t10 k0_t12 => k0_hw1.2.2.2.2.2.2.2.2.2.2.2.2.1 k0_t10 k0_t12
theorem k0_off17_inb : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t12 : Fin (k0_t12_loop v0 v1 v2 v3 v5 v6 k0_t10).trips), ∀ a, (k0_off17 v0 v1 v2 v3 v5 v6 k0_t10) a + S1.size a ≤ S16.size a := fun v0 v1 v2 v3 v5 v6 k0_hw1 k0_t10 k0_t12 => k0_hw1.2.2.2.2.2.2.2.2.2.2.2.2.2.1 k0_t10 k0_t12
theorem k0_off18_inb : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t12 : Fin (k0_t12_loop v0 v1 v2 v3 v5 v6 k0_t10).trips), ∀ a, (k0_off18 v0 v1 v2 v3 v5 v6 k0_t10 k0_t12) a + S1x32x16384.size a ≤ S2x1024x16384.size a := fun v0 v1 v2 v3 v5 v6 k0_hw1 k0_t10 k0_t12 => k0_hw1.2.2.2.2.2.2.2.2.2.2.2.2.2.2.1 k0_t10 k0_t12
theorem k0_off18_wordsfp8e4m3 : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips) (k0_t12 : Fin (k0_t12_loop v0 v1 v2 v3 v5 v6 k0_t10).trips), (Rect.unit (s := S2x1024x16384) (k0_off18 v0 v1 v2 v3 v5 v6 k0_t10 k0_t12) S1x32x16384.size (k0_off18_inb v0 v1 v2 v3 v5 v6 k0_hw1 k0_t10 k0_t12)).WholeWords (EltTy.packing .fp8e4m3) := fun v0 v1 v2 v3 v5 v6 k0_hw1 k0_t10 k0_t12 => k0_hw1.2.2.2.2.2.2.2.2.2.2.2.2.2.2.2.1 k0_t10 k0_t12 (k0_off18_inb v0 v1 v2 v3 v5 v6 k0_hw1 k0_t10 k0_t12)
theorem k0_mult10_dvd : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips), 128 ∣ (k0_mult10 v0 v1 v2 v3 v5 v6 k0_t10).toNat := fun v0 v1 v2 v3 v5 v6 k0_hw1 k0_t10 => k0_hw1.2.2.2.2.2.2.2.2.2.2.2.2.2.2.2.2.1 k0_t10
theorem k0_off19_inb : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips), ∀ a, (k0_off19 v0 v1 v2 v3 v5 v6 k0_t10) a + S1x128x16384.size a ≤ S2x1024x16384.size a := fun v0 v1 v2 v3 v5 v6 k0_hw1 k0_t10 => k0_hw1.2.2.2.2.2.2.2.2.2.2.2.2.2.2.2.2.2.1 k0_t10
theorem k0_off20_inb : ∀ (v0 : BitVec 32) (v1 : BitVec 32) (v2 : BitVec 32) (v3 : BitVec 32) (v5 : BitVec 32) (v6 : BitVec 32) (k0_hw1 : k0_chk1 v0 v1 v2 v3 v5 v6) (k0_t10 : Fin (k0_t10_loop v0 v1 v2 v3 v5 v6).trips), ∀ a, (k0_off20 v0 v1 v2 v3 v5 v6 k0_t10) a + S1x128.size a ≤ S16x128.size a := fun v0 v1 v2 v3 v5 v6 k0_hw1 k0_t10 => k0_hw1.2.2.2.2.2.2.2.2.2.2.2.2.2.2.2.2.2.2 k0_t10

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F] [Named F]
def κ : String → Option EReal := fun
  | "decay_1" => some ((47913833785768504931539100806813606725215752967902333327106257800233702202700834294096866349571611959343693375577669086602318905371571733409819659324637792472240641 / 34028236692093846346337460743176821145600000000000000000000000000000000000000000000000000000000000000000000000000000000000000000000000000000000000000000000000000000000 : ℝ) : EReal)
  | "decay_2" => some ((2295735468050251461331025160401853014234666811947738896406015820125190654959807865961601196509416737091322136424523501079982230319224253706449643495700299167199480126964268328340111789958700324662074923814336204752566946940187705161293656157896913249015993322083719124856453517445405028608008663164255222372420196820567012090881 / 1157920892373161954235709850086879078532699846656405640394575840079131296399360000000000000000000000000000000000000000000000000000000000000000000000000000000000000000000000000000000000000000000000000000000000000000000000000000000000000000000000000000000000000000000000000000000000000000000000000000000000000000000000000000000000000000 : ℝ) : EReal)
  | "decay_4" => some ((5270401339263907148195455108435749712387949529665984818890620327035744349038628439617672883017393890763061219202260682972977184100496482728047499695132235246977163768388262982383521988158526984488514182175771023674030519940106998759942664102683396206157922481991497974714863127939185112786080931720317865988299695036795106943899746195021750350379035186643851468681819417825315567347811932359399166247507103533898684257079775801837106945088879150233633336705712533604904809882555396179531077319756497089140338277024890606081010949651264290103497684120447916179134371231055558546206124722455998406996112137188896687443077804557282534764997108045243403356161 / 1340780792994259709957402499820584612747936582059239337772356144372176403007354697680187429816690342769003185818648605085375388281194656994643364900608409600000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000000 : ℝ) : EReal)
  | "log2_decay" => some (((Real.log (19 / 20)) * (Real.log 2)⁻¹ : ℝ) : EReal)
  | _ => none
-- ==== ReferenceIdeal.lean ====
abbrev S2x1024x16384 : Shape := ⟨3, ![2, 1024, 16384]⟩
abbrev S2x1024 : Shape := ⟨2, ![2, 1024]⟩
abbrev S16384 : Shape := ⟨1, ![16384]⟩
abbrev S1 : Shape := ⟨1, ![1]⟩
abbrev S2 : Shape := ⟨1, ![2]⟩
abbrev S1024 : Shape := ⟨1, ![1024]⟩
abbrev S1x1024 : Shape := ⟨2, ![1, 1024]⟩
abbrev S2x1 : Shape := ⟨2, ![2, 1]⟩
abbrev S_ : Shape := ⟨0, ![]⟩
abbrev S2x1023 : Shape := ⟨2, ![2, 1023]⟩
abbrev S2x8x128 : Shape := ⟨3, ![2, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x8x1 : Shape := ⟨3, ![2, 8, 1]⟩
abbrev S2x8 : Shape := ⟨2, ![2, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x1x128 : Shape := ⟨3, ![1, 1, 128]⟩

abbrev nBuf : Space → Nat
  | .hbm => 168
  | .vmem => 5
  | .smem => 0
  | _ => 0

abbrev hbmTy0_0 (i : Nat) : BufTy := match i % 128 with
  | 0 => ⟨S2x1024x16384, .fp8e4m3⟩
  | 1 => ⟨S2x1024, .f32⟩
  | 2 => ⟨S16384, .fp8e4m3⟩
  | 3 => ⟨S1, .f32⟩
  | 4 => ⟨S1, .f32⟩
  | 5 => ⟨S2x1024, .bf16⟩
  | 6 => ⟨S2x1024, .bf16⟩
  | 7 => ⟨S2, .f32⟩
  | 8 => ⟨S2, .i32⟩
  | 9 => ⟨S2, .i32⟩
  | 10 => ⟨S2x1024x16384, .f32⟩
  | 11 => ⟨S16384, .f32⟩
  | 12 => ⟨S1, .f32⟩
  | 13 => ⟨S1024, .i32⟩
  | 14 => ⟨S1x1024, .i32⟩
  | 15 => ⟨S2x1, .i32⟩
  | 16 => ⟨S2x1, .i32⟩
  | 17 => ⟨S2x1, .i32⟩
  | 18 => ⟨S2x1024, .i32⟩
  | 19 => ⟨S2x1024, .i32⟩
  | 20 => ⟨S2x1024, .i1⟩
  | 21 => ⟨S2x1024, .i32⟩
  | 22 => ⟨S2x1024, .i32⟩
  | 23 => ⟨S2x1024, .i1⟩
  | 24 => ⟨S2x1024, .i1⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S_, .f32⟩
  | 34 => ⟨S_, .f32⟩
  | 35 => ⟨S2x1024, .f32⟩
  | 36 => ⟨S2x1024, .f32⟩
  | 37 => ⟨S2x1024, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S_, .i32⟩
  | 44 => ⟨S2x1, .i32⟩
  | 45 => ⟨S2x1, .i32⟩
  | 46 => ⟨S2x1024, .i32⟩
  | 47 => ⟨S2x1024, .i32⟩
  | 48 => ⟨S2x1024, .i1⟩
  | 49 => ⟨S2x1, .f32⟩
  | 50 => ⟨S_, .f32⟩
  | 51 => ⟨S_, .f32⟩
  | 52 => ⟨S2x1024, .f32⟩
  | 53 => ⟨S2x1024, .f32⟩
  | 54 => ⟨S2x1024, .f32⟩
  | 55 => ⟨S2x1024, .f32⟩
  | 56 => ⟨S_, .f32⟩
  | 57 => ⟨S_, .f32⟩
  | 58 => ⟨S2x1024, .f32⟩
  | 59 => ⟨S2x1024, .f32⟩
  | 60 => ⟨S2x1023, .f32⟩
  | 61 => ⟨S_, .f32⟩
  | 62 => ⟨S2x1, .f32⟩
  | 63 => ⟨S2x1024, .f32⟩
  | 64 => ⟨S_, .f32⟩
  | 65 => ⟨S2x1024, .f32⟩
  | 66 => ⟨S2x1024, .f32⟩
  | 67 => ⟨S2x1024, .f32⟩
  | 68 => ⟨S2x1024, .f32⟩
  | 69 => ⟨S_, .f32⟩
  | 70 => ⟨S_, .f32⟩
  | 71 => ⟨S_, .f32⟩
  | 72 => ⟨S2x1024, .f32⟩
  | 73 => ⟨S2x1024, .f32⟩
  | 74 => ⟨S2x8x128, .f32⟩
  | 75 => ⟨S128, .i32⟩
  | 76 => ⟨S128x1, .i32⟩
  | 77 => ⟨S1x128, .i32⟩
  | 78 => ⟨S128x128, .i32⟩
  | 79 => ⟨S128x128, .i32⟩
  | 80 => ⟨S128x128, .i32⟩
  | 81 => ⟨S_, .i32⟩
  | 82 => ⟨S128x128, .i32⟩
  | 83 => ⟨S128x128, .i1⟩
  | 84 => ⟨S_, .i32⟩
  | 85 => ⟨S128x128, .i32⟩
  | 86 => ⟨S128x128, .i32⟩
  | 87 => ⟨S128x128, .f32⟩
  | 88 => ⟨S128x128, .f32⟩
  | 89 => ⟨S128x128, .f32⟩
  | 90 => ⟨S_, .f32⟩
  | 91 => ⟨S_, .f32⟩
  | 92 => ⟨S128x128, .f32⟩
  | 93 => ⟨S128x128, .f32⟩
  | 94 => ⟨S2x8x128, .f32⟩
  | 95 => ⟨S2x8x1, .f32⟩
  | 96 => ⟨S2x8, .f32⟩
  | 97 => ⟨S8, .i32⟩
  | 98 => ⟨S8x1, .i32⟩
  | 99 => ⟨S1x8, .i32⟩
  | 100 => ⟨S8x8, .i32⟩
  | 101 => ⟨S8x8, .i32⟩
  | 102 => ⟨S8x8, .i32⟩
  | 103 => ⟨S_, .i32⟩
  | 104 => ⟨S8x8, .i32⟩
  | 105 => ⟨S8x8, .i32⟩
  | 106 => ⟨S_, .i32⟩
  | 107 => ⟨S8x8, .i32⟩
  | 108 => ⟨S8x8, .i1⟩
  | 109 => ⟨S_, .i32⟩
  | 110 => ⟨S8x8, .i32⟩
  | 111 => ⟨S8x8, .i32⟩
  | 112 => ⟨S_, .i32⟩
  | 113 => ⟨S8x8, .i32⟩
  | 114 => ⟨S8x8, .i32⟩
  | 115 => ⟨S8x8, .f32⟩
  | 116 => ⟨S8x8, .f32⟩
  | 117 => ⟨S8x8, .f32⟩
  | 118 => ⟨S_, .f32⟩
  | 119 => ⟨S_, .f32⟩
  | 120 => ⟨S8x8, .f32⟩
  | 121 => ⟨S8x8, .f32⟩
  | 122 => ⟨S2x8, .f32⟩
  | 123 => ⟨S_, .i32⟩
  | 124 => ⟨S128, .i32⟩
  | 125 => ⟨S128, .i32⟩
  | 126 => ⟨S128, .f32⟩
  | 127 => ⟨S128, .f32⟩
  | _ => ⟨S2x1024x16384, .fp8e4m3⟩

abbrev hbmTy0_1 (i : Nat) : BufTy := match i % 128 with
  | 0 => ⟨S128, .f32⟩
  | 1 => ⟨S2x8x1, .f32⟩
  | 2 => ⟨S1x1x128, .f32⟩
  | 3 => ⟨S2x8x128, .f32⟩
  | 4 => ⟨S2x8x128, .f32⟩
  | 5 => ⟨S2x8x128, .f32⟩
  | 6 => ⟨S2x8x128, .f32⟩
  | 7 => ⟨S2x1024, .f32⟩
  | 8 => ⟨S_, .f32⟩
  | 9 => ⟨S_, .f32⟩
  | 10 => ⟨S2x1024, .f32⟩
  | 11 => ⟨S2x1024, .f32⟩
  | 12 => ⟨S2x1024, .f32⟩
  | 13 => ⟨S2x1024, .f32⟩
  | 14 => ⟨S_, .f32⟩
  | 15 => ⟨S_, .f32⟩
  | 16 => ⟨S2x1024, .f32⟩
  | 17 => ⟨S_, .f32⟩
  | 18 => ⟨S_, .f32⟩
  | 19 => ⟨S_, .f32⟩
  | 20 => ⟨S2x1024, .f32⟩
  | 21 => ⟨S2x1024, .f32⟩
  | 22 => ⟨S2x1024, .f32⟩
  | 23 => ⟨S2x1024, .f32⟩
  | 24 => ⟨S_, .f32⟩
  | 25 => ⟨S_, .f32⟩
  | 26 => ⟨S_, .f32⟩
  | 27 => ⟨S_, .f32⟩
  | 28 => ⟨S_, .f32⟩
  | 29 => ⟨S2x1024, .f32⟩
  | 30 => ⟨S2x1024, .f32⟩
  | 31 => ⟨S_, .f32⟩
  | 32 => ⟨S_, .f32⟩
  | 33 => ⟨S_, .f32⟩
  | 34 => ⟨S2x1024, .f32⟩
  | 35 => ⟨S2x1024, .f32⟩
  | 36 => ⟨S_, .f32⟩
  | 37 => ⟨S_, .f32⟩
  | 38 => ⟨S2x1024, .f32⟩
  | 39 => ⟨S2x1024, .f32⟩
  | _ => ⟨S2x1024x16384, .fp8e4m3⟩

abbrev hbmTy (i : Nat) : BufTy := match i / 128 with
  | 0 => hbmTy0_0 i
  | 1 => hbmTy0_1 i
  | _ => ⟨S2x1024x16384, .fp8e4m3⟩

abbrev bufTy : (tb : Table) → Fin (tcTables nBuf tb) → BufTy
  | .hbm, ⟨i, _⟩ => hbmTy i
  | .local _ .vmem, ⟨0, _⟩ => ⟨S2x1024x16384, .fp8e4m3⟩
  | .local _ .vmem, ⟨1, _⟩ => ⟨S16384, .fp8e4m3⟩
  | .local _ .vmem, ⟨2, _⟩ => ⟨S2x1024x16384, .f32⟩
  | .local _ .vmem, ⟨3, _⟩ => ⟨S16384, .f32⟩
  | .local _ .vmem, ⟨4, _⟩ => ⟨S1, .f32⟩
  | _, _ => ⟨S2x1024x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v33 : Ref sig .tc := ⟨.hbm, 54, rfl⟩
abbrev main_v34 : Ref sig .tc := ⟨.hbm, 55, rfl⟩
abbrev main_cst_2 : Ref sig .tc := ⟨.hbm, 56, rfl⟩
abbrev main_call2_v0 : Ref sig .tc := ⟨.hbm, 57, rfl⟩
abbrev main_call2_v1 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_call3_v0 : Ref sig .tc := ⟨.hbm, 71, rfl⟩
abbrev main_call3_v1 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_6 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_8 : Ref sig .tc := ⟨.hbm, 90, rfl⟩
abbrev main_call4_v0 : Ref sig .tc := ⟨.hbm, 91, rfl⟩
abbrev main_call4_v1 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_9 : Ref sig .tc := ⟨.hbm, 103, rfl⟩
abbrev main_v69 : Ref sig .tc := ⟨.hbm, 104, rfl⟩
abbrev main_v70 : Ref sig .tc := ⟨.hbm, 105, rfl⟩
abbrev main_c_10 : Ref sig .tc := ⟨.hbm, 106, rfl⟩
abbrev main_v71 : Ref sig .tc := ⟨.hbm, 107, rfl⟩
abbrev main_v72 : Ref sig .tc := ⟨.hbm, 108, rfl⟩
abbrev main_c_11 : Ref sig .tc := ⟨.hbm, 109, rfl⟩
abbrev main_v73 : Ref sig .tc := ⟨.hbm, 110, rfl⟩
abbrev main_v74 : Ref sig .tc := ⟨.hbm, 111, rfl⟩
abbrev main_c_12 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_13 : Ref sig .tc := ⟨.hbm, 118, rfl⟩
abbrev main_call5_v0 : Ref sig .tc := ⟨.hbm, 119, rfl⟩
abbrev main_call5_v1 : Ref sig .tc := ⟨.hbm, 120, rfl⟩
abbrev main_v80 : Ref sig .tc := ⟨.hbm, 121, rfl⟩
abbrev main_v81 : Ref sig .tc := ⟨.hbm, 122, rfl⟩
abbrev main_c_14 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_15 : Ref sig .tc := ⟨.hbm, 136, rfl⟩
abbrev main_call6_v0 : Ref sig .tc := ⟨.hbm, 137, rfl⟩
abbrev main_call6_v1 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_16 : Ref sig .tc := ⟨.hbm, 142, rfl⟩
abbrev main_v97 : Ref sig .tc := ⟨.hbm, 143, rfl⟩
abbrev main_v98 : Ref sig .tc := ⟨.hbm, 144, rfl⟩
abbrev main_cst_17 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_18 : Ref sig .tc := ⟨.hbm, 152, rfl⟩
abbrev main_v105 : Ref sig .tc := ⟨.hbm, 153, rfl⟩
abbrev main_cst_19 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_20 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_21 : Ref sig .tc := ⟨.hbm, 164, rfl⟩
abbrev main_call7_v0 : Ref sig .tc := ⟨.hbm, 165, rfl⟩
abbrev main_call7_v1 : Ref sig .tc := ⟨.hbm, 166, rfl⟩
abbrev main_v114 : Ref sig .tc := ⟨.hbm, 167, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "decay" => some ((19 / 20 : ℝ) : EReal)
  | _ => none

abbrev grid0 : Pipeline.Grid := .none

abbrev stage0_0 : Fin 1 → Memref sig .tc .vmem S2x1024x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Words.lean ====
module

public import Idealize.ShloMosaic.Lib.Affine
public import Idealize.ShloMosaic.Lib.LoopRemainder

/-!
# The integers of the copy schedule

The kernel computes on 32-bit words which 32-row blocks of `hidden` meet the answer of each of the two sequences, and
groups them into chunks of four blocks. Here those computations are named, as functions of words (`…W`) and of natural
numbers, and the words are shown to hold the natural numbers.
-/

@[expose] public section

namespace Cert.Critic

open Idealize.ShloMosaic
open Idealize.ShloMosaic.Affine (IsInt Holds Fails)

/-! ## The words -/

/-- The quotient of signed words rounded down, as it is computed from the quotient rounded to zero. -/
def fdivW (x d : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

/-- A position brought into `0 … 1024`. -/
def clampW (s : BitVec 32) : BitVec 32 := Scalar.minsi 1024#32 (Scalar.maxsi 0#32 s)
/-- The number of positions from `l` to `h`. -/
def cntW (l h : BitVec 32) : BitVec 32 := Scalar.maxsi (Scalar.subi h l) 0#32
/-- The block of position `l`. -/
def bloW (l : BitVec 32) : BitVec 32 := fdivW l 32#32
/-- The block after the last one met by the positions from `l` to `h`. -/
def bhiW (l h : BitVec 32) : BitVec 32 :=
  Scalar.select (Scalar.cmpi .sgt (cntW l h) 0#32) (fdivW (Scalar.subi (Scalar.addi h 32#32) 1#32) 32#32) (bloW l)
/-- The chunk of position `l`. -/
def cloW (l : BitVec 32) : BitVec 32 := fdivW (bloW l) 4#32
/-- The number of chunks met. -/
def chnW (l h : BitVec 32) : BitVec 32 :=
  Scalar.select (Scalar.cmpi .sgt (cntW l h) 0#32)
    (Scalar.subi (fdivW (Scalar.subi (Scalar.addi (bhiW l h) 4#32) 1#32) 4#32) (cloW l)) 0#32

/-- The upper bound of a loop of `n` trips from `0` as it is printed. -/
def ubW (n : BitVec 32) : BitVec 32 :=
  Scalar.addi 0#32 (Scalar.muli (Scalar.divsi n 1#32) 1#32)
/-- The trip count between two bounds as it is printed. -/
def spanW (a b : BitVec 32) : BitVec 32 :=
  Scalar.subi (Scalar.divsi (Scalar.addi (Scalar.subi b a) (Scalar.subi 1#32 1#32)) 1#32) 0#32

section Item
variable (l0 h0 l1 h1 : BitVec 32)

/-- The number of work items: the chunks of both sequences. -/
def nitW : BitVec 32 := spanW 0#32 (Scalar.addi (chnW l0 h0) (chnW l1 h1))
/-- The work item of trip `t`. -/
def itW (t : Nat) : BitVec 32 := Scalar.addi 0#32 (Scalar.muli (Scf.iv 0#32 1#32 t) 1#32)
/-- Whether work item `i` is of the second sequence. -/
def secW (i : BitVec 32) : BitVec 1 := Scalar.cmpi .sge i (chnW l0 h0)
/-- The sequence of work item `i`. -/
def seqW (i : BitVec 32) : BitVec 32 := Scalar.select (secW l0 h0 i) 1#32 0#32
/-- The chunk of work item `i`. -/
def chunkW (i : BitVec 32) : BitVec 32 :=
  Scalar.select (secW l0 h0 i) (Scalar.subi (Scalar.addi (cloW l1) i) (chnW l0 h0)) (Scalar.addi (cloW l0) i)
/-- The first block of work item `i`. -/
def firstW (i : BitVec 32) : BitVec 32 :=
  Scalar.maxsi (Scalar.select (secW l0 h0 i) (bloW l1) (bloW l0)) (Scalar.muli (chunkW l0 h0 l1 i) 4#32)
/-- The block after the last one of work item `i`. -/
def lastW (i : BitVec 32) : BitVec 32 :=
  Scalar.minsi (Scalar.select (secW l0 h0 i) (bhiW l1 h1) (bhiW l0 h0))
    (Scalar.muli (Scalar.addi (chunkW l0 h0 l1 i) 1#32) 4#32)
/-- The number of blocks of work item `i`. -/
def nblkW (i : BitVec 32) : BitVec 32 := spanW (firstW l0 h0 l1 i) (lastW l0 h0 l1 h1 i)
/-- The row of `vraw` and the semaphore of work item `i`. -/
def cellW (i : BitVec 32) : BitVec 32 :=
  Scalar.addi (Scalar.muli (chunkW l0 h0 l1 i) 2#32) (seqW l0 h0 i)
/-- The first row of block `t` of work item `i`. -/
def rowW (i : BitVec 32) (t : Nat) : BitVec 32 :=
  Scalar.muli (Scalar.addi (firstW l0 h0 l1 i) (Scalar.muli (Scf.iv 0#32 1#32 t) 1#32)) 32#32
/-- The first row of the chunk of work item `i`. -/
def chunkRowW (i : BitVec 32) : BitVec 32 := Scalar.muli (chunkW l0 h0 l1 i) 128#32

end Item

/-! ## The natural numbers -/

/-- The block after the last one met by the positions from `L` to `H`. -/
def bhi (L H : Nat) : Nat := if L < H then (H + 31) / 32 else L / 32
/-- The number of chunks met by the positions from `L` to `H`. -/
def chn (L H : Nat) : Nat := if L < H then (bhi L H + 3) / 4 - L / 128 else 0

/-- The positions `L … H` of the two sequences' answers, all at most 1024. -/
structure Spans where
  (L0 H0 L1 H1 : Nat)
  (hL0 : L0 ≤ 1024) (hH0 : H0 ≤ 1024) (hL1 : L1 ≤ 1024) (hH1 : H1 ≤ 1024)

namespace Spans
variable (S : Spans)

/-- The number of work items. -/
def nit : Nat := chn S.L0 S.H0 + chn S.L1 S.H1
/-- The sequence of work item `i`. -/
def seq (i : Nat) : Nat := if chn S.L0 S.H0 ≤ i then 1 else 0
/-- The chunk of work item `i`. -/
def chunk (i : Nat) : Nat := if chn S.L0 S.H0 ≤ i then S.L1 / 128 + i - chn S.L0 S.H0 else S.L0 / 128 + i
/-- The first block of work item `i`. -/
def first (i : Nat) : Nat := max (if chn S.L0 S.H0 ≤ i then S.L1 / 32 else S.L0 / 32) (4 * S.chunk i)
/-- The block after the last one of work item `i`. -/
def last (i : Nat) : Nat := min (if chn S.L0 S.H0 ≤ i then bhi S.L1 S.H1 else bhi S.L0 S.H0) (4 * (S.chunk i + 1))
/-- The number of blocks of work item `i`. -/
def nblk (i : Nat) : Nat := S.last i - S.first i

theorem facts {i : Nat} (hi : i < S.nit) : S.seq i ≤ 1 ∧ S.chunk i ≤ 7 ∧ 4 * S.chunk i ≤ S.first i ∧
    S.first i < S.last i ∧ S.last i ≤ 4 * (S.chunk i + 1) := by
  have h1 := S.hL0; have h2 := S.hH0; have h3 := S.hL1; have h4 := S.hH1
  simp only [nit, chn, bhi, seq, chunk, first, last] at *
  split_ifs at * <;> omega

theorem cell_inj {i k : Nat} (h : S.seq i = S.seq k) (h' : S.chunk i = S.chunk k) : i = k := by
  simp only [seq, chunk] at *
  split_ifs at * <;> omega

theorem nblk_pos {i : Nat} (hi : i < S.nit) : 0 < S.nblk i := by
  have := S.facts hi; unfold nblk; omega
theorem nblk_le {i : Nat} (hi : i < S.nit) : S.nblk i ≤ 4 := by
  have := S.facts hi; unfold nblk; omega
theorem nit_le : S.nit ≤ 16 := by
  have h1 := S.hL0; have h2 := S.hH0; have h3 := S.hL1; have h4 := S.hH1
  simp only [nit, chn, bhi]; split_ifs <;> omega

end Spans

/-! ## The words hold the natural numbers -/

theorem isInt_lit (n : Nat) (h : n < 2 ^ 31) : IsInt (BitVec.ofNat 32 n) (n : Int) := Affine.ofNat n ⟨rfl, h⟩

theorem isInt_fdivW {x d : BitVec 32} {a b : Int} (hx : IsInt x a) (hd : IsInt d b) (ha : 0 ≤ a) (hb : 0 < b) :
    IsInt (fdivW x d) (a / b) := by
  have h0 : IsInt (0#32) 0 := isInt_lit 0 (by decide)
  have hq : IsInt (Scalar.divsi x d) (a / b) := Affine.divsi hx hd ⟨rfl, ha, hb⟩
  have hr : IsInt (Scalar.remsi x d) (a % b) := Affine.remsi hx hd ⟨rfl, ha, hb⟩
  have hds : IsInt (Scalar.subi (Scalar.extui (Scalar.cmpi .sgt d 0#32)) (Scalar.extui (Scalar.cmpi .slt d 0#32))) 1 :=
    Affine.subi (Affine.extui_holds (Affine.sgt_holds hd h0 hb) rfl)
      (Affine.extui_fails (Affine.slt_fails hd h0 (by omega)) rfl) (by decide)
  obtain ⟨m, hm, hm0, hm1⟩ := Affine.subi_wrap hq (isInt_lit 1 (by decide))
  refine Affine.select_fails (ea := m) (eb := a / b) ?_ hm hq rfl
  rcases eq_or_lt_of_le ha with h | h
  · refine Affine.andi_fails_right trivial (Affine.ne_fails hr h0 ?_)
    rw [← h]; simp
  · refine Affine.andi_fails_left (Affine.ne_fails (ea := 1) (eb := 1) ?_ hds rfl) trivial
    exact Affine.subi (Affine.extui_holds (Affine.sgt_holds hx h0 h) rfl)
      (Affine.extui_fails (Affine.slt_fails hx h0 (by omega)) rfl) (by decide)

theorem clampW_isInt (s : BitVec 32) : ∃ n : Nat, n ≤ 1024 ∧ IsInt (clampW s) n ∧ (n : Int) = min 1024 (max 0 s.toInt) := by
  refine ⟨(min 1024 (max 0 s.toInt)).toNat, by omega, ?_, by omega⟩
  have h := Affine.minsi (isInt_lit 1024 (by decide)) (Affine.maxsi (isInt_lit 0 (by decide)) (Affine.word s) rfl) rfl
  unfold clampW
  refine Affine.relit h ?_
  push_cast; omega

section Span
variable {l h : BitVec 32} {L H : Nat} (hl : IsInt l L) (hh : IsInt h H) (hL : L ≤ 1024) (hH : H ≤ 1024)
include hl hL

theorem isInt_bloW : IsInt (bloW l) ((L / 32 : Nat) : Int) :=
  Affine.relit (isInt_fdivW hl (isInt_lit 32 (by decide)) (by omega) (by decide)) (by push_cast; rfl)

theorem isInt_cloW : IsInt (cloW l) ((L / 128 : Nat) : Int) :=
  Affine.relit (isInt_fdivW (isInt_bloW hl hL) (isInt_lit 4 (by decide)) (by omega) (by decide)) (by push_cast; omega)

include hh hH

theorem isInt_cntW : IsInt (cntW l h) (max ((H : Int) - L) 0) :=
  Affine.maxsi (Affine.subi hh hl ⟨rfl, by omega, by omega⟩) (isInt_lit 0 (by decide)) rfl

theorem cnt_holds (hlt : L < H) : Holds (Scalar.cmpi .sgt (cntW l h) 0#32) :=
  Affine.sgt_holds (isInt_cntW hl hh hL hH) (isInt_lit 0 (by decide)) (by push_cast; omega)

theorem cnt_fails (hlt : ¬ L < H) : Fails (Scalar.cmpi .sgt (cntW l h) 0#32) :=
  Affine.sgt_fails (isInt_cntW hl hh hL hH) (isInt_lit 0 (by decide)) (by push_cast; omega)

theorem isInt_bhiW : IsInt (bhiW l h) (bhi L H : Int) := by
  have hA : IsInt (fdivW (Scalar.subi (Scalar.addi h 32#32) 1#32) 32#32) (((H : Int) + 32 - 1) / 32) :=
    isInt_fdivW (Affine.subi (Affine.addi hh (isInt_lit 32 (by decide)) ⟨rfl, by omega, by omega⟩)
      (isInt_lit 1 (by decide)) ⟨rfl, by push_cast; omega, by push_cast; omega⟩) (isInt_lit 32 (by decide)) (by omega) (by decide)
  have hB := isInt_bloW hl hL
  unfold bhiW bhi
  split_ifs with hlt
  · exact Affine.select_holds (cnt_holds hl hh hL hH hlt) hA hB (by omega)
  · exact Affine.select_fails (cnt_fails hl hh hL hH hlt) hA hB rfl

theorem isInt_chnW : IsInt (chnW l h) (chn L H : Int) := by
  have hb := isInt_bhiW hl hh hL hH
  have hbl : bhi L H ≤ 32 := by unfold bhi; split_ifs <;> omega
  have hA : IsInt (Scalar.subi (fdivW (Scalar.subi (Scalar.addi (bhiW l h) 4#32) 1#32) 4#32) (cloW l))
      (((bhi L H : Int) + 4 - 1) / 4 - (L / 128 : Nat)) :=
    Affine.subi (isInt_fdivW (Affine.subi (Affine.addi hb (isInt_lit 4 (by decide)) ⟨rfl, by omega, by omega⟩)
      (isInt_lit 1 (by decide)) ⟨rfl, by push_cast; omega, by push_cast; omega⟩) (isInt_lit 4 (by decide)) (by omega) (by decide))
      (isInt_cloW hl hL) ⟨rfl, by push_cast; omega, by push_cast; omega⟩
  unfold chnW
  by_cases hlt : L < H
  · refine Affine.select_holds (cnt_holds hl hh hL hH hlt) hA (isInt_lit 0 (by decide)) ?_
    simp only [chn, bhi, if_pos hlt] at hbl ⊢; omega
  · refine Affine.select_fails (cnt_fails hl hh hL hH hlt) hA (isInt_lit 0 (by decide)) ?_
    simp only [chn, if_neg hlt]

end Span

theorem isInt_spanW {a b : BitVec 32} {m n : Nat} (ha : IsInt a m) (hb : IsInt b n) (hmn : m ≤ n) (hn : n ≤ 100000) :
    IsInt (spanW a b) ((n - m : Nat) : Int) := by
  have h1 : IsInt (Scalar.subi 1#32 1#32) 0 := Affine.subi (isInt_lit 1 (by decide)) (isInt_lit 1 (by decide)) (by decide)
  exact Affine.subi (Affine.divsi_one (Affine.addi (Affine.subi hb ha ⟨rfl, by omega, by omega⟩) h1 ⟨rfl, by omega, by omega⟩)
    (isInt_lit 1 (by decide)) ⟨rfl, rfl⟩) (isInt_lit 0 (by decide)) ⟨by push_cast; omega, by omega, by omega⟩

theorem isInt_ubW {x : BitVec 32} {n : Nat} (hx : IsInt x n) (hn : n ≤ 100000) : IsInt (ubW x) (n : Int) :=
  Affine.addi (isInt_lit 0 (by decide)) (Affine.muli (Affine.divsi_one hx (isInt_lit 1 (by decide)) ⟨rfl, rfl⟩)
    (isInt_lit 1 (by decide)) ⟨rfl, by push_cast; omega, by push_cast; omega⟩) ⟨by push_cast; omega, by omega, by omega⟩

theorem trips_ubW {x : BitVec 32} {n : Nat} (hx : IsInt x n) (hn : n ≤ 100000) :
    Scf.trips 0#32 (ubW x) 1#32 = n :=
  Affine.trips_eq (isInt_lit 0 (by decide)) (isInt_ubW hx hn) (isInt_lit 1 (by decide)) n ⟨by decide, by push_cast; omega⟩

theorem ok_ubW {x : BitVec 32} {n : Nat} (hx : IsInt x n) (hn : n ≤ 100000) : Scf.OK 0#32 (ubW x) 1#32 :=
  Affine.ok (isInt_lit 0 (by decide)) (isInt_ubW hx hn) (isInt_lit 1 (by decide)) ⟨by decide, by push_cast; omega⟩

theorem isInt_iv (t : Nat) (ht : t ≤ 100000) : IsInt (Scalar.muli (Scf.iv 0#32 1#32 t) 1#32) (t : Int) :=
  Affine.muli (Affine.iv (isInt_lit 0 (by decide)) (isInt_lit 1 (by decide)) t ⟨rfl, by push_cast; omega, by push_cast; omega⟩)
    (isInt_lit 1 (by decide)) ⟨by push_cast; omega, by push_cast; omega, by push_cast; omega⟩

theorem isInt_itW (t : Nat) (ht : t ≤ 100000) : IsInt (itW t) (t : Int) :=
  Affine.addi (isInt_lit 0 (by decide)) (isInt_iv t ht) ⟨by push_cast; omega, by omega, by omega⟩

/-- The words of the two sequences' bounds hold the spans `S`. -/
structure Spans.Of (S : Spans) (l0 h0 l1 h1 : BitVec 32) : Prop where
  l0 : IsInt l0 S.L0
  h0 : IsInt h0 S.H0
  l1 : IsInt l1 S.L1
  h1 : IsInt h1 S.H1

namespace Spans
variable {S : Spans} {l0 h0 l1 h1 : BitVec 32} (o : S.Of l0 h0 l1 h1)
include o

theorem isInt_nitW : IsInt (nitW l0 h0 l1 h1) (S.nit : Int) := by
  have h := isInt_chnW o.l0 o.h0 S.hL0 S.hH0
  have h' := isInt_chnW o.l1 o.h1 S.hL1 S.hH1
  have hn := S.nit_le; unfold nit at hn
  have := isInt_spanW (isInt_lit 0 (by decide)) (m := 0) (Affine.addi h h' (e := (S.nit : Int))
    ⟨by unfold nit; push_cast; rfl, by unfold nit; omega, by unfold nit; omega⟩) (by omega) (by unfold nit; omega)
  unfold nitW; simpa using this

theorem trips_nit : Scf.trips 0#32 (ubW (nitW l0 h0 l1 h1)) 1#32 = S.nit :=
  trips_ubW (isInt_nitW o) (by have := S.nit_le; omega)

variable {i : Nat} (hi : i < S.nit)
include hi

theorem sec_cases : (chn S.L0 S.H0 ≤ i → Holds (secW l0 h0 (itW i))) ∧ (¬ chn S.L0 S.H0 ≤ i → Fails (secW l0 h0 (itW i))) := by
  have h := isInt_chnW o.l0 o.h0 S.hL0 S.hH0
  have hn := S.nit_le
  exact ⟨fun hc => Affine.sge_holds (isInt_itW i (by omega)) h (by omega),
    fun hc => Affine.sge_fails (isInt_itW i (by omega)) h (by omega)⟩

theorem isInt_sel {a b : BitVec 32} {m n : Int} (ha : IsInt a m) (hb : IsInt b n) :
    IsInt (Scalar.select (secW l0 h0 (itW i)) a b) (if chn S.L0 S.H0 ≤ i then m else n) := by
  split_ifs with hc
  · exact Affine.select_holds ((sec_cases o hi).1 hc) ha hb rfl
  · exact Affine.select_fails ((sec_cases o hi).2 hc) ha hb rfl

theorem isInt_seqW : IsInt (seqW l0 h0 (itW i)) (S.seq i : Int) :=
  Affine.relit (isInt_sel o hi (isInt_lit 1 (by decide)) (isInt_lit 0 (by decide))) (by unfold seq; split_ifs <;> rfl)

theorem isInt_chunkW : IsInt (chunkW l0 h0 l1 (itW i)) (S.chunk i : Int) := by
  have h := isInt_chnW o.l0 o.h0 S.hL0 S.hH0
  have hn := S.nit_le
  have h1 := S.hL0; have h2 := S.hL1
  have h3 : chn S.L0 S.H0 ≤ S.nit := by unfold nit; omega
  refine Affine.relit (isInt_sel o hi (Affine.subi (Affine.addi (isInt_cloW o.l1 S.hL1) (isInt_itW i (by omega)) ⟨rfl, by omega, by omega⟩)
    h ⟨rfl, by omega, by omega⟩) (Affine.addi (isInt_cloW o.l0 S.hL0) (isInt_itW i (by omega)) ⟨rfl, by omega, by omega⟩)) ?_
  unfold chunk; split_ifs with hc <;> omega

theorem isInt_firstW : IsInt (firstW l0 h0 l1 (itW i)) (S.first i : Int) := by
  obtain ⟨-, hc, -⟩ := S.facts hi
  refine Affine.maxsi (isInt_sel o hi (isInt_bloW o.l1 S.hL1) (isInt_bloW o.l0 S.hL0))
    (Affine.muli (isInt_chunkW o hi) (isInt_lit 4 (by decide)) ⟨rfl, by omega, by omega⟩) ?_
  unfold first; split_ifs <;> push_cast <;> omega

theorem isInt_lastW : IsInt (lastW l0 h0 l1 h1 (itW i)) (S.last i : Int) := by
  obtain ⟨-, hc, -⟩ := S.facts hi
  refine Affine.minsi (isInt_sel o hi (isInt_bhiW o.l1 o.h1 S.hL1 S.hH1) (isInt_bhiW o.l0 o.h0 S.hL0 S.hH0))
    (Affine.muli (Affine.addi (isInt_chunkW o hi) (isInt_lit 1 (by decide)) ⟨rfl, by omega, by omega⟩) (isInt_lit 4 (by decide))
      ⟨rfl, by push_cast; omega, by push_cast; omega⟩) ?_
  unfold last; split_ifs <;> push_cast <;> omega

theorem isInt_nblkW : IsInt (nblkW l0 h0 l1 h1 (itW i)) (S.nblk i : Int) := by
  obtain ⟨-, hc, -, hlt, hle⟩ := S.facts hi
  exact isInt_spanW (isInt_firstW o hi) (isInt_lastW o hi) hlt.le (by omega)

theorem trips_nblk : Scf.trips 0#32 (ubW (nblkW l0 h0 l1 h1 (itW i))) 1#32 = S.nblk i :=
  trips_ubW (isInt_nblkW o hi) (by have := S.nblk_le hi; omega)

theorem isInt_cellW : IsInt (cellW l0 h0 l1 (itW i)) ((2 * S.chunk i + S.seq i : Nat) : Int) := by
  obtain ⟨hs, hc, -⟩ := S.facts hi
  exact Affine.addi (Affine.muli (isInt_chunkW o hi) (isInt_lit 2 (by decide)) ⟨rfl, by omega, by omega⟩) (isInt_seqW o hi)
    ⟨by push_cast; omega, by push_cast; omega, by push_cast; omega⟩

theorem isInt_rowW {t : Nat} (ht : t < S.nblk i) : IsInt (rowW l0 h0 l1 (itW i) t) ((32 * (S.first i + t) : Nat) : Int) := by
  obtain ⟨hs, hc, -, hlt, hle⟩ := S.facts hi
  have hb := S.nblk_le hi
  exact Affine.muli (Affine.addi (isInt_firstW o hi) (isInt_iv t (by omega)) ⟨rfl, by omega, by omega⟩) (isInt_lit 32 (by decide))
    ⟨by push_cast; omega, by push_cast; omega, by push_cast; omega⟩

theorem isInt_chunkRowW : IsInt (chunkRowW l0 h0 l1 (itW i)) ((128 * S.chunk i : Nat) : Int) := by
  obtain ⟨hs, hc, -, hlt, hle⟩ := S.facts hi
  exact Affine.muli (isInt_chunkW o hi) (isInt_lit 128 (by decide)) ⟨by push_cast; omega, by push_cast; omega, by push_cast; omega⟩

end Spans

/-- A word that holds a natural number is that number. -/
theorem toNat_of_isInt {x : BitVec 32} {n : Nat} (h : IsInt x n) : x.toNat = n := by
  unfold IsInt at h
  have := BitVec.toInt_eq_toNat_cond x
  have hx := x.isLt
  split at this <;> omega

end Cert.Critic
-- ==== Proof.KernelWords.lean ====
module

public import proofs.«01_k».proof.Proof.Gen.Kernel.Skeleton
public import proofs.«01_k».proof.Proof.Words

/-!
# The printed integers are the schedule's

Every loop bound, block offset and semaphore index that is printed for the kernel is one of the words of `Words`; the
checks the kernel makes of them (each access inside its buffer, each loop's step positive) hold for all arguments.
-/

@[expose] public section

noncomputable section

namespace Cert.Kernel.Critic

open Idealize.ShloMosaic Cert.Critic
open Idealize.ShloMosaic.Affine (IsInt)

section Ties
variable (v0 v1 v2 v3 v5 v6 : BitVec 32)

/-- The first and last positions of the two answers, and the spans between them. -/
abbrev l0 : BitVec 32 := clampW v0
abbrev h0 : BitVec 32 := clampW (Scalar.addi v2 v3)
abbrev l1 : BitVec 32 := clampW v1
abbrev h1 : BitVec 32 := clampW (Scalar.addi v5 v6)

def spans : Spans where
  L0 := (clampW_isInt v0).choose
  H0 := (clampW_isInt (Scalar.addi v2 v3)).choose
  L1 := (clampW_isInt v1).choose
  H1 := (clampW_isInt (Scalar.addi v5 v6)).choose
  hL0 := (clampW_isInt v0).choose_spec.1
  hH0 := (clampW_isInt (Scalar.addi v2 v3)).choose_spec.1
  hL1 := (clampW_isInt v1).choose_spec.1
  hH1 := (clampW_isInt (Scalar.addi v5 v6)).choose_spec.1

theorem spans_of : (spans v0 v1 v2 v3 v5 v6).Of (l0 v0) (h0 v2 v3) (l1 v1) (h1 v5 v6) where
  l0 := (clampW_isInt v0).choose_spec.2.1
  h0 := (clampW_isInt (Scalar.addi v2 v3)).choose_spec.2.1
  l1 := (clampW_isInt v1).choose_spec.2.1
  h1 := (clampW_isInt (Scalar.addi v5 v6)).choose_spec.2.1

abbrev nitV : BitVec 32 := nitW (l0 v0) (h0 v2 v3) (l1 v1) (h1 v5 v6)
abbrev nblkV (t : Nat) : BitVec 32 := nblkW (l0 v0) (h0 v2 v3) (l1 v1) (h1 v5 v6) (itW t)
abbrev cellV (t : Nat) : BitVec 32 := cellW (l0 v0) (h0 v2 v3) (l1 v1) (itW t)
abbrev seqV (t : Nat) : BitVec 32 := seqW (l0 v0) (h0 v2 v3) (itW t)
abbrev rowV (t u : Nat) : BitVec 32 := rowW (l0 v0) (h0 v2 v3) (l1 v1) (itW t) u
abbrev chunkRowV (t : Nat) : BitVec 32 := chunkRowW (l0 v0) (h0 v2 v3) (l1 v1) (itW t)

theorem t1_loop_eq : k0_t1_loop v0 v1 v2 v3 v5 v6 = ⟨0#32, ubW (nitV v0 v1 v2 v3 v5 v6), 1#32⟩ := rfl

theorem t7_loop_eq : k0_t7_loop v0 v1 v2 v3 v5 v6 = ⟨0#32, ubW (nitV v0 v1 v2 v3 v5 v6), 1#32⟩ := rfl

theorem t2_loop_eq (k0_t1 : Fin (k0_t1_loop v0 v1 v2 v3 v5 v6).trips) :
    k0_t2_loop v0 v1 v2 v3 v5 v6 k0_t1 = ⟨0#32, ubW (nblkV v0 v1 v2 v3 v5 v6 k0_t1.val), 1#32⟩ := rfl

theorem t8_loop_eq (k0_t7 : Fin (k0_t7_loop v0 v1 v2 v3 v5 v6).trips) :
    k0_t8_loop v0 v1 v2 v3 v5 v6 k0_t7 = ⟨0#32, ubW (nblkV v0 v1 v2 v3 v5 v6 k0_t7.val), 1#32⟩ := rfl

theorem t4_trips : (k0_t4_loop v0 v1 v2 v3 v5 v6).trips = 0 := Scf.rem_trips 0#32 (nitV v0 v1 v2 v3 v5 v6)
theorem t4_ok : (k0_t4_loop v0 v1 v2 v3 v5 v6).OK := Scf.rem_ok 0#32 (nitV v0 v1 v2 v3 v5 v6)

theorem t10_trips : (k0_t10_loop v0 v1 v2 v3 v5 v6).trips = 0 := Scf.rem_trips 0#32 (nitV v0 v1 v2 v3 v5 v6)
theorem t10_ok : (k0_t10_loop v0 v1 v2 v3 v5 v6).OK := Scf.rem_ok 0#32 (nitV v0 v1 v2 v3 v5 v6)

theorem t3_trips (k0_t1 : Fin (k0_t1_loop v0 v1 v2 v3 v5 v6).trips) : (k0_t3_loop v0 v1 v2 v3 v5 v6 k0_t1).trips = 0 :=
  Scf.rem_trips 0#32 (nblkV v0 v1 v2 v3 v5 v6 k0_t1.val)
theorem t3_ok (k0_t1 : Fin (k0_t1_loop v0 v1 v2 v3 v5 v6).trips) : (k0_t3_loop v0 v1 v2 v3 v5 v6 k0_t1).OK :=
  Scf.rem_ok 0#32 (nblkV v0 v1 v2 v3 v5 v6 k0_t1.val)

theorem t9_trips (k0_t7 : Fin (k0_t7_loop v0 v1 v2 v3 v5 v6).trips) : (k0_t9_loop v0 v1 v2 v3 v5 v6 k0_t7).trips = 0 :=
  Scf.rem_trips 0#32 (nblkV v0 v1 v2 v3 v5 v6 k0_t7.val)
theorem t9_ok (k0_t7 : Fin (k0_t7_loop v0 v1 v2 v3 v5 v6).trips) : (k0_t9_loop v0 v1 v2 v3 v5 v6 k0_t7).OK :=
  Scf.rem_ok 0#32 (nblkV v0 v1 v2 v3 v5 v6 k0_t7.val)

theorem off1_eq (k0_t1 : Fin (k0_t1_loop v0 v1 v2 v3 v5 v6).trips) : k0_off1 v0 v1 v2 v3 v5 v6 k0_t1 = ![(cellV v0 v1 v2 v3 k0_t1.val).toNat] := rfl
theorem off2_eq (k0_t1 : Fin (k0_t1_loop v0 v1 v2 v3 v5 v6).trips) (k0_t2 : Fin (k0_t2_loop v0 v1 v2 v3 v5 v6 k0_t1).trips) :
    k0_off2 v0 v1 v2 v3 v5 v6 k0_t1 k0_t2 = ![(seqV v0 v2 v3 k0_t1.val).toNat, (rowV v0 v1 v2 v3 k0_t1.val k0_t2.val).toNat, 0] := rfl
theorem mult1_eq (k0_t1 : Fin (k0_t1_loop v0 v1 v2 v3 v5 v6).trips) (k0_t2 : Fin (k0_t2_loop v0 v1 v2 v3 v5 v6 k0_t1).trips) :
    k0_mult1 v0 v1 v2 v3 v5 v6 k0_t1 k0_t2 = rowV v0 v1 v2 v3 k0_t1.val k0_t2.val := rfl

theorem off9_eq (k0_t7 : Fin (k0_t7_loop v0 v1 v2 v3 v5 v6).trips) : k0_off9 v0 v1 v2 v3 v5 v6 k0_t7 = ![(cellV v0 v1 v2 v3 k0_t7.val).toNat] := rfl
theorem off10_eq (k0_t7 : Fin (k0_t7_loop v0 v1 v2 v3 v5 v6).trips) (k0_t8 : Fin (k0_t8_loop v0 v1 v2 v3 v5 v6 k0_t7).trips) :
    k0_off10 v0 v1 v2 v3 v5 v6 k0_t7 k0_t8 = ![(seqV v0 v2 v3 k0_t7.val).toNat, (rowV v0 v1 v2 v3 k0_t7.val k0_t8.val).toNat, 0] := rfl
theorem mult5_eq (k0_t7 : Fin (k0_t7_loop v0 v1 v2 v3 v5 v6).trips) (k0_t8 : Fin (k0_t8_loop v0 v1 v2 v3 v5 v6 k0_t7).trips) :
    k0_mult5 v0 v1 v2 v3 v5 v6 k0_t7 k0_t8 = rowV v0 v1 v2 v3 k0_t7.val k0_t8.val := rfl

theorem mult7_eq (k0_t7 : Fin (k0_t7_loop v0 v1 v2 v3 v5 v6).trips) : k0_mult7 v0 v1 v2 v3 v5 v6 k0_t7 = chunkRowV v0 v1 v2 v3 k0_t7.val := rfl
theorem off13_eq (k0_t7 : Fin (k0_t7_loop v0 v1 v2 v3 v5 v6).trips) :
    k0_off13 v0 v1 v2 v3 v5 v6 k0_t7 = ![(seqV v0 v2 v3 k0_t7.val).toNat, (chunkRowV v0 v1 v2 v3 k0_t7.val).toNat, 0] := rfl
theorem off14_eq (k0_t7 : Fin (k0_t7_loop v0 v1 v2 v3 v5 v6).trips) : k0_off14 v0 v1 v2 v3 v5 v6 k0_t7 = ![(cellV v0 v1 v2 v3 k0_t7.val).toNat, 0] := rfl

end Ties

section Bounds
variable (v0 v1 v2 v3 v5 v6 : BitVec 32)

theorem t1_trips : (k0_t1_loop v0 v1 v2 v3 v5 v6).trips = (spans v0 v1 v2 v3 v5 v6).nit := Spans.trips_nit (spans_of v0 v1 v2 v3 v5 v6)
theorem t1_lt (k0_t1 : Fin (k0_t1_loop v0 v1 v2 v3 v5 v6).trips) : k0_t1.val < (spans v0 v1 v2 v3 v5 v6).nit := lt_of_lt_of_eq k0_t1.isLt (t1_trips v0 v1 v2 v3 v5 v6)
theorem t1_ok : (k0_t1_loop v0 v1 v2 v3 v5 v6).OK := ok_ubW (Spans.isInt_nitW (spans_of v0 v1 v2 v3 v5 v6)) (by have := (spans v0 v1 v2 v3 v5 v6).nit_le; omega)
theorem t2_trips (k0_t1 : Fin (k0_t1_loop v0 v1 v2 v3 v5 v6).trips) : (k0_t2_loop v0 v1 v2 v3 v5 v6 k0_t1).trips = (spans v0 v1 v2 v3 v5 v6).nblk k0_t1.val :=
  Spans.trips_nblk (spans_of v0 v1 v2 v3 v5 v6) (t1_lt v0 v1 v2 v3 v5 v6 k0_t1)
theorem t2_lt (k0_t1 : Fin (k0_t1_loop v0 v1 v2 v3 v5 v6).trips) (k0_t2 : Fin (k0_t2_loop v0 v1 v2 v3 v5 v6 k0_t1).trips) :
    k0_t2.val < (spans v0 v1 v2 v3 v5 v6).nblk k0_t1.val := lt_of_lt_of_eq k0_t2.isLt (t2_trips v0 v1 v2 v3 v5 v6 k0_t1)
theorem t2_ok (k0_t1 : Fin (k0_t1_loop v0 v1 v2 v3 v5 v6).trips) : (k0_t2_loop v0 v1 v2 v3 v5 v6 k0_t1).OK :=
  ok_ubW (Spans.isInt_nblkW (spans_of v0 v1 v2 v3 v5 v6) (t1_lt v0 v1 v2 v3 v5 v6 k0_t1)) (by have := (spans v0 v1 v2 v3 v5 v6).nblk_le (t1_lt v0 v1 v2 v3 v5 v6 k0_t1); omega)
theorem off1_nat (k0_t1 : Fin (k0_t1_loop v0 v1 v2 v3 v5 v6).trips) :
    k0_off1 v0 v1 v2 v3 v5 v6 k0_t1 = ![2 * (spans v0 v1 v2 v3 v5 v6).chunk k0_t1.val + (spans v0 v1 v2 v3 v5 v6).seq k0_t1.val] := by
  rw [off1_eq, toNat_of_isInt (Spans.isInt_cellW (spans_of v0 v1 v2 v3 v5 v6) (t1_lt v0 v1 v2 v3 v5 v6 k0_t1))]
theorem off2_nat (k0_t1 : Fin (k0_t1_loop v0 v1 v2 v3 v5 v6).trips) (k0_t2 : Fin (k0_t2_loop v0 v1 v2 v3 v5 v6 k0_t1).trips) :
    k0_off2 v0 v1 v2 v3 v5 v6 k0_t1 k0_t2 = ![(spans v0 v1 v2 v3 v5 v6).seq k0_t1.val, 32 * ((spans v0 v1 v2 v3 v5 v6).first k0_t1.val + k0_t2.val), 0] := by
  rw [off2_eq, toNat_of_isInt (Spans.isInt_seqW (spans_of v0 v1 v2 v3 v5 v6) (t1_lt v0 v1 v2 v3 v5 v6 k0_t1)),
    toNat_of_isInt (Spans.isInt_rowW (spans_of v0 v1 v2 v3 v5 v6) (t1_lt v0 v1 v2 v3 v5 v6 k0_t1) (t2_lt v0 v1 v2 v3 v5 v6 k0_t1 k0_t2))]
theorem mult1_dvd (k0_t1 : Fin (k0_t1_loop v0 v1 v2 v3 v5 v6).trips) (k0_t2 : Fin (k0_t2_loop v0 v1 v2 v3 v5 v6 k0_t1).trips) :
    32 ∣ (k0_mult1 v0 v1 v2 v3 v5 v6 k0_t1 k0_t2).toNat := by
  rw [mult1_eq, toNat_of_isInt (Spans.isInt_rowW (spans_of v0 v1 v2 v3 v5 v6) (t1_lt v0 v1 v2 v3 v5 v6 k0_t1) (t2_lt v0 v1 v2 v3 v5 v6 k0_t1 k0_t2))]
  exact Nat.dvd_mul_right _ _
theorem off1_inb (k0_t1 : Fin (k0_t1_loop v0 v1 v2 v3 v5 v6).trips) (a) : k0_off1 v0 v1 v2 v3 v5 v6 k0_t1 a + S1.size a ≤ S16.size a := by
  obtain ⟨hs, hc, -⟩ := (spans v0 v1 v2 v3 v5 v6).facts (t1_lt v0 v1 v2 v3 v5 v6 k0_t1)
  rw [off1_nat]; fin_cases a
  show 2 * (spans v0 v1 v2 v3 v5 v6).chunk k0_t1.val + (spans v0 v1 v2 v3 v5 v6).seq k0_t1.val + 1 ≤ 16
  omega
theorem off2_inb (k0_t1 : Fin (k0_t1_loop v0 v1 v2 v3 v5 v6).trips) (k0_t2 : Fin (k0_t2_loop v0 v1 v2 v3 v5 v6 k0_t1).trips) (a) :
    k0_off2 v0 v1 v2 v3 v5 v6 k0_t1 k0_t2 a + S1x32x16384.size a ≤ S2x1024x16384.size a := by
  obtain ⟨hs, hc, -, hlt, hle⟩ := (spans v0 v1 v2 v3 v5 v6).facts (t1_lt v0 v1 v2 v3 v5 v6 k0_t1)
  have hu := t2_lt v0 v1 v2 v3 v5 v6 k0_t1 k0_t2
  unfold Spans.nblk at hu
  rw [off2_nat]; fin_cases a
  · show (spans v0 v1 v2 v3 v5 v6).seq k0_t1.val + 1 ≤ 2
    omega
  · show 32 * ((spans v0 v1 v2 v3 v5 v6).first k0_t1.val + k0_t2.val) + 32 ≤ 1024
    omega
  · show 0 + 16384 ≤ 16384
    omega
theorem off2_words (k0_t1 : Fin (k0_t1_loop v0 v1 v2 v3 v5 v6).trips) (k0_t2 : Fin (k0_t2_loop v0 v1 v2 v3 v5 v6 k0_t1).trips)
    (hinb : ∀ a, k0_off2 v0 v1 v2 v3 v5 v6 k0_t1 k0_t2 a + S1x32x16384.size a ≤ S2x1024x16384.size a) :
    (Rect.unit (s := S2x1024x16384) (k0_off2 v0 v1 v2 v3 v5 v6 k0_t1 k0_t2) S1x32x16384.size hinb).WholeWords (EltTy.packing .fp8e4m3) := by
  refine Affine.words_of_packed (Affine.packed_dvd (by decide) ?_ ?_)
  · rw [off2_nat]
    show 4 ∣ 32 * ((spans v0 v1 v2 v3 v5 v6).first k0_t1.val + k0_t2.val)
    omega
  · decide

theorem t7_trips : (k0_t7_loop v0 v1 v2 v3 v5 v6).trips = (spans v0 v1 v2 v3 v5 v6).nit := Spans.trips_nit (spans_of v0 v1 v2 v3 v5 v6)
theorem t7_lt (k0_t7 : Fin (k0_t7_loop v0 v1 v2 v3 v5 v6).trips) : k0_t7.val < (spans v0 v1 v2 v3 v5 v6).nit := lt_of_lt_of_eq k0_t7.isLt (t7_trips v0 v1 v2 v3 v5 v6)
theorem t7_ok : (k0_t7_loop v0 v1 v2 v3 v5 v6).OK := ok_ubW (Spans.isInt_nitW (spans_of v0 v1 v2 v3 v5 v6)) (by have := (spans v0 v1 v2 v3 v5 v6).nit_le; omega)
theorem t8_trips (k0_t7 : Fin (k0_t7_loop v0 v1 v2 v3 v5 v6).trips) : (k0_t8_loop v0 v1 v2 v3 v5 v6 k0_t7).trips = (spans v0 v1 v2 v3 v5 v6).nblk k0_t7.val :=
  Spans.trips_nblk (spans_of v0 v1 v2 v3 v5 v6) (t7_lt v0 v1 v2 v3 v5 v6 k0_t7)
theorem t8_lt (k0_t7 : Fin (k0_t7_loop v0 v1 v2 v3 v5 v6).trips) (k0_t8 : Fin (k0_t8_loop v0 v1 v2 v3 v5 v6 k0_t7).trips) :
    k0_t8.val < (spans v0 v1 v2 v3 v5 v6).nblk k0_t7.val := lt_of_lt_of_eq k0_t8.isLt (t8_trips v0 v1 v2 v3 v5 v6 k0_t7)
theorem t8_ok (k0_t7 : Fin (k0_t7_loop v0 v1 v2 v3 v5 v6).trips) : (k0_t8_loop v0 v1 v2 v3 v5 v6 k0_t7).OK :=
  ok_ubW (Spans.isInt_nblkW (spans_of v0 v1 v2 v3 v5 v6) (t7_lt v0 v1 v2 v3 v5 v6 k0_t7)) (by have := (spans v0 v1 v2 v3 v5 v6).nblk_le (t7_lt v0 v1 v2 v3 v5 v6 k0_t7); omega)
theorem off9_nat (k0_t7 : Fin (k0_t7_loop v0 v1 v2 v3 v5 v6).trips) :
    k0_off9 v0 v1 v2 v3 v5 v6 k0_t7 = ![2 * (spans v0 v1 v2 v3 v5 v6).chunk k0_t7.val + (spans v0 v1 v2 v3 v5 v6).seq k0_t7.val] := by
  rw [off9_eq, toNat_of_isInt (Spans.isInt_cellW (spans_of v0 v1 v2 v3 v5 v6) (t7_lt v0 v1 v2 v3 v5 v6 k0_t7))]
theorem off10_nat (k0_t7 : Fin (k0_t7_loop v0 v1 v2 v3 v5 v6).trips) (k0_t8 : Fin (k0_t8_loop v0 v1 v2 v3 v5 v6 k0_t7).trips) :
    k0_off10 v0 v1 v2 v3 v5 v6 k0_t7 k0_t8 = ![(spans v0 v1 v2 v3 v5 v6).seq k0_t7.val, 32 * ((spans v0 v1 v2 v3 v5 v6).first k0_t7.val + k0_t8.val), 0] := by
  rw [off10_eq, toNat_of_isInt (Spans.isInt_seqW (spans_of v0 v1 v2 v3 v5 v6) (t7_lt v0 v1 v2 v3 v5 v6 k0_t7)),
    toNat_of_isInt (Spans.isInt_rowW (spans_of v0 v1 v2 v3 v5 v6) (t7_lt v0 v1 v2 v3 v5 v6 k0_t7) (t8_lt v0 v1 v2 v3 v5 v6 k0_t7 k0_t8))]
theorem mult5_dvd (k0_t7 : Fin (k0_t7_loop v0 v1 v2 v3 v5 v6).trips) (k0_t8 : Fin (k0_t8_loop v0 v1 v2 v3 v5 v6 k0_t7).trips) :
    32 ∣ (k0_mult5 v0 v1 v2 v3 v5 v6 k0_t7 k0_t8).toNat := by
  rw [mult5_eq, toNat_of_isInt (Spans.isInt_rowW (spans_of v0 v1 v2 v3 v5 v6) (t7_lt v0 v1 v2 v3 v5 v6 k0_t7) (t8_lt v0 v1 v2 v3 v5 v6 k0_t7 k0_t8))]
  exact Nat.dvd_mul_right _ _
theorem off9_inb (k0_t7 : Fin (k0_t7_loop v0 v1 v2 v3 v5 v6).trips) (a) : k0_off9 v0 v1 v2 v3 v5 v6 k0_t7 a + S1.size a ≤ S16.size a := by
  obtain ⟨hs, hc, -⟩ := (spans v0 v1 v2 v3 v5 v6).facts (t7_lt v0 v1 v2 v3 v5 v6 k0_t7)
  rw [off9_nat]; fin_cases a
  show 2 * (spans v0 v1 v2 v3 v5 v6).chunk k0_t7.val + (spans v0 v1 v2 v3 v5 v6).seq k0_t7.val + 1 ≤ 16
  omega
theorem off10_inb (k0_t7 : Fin (k0_t7_loop v0 v1 v2 v3 v5 v6).trips) (k0_t8 : Fin (k0_t8_loop v0 v1 v2 v3 v5 v6 k0_t7).trips) (a) :
    k0_off10 v0 v1 v2 v3 v5 v6 k0_t7 k0_t8 a + S1x32x16384.size a ≤ S2x1024x16384.size a := by
  obtain ⟨hs, hc, -, hlt, hle⟩ := (spans v0 v1 v2 v3 v5 v6).facts (t7_lt v0 v1 v2 v3 v5 v6 k0_t7)
  have hu := t8_lt v0 v1 v2 v3 v5 v6 k0_t7 k0_t8
  unfold Spans.nblk at hu
  rw [off10_nat]; fin_cases a
  · show (spans v0 v1 v2 v3 v5 v6).seq k0_t7.val + 1 ≤ 2
    omega
  · show 32 * ((spans v0 v1 v2 v3 v5 v6).first k0_t7.val + k0_t8.val) + 32 ≤ 1024
    omega
  · show 0 + 16384 ≤ 16384
    omega
theorem off10_words (k0_t7 : Fin (k0_t7_loop v0 v1 v2 v3 v5 v6).trips) (k0_t8 : Fin (k0_t8_loop v0 v1 v2 v3 v5 v6 k0_t7).trips)
    (hinb : ∀ a, k0_off10 v0 v1 v2 v3 v5 v6 k0_t7 k0_t8 a + S1x32x16384.size a ≤ S2x1024x16384.size a) :
    (Rect.unit (s := S2x1024x16384) (k0_off10 v0 v1 v2 v3 v5 v6 k0_t7 k0_t8) S1x32x16384.size hinb).WholeWords (EltTy.packing .fp8e4m3) := by
  refine Affine.words_of_packed (Affine.packed_dvd (by decide) ?_ ?_)
  · rw [off10_nat]
    show 4 ∣ 32 * ((spans v0 v1 v2 v3 v5 v6).first k0_t7.val + k0_t8.val)
    omega
  · decide

theorem mult7_dvd (k0_t7 : Fin (k0_t7_loop v0 v1 v2 v3 v5 v6).trips) : 128 ∣ (k0_mult7 v0 v1 v2 v3 v5 v6 k0_t7).toNat := by
  rw [mult7_eq, toNat_of_isInt (Spans.isInt_chunkRowW (spans_of v0 v1 v2 v3 v5 v6) (t7_lt v0 v1 v2 v3 v5 v6 k0_t7))]
  exact Nat.dvd_mul_right _ _
theorem off13_nat (k0_t7 : Fin (k0_t7_loop v0 v1 v2 v3 v5 v6).trips) :
    k0_off13 v0 v1 v2 v3 v5 v6 k0_t7 = ![(spans v0 v1 v2 v3 v5 v6).seq k0_t7.val, 128 * (spans v0 v1 v2 v3 v5 v6).chunk k0_t7.val, 0] := by
  rw [off13_eq, toNat_of_isInt (Spans.isInt_seqW (spans_of v0 v1 v2 v3 v5 v6) (t7_lt v0 v1 v2 v3 v5 v6 k0_t7)),
    toNat_of_isInt (Spans.isInt_chunkRowW (spans_of v0 v1 v2 v3 v5 v6) (t7_lt v0 v1 v2 v3 v5 v6 k0_t7))]
theorem off14_nat (k0_t7 : Fin (k0_t7_loop v0 v1 v2 v3 v5 v6).trips) :
    k0_off14 v0 v1 v2 v3 v5 v6 k0_t7 = ![2 * (spans v0 v1 v2 v3 v5 v6).chunk k0_t7.val + (spans v0 v1 v2 v3 v5 v6).seq k0_t7.val, 0] := by
  rw [off14_eq, toNat_of_isInt (Spans.isInt_cellW (spans_of v0 v1 v2 v3 v5 v6) (t7_lt v0 v1 v2 v3 v5 v6 k0_t7))]
theorem off13_inb (k0_t7 : Fin (k0_t7_loop v0 v1 v2 v3 v5 v6).trips) (a) : k0_off13 v0 v1 v2 v3 v5 v6 k0_t7 a + S1x128x16384.size a ≤ S2x1024x16384.size a := by
  obtain ⟨hs, hc, -⟩ := (spans v0 v1 v2 v3 v5 v6).facts (t7_lt v0 v1 v2 v3 v5 v6 k0_t7)
  rw [off13_nat]; fin_cases a
  · show (spans v0 v1 v2 v3 v5 v6).seq k0_t7.val + 1 ≤ 2
    omega
  · show 128 * (spans v0 v1 v2 v3 v5 v6).chunk k0_t7.val + 128 ≤ 1024
    omega
  · show 0 + 16384 ≤ 16384
    omega
theorem off14_inb (k0_t7 : Fin (k0_t7_loop v0 v1 v2 v3 v5 v6).trips) (a) : k0_off14 v0 v1 v2 v3 v5 v6 k0_t7 a + S1x128.size a ≤ S16x128.size a := by
  obtain ⟨hs, hc, -⟩ := (spans v0 v1 v2 v3 v5 v6).facts (t7_lt v0 v1 v2 v3 v5 v6 k0_t7)
  rw [off14_nat]; fin_cases a
  · show 2 * (spans v0 v1 v2 v3 v5 v6).chunk k0_t7.val + (spans v0 v1 v2 v3 v5 v6).seq k0_t7.val + 1 ≤ 16
    omega
  · show 0 + 128 ≤ 128
    omega

/-- Nothing is said of a trip of a loop that makes none. -/
theorem no_trip {n : Nat} (h : n = 0) {P : Fin n → Prop} (k : Fin n) : P k := (Nat.not_lt_zero _ (lt_of_lt_of_eq k.isLt h)).elim

/-- The checks the kernel makes of its word-computed loops and offsets hold, whatever the arguments. -/
theorem chk : k0_chk1 v0 v1 v2 v3 v5 v6 := by
  have n4 : ∀ {P : Fin (k0_t4_loop v0 v1 v2 v3 v5 v6).trips → Prop} (k), P k := fun k => no_trip (t4_trips v0 v1 v2 v3 v5 v6) k
  have n10 : ∀ {P : Fin (k0_t10_loop v0 v1 v2 v3 v5 v6).trips → Prop} (k), P k := fun k => no_trip (t10_trips v0 v1 v2 v3 v5 v6) k
  have n3 : ∀ k1, ∀ {P : Fin (k0_t3_loop v0 v1 v2 v3 v5 v6 k1).trips → Prop} (k), P k := fun k1 _ k => no_trip (t3_trips v0 v1 v2 v3 v5 v6 k1) k
  have n9 : ∀ k1, ∀ {P : Fin (k0_t9_loop v0 v1 v2 v3 v5 v6 k1).trips → Prop} (k), P k := fun k1 _ k => no_trip (t9_trips v0 v1 v2 v3 v5 v6 k1) k
  exact ⟨⟨t1_ok v0 v1 v2 v3 v5 v6, t2_ok v0 v1 v2 v3 v5 v6, mult1_dvd v0 v1 v2 v3 v5 v6, fun k _ => off1_inb v0 v1 v2 v3 v5 v6 k, off2_inb v0 v1 v2 v3 v5 v6, off2_words v0 v1 v2 v3 v5 v6,
    t3_ok v0 v1 v2 v3 v5 v6, fun k1 => n3 k1, fun k1 => n3 k1, fun k1 => n3 k1, fun k1 => n3 k1,
    t4_ok v0 v1 v2 v3 v5 v6, n4, n4, n4, n4, n4, n4, n4, n4, n4, n4,
    t7_ok v0 v1 v2 v3 v5 v6, t8_ok v0 v1 v2 v3 v5 v6, mult5_dvd v0 v1 v2 v3 v5 v6, fun k _ => off9_inb v0 v1 v2 v3 v5 v6 k, off10_inb v0 v1 v2 v3 v5 v6, off10_words v0 v1 v2 v3 v5 v6,
    t9_ok v0 v1 v2 v3 v5 v6, fun k1 => n9 k1, fun k1 => n9 k1, fun k1 => n9 k1⟩,
    ⟨fun k1 => n9 k1, mult7_dvd v0 v1 v2 v3 v5 v6, off13_inb v0 v1 v2 v3 v5 v6, off14_inb v0 v1 v2 v3 v5 v6,
    t10_ok v0 v1 v2 v3 v5 v6, n10, n10, n10, n10, n10, n10, n10, n10, n10, n10, n10, n10, n10⟩⟩

end Bounds

end Cert.Kernel.Critic
-- ==== Proof.Chunks.lean ====
module

public import proofs.«01_k».proof.Proof.KernelWords
public import proofs.«01_k».proof.Proof.Gen.Kernel.Loops
public import Idealize.ShloMosaic.Lib.Batch
public import Idealize.ShloMosaic.Lib.Ring
public import Idealize.ShloMosaic.Lib.LoopRemainder
public import Idealize.ShloMosaic.Lib.Pipeline.Frame

/-!
# What the kernel holds of its two copies of the hidden rows

The hidden rows are streamed from their array into a buffer of the same shape, 32 rows at a time; 128 consecutive rows
of one answer (a chunk) share one semaphore. This module names sets of rows, and what is held of one chunk: at rest,
or with copies of some of its rows in flight.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

/-- The array of hidden rows and the buffer they are copied into. -/
abbrev hidM : Memref sig .tc .hbm S2x1024x16384 .fp8e4m3 := Memref.whole main_arg0
abbrev bufM : Memref sig .tc .vmem S2x1024x16384 .fp8e4m3 := Memref.whole cc0_scratch0

/-- Rows `lo` to `hi` of answer `b`, whole. -/
def rows (b lo hi : ℕ) : Finset S2x1024x16384.Idx :=
  Finset.univ.filter fun i => (i 0).val = b ∧ lo ≤ (i 1).val ∧ (i 1).val < hi

theorem mem_rows {b lo hi : ℕ} {i : S2x1024x16384.Idx} : i ∈ rows b lo hi ↔ (i 0).val = b ∧ lo ≤ (i 1).val ∧ (i 1).val < hi := by
  simp [rows]

theorem rows_split {b lo mid hi : ℕ} (h : lo ≤ mid) (h' : mid ≤ hi) : rows b lo mid ∪ rows b mid hi = rows b lo hi := by
  ext i; simp only [Finset.mem_union, mem_rows]; omega

theorem rows_disjoint {b lo mid hi : ℕ} : Disjoint (rows b lo mid) (rows b mid hi) := by
  rw [Finset.disjoint_left]; intro i; simp only [mem_rows]; omega

theorem rows_sub {b lo hi lo' hi' : ℕ} (h : lo ≤ lo') (h' : hi' ≤ hi) : rows b lo' hi' ⊆ rows b lo hi := by
  intro i; simp only [mem_rows]; omega

/-- The elements a box of consecutive whole rows covers. -/
theorem rect_rows {off size : Fin 3 → ℕ} (inb : ∀ a, off a + size a ≤ S2x1024x16384.size a) {b lo n : ℕ}
    (ho : off = ![b, lo, 0]) (hs : size = ![1, n, 16384]) :
    (Rect.unit (s := S2x1024x16384) off size inb).set = rows b lo (lo + n) := by
  subst ho hs
  ext i
  rw [Rect.mem_set_unit, mem_rows]
  constructor
  · intro h
    have h0 : b ≤ (i 0).val ∧ (i 0).val < b + 1 := h 0
    have h1 : lo ≤ (i 1).val ∧ (i 1).val < lo + n := h 1
    omega
  · rintro ⟨h0, h1, h2⟩ a
    fin_cases a
    · show b ≤ (i 0).val ∧ (i 0).val < b + 1; omega
    · show lo ≤ (i 1).val ∧ (i 1).val < lo + n; omega
    · show 0 ≤ (i 2).val ∧ (i 2).val < 0 + 16384
      have : (i 2).val < 16384 := (i 2).isLt
      omega

/-- Contents of the array, or of the buffer. -/
abbrev Hid (F : FTy → Type) : Type := S2x1024x16384.Idx → Elt F .fp8e4m3

/-- Elements `S` of the array, of the buffer, held at contents `f`. -/
def hidPt (c : Dev nD) (S : Finset S2x1024x16384.Idx) (f : Hid F) : sProp 𝕄 :=
  hidM.view.loc (c : Thread nD τ) ↦[S]{fullShare} f
def bufPt (c : Dev nD) (S : Finset S2x1024x16384.Idx) (f : Hid F) : sProp 𝕄 :=
  bufM.view.loc (c : Thread nD τ) ↦[S]{fullShare} f

/-- The box of 32 rows at offsets `off`, of the array and of the buffer. -/
abbrev hidBlk (off : Fin 3 → ℕ) (inb : ∀ a, off a + S1x32x16384.size a ≤ S2x1024x16384.size a) : Memref sig .tc .hbm S32x16384 .fp8e4m3 :=
  (hidM.slice (Rect.unit (s := S2x1024x16384) off S1x32x16384.size inb) (fun _ => rfl)).squeeze S32x16384 squeezes_S1x32x16384_S32x16384
abbrev bufBlk (off : Fin 3 → ℕ) (inb : ∀ a, off a + S1x32x16384.size a ≤ S2x1024x16384.size a) : Memref sig .tc .vmem S32x16384 .fp8e4m3 :=
  (bufM.slice (Rect.unit (s := S2x1024x16384) off S1x32x16384.size inb) (fun _ => rfl)).squeeze S32x16384 squeezes_S1x32x16384_S32x16384

theorem size_blk : S1x32x16384.size = ![1, 32, 16384] := rfl

theorem hidBlk_set {off} (inb) {b lo : ℕ} (ho : off = ![b, lo, 0]) : (hidBlk off inb).view.set = rows b lo (lo + 32) :=
  ((View.set_reshape _ _).trans (View.set_slice_whole _ _)).trans (rect_rows inb ho size_blk)
theorem bufBlk_set {off} (inb) {b lo : ℕ} (ho : off = ![b, lo, 0]) : (bufBlk off inb).view.set = rows b lo (lo + 32) :=
  ((View.set_reshape _ _).trans (View.set_slice_whole _ _)).trans (rect_rows inb ho size_blk)

/-- A copy between the same rows of the two leaves the buffer's rows at the array's contents. -/
theorem copied {off} (inb) (f g : Hid F) (i : S2x1024x16384.Idx) (hi : i ∈ (bufBlk off inb).view.set) :
    ((bufBlk off inb).view.write (Elt F) g (ReadAs.same.apply ((hidBlk off inb).view.read (Elt F) f)) Finset.univ : Hid F) i = f i := by
  obtain ⟨x, -, rfl⟩ := Finset.mem_map.mp hi
  exact (View.write_emb_of_mem (v := (bufBlk off inb).view) g _ (Finset.mem_univ x)).trans rfl

/-- The units one copy of 32 rows pays. -/
def NN : ℕ := (bufBlk ![0, 0, 0] (by decide)).view.dmaCredit
theorem credit_eq {off} (inb) : (bufBlk off inb).view.dmaCredit = NN := rfl
theorem NN_pos : 0 < NN := View.dmaCredit_pos _ (by decide)

/-- The semaphore of chunk `q`. -/
def cellOf (q : Fin 16) : DmaSem sig :=
  ((cc0_scratch3.slice (Rect.unit (s := S16) ![q.val] S1.size (fun a => by fin_cases a; show q.val + 1 ≤ 16; omega))).squeeze S_ squeezes_S1_S_).sem
theorem cell_eq {off : Fin 1 → ℕ} (inb : ∀ a, off a + S1.size a ≤ S16.size a) (q : Fin 16) (ho : off = ![q.val]) :
    ((cc0_scratch3.slice (Rect.unit (s := S16) off S1.size inb)).squeeze S_ squeezes_S1_S_).sem = cellOf q := by
  subst ho; rfl

/-- What the copy of rows `lo` to `lo + 32` of answer `b` hands back: the buffer's rows at the array's contents, and the
    array's rows. -/
def landed (c : Dev nD) (V : Hid F) (b lo : ℕ) : sProp 𝕄 :=
  iprop(bufPt c (rows b lo (lo + 32)) V ∗ hidPt c (rows b lo (lo + 32)) V)
instance landed_storable (c : Dev nD) (V : Hid F) (b lo : ℕ) : BI.Storable (upEmb : UEmb _ 𝕄) (landed c V b lo) := by
  unfold landed bufPt hidPt; infer_instance

/-- `n` copies of 32 rows of answer `b` from row `32 first` on, `j` of them issued and `u` units waited for. -/
abbrev flight (c : Dev nD) (V : Hid F) (q : Fin 16) (b first n j u : ℕ) : sProp 𝕄 :=
  Transfers.Batch (countersEmb (U := Pipeline.UD sig nD τ)) (c : Thread nD τ) (.dma (cellOf q)) () NN
    (fun t : Fin n => landed c V b (32 * (first + t.val))) j u

/-- The rows of one answer held by both: of the array at contents `V`, of the buffer at some. -/
def both (c : Dev nD) (V : Hid F) (S : Finset S2x1024x16384.Idx) : sProp 𝕄 :=
  iprop(hidPt c S V ∗ ∃ g, bufPt c S g)

theorem hidPt_union (c : Dev nD) {S T : Finset S2x1024x16384.Idx} (h : Disjoint S T) (f : Hid F) :
    (hidPt c (S ∪ T) f : sProp 𝕄) ⊣⊢ iprop(hidPt c S f ∗ hidPt c T f) := pointsTo_union h
theorem bufPt_union (c : Dev nD) {S T : Finset S2x1024x16384.Idx} (h : Disjoint S T) (f : Hid F) :
    (bufPt c (S ∪ T) f : sProp 𝕄) ⊣⊢ iprop(bufPt c S f ∗ bufPt c T f) := pointsTo_union h

theorem both_union (c : Dev nD) (V : Hid F) {S T : Finset S2x1024x16384.Idx} (h : Disjoint S T) :
    (both c V (S ∪ T) : sProp 𝕄) ⊣⊢ iprop(both c V S ∗ both c V T) := by
  constructor
  · unfold both
    iintro ⟨H, %g, B⟩
    ihave H := (hidPt_union c h V).1 $$ H
    ihave B := (bufPt_union c h g).1 $$ B
    icases H with ⟨H1, H2⟩
    icases B with ⟨B1, B2⟩
    isplitl [H1 B1]
    · isplitl [H1]; · iexact H1
      iexists g; iexact B1
    · isplitl [H2]; · iexact H2
      iexists g; iexact B2
  · unfold both
    iintro ⟨⟨H1, %g1, B1⟩, ⟨H2, %g2, B2⟩⟩
    isplitl [H1 H2]
    · iapply (hidPt_union c h V).2
      isplitl [H1] <;> iassumption
    · iexists (T.piecewise g2 g1)
      unfold bufPt
      iapply (pointsTo_join h)
      isplitl [B1] <;> iassumption

/-- Rows put back at known contents beside the rest of a set: one holding, equal to the known contents on those rows. -/
theorem rejoin (c : Dev nD) (V : Hid F) {S T : Finset S2x1024x16384.Idx} (h : Disjoint S T) :
    iprop((bufPt c S V ∗ hidPt c S V) ∗ both c V T)
      ⊢ (iprop(hidPt c (S ∪ T) V ∗ ∃ g : Hid F, ⌜∀ i ∈ S, g i = V i⌝ ∗ bufPt c (S ∪ T) g) : sProp 𝕄) := by
  unfold both
  iintro ⟨⟨B1, H1⟩, H2, %g2, B2⟩
  isplitl [H1 H2]
  · iapply (hidPt_union c h V).2
    isplitl [H1] <;> iassumption
  · iexists (T.piecewise g2 V)
    isplitr
    · ipureintro
      intro i hi
      exact Finset.piecewise_eq_of_notMem _ _ _ (Finset.disjoint_left.mp h hi)
    unfold bufPt
    iapply (pointsTo_join h)
    isplitl [B1] <;> iassumption

theorem bufPt_blocks (c : Dev nD) (f : Hid F) {n : ℕ} (K : Fin n → Finset S2x1024x16384.Idx) (S : Finset S2x1024x16384.Idx)
    (hd : ∀ t t', t ≠ t' → Disjoint (K t) (K t')) (hS : ∀ i, i ∈ S ↔ ∃ t, i ∈ K t) :
    (bufPt c S f : sProp 𝕄) = bigSep Finset.univ fun t => bufPt c (K t) f := by
  unfold bufPt
  refine Ring.pointsTo_sub_blocks (ℓ := bufM.view.loc (c : Thread nD τ)) K hd S ?_ f
  ext i
  exact (Finset.mem_biUnion.trans ⟨fun ⟨t, _, h⟩ => ⟨t, h⟩, fun ⟨t, h⟩ => ⟨t, Finset.mem_univ t, h⟩⟩).trans (hS i).symm
theorem hidPt_blocks (c : Dev nD) (f : Hid F) {n : ℕ} (K : Fin n → Finset S2x1024x16384.Idx) (S : Finset S2x1024x16384.Idx)
    (hd : ∀ t t', t ≠ t' → Disjoint (K t) (K t')) (hS : ∀ i, i ∈ S ↔ ∃ t, i ∈ K t) :
    (hidPt c S f : sProp 𝕄) = bigSep Finset.univ fun t => hidPt c (K t) f := by
  unfold hidPt
  refine Ring.pointsTo_sub_blocks (ℓ := hidM.view.loc (c : Thread nD τ)) K hd S ?_ f
  ext i
  exact (Finset.mem_biUnion.trans ⟨fun ⟨t, _, h⟩ => ⟨t, h⟩, fun ⟨t, h⟩ => ⟨t, Finset.mem_univ t, h⟩⟩).trans (hS i).symm

/-- Every copy of a batch handed back is the run of its rows, of both. -/
theorem landed_all (c : Dev nD) (V : Hid F) (b first n : ℕ) :
    (bigSep Finset.univ (fun t : Fin n => landed c V b (32 * (first + t.val))) : sProp 𝕄)
      ⊢ iprop(bufPt c (rows b (32 * first) (32 * (first + n))) V ∗ hidPt c (rows b (32 * first) (32 * (first + n))) V) := by
  have hd : ∀ t t' : Fin n, t ≠ t' → Disjoint (rows b (32 * (first + t.val)) (32 * (first + t.val) + 32)) (rows b (32 * (first + t'.val)) (32 * (first + t'.val) + 32)) := by
    intro t t' h
    have : t.val ≠ t'.val := fun e => h (Fin.ext e)
    rw [Finset.disjoint_left]; intro i; simp only [mem_rows]; omega
  have hU : ∀ i, i ∈ rows b (32 * first) (32 * (first + n)) ↔ ∃ t : Fin n, i ∈ rows b (32 * (first + t.val)) (32 * (first + t.val) + 32) := by
    intro i
    simp only [mem_rows]
    constructor
    · rintro ⟨h0, h1, h2⟩
      refine ⟨⟨(i 1).val / 32 - first, by omega⟩, ?_⟩
      simp only
      omega
    · rintro ⟨t, h⟩; have := t.isLt; omega
  rw [bufPt_blocks c V _ _ hd hU, hidPt_blocks c V _ _ hd hU]
  exact Entails.of_eq (BI.bigSep_sep Finset.univ _ _)

end Cert.Kernel.Critic

end
-- ==== Proof.Flights.lean ====
module

public import proofs.«01_k».proof.Proof.Chunks

/-!
# The loop that issues the copies

Item `i` of the work list is one chunk of 128 rows of one answer; its copies are those of the blocks of 32 rows the
answer's span meets. One pass issues the copies of every item on the item's semaphore; a second pass waits for them
item by item.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

section Rules
variable (c : Dev nD) (V : Hid F) (q : Fin 16) (b first n : ℕ)
variable {off : Fin 3 → ℕ} {inb : ∀ a, off a + S1x32x16384.size a ≤ S2x1024x16384.size a}
variable {k : PUnit.{1} → Prog (TpuEff nD τ sig (Elt F) Λ₀ .tc) Unit} {Q : Unit → sProp (MT nD τ sig Unit (Elt F) ℕ (Pipeline.UD sig nD τ) ℕ)} {R : sProp (MT nD τ sig Unit (Elt F) ℕ (Pipeline.UD sig nD τ) ℕ)}

/-- Issuing copy `j`: its rows of both are given to the batch. -/
theorem issueBlk {j : ℕ} (hj : j < n) (ho : off = ![b, 32 * (first + j), 0]) {d : DmaSem sig} (hd : d = cellOf q)
    {hsrc : (hidBlk off inb).view.WordExact} {hdst : (bufBlk off inb).view.WordExact}
    {hsem : DmaTarget.Typed (nD := nD) (p := (c : Thread nD τ).2) .hbm (.dma d) (.here (bufBlk off inb))}
    (h : iprop(R ∗ flight c V q b first n (j + 1) 0) ⊢ wp frame (wpE (defs₀ (F := F)) Variants.none (c : Thread nD τ) none) Set.univ (k ⟨⟩) Q) :
    iprop(R ∗ flight c V q b first n j 0 ∗ both c V (rows b (32 * (first + j)) (32 * (first + j) + 32)))
      ⊢ wp frame (wpE (defs₀ (F := F)) Variants.none (c : Thread nD τ) none) Set.univ
        (.op (.enqueueDma (hidBlk off inb) (.here (bufBlk off inb)) (.dma d) hsrc hdst hsem) k) Q := by
  subst hd
  unfold both hidPt
  rw [← hidBlk_set inb ho]
  iintro ⟨HR, HB, Hh, %g, Hb⟩
  ihave Hb := (show bufPt c (hidBlk off inb).view.set g ⊢ (iprop((bufBlk off inb).view.loc (c : Thread nD τ) ↦[(bufBlk off inb).view.set]{fullShare} g) : sProp 𝕄) from .rfl) $$ Hb
  iapply (Transfers.wp_dmaBatch (countersEmb (U := Pipeline.UD sig nD τ)) Variants.none (c : Thread nD τ) none () NN
    (src := hidBlk off inb) (via := ReadAs.same) (dst := bufBlk off inb) (q := fullShare) (fs := V) (fd := g)
    (D := fun t : Fin n => landed c V b (32 * (first + t.val))) (j := j) (u := 0) rfl (Finset.Subset.refl _) hj (Nat.zero_le _) ?_) $$ [HB Hh Hb]
  · unfold landed bufPt hidPt
    dsimp only
    rw [← hidBlk_set inb ho]
    refine sep_mono (Entails.of_eq ?_) .rfl
    exact pointsTo_congr (fun i hi => copied inb V g i hi)
  · isplitl [Hh]; · iexact Hh
    isplitl [Hb]; · iexact Hb
    iexact HB
  iintro HB
  iapply h
  isplitl [HR] <;> iassumption

/-- A wait that is not the batch's last, -/
theorem await {u : ℕ} (hu : u + NN < NN * n) {d : DmaSem sig} (hd : d = cellOf q)
    {hsrc : (hidBlk off inb).view.WordExact} {hdst : (bufBlk off inb).view.WordExact}
    (h : iprop(R ∗ flight c V q b first n n (u + NN) ∗ ∃ W, owes (c : Thread nD τ) 0 W) ⊢ wp frame (wpE (defs₀ (F := F)) Variants.none (c : Thread nD τ) none) Set.univ (k ⟨⟩) Q) :
    iprop(R ∗ flight c V q b first n n u ∗ ∃ W, owes (c : Thread nD τ) 0 W)
      ⊢ wp frame (wpE (defs₀ (F := F)) Variants.none (c : Thread nD τ) none) Set.univ
        (.op (.waitDma2 d (hidBlk off inb) (bufBlk off inb) hsrc hdst) k) Q := by
  subst hd
  iintro ⟨HR, HB, %W, HO⟩
  iapply (Transfers.wp_waitBatch (countersEmb (U := Pipeline.UD sig nD τ)) Variants.none (c : Thread nD τ) none (srcw := hidBlk off inb) (dstw := bufBlk off inb) () (N := NN) rfl hu) $$ [HB HO]
  · isplitl [HB] <;> iassumption
  iintro ⟨HB, HO⟩
  iapply h
  isplitl [HR]; · iexact HR
  isplitl [HB]; · iexact HB
  iexists _; iexact HO

/-- and the last: every copy's rows come back, the semaphore at rest. -/
theorem awaitLast {u : ℕ} (hu : u + NN = NN * n) {d : DmaSem sig} (hd : d = cellOf q)
    {hsrc : (hidBlk off inb).view.WordExact} {hdst : (bufBlk off inb).view.WordExact}
    (h : iprop(R ∗ (semVal ((c : Thread nD τ), SemLoc.dma (cellOf q)) 0 ∗ bufPt c (rows b (32 * first) (32 * (first + n))) V ∗ hidPt c (rows b (32 * first) (32 * (first + n))) V) ∗ ∃ W, owes (c : Thread nD τ) 0 W)
      ⊢ wp frame (wpE (defs₀ (F := F)) Variants.none (c : Thread nD τ) none) Set.univ (k ⟨⟩) Q) :
    iprop(R ∗ flight c V q b first n n u ∗ ∃ W, owes (c : Thread nD τ) 0 W)
      ⊢ wp frame (wpE (defs₀ (F := F)) Variants.none (c : Thread nD τ) none) Set.univ
        (.op (.waitDma2 d (hidBlk off inb) (bufBlk off inb) hsrc hdst) k) Q := by
  subst hd
  iintro ⟨HR, HB, %W, HO⟩
  iapply (Transfers.wp_waitBatchLast (countersEmb (U := Pipeline.UD sig nD τ)) Variants.none (c : Thread nD τ) none (srcw := hidBlk off inb) (dstw := bufBlk off inb) () (N := NN) rfl NN_pos hu) $$ [HB HO]
  · isplitl [HB] <;> iassumption
  iintro ⟨HD, Hs, HO⟩
  ihave HD := (landed_all c V b first n) $$ HD
  iapply h
  isplitl [HR]; · iexact HR
  isplitl [Hs HD]
  · isplitl [Hs] <;> iassumption
  iexists _; iexact HO

end Rules

/-! ## Items and their chunks -/

/-- The chunk of item `i`, as the number of its semaphore. -/
def qOf (S : Spans) (i : ℕ) : Fin 16 := ⟨(2 * S.chunk i + S.seq i) % 16, Nat.mod_lt _ (Nat.succ_pos 15)⟩

theorem qOf_val {S : Spans} {i : ℕ} (hi : i < S.nit) : (qOf S i).val = 2 * S.chunk i + S.seq i := by
  have h := S.facts hi
  show (2 * S.chunk i + S.seq i) % 16 = _
  omega

theorem qOf_inj {S : Spans} {i k : ℕ} (hi : i < S.nit) (hk : k < S.nit) (h : qOf S i = qOf S k) : i = k := by
  have h' := congrArg Fin.val h
  rw [qOf_val hi, qOf_val hk] at h'
  have := S.facts hi
  have := S.facts hk
  exact S.cell_inj (by omega) (by omega)

/-- The 128 rows of chunk `q`. -/
def chunkRows (q : Fin 16) : Finset S2x1024x16384.Idx := rows (q.val % 2) (128 * (q.val / 2)) (128 * (q.val / 2) + 128)

theorem chunkRows_qOf {S : Spans} {i : ℕ} (hi : i < S.nit) : chunkRows (qOf S i) = rows (S.seq i) (128 * S.chunk i) (128 * S.chunk i + 128) := by
  have h := S.facts hi
  unfold chunkRows
  rw [qOf_val hi, show (2 * S.chunk i + S.seq i) % 2 = S.seq i by omega, show (2 * S.chunk i + S.seq i) / 2 = S.chunk i by omega]

/-- The rows of item `i` its copies bring, -/
def live (S : Spans) (i : ℕ) : Finset S2x1024x16384.Idx := rows (S.seq i) (32 * S.first i) (32 * (S.first i + S.nblk i))
/-- and the rest of its chunk. -/
def rest (S : Spans) (i : ℕ) : Finset S2x1024x16384.Idx := chunkRows (qOf S i) \ live S i

theorem first_nblk {S : Spans} {i : ℕ} (hi : i < S.nit) : S.first i + S.nblk i = S.last i := by
  have h := S.facts hi
  show S.first i + (S.last i - S.first i) = S.last i
  omega

theorem live_sub {S : Spans} {i : ℕ} (hi : i < S.nit) : live S i ⊆ chunkRows (qOf S i) := by
  have h := S.facts hi
  unfold live
  rw [chunkRows_qOf hi, first_nblk hi]
  exact rows_sub (by omega) (by omega)

theorem live_union_rest {S : Spans} {i : ℕ} (hi : i < S.nit) : live S i ∪ rest S i = chunkRows (qOf S i) :=
  Finset.union_sdiff_of_subset (live_sub hi)

theorem live_disj {S : Spans} {i : ℕ} : Disjoint (live S i) (rest S i) := Finset.disjoint_sdiff

/-- What is held of chunk `q`: at rest, or with an item's copies in flight. -/
def chunkSt (c : Dev nD) (V : Hid F) (S : Spans) (q : Fin 16) : Bool → sProp 𝕄
  | false => iprop(semVal ((c : Thread nD τ), SemLoc.dma (cellOf q)) 0 ∗ both c V (chunkRows q))
  | true => iprop(∃ i, ⌜i < S.nit ∧ qOf S i = q⌝ ∗ flight c V q (S.seq i) (S.first i) (S.nblk i) (S.nblk i) 0 ∗ both c V (rest S i))

theorem chunkSt_false (c : Dev nD) (V : Hid F) (S : Spans) (q : Fin 16) : (chunkSt c V S q false : sProp 𝕄)
    = iprop(semVal ((c : Thread nD τ), SemLoc.dma (cellOf q)) 0 ∗ both c V (chunkRows q)) := rfl
theorem chunkSt_true (c : Dev nD) (V : Hid F) (S : Spans) (q : Fin 16) : (chunkSt c V S q true : sProp 𝕄)
    = iprop(∃ i, ⌜i < S.nit ∧ qOf S i = q⌝ ∗ flight c V q (S.seq i) (S.first i) (S.nblk i) (S.nblk i) 0 ∗ both c V (rest S i)) := rfl

open scoped Classical in
/-- The chunks in flight once items `lo` to `hi` are issued and not waited for. -/
def flying (S : Spans) (lo hi : ℕ) (q : Fin 16) : Bool := decide (∃ i, lo ≤ i ∧ i < hi ∧ qOf S i = q)

theorem flying_iff {S : Spans} {lo hi : ℕ} {q : Fin 16} : flying S lo hi q = true ↔ ∃ i, lo ≤ i ∧ i < hi ∧ qOf S i = q := by
  classical
  unfold flying
  exact decide_eq_true_iff

theorem flying_false {S : Spans} {lo hi : ℕ} {q : Fin 16} (h : ¬ ∃ i, lo ≤ i ∧ i < hi ∧ qOf S i = q) : flying S lo hi q = false :=
  Bool.eq_false_iff.mpr fun e => h (flying_iff.mp e)

theorem flying_step {S : Spans} {k : ℕ} (hk : k < S.nit) : flying S 0 (k + 1) = Function.update (flying S 0 k) (qOf S k) true := by
  funext q
  by_cases h : q = qOf S k
  · subst h
    rw [Function.update_self]
    exact flying_iff.mpr ⟨k, by omega, by omega, rfl⟩
  · rw [Function.update_of_ne h]
    refine Bool.eq_iff_iff.mpr (flying_iff.trans (Iff.trans ⟨?_, ?_⟩ flying_iff.symm))
    · rintro ⟨i, h0, h1, rfl⟩
      refine ⟨i, h0, ?_, rfl⟩
      rcases Nat.lt_succ_iff_lt_or_eq.mp h1 with h1 | rfl
      · exact h1
      · exact absurd rfl h
    · rintro ⟨i, h0, h1, h2⟩; exact ⟨i, h0, by omega, h2⟩

theorem flying_drop {S : Spans} {k : ℕ} (hk : k < S.nit) : flying S (k + 1) S.nit = Function.update (flying S k S.nit) (qOf S k) false := by
  funext q
  by_cases h : q = qOf S k
  · subst h
    rw [Function.update_self]
    refine flying_false ?_
    rintro ⟨i, h0, h1, h2⟩
    have := qOf_inj h1 hk h2
    omega
  · rw [Function.update_of_ne h]
    refine Bool.eq_iff_iff.mpr (flying_iff.trans (Iff.trans ⟨?_, ?_⟩ flying_iff.symm))
    · rintro ⟨i, h0, h1, h2⟩; exact ⟨i, by omega, h1, h2⟩
    · rintro ⟨i, h0, h1, rfl⟩
      refine ⟨i, ?_, h1, rfl⟩
      rcases Nat.eq_or_lt_of_le h0 with h0 | h0
      · subst h0; exact absurd rfl h
      · omega

theorem flying_now {S : Spans} {k : ℕ} (hk : k < S.nit) : flying S k S.nit (qOf S k) = true :=
  flying_iff.mpr ⟨k, le_refl _, hk, rfl⟩
theorem flying_not {S : Spans} {k : ℕ} (hk : k < S.nit) : flying S 0 k (qOf S k) = false := by
  refine flying_false ?_
  rintro ⟨i, h0, h1, h2⟩
  have := qOf_inj (by omega) hk h2
  omega
theorem flying_none {S : Spans} {k : ℕ} : flying S k k = fun _ => false := by
  funext q
  refine flying_false ?_
  rintro ⟨i, h0, h1, h2⟩
  omega

/-- Every chunk in its state. -/
def chunks (c : Dev nD) (V : Hid F) (S : Spans) (st : Fin 16 → Bool) : sProp 𝕄 := Ring.AtW (chunkSt c V S) st

/-! ## Issuing -/

section Body
variable (c : Dev nD) (V : Hid F)
    (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (harg5 : hidM.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole) (harg13 : bufM.IsWhole) (arg14 : Memref sig .tc .vmem S32x16384 .fp8e4m3) (harg14 : arg14.IsWhole) (arg15 : Memref sig .tc .vmem S16x128 .f32) (harg15 : arg15.IsWhole)
    (v0 v1 v2 v3 v5 v6 : Elt F .i32) (k0_hw1 : k0_chk1 v0 v1 v2 v3 v5 v6)
    (v36 v53 v74 v95 v112 v129 v151 : BitVec 32) (v152 : BitVec 1) (v154 c4_i32_71 v155 v157 c0_i32_73 : BitVec 32)

/-- Before copy `u` of item `i` is issued. -/
def inv2 (S : Spans) (i u : ℕ) : sProp 𝕄 :=
  iprop(flight c V (qOf S i) (S.seq i) (S.first i) (S.nblk i) u 0 ∗ both c V (rows (S.seq i) (32 * (S.first i + u)) (32 * (S.first i + S.nblk i))))

theorem t2_step (k0_t1 : Fin (k0_t1_loop v0 v1 v2 v3 v5 v6).trips) (k0_t2 : Fin (k0_t2_loop v0 v1 v2 v3 v5 v6 k0_t1).trips) (acc : Unit) :
    inv2 c V (spans v0 v1 v2 v3 v5 v6) k0_t1.val k0_t2.val
      ⊢ wp frame (wpE (defs₀ (F := F)) Variants.none (c : Thread nD τ) none) Set.univ
        (k0_t2_body (F := F) arg0 harg0 arg1 harg1 arg2 harg2 arg3 harg3 arg4 harg4 hidM harg5 arg6 harg6 arg7 harg7 arg8 harg8 arg9 harg9 arg10 harg10 arg11 harg11 arg12 harg12 bufM harg13 arg14 harg14 arg15 harg15 cc0_scratch3 v0 v1 v2 v3 v5 v6 k0_hw1 v36 v53 v74 v95 v112 v129 v151 v152 v154 c4_i32_71 v155 v157 c0_i32_73 k0_t1 k0_t2 acc)
        (fun _ => inv2 c V (spans v0 v1 v2 v3 v5 v6) k0_t1.val (k0_t2.val + 1)) := by
  have hi := t1_lt v0 v1 v2 v3 v5 v6 k0_t1
  have hu := t2_lt v0 v1 v2 v3 v5 v6 k0_t1 k0_t2
  generalize hS : spans v0 v1 v2 v3 v5 v6 = S at hi hu ⊢
  have hoff := off2_nat v0 v1 v2 v3 v5 v6 k0_t1 k0_t2
  have hcell := off1_nat v0 v1 v2 v3 v5 v6 k0_t1
  rw [hS] at hoff hcell
  rw [← qOf_val hi] at hcell
  have hsplit := both_union c V (rows_disjoint (b := S.seq k0_t1.val) (lo := 32 * (S.first k0_t1.val + k0_t2.val)) (mid := 32 * (S.first k0_t1.val + k0_t2.val) + 32) (hi := 32 * (S.first k0_t1.val + S.nblk k0_t1.val)))
  rw [rows_split (by omega) (by omega)] at hsplit
  refine BIBase.Entails.trans ?_ (issueBlk c V (qOf S k0_t1.val) (S.seq k0_t1.val) (S.first k0_t1.val) (S.nblk k0_t1.val) (k := fun _ => pure ⟨⟩)
    (R := both c V (rows (S.seq k0_t1.val) (32 * (S.first k0_t1.val + k0_t2.val) + 32) (32 * (S.first k0_t1.val + S.nblk k0_t1.val))))
    hu hoff (cell_eq _ _ hcell) ?_)
  · unfold inv2
    iintro ⟨HB, HH⟩
    ihave HH := hsplit.1 $$ HH
    icases HH with ⟨H1, H2⟩
    isplitl [H2]; · iexact H2
    isplitl [HB] <;> iassumption
  · unfold inv2
    rw [show S.first k0_t1.val + (k0_t2.val + 1) = S.first k0_t1.val + k0_t2.val + 1 by omega, Nat.mul_add 32 (S.first k0_t1.val + k0_t2.val) 1]
    iintro ⟨HR, HB⟩
    sl_step
    isplitl [HB] <;> iassumption

theorem t1_step (k0_t1 : Fin (k0_t1_loop v0 v1 v2 v3 v5 v6).trips) (acc : Unit) :
    chunks c V (spans v0 v1 v2 v3 v5 v6) (flying (spans v0 v1 v2 v3 v5 v6) 0 k0_t1.val)
      ⊢ wp frame (wpE (defs₀ (F := F)) Variants.none (c : Thread nD τ) none) Set.univ
        (k0_t1_body (F := F) arg0 harg0 arg1 harg1 arg2 harg2 arg3 harg3 arg4 harg4 hidM harg5 arg6 harg6 arg7 harg7 arg8 harg8 arg9 harg9 arg10 harg10 arg11 harg11 arg12 harg12 bufM harg13 arg14 harg14 arg15 harg15 cc0_scratch3 v0 v1 v2 v3 v5 v6 k0_hw1 v36 v53 v74 v95 v112 v129 v151 v152 v154 c4_i32_71 v155 v157 c0_i32_73 k0_t1 acc)
        (fun _ => chunks c V (spans v0 v1 v2 v3 v5 v6) (flying (spans v0 v1 v2 v3 v5 v6) 0 (k0_t1.val + 1))) := by
  have hi := t1_lt v0 v1 v2 v3 v5 v6 k0_t1
  have htr := t2_trips v0 v1 v2 v3 v5 v6 k0_t1
  have htr3 := t3_trips v0 v1 v2 v3 v5 v6 k0_t1
  have hstep := t2_step c V arg0 harg0 arg1 harg1 arg2 harg2 arg3 harg3 arg4 harg4 harg5 arg6 harg6 arg7 harg7 arg8 harg8 arg9 harg9 arg10 harg10 arg11 harg11 arg12 harg12 harg13 arg14 harg14 arg15 harg15 v0 v1 v2 v3 v5 v6 k0_hw1 v36 v53 v74 v95 v112 v129 v151 v152 v154 c4_i32_71 v155 v157 c0_i32_73 k0_t1
  generalize spans v0 v1 v2 v3 v5 v6 = S at hi htr hstep ⊢
  rw [flying_step hi]
  unfold chunks
  rw [Ring.AtW_focus _ _ (qOf S k0_t1.val), flying_not hi, chunkSt_false]
  iintro ⟨⟨Hs, HH⟩, Hrest⟩
  imod (Transfers.batch_alloc' (Lvl := ℕ) (countersEmb (U := Pipeline.UD sig nD τ)) (c : Thread nD τ) () NN
    (fun t : Fin (S.nblk k0_t1.val) => landed c V (S.seq k0_t1.val) (32 * (S.first k0_t1.val + t.val))) (sm := .dma (cellOf (qOf S k0_t1.val))) (E := Set.univ)) $$ Hs with HB
  ihave HH := (show both c V (chunkRows (qOf S k0_t1.val)) ⊢ (iprop(both c V (live S k0_t1.val) ∗ both c V (rest S k0_t1.val)) : sProp 𝕄) from by
    rw [← live_union_rest hi]; exact (both_union c V live_disj).1) $$ HH
  icases HH with ⟨H1, H2⟩
  iapply (Scf.wp_for_bind frame (wpE (defs₀ (F := F)) Variants.none (c : Thread nD τ) none) Set.univ _ _ _ _ () _
    (fun u _ => inv2 c V S k0_t1.val u) (fun u acc => hstep u acc)) $$ [HB H1]
  · unfold inv2 live
    rw [Nat.add_zero]
    isplitl [HB] <;> iassumption
  iintro %acc HI
  iapply (Scf.wp_for0_bind frame (wpE (defs₀ (F := F)) Variants.none (c : Thread nD τ) none) Set.univ _ _ _ _ _ htr3 _ _
    iprop(inv2 c V S k0_t1.val (k0_t2_loop v0 v1 v2 v3 v5 v6 k0_t1).trips ∗ both c V (rest S k0_t1.val) ∗ Ring.restW (chunkSt c V S) (flying S 0 k0_t1.val) (qOf S k0_t1.val)) ?_)
  · iintro ⟨HI, H2, Hrest⟩
    sl_step
    iapply (Ring.AtW_update (chunkSt c V S) (flying S 0 k0_t1.val) (qOf S k0_t1.val) true)
    isplitr [Hrest]
    · rw [chunkSt_true]
      unfold inv2
      rw [htr]
      icases HI with ⟨HB, -⟩
      iexists k0_t1.val
      isplitr; · ipureintro; exact ⟨hi, rfl⟩
      isplitl [HB] <;> iassumption
    · iexact Hrest
  · isplitl [HI]; · iexact HI
    isplitl [H2] <;> iassumption

end Body

end Cert.Kernel.Critic

end
-- ==== Proof.Drain.lean ====
module

public import proofs.«01_k».proof.Proof.Flights
public import Idealize.ShloMosaic.Lib.Pipeline.ValueKit.Geometry

/-!
# The loop that waits for the copies and multiplies

Item by item the second pass waits for the item's copies, multiplies its chunk of 128 rows by the replicated weights
and stores the products as one row of a 16 by 128 scratch. Rows of the chunk that no copy brought hold whatever the
buffer held; what is said of a stored row is that it is the product with SOME chunk agreeing with the hidden rows on the
rows that were brought.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

/-- The replicated weights and the rows of products. -/
abbrev wrepM : Memref sig .tc .vmem S32x16384 .fp8e4m3 := Memref.whole cc0_scratch1
abbrev vrawM : Memref sig .tc .vmem S16x128 .f32 := Memref.whole cc0_scratch2

/-- A chunk that agrees with the hidden rows on the rows item `i`'s copies bring. -/
def ChunkOk (V : Hid F) (S : Spans) (i : ℕ) (ch : Vec F S1x128x16384 .fp8e4m3) : Prop :=
  ∀ (x : S1x128x16384.Idx) (y : S2x1024x16384.Idx), y ∈ live S i → (y 1).val = 128 * S.chunk i + (x 1).val → (y 2).val = (x 2).val → ch x = V y

/-- The products of items before `k`: item `i`'s in row `qOf i`. -/
def RowsOk (V : Hid F) (Wc : Vec F S32x16384 .fp8e4m3) (S : Spans) (k : ℕ) (f : S16x128.Idx → Elt F .f32) : Prop :=
  ∀ i, i < k → ∃ ch, ChunkOk V S i ch ∧ ∀ (p : S16x128.Idx) (p' : S1x128.Idx), (p 0).val = (qOf S i).val → (p' 1).val = (p 1).val →
    f p = k0_pay158 (k0_pay1 Wc ch) p'

/-- Where an element of a box of a scratch lies in it. -/
theorem vraw_emb {off : Fin 2 → ℕ} (inb : ∀ a, off a + S1x128.size a ≤ S16x128.size a) (x : S1x128.Idx) (a : Fin 2) :
    (((vrawM.access (Rect.unit (s := S16x128) off S1x128.size inb)).emb x : S16x128.Idx) a).val = off a + (x a).val :=
  ValueKit.view_emb_slice_whole_unit_val cc0_scratch2 off S1x128.size inb x a
theorem buf_emb {off : Fin 3 → ℕ} (inb : ∀ a, off a + S1x128x16384.size a ≤ S2x1024x16384.size a) (x : S1x128x16384.Idx) (a : Fin 3) :
    (((bufM.access (Rect.unit (s := S2x1024x16384) off S1x128x16384.size inb)).emb x : S2x1024x16384.Idx) a).val = off a + (x a).val :=
  ValueKit.view_emb_slice_whole_unit_val cc0_scratch0 off S1x128x16384.size inb x a

/-- The replicated weights read whole. -/
theorem wrep_read (inb : ∀ a, (![0, 0] : Fin 2 → ℕ) a + S32x16384.size a ≤ S32x16384.size a) (Wc : Vec F S32x16384 .fp8e4m3) :
    View.readAt (Elt F) wrepM.view (Rect.unit (s := S32x16384) ![0, 0] S32x16384.size inb).toLoadRect Wc = Wc := by
  funext x
  have e : (Rect.unit (s := S32x16384) ![0, 0] S32x16384.size inb).idx x = x := by
    funext a
    refine Fin.ext ((ValueKit.rect_emb_unit_val (s := S32x16384) ![0, 0] S32x16384.size inb x a).trans ?_)
    fin_cases a
    · exact Nat.zero_add _
    · exact Nat.zero_add _
  exact congrArg Wc e

/-- Storing a row: the row's elements become the row stored, the others stay. -/
theorem rowStore {off : Fin 2 → ℕ} (inb : ∀ a, off a + S1x128.size a ≤ S16x128.size a) {q : ℕ} (ho : off = ![q, 0])
    (f : S16x128.Idx → Elt F .f32) (w : S1x128.Idx → Elt F .f32) :
    (∀ (p : S16x128.Idx) (p' : S1x128.Idx), (p 0).val = q → (p' 1).val = (p 1).val →
        ((vrawM.access (Rect.unit (s := S16x128) off S1x128.size inb)).write (Elt F) f w Finset.univ : S16x128.Idx → Elt F .f32) p = w p')
      ∧ ∀ p : S16x128.Idx, (p 0).val ≠ q →
        ((vrawM.access (Rect.unit (s := S16x128) off S1x128.size inb)).write (Elt F) f w Finset.univ : S16x128.Idx → Elt F .f32) p = f p := by
  subst ho
  constructor
  · intro p p' h0 h1
    have e : p = (vrawM.access (Rect.unit (s := S16x128) ![q, 0] S1x128.size inb)).emb p' := by
      funext a
      fin_cases a
      · refine Fin.ext (Eq.trans ?_ (vraw_emb inb p' 0).symm)
        have : (p' 0).val < 1 := (p' 0).isLt
        show (p 0).val = q + (p' 0).val
        omega
      · refine Fin.ext (Eq.trans ?_ (vraw_emb inb p' 1).symm)
        show (p 1).val = 0 + (p' 1).val
        omega
    rw [e]
    exact (View.write_emb_of_mem (v := vrawM.access (Rect.unit (s := S16x128) ![q, 0] S1x128.size inb)) f w (Finset.mem_univ p')).trans rfl
  · intro p h0
    refine View.write_of_not_mem (v := vrawM.access (Rect.unit (s := S16x128) ![q, 0] S1x128.size inb)) f w Finset.univ ?_
    intro hm
    obtain ⟨x, -, rfl⟩ := Finset.mem_map.mp hm
    apply h0
    have : (x 0).val < 1 := (x 0).isLt
    refine (vraw_emb inb x 0).trans ?_
    show q + (x 0).val = q
    omega

/-- The chunk read from a buffer agreeing with the hidden rows on the rows brought. -/
theorem chunkRead {V g : Hid F} {S : Spans} {i : ℕ} {off : Fin 3 → ℕ} (inb : ∀ a, off a + S1x128x16384.size a ≤ S2x1024x16384.size a)
    (ho : off = ![S.seq i, 128 * S.chunk i, 0]) (hg : ∀ y ∈ live S i, g y = V y) :
    ChunkOk V S i ((bufM.access (Rect.unit (s := S2x1024x16384) off S1x128x16384.size inb)).read (Elt F) g) := by
  subst ho
  intro x y hy h1 h2
  rw [← hg y hy]
  have e : y = (bufM.access (Rect.unit (s := S2x1024x16384) ![S.seq i, 128 * S.chunk i, 0] S1x128x16384.size inb)).emb x := by
    have h0 := (mem_rows.mp hy).1
    funext a
    fin_cases a
    · refine Fin.ext (Eq.trans ?_ (buf_emb inb x 0).symm)
      have : (x 0).val < 1 := (x 0).isLt
      show (y 0).val = S.seq i + (x 0).val
      omega
    · refine Fin.ext (Eq.trans ?_ (buf_emb inb x 1).symm)
      show (y 1).val = 128 * S.chunk i + (x 1).val
      omega
    · refine Fin.ext (Eq.trans ?_ (buf_emb inb x 2).symm)
      show (y 2).val = 0 + (x 2).val
      omega
  rw [e]
  rfl

theorem size_chunk : S1x128x16384.size = ![1, 128, 16384] := rfl

theorem bufChunk_set {off : Fin 3 → ℕ} (inb : ∀ a, off a + S1x128x16384.size a ≤ S2x1024x16384.size a) {b lo : ℕ} (ho : off = ![b, lo, 0]) :
    (bufM.access (Rect.unit (s := S2x1024x16384) off S1x128x16384.size inb)).set = rows b lo (lo + 128) :=
  (View.set_slice_whole _ _).trans (rect_rows inb ho size_chunk)

section Body
variable (c : Dev nD) (V : Hid F)
    (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (harg5 : hidM.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole) (harg13 : bufM.IsWhole) (harg14 : wrepM.IsWhole) (harg15 : vrawM.IsWhole)
    (v0 v1 v2 v3 v5 v6 : Elt F .i32) (k0_hw1 : k0_chk1 v0 v1 v2 v3 v5 v6)
    (v36 v53 v74 v95 v112 v129 v151 : BitVec 32) (c1_i32_354 c0_i32_355 c0_i32_356 c1_i32_358 : BitVec 32)

/-- Before wait `u` of item `i`; after the last, the rows brought. -/
def inv8 (S : Spans) (i u : ℕ) : sProp 𝕄 :=
  iprop((if u < S.nblk i then flight c V (qOf S i) (S.seq i) (S.first i) (S.nblk i) (S.nblk i) (u * NN)
    else iprop(semVal ((c : Thread nD τ), SemLoc.dma (cellOf (qOf S i))) 0 ∗ bufPt c (live S i) V ∗ hidPt c (live S i) V)) ∗ ∃ W, owes (c : Thread nD τ) 0 W)

theorem t8_step (k0_t7 : Fin (k0_t7_loop v0 v1 v2 v3 v5 v6).trips) (k0_t8 : Fin (k0_t8_loop v0 v1 v2 v3 v5 v6 k0_t7).trips) (acc : Unit) :
    inv8 c V (spans v0 v1 v2 v3 v5 v6) k0_t7.val k0_t8.val
      ⊢ wp frame (wpE (defs₀ (F := F)) Variants.none (c : Thread nD τ) none) Set.univ
        (k0_t8_body (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 c1_i32_354 c0_i32_355 c0_i32_356 c1_i32_358 k0_t7 k0_t8 acc)
        (fun _ => inv8 c V (spans v0 v1 v2 v3 v5 v6) k0_t7.val (k0_t8.val + 1)) := by
  have hi := t7_lt v0 v1 v2 v3 v5 v6 k0_t7
  have hu := t8_lt v0 v1 v2 v3 v5 v6 k0_t7 k0_t8
  have hcell := off9_nat v0 v1 v2 v3 v5 v6 k0_t7
  generalize hS : spans v0 v1 v2 v3 v5 v6 = S at hi hu hcell ⊢
  rw [← qOf_val hi] at hcell
  unfold inv8
  rw [if_pos hu]
  by_cases hl : k0_t8.val + 1 < S.nblk k0_t7.val
  · rw [if_pos hl]
    refine BIBase.Entails.trans ?_ (await c V (qOf S k0_t7.val) (S.seq k0_t7.val) (S.first k0_t7.val) (S.nblk k0_t7.val) (k := fun _ => pure ⟨⟩)
      (R := iprop(emp)) (u := k0_t8.val * NN) ?_ (cell_eq _ _ hcell) ?_)
    · iintro ⟨H, HO⟩
      isplitr; · iempintro
      isplitl [H] <;> iassumption
    · have := Nat.mul_lt_mul_of_pos_left hl NN_pos
      rw [Nat.mul_add, Nat.mul_one, Nat.mul_comm NN k0_t8.val] at this
      exact this
    · rw [Nat.add_mul, Nat.one_mul]
      iintro ⟨-, H, HO⟩
      sl_step
      isplitl [H] <;> iassumption
  · rw [if_neg hl]
    refine BIBase.Entails.trans ?_ (awaitLast c V (qOf S k0_t7.val) (S.seq k0_t7.val) (S.first k0_t7.val) (S.nblk k0_t7.val) (k := fun _ => pure ⟨⟩)
      (R := iprop(emp)) (u := k0_t8.val * NN) ?_ (cell_eq _ _ hcell) ?_)
    · iintro ⟨H, HO⟩
      isplitr; · iempintro
      isplitl [H] <;> iassumption
    · rw [show S.nblk k0_t7.val = k0_t8.val + 1 by omega, Nat.mul_add, Nat.mul_one, Nat.mul_comm NN k0_t8.val]
    · iintro ⟨-, H, HO⟩
      sl_step
      unfold live
      isplitl [H] <;> iassumption

/-- Before item `k` is waited for. -/
def inv7 (Wc : Vec F S32x16384 .fp8e4m3) (S : Spans) (k : ℕ) : sProp 𝕄 :=
  iprop(chunks c V S (flying S k S.nit) ∗ (∃ W, owes (c : Thread nD τ) 0 W) ∗ (wrepM.view.loc (c : Thread nD τ) ↦{fullShare} Wc)
    ∗ ∃ f, ⌜RowsOk V Wc S k f⌝ ∗ (vrawM.view.loc (c : Thread nD τ) ↦{fullShare} f))

/-- One item: its copies waited for, its chunk multiplied. -/
theorem part1_run (Wc : Vec F S32x16384 .fp8e4m3) (f : S16x128.Idx → Elt F .f32) (k0_t7 : Fin (k0_t7_loop v0 v1 v2 v3 v5 v6).trips) :
    iprop(chunkSt c V (spans v0 v1 v2 v3 v5 v6) (qOf (spans v0 v1 v2 v3 v5 v6) k0_t7.val) true ∗ (∃ W, owes (c : Thread nD τ) 0 W)
        ∗ (wrepM.view.loc (c : Thread nD τ) ↦{fullShare} Wc) ∗ (vrawM.view.loc (c : Thread nD τ) ↦{fullShare} f))
      ⊢ wp frame (wpE (defs₀ (F := F)) Variants.none (c : Thread nD τ) none) Set.univ
        (k0_part1_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 c1_i32_354 c0_i32_355 c0_i32_356 c1_i32_358 k0_t7)
        (fun r => iprop(⌜∃ ch, ChunkOk V (spans v0 v1 v2 v3 v5 v6) k0_t7.val ch ∧ r.1 = k0_pay1 Wc ch⌝
          ∗ chunkSt c V (spans v0 v1 v2 v3 v5 v6) (qOf (spans v0 v1 v2 v3 v5 v6) k0_t7.val) false ∗ (∃ W, owes (c : Thread nD τ) 0 W)
          ∗ (wrepM.view.loc (c : Thread nD τ) ↦{fullShare} Wc) ∗ (vrawM.view.loc (c : Thread nD τ) ↦{fullShare} f))) := by
  have hi := t7_lt v0 v1 v2 v3 v5 v6 k0_t7
  have htr := t8_trips v0 v1 v2 v3 v5 v6 k0_t7
  have htr9 := t9_trips v0 v1 v2 v3 v5 v6 k0_t7
  have hoff := off13_nat v0 v1 v2 v3 v5 v6 k0_t7
  have hstep := t8_step c V arg0 harg0 arg1 harg1 arg2 harg2 arg3 harg3 arg4 harg4 harg5 arg6 harg6 arg7 harg7 arg8 harg8 arg9 harg9 arg10 harg10 arg11 harg11 arg12 harg12 harg13 harg14 harg15 v0 v1 v2 v3 v5 v6 k0_hw1 v36 v53 v74 v95 v112 v129 v151 c1_i32_354 c0_i32_355 c0_i32_356 c1_i32_358 k0_t7
  generalize spans v0 v1 v2 v3 v5 v6 = S at hi htr hoff hstep ⊢
  rw [chunkSt_true, chunkSt_false]
  iintro ⟨⟨%i, %hq, HB, HR⟩, HO, HW, HF⟩
  obtain ⟨hi', hq⟩ := hq
  obtain rfl := qOf_inj hi' hi hq
  unfold k0_part1_skel
  iapply (Scf.wp_for_bind frame (wpE (defs₀ (F := F)) Variants.none (c : Thread nD τ) none) Set.univ _ _ _ _ () _
    (fun u _ => inv8 c V S k0_t7.val u) (fun u acc => hstep u acc)) $$ [HB HO]
  · unfold inv8
    rw [if_pos (S.nblk_pos hi), Nat.zero_mul]
    isplitl [HB] <;> iassumption
  iintro %acc HI
  ihave HI := (show inv8 c V S k0_t7.val (k0_t8_loop v0 v1 v2 v3 v5 v6 k0_t7).trips ⊢ (iprop((semVal ((c : Thread nD τ), SemLoc.dma (cellOf (qOf S k0_t7.val))) 0 ∗ bufPt c (live S k0_t7.val) V ∗ hidPt c (live S k0_t7.val) V) ∗ ∃ W, owes (c : Thread nD τ) 0 W) : sProp 𝕄) from by
    unfold inv8; rw [htr, if_neg (Nat.lt_irrefl _)]) $$ HI
  icases HI with ⟨⟨Hs, HLB, HLH⟩, HO⟩
  ihave HH := (rejoin c V (live_disj (S := S) (i := k0_t7.val))) $$ [HLB HLH HR]
  · isplitl [HLB HLH]
    · isplitl [HLB] <;> iassumption
    · iexact HR
  rw [live_union_rest hi]
  icases HH with ⟨HH, %g, %hg, HG⟩
  sl_for0 htr9
  sl_exec
  have hset : (bufM.access (Rect.unit (s := S2x1024x16384) (k0_off13 v0 v1 v2 v3 v5 v6 k0_t7) S1x128x16384.size (k0_off13_inb v0 v1 v2 v3 v5 v6 k0_hw1 k0_t7))).set ⊆ chunkRows (qOf S k0_t7.val) := by
    rw [bufChunk_set _ hoff, chunkRows_qOf hi]
  unfold bufPt
  iapply (wp_load_rect (defs := defs₀ (F := F)) Variants.none (c : Thread nD τ) none Set.univ (m := bufM)
    (r := Rect.unit (s := S2x1024x16384) (k0_off13 v0 v1 v2 v3 v5 v6 k0_t7) S1x128x16384.size (k0_off13_inb v0 v1 v2 v3 v5 v6 k0_hw1 k0_t7))
    (S := chunkRows (qOf S k0_t7.val)) (q := fullShare) (f := g) hset) $$ HG
  iintro HG
  sl_exec
  sl_step
  isplitr
  · ipureintro
    refine ⟨_, chunkRead (k0_off13_inb v0 v1 v2 v3 v5 v6 k0_hw1 k0_t7) hoff hg, ?_⟩
    rw [wrep_read]
  isplitl [Hs HH HG]
  · isplitl [Hs]; · iexact Hs
    unfold both bufPt
    isplitl [HH]; · iexact HH
    iexists g; iexact HG
  isplitl [HO]; · iexact HO
  isplitl [HW] <;> iassumption

/-- One item and the store of its row. -/
theorem t7_step (Wc : Vec F S32x16384 .fp8e4m3) (v174 : BitVec 32) (v1068 : FVec F S1x128 .fp8e4m3) (k0_t7 : Fin (k0_t7_loop v0 v1 v2 v3 v5 v6).trips) (acc : Unit) :
    inv7 c V Wc (spans v0 v1 v2 v3 v5 v6) k0_t7.val
      ⊢ wp frame (wpE (defs₀ (F := F)) Variants.none (c : Thread nD τ) none) Set.univ
        (k0_t7_body (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 v174 v1068 k0_t7 acc)
        (fun _ => inv7 c V Wc (spans v0 v1 v2 v3 v5 v6) (k0_t7.val + 1)) := by
  have hi := t7_lt v0 v1 v2 v3 v5 v6 k0_t7
  have hoff := off14_nat v0 v1 v2 v3 v5 v6 k0_t7
  have hrun := fun f => part1_run c V arg0 harg0 arg1 harg1 arg2 harg2 arg3 harg3 arg4 harg4 harg5 arg6 harg6 arg7 harg7 arg8 harg8 arg9 harg9 arg10 harg10 arg11 harg11 arg12 harg12 harg13 harg14 harg15 v0 v1 v2 v3 v5 v6 k0_hw1 v36 v53 v74 v95 v112 v129 v151 1#32 0#32 0#32 1#32 Wc f k0_t7
  generalize spans v0 v1 v2 v3 v5 v6 = S at hi hoff hrun ⊢
  rw [← qOf_val hi] at hoff
  unfold inv7 chunks
  rw [flying_drop hi, Ring.AtW_focus _ _ (qOf S k0_t7.val), flying_now hi]
  unfold k0_t7_body
  rw [k0_part1_eq_skeleton]
  iintro ⟨⟨Hc, Hrest⟩, HO, HW, %f, %hf, HF⟩
  rw [wp_bind]
  iapply (wp_wand_r frame (wpE (defs₀ (F := F)) Variants.none (c : Thread nD τ) none) Set.univ)
  isplitl [Hc HO HW HF]
  · iapply (hrun f)
    isplitl [Hc]; · iexact Hc
    isplitl [HO]; · iexact HO
    isplitl [HW] <;> iassumption
  iintro %r ⟨%hr, Hc, HO, HW, HF⟩
  obtain ⟨ch, hch, hr⟩ := hr
  sl_exec
  sl_step
  isplitl [Hc Hrest]
  · iapply (Ring.AtW_update (chunkSt c V S) (flying S k0_t7.val S.nit) (qOf S k0_t7.val) false)
    isplitl [Hc] <;> iassumption
  isplitl [HO]; · iexact HO
  isplitl [HW]; · iexact HW
  iexists _
  isplitr
  rotate_left
  · iexact HF
  ipureintro
  have hst := rowStore (F := F) (k0_off14_inb v0 v1 v2 v3 v5 v6 k0_hw1 k0_t7) hoff f (k0_pay158 r.1)
  intro i hik
  rcases Nat.lt_succ_iff_lt_or_eq.mp hik with hlt | rfl
  · obtain ⟨ch', hch', hrow⟩ := hf i hlt
    refine ⟨ch', hch', fun p p' h0 h1 => (hst.2 p fun e => ?_).trans (hrow p p' h0 h1)⟩
    have := qOf_inj (by omega) hi (Fin.ext (h0.symm.trans e))
    omega
  · refine ⟨ch, hch, fun p p' h0 h1 => ?_⟩
    rw [← hr]
    exact hst.1 p p' h0 h1

end Body

end Cert.Kernel.Critic

end
-- ==== Proof.Fill.lean ====
module

public import proofs.«01_k».proof.Proof.Drain
public import proofs.«01_k».proof.Proof.Gen.Kernel.Skeleton
public import Idealize.ShloMosaic.Lib.Pipeline.Value

/-!
# The replicated weights

Row `r` of the 128 by 128 weights is stored, repeated on 32 sublanes, in columns `128 r` to `128 r + 128` of a scratch,
row after row. `Filled w k f` says the first `k` rows are there.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

/-- The first `k` rows of `w` are in place. -/
def Filled (w : Vec F S128x128 .fp8e4m3) (k : ℕ) (f : Vec F S32x16384 .fp8e4m3) : Prop :=
  ∀ (p : S32x16384.Idx) (y : S128x128.Idx), (p 1).val < 128 * k → (p 1).val = 128 * (y 0).val + (y 1).val → f p = w y

/-- `v` is row `r` of `w`. -/
def IsRow (w : Vec F S128x128 .fp8e4m3) (r : ℕ) (v : Vec F S1x128 .fp8e4m3) : Prop :=
  ∀ (x : S1x128.Idx) (y : S128x128.Idx), (y 0).val = r → (y 1).val = (x 1).val → v x = w y

/-- `g` is one row repeated on 32 sublanes. -/
def IsBc (v : Vec F S1x128 .fp8e4m3) (g : Vec F S32x128 .fp8e4m3) : Prop :=
  ∀ (p : S32x128.Idx) (x : S1x128.Idx), (x 1).val = (p 1).val → g p = v x

theorem isBc_plain (v : Vec F S1x128 .fp8e4m3) (h : S1x128.Broadcasts S32x128) (h' : S32x128.ShapeCasts S32x128) :
    IsBc v (shapeCast S32x128 (broadcastTo S32x128 v h) h') := by
  intro p x hx
  rw [shapeCast_self]
  refine broadcastTo_apply v h p x fun a => ?_
  fin_cases a
  · have : (x 0).val < 1 := (x 0).isLt
    show (x 0).val = 0
    omega
  · exact hx
theorem isBc_cast (v : Vec F S1x128 .fp8e4m3) (h1 h2 : S1x128.ShapeCasts S1x128) (h : S1x128.Broadcasts S32x128) (h' : S32x128.ShapeCasts S32x128) :
    IsBc v (shapeCast S32x128 (broadcastTo S32x128 (shapeCast S1x128 (shapeCast S1x128 v h1) h2) h) h') := by
  rw [shapeCast_self v h1, shapeCast_self v h2]
  exact isBc_plain v h h'

theorem wrep_emb {off : Fin 2 → ℕ} (inb : ∀ a, off a + S32x128.size a ≤ S32x16384.size a) (x : S32x128.Idx) (a : Fin 2) :
    (((wrepM.access (Rect.unit (s := S32x16384) off S32x128.size inb)).emb x : S32x16384.Idx) a).val = off a + (x a).val :=
  ValueKit.view_emb_slice_whole_unit_val cc0_scratch1 off S32x128.size inb x a

/-- Storing row `k` in place. -/
theorem filled_store {w : Vec F S128x128 .fp8e4m3} {k : ℕ} {f : Vec F S32x16384 .fp8e4m3} {v : Vec F S1x128 .fp8e4m3} {g : Vec F S32x128 .fp8e4m3}
    (hf : Filled w k f) (hv : IsRow w k v) (hg : IsBc v g)
    {off : Fin 2 → ℕ} (inb : ∀ a, off a + S32x128.size a ≤ S32x16384.size a) (ho : off = ![0, 128 * k]) :
    Filled w (k + 1) ((wrepM.access (Rect.unit (s := S32x16384) off S32x128.size inb)).write (Elt F) f g Finset.univ : S32x16384.Idx → Elt F .fp8e4m3) := by
  subst ho
  intro p y hp hy
  by_cases h : (p 1).val < 128 * k
  · refine (View.write_of_not_mem (v := wrepM.access (Rect.unit (s := S32x16384) ![0, 128 * k] S32x128.size inb)) f g Finset.univ ?_).trans (hf p y h hy)
    intro hm
    obtain ⟨x, -, rfl⟩ := Finset.mem_map.mp hm
    have e := wrep_emb inb x 1
    have e' : (![0, 128 * k] : Fin 2 → ℕ) 1 = 128 * k := rfl
    rw [e'] at e
    have h' := h
    erw [e] at h'
    omega
  · have h0 : (p 0).val < 32 := (p 0).isLt
    have hy1 : (y 1).val < 128 := (y 1).isLt
    have h0' : ∀ a : Fin 2, (![(p 0).val, (p 1).val - 128 * k] : Fin 2 → ℕ) a < S32x128.size a := by
      intro a
      fin_cases a
      · exact h0
      · show (p 1).val - 128 * k < 128
        omega
    have e : p = (wrepM.access (Rect.unit (s := S32x16384) ![0, 128 * k] S32x128.size inb)).emb
        (fun a => ⟨(![(p 0).val, (p 1).val - 128 * k] : Fin 2 → ℕ) a, h0' a⟩) := by
      funext a
      fin_cases a
      · refine Fin.ext (Eq.trans ?_ (wrep_emb inb _ 0).symm)
        show (p 0).val = 0 + (p 0).val
        omega
      · refine Fin.ext (Eq.trans ?_ (wrep_emb inb _ 1).symm)
        show (p 1).val = 128 * k + ((p 1).val - 128 * k)
        omega
    have hx : ∀ a : Fin 2, (![0, (p 1).val - 128 * k] : Fin 2 → ℕ) a < S1x128.size a := by
      intro a
      fin_cases a
      · exact Nat.one_pos
      · show (p 1).val - 128 * k < 128
        omega
    have hw := hv (fun a => ⟨(![0, (p 1).val - 128 * k] : Fin 2 → ℕ) a, hx a⟩) y (by omega) (by
      show (y 1).val = (p 1).val - 128 * k
      omega)
    have hb := hg (fun a => ⟨(![(p 0).val, (p 1).val - 128 * k] : Fin 2 → ℕ) a, h0' a⟩) (fun a => ⟨(![0, (p 1).val - 128 * k] : Fin 2 → ℕ) a, hx a⟩) rfl
    refine Eq.trans ?_ (hb.trans hw)
    refine (congrArg ((wrepM.access (Rect.unit (s := S32x16384) ![0, 128 * k] S32x128.size inb)).write (Elt F) f g Finset.univ : S32x16384.Idx → Elt F .fp8e4m3) e).trans ?_
    exact (View.write_emb_of_mem (v := wrepM.access (Rect.unit (s := S32x16384) ![0, 128 * k] S32x128.size inb)) f g (Finset.mem_univ _)).trans rfl

/-- A row read is that row. -/
theorem row_read (arg6 : Memref sig .tc .vmem S128x128 .fp8e4m3) (c : Dev nD) (f6 : Buf (Elt F) (arg6.view.loc (c : Thread nD τ)))
    {off : Fin 2 → ℕ} (inb : ∀ a, off a + S1x128.size a ≤ S128x128.size a) {r : ℕ} (ho : off = ![r, 0]) :
    IsRow (arg6.view.read (Elt F) f6) r (arg6.view.readAt (Elt F) (Rect.unit (s := S128x128) off S1x128.size inb).toLoadRect f6) := by
  subst ho
  intro x y h0 h1
  have e : (Rect.unit (s := S128x128) ![r, 0] S1x128.size inb).idx x = y := by
    funext a
    refine Fin.ext ((ValueKit.rect_emb_unit_val (s := S128x128) ![r, 0] S1x128.size inb x a).trans ?_)
    fin_cases a
    · have : (x 0).val < 1 := (x 0).isLt
      show r + (x 0).val = (y 0).val
      omega
    · show 0 + (x 1).val = (y 1).val
      omega
  show arg6.view.read (Elt F) f6 ((Rect.unit (s := S128x128) ![r, 0] S1x128.size inb).idx x) = _
  rw [e]

/-- Something else, the weights' window, and the scratch with the first `k` rows in place. -/
def fill (R : sProp 𝕄) (c : Dev nD) (arg6 : Memref sig .tc .vmem S128x128 .fp8e4m3) (f6 : Buf (Elt F) (arg6.view.loc (c : Thread nD τ))) (k : ℕ) : sProp 𝕄 :=
  iprop(R ∗ (arg6.view.loc (c : Thread nD τ) ↦[arg6.view.set]{fullShare} f6)
    ∗ ∃ f, ⌜Filled (arg6.view.read (Elt F) f6) k f⌝ ∗ (wrepM.view.loc (c : Thread nD τ) ↦{fullShare} f))

section Row
variable {R : sProp (MT nD τ sig Unit (Elt F) ℕ (Pipeline.UD sig nD τ) ℕ)} (c : Dev nD) (arg6 : Memref sig .tc .vmem S128x128 .fp8e4m3) (f6 : Buf (Elt F) (arg6.view.loc (c : Thread nD τ)))
variable {β : Type} {Q : β → sProp (MT nD τ sig Unit (Elt F) ℕ (Pipeline.UD sig nD τ) ℕ)}

/-- One row stored: the columns it replaces are read (and dropped), then the row is put there. -/
theorem fill_store {k : ℕ} {v : Vec F S1x128 .fp8e4m3} {g : Vec F S32x128 .fp8e4m3} (hv : IsRow (arg6.view.read (Elt F) f6) k v) (hg : IsBc v g)
    {off : Fin 2 → ℕ} {inb : ∀ a, off a + S32x128.size a ≤ S32x16384.size a} (ho : off = ![0, 128 * k])
    {hl} {hs} {hs'} {K : PUnit.{1} → Prog (TpuEff nD τ sig (Elt F) Λ₀ .tc) β}
    (h : fill R c arg6 f6 (k + 1) ⊢ wp frame (wpE (defs₀ (F := F)) Variants.none (c : Thread nD τ) none) Set.univ (K ⟨⟩) Q) :
    fill R c arg6 f6 k ⊢ wp frame (wpE (defs₀ (F := F)) Variants.none (c : Thread nD τ) none) Set.univ
      (.op (.load wrepM (Rect.unit (s := S32x16384) off S32x128.size inb).toLoadRect hl) fun _ =>
        .op (.store wrepM (Rect.unit (s := S32x16384) off S32x128.size inb) g Finset.univ hs hs') K) Q := by
  unfold fill at h ⊢
  iintro ⟨HR, H6, %f, %hf, HW⟩
  sl_exec
  iapply h
  isplitl [HR]; · iexact HR
  isplitl [H6]; · iexact H6
  iexists _
  isplitr
  rotate_left
  · iexact HW
  ipureintro
  exact filled_store hf hv hg inb ho

/-- The next row read. -/
theorem fill_load {k : ℕ} {off : Fin 2 → ℕ} {inb : ∀ a, off a + S1x128.size a ≤ S128x128.size a} (ho : off = ![k, 0])
    {hl} {K : (S1x128.Idx → Elt F .fp8e4m3) → Prog (TpuEff nD τ sig (Elt F) Λ₀ .tc) β}
    (h : ∀ v, IsRow (arg6.view.read (Elt F) f6) k v →
      (fill R c arg6 f6 k ⊢ wp frame (wpE (defs₀ (F := F)) Variants.none (c : Thread nD τ) none) Set.univ (K v) Q)) :
    fill R c arg6 f6 k ⊢ wp frame (wpE (defs₀ (F := F)) Variants.none (c : Thread nD τ) none) Set.univ
      (.op (.load arg6 (Rect.unit (s := S128x128) off S1x128.size inb).toLoadRect hl) K) Q := by
  have h' := h _ (row_read arg6 c f6 inb ho)
  unfold fill at h' ⊢
  iintro ⟨HR, H6, %f, %hf, HW⟩
  sl_exec
  iapply h'
  isplitl [HR]; · iexact HR
  isplitl [H6]; · iexact H6
  iexists f
  isplitr
  · ipureintro; exact hf
  iexact HW

/-- Five rows stored, the first given, and the sixth read. -/
def FillPart (k : ℕ) (prog : FVec F S1x128 .fp8e4m3 → Prog (TpuEff nD τ sig (Elt F) Λ₀ .tc) (FVec F S1x128 .fp8e4m3)) : Prop :=
  ∀ (R : sProp 𝕄) v, IsRow (arg6.view.read (Elt F) f6) k v →
    (fill R c arg6 f6 k ⊢ wp frame (wpE (defs₀ (F := F)) Variants.none (c : Thread nD τ) none) Set.univ (prog v)
      (fun v' => iprop(⌜IsRow (arg6.view.read (Elt F) f6) (k + 5) v'⌝ ∗ fill R c arg6 f6 (k + 5))))

theorem isRow_cast {w : Vec F S128x128 .fp8e4m3} {r : ℕ} {v : Vec F S1x128 .fp8e4m3} (hv : IsRow w r v) (h1 h2 : S1x128.ShapeCasts S1x128) :
    IsRow w r (shapeCast S1x128 (shapeCast S1x128 v h1) h2) := by
  rw [shapeCast_self v h1, shapeCast_self v h2]
  exact hv

theorem fill_ret {k : ℕ} {v : Vec F S1x128 .fp8e4m3} (hv : IsRow (arg6.view.read (Elt F) f6) k v) :
    fill R c arg6 f6 k ⊢ wp frame (wpE (defs₀ (F := F)) Variants.none (c : Thread nD τ) none) Set.univ (.ret v)
      (fun v' => iprop(⌜IsRow (arg6.view.read (Elt F) f6) k v'⌝ ∗ fill R c arg6 f6 k)) := by
  iintro H
  sl_step
  isplitr
  · ipureintro; exact hv
  iexact H

set_option maxHeartbeats 2000000 in
/-- The parts of the body that store the weights' rows, five each. -/
theorem fill_parts (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole) (harg5 : hidM.IsWhole) (harg13 : bufM.IsWhole) (harg14 : wrepM.IsWhole) (harg15 : vrawM.IsWhole) :
    FillPart c arg6 f6 1 (fun v => k0_part8_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 6 (fun v => k0_part9_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 11 (fun v => k0_part10_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 16 (fun v => k0_part11_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 21 (fun v => k0_part12_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 26 (fun v => k0_part13_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 31 (fun v => k0_part14_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 36 (fun v => k0_part15_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 41 (fun v => k0_part16_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 46 (fun v => k0_part17_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 51 (fun v => k0_part18_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 56 (fun v => k0_part19_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 61 (fun v => k0_part20_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 66 (fun v => k0_part21_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 71 (fun v => k0_part22_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 76 (fun v => k0_part23_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 81 (fun v => k0_part24_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 86 (fun v => k0_part25_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 91 (fun v => k0_part26_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 96 (fun v => k0_part27_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 101 (fun v => k0_part28_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 106 (fun v => k0_part29_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 111 (fun v => k0_part30_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 116 (fun v => k0_part31_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 121 (fun v => k0_part32_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v) := by
  refine ⟨?_, ?_, ?_, ?_, ?_, ?_, ?_, ?_, ?_, ?_, ?_, ?_, ?_, ?_, ?_, ?_, ?_, ?_, ?_, ?_, ?_, ?_, ?_, ?_, ?_⟩
  all_goals
    intro R v hv
    refine fill_store c arg6 f6 hv (isBc_plain _ broadcasts_S1x128_S32x128 _) rfl ?_
    iterate 4
      refine fill_load c arg6 f6 rfl fun v hv => ?_
      refine fill_store c arg6 f6 hv (isBc_cast _ _ _ broadcasts_S1x128_S32x128 _) rfl ?_
    refine fill_load c arg6 f6 rfl fun v hv => ?_
    exact fill_ret c arg6 f6 (isRow_cast hv _ _)

end Row

end Cert.Kernel.Critic

end
-- ==== Proof.Run.lean ====
module

public import proofs.«01_k».proof.Proof.Fill

/-!
# The kernel body

The run of the whole body: the words read from the two tables of lengths, the copies issued, the weights replicated, the
copies waited for and their chunks multiplied, and the results computed from the rows of products and stored.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

/-- The rows of a family of chunks, held together or chunk by chunk. -/
theorem both_chunks (c : Dev nD) (V : Hid F) (s : Finset (Fin 16)) :
    (both c V (s.biUnion chunkRows) : sProp 𝕄) ⊣⊢ bigSep s fun q => both c V (chunkRows q) := by
  induction s using Finset.induction_on with
  | empty =>
    rw [Finset.biUnion_empty, BI.bigSep_empty]
    unfold both hidPt bufPt
    constructor
    · exact Idealize.SL.BI.Affine.affine
    · rw [pointsTo_empty]
      iintro _
      isplitr
      · iempintro
      · iexists V
        rw [pointsTo_empty]
        iempintro
  | insert q s hq ih =>
    rw [Finset.biUnion_insert, BI.bigSep_insert hq]
    have hd : Disjoint (chunkRows q) (s.biUnion chunkRows) := by
      rw [Finset.disjoint_biUnion_right]
      intro q' hq'
      rw [Finset.disjoint_left]
      intro i h h'
      unfold chunkRows at h h'
      rw [mem_rows] at h h'
      exact hq ((Fin.ext (show q.val = q'.val by omega)) ▸ hq')
    exact ⟨(both_union c V hd).1.trans (sep_mono .rfl ih.1), (sep_mono .rfl ih.2).trans (both_union c V hd).2⟩

theorem chunkRows_univ : (Finset.univ : Finset (Fin 16)).biUnion chunkRows = Finset.univ := by
  ext i
  have h0 : (i 0).val < 2 := (i 0).isLt
  have h1 : (i 1).val < 1024 := (i 1).isLt
  refine ⟨fun _ => Finset.mem_univ i, fun _ => Finset.mem_biUnion.mpr ⟨⟨2 * ((i 1).val / 128) + (i 0).val, by omega⟩, Finset.mem_univ _, ?_⟩⟩
  unfold chunkRows
  rw [mem_rows]
  simp only
  omega

/-- All sixteen semaphores at rest. -/
def semsIdle (c : Dev nD) : sProp 𝕄 := bigSep Finset.univ fun q : Fin 16 => semVal ((c : Thread nD τ), SemLoc.dma (cellOf q)) 0

/-- Nothing in flight: the semaphores at rest, the array and the buffer held whole. -/
theorem chunks_idle (c : Dev nD) (V : Hid F) (S : Spans) :
    (chunks c V S (fun _ => false) : sProp 𝕄) ⊣⊢ iprop(semsIdle c ∗ both c V Finset.univ) := by
  have e : (chunks c V S (fun _ => false) : sProp 𝕄) = iprop(semsIdle c ∗ bigSep Finset.univ fun q => both c V (chunkRows q)) :=
    BI.bigSep_sep Finset.univ (fun q : Fin 16 => semVal ((c : Thread nD τ), SemLoc.dma (cellOf q)) 0) (fun q => both c V (chunkRows q))
  have h := both_chunks c V Finset.univ
  rw [chunkRows_univ] at h
  rw [e]
  exact ⟨sep_mono .rfl h.2, sep_mono .rfl h.1⟩

/-- A program that goes on with a value at hand. -/
theorem after_ret {c : Dev nD} {α β : Type} {P : sProp 𝕄} {x : α} {k : α → Prog (TpuEff nD τ sig (Elt F) Λ₀ .tc) β} {Q : β → sProp 𝕄}
    (h : P ⊢ wp frame (wpE (defs₀ (F := F)) Variants.none (c : Thread nD τ) none) Set.univ (k x) Q) :
    P ⊢ wp frame (wpE (defs₀ (F := F)) Variants.none (c : Thread nD τ) none) Set.univ ((Prog.ret x).bind k) Q := h

section Body
variable (c : Dev nD) (V : Hid F) (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole)
variable (harg5 : hidM.IsWhole) (harg13 : bufM.IsWhole) (harg14 : wrepM.IsWhole) (harg15 : vrawM.IsWhole)

/-- Word `k` of a table. -/
def word (arg : Memref sig .tc .smem S2 .i32) (f : Buf (Elt F) (arg.view.loc (c : Thread nD τ))) (k : Fin 2) : Elt F .i32 :=
  arg.view.read (Elt F) f (fun a => ⟨k.val, (by fin_cases a; exact k.isLt : k.val < S2.size a)⟩)

/-- What the part that reads the tables returns. -/
abbrev Part3 (F : FTy → Type) [FloatOps F] : Type := Σ' (v0 : Elt F .i32) (v1 : Elt F .i32) (v2 : Elt F .i32) (v3 : Elt F .i32) (v4 : BitVec 32) (v5 : Elt F .i32) (v6 : Elt F .i32) (k0_hw1 : k0_chk1 v0 v1 v2 v3 v5 v6) (v7 : BitVec 32) (v11 : BitVec 32) (v13 : BitVec 32) (v15 : BitVec 32) (v17 : BitVec 32) (v19 : BitVec 32) (v20 : BitVec 32) (v34 : BitVec 1), BitVec 32

/-- The words of the tables. -/
theorem part3_run (f0 : Buf (Elt F) (arg0.view.loc (c : Thread nD τ))) (f1 : Buf (Elt F) (arg1.view.loc (c : Thread nD τ))) :
    (iprop((arg0.view.loc (c : Thread nD τ) ↦[arg0.view.set]{fullShare} f0) ∗ (arg1.view.loc (c : Thread nD τ) ↦[arg1.view.set]{fullShare} f1)) : sProp 𝕄)
      ⊢ wp frame (wpE (defs₀ (F := F)) Variants.none (c : Thread nD τ) none) Set.univ (k0_part3_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3)
        (fun x : Part3 F => iprop(⌜x.1 = word c arg0 f0 0 ∧ x.2.1 = word c arg0 f0 1 ∧ x.2.2.1 = word c arg0 f0 0 ∧ x.2.2.2.1 = word c arg1 f1 0
            ∧ x.2.2.2.2.1 = Scalar.addi (word c arg0 f0 0) (word c arg1 f1 0) ∧ x.2.2.2.2.2.1 = word c arg0 f0 1 ∧ x.2.2.2.2.2.2.1 = word c arg1 f1 1
            ∧ x.2.2.2.2.2.2.2.2.1 = Scalar.addi (word c arg0 f0 1) (word c arg1 f1 1)⌝
          ∗ (arg0.view.loc (c : Thread nD τ) ↦[arg0.view.set]{fullShare} f0) ∗ (arg1.view.loc (c : Thread nD τ) ↦[arg1.view.set]{fullShare} f1))) := by
  have hchk := fun (a b c d e f : Elt F .i32) => chk a b c d e f
  unfold k0_part3_skel
  iintro ⟨H0, H1⟩
  sl_exec
  sl_step
  isplitr
  · ipureintro
    refine ⟨?_, ?_, ?_, ?_, ?_, ?_, ?_, ?_⟩
    all_goals first | exact congrArg (View.read (Elt F) _ _) (funext fun a => by fin_cases a; rfl) | exact congrArg₂ Scalar.addi (congrArg (View.read (Elt F) _ _) (funext fun a => by fin_cases a; rfl)) (congrArg (View.read (Elt F) _ _) (funext fun a => by fin_cases a; rfl))
  isplitl [H0] <;> iassumption

/-- Pure words. -/
theorem part4_run (v11 v13 v15 v17 v19 v20 : BitVec 32) (v34 : BitVec 1) (v35 : BitVec 32) :
    (iprop(emp) : sProp 𝕄) ⊢ wp frame (wpE (defs₀ (F := F)) Variants.none (c : Thread nD τ) none) Set.univ (k0_part4_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v11 v13 v15 v17 v19 v20 v34 v35) (fun _ => iprop(emp)) := by
  unfold k0_part4_skel
  iintro H
  sl_exec
  sl_step
  iempintro
theorem part5_run (v36 v53 : BitVec 32) (v75 : BitVec 1) (v76 : BitVec 32) :
    (iprop(emp) : sProp 𝕄) ⊢ wp frame (wpE (defs₀ (F := F)) Variants.none (c : Thread nD τ) none) Set.univ (k0_part5_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v36 v53 v75 v76) (fun _ => iprop(emp)) := by
  unfold k0_part5_skel
  iintro H
  sl_exec
  sl_step
  iempintro
theorem part6_run (v17 v19 v53 v74 v95 v112 c4_i32_50 v113 v118 : BitVec 32) :
    (iprop(emp) : sProp 𝕄) ⊢ wp frame (wpE (defs₀ (F := F)) Variants.none (c : Thread nD τ) none) Set.univ (k0_part6_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v17 v19 v53 v74 v95 v112 c4_i32_50 v113 v118) (fun _ => iprop(emp)) := by
  unfold k0_part6_skel
  iintro H
  sl_exec
  sl_step
  iempintro

variable (v0 v1 v2 v3 v5 v6 : Elt F .i32) (k0_hw1 : k0_chk1 v0 v1 v2 v3 v5 v6) (v36 v53 v74 v95 v112 v129 v151 : BitVec 32)

/-- The copies issued and the first row of the weights stored. -/
theorem part7_run (f6 : Buf (Elt F) (arg6.view.loc (c : Thread nD τ))) (v152 : BitVec 1) (v154 c4_i32_71 v155 v157 c0_i32_73 : BitVec 32) :
    iprop((semsIdle c ∗ both c V Finset.univ) ∗ fill iprop(emp) c arg6 f6 0)
      ⊢ wp frame (wpE (defs₀ (F := F)) Variants.none (c : Thread nD τ) none) Set.univ (k0_part7_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 v152 v154 c4_i32_71 v155 v157 c0_i32_73)
        (fun r => iprop(⌜IsRow (arg6.view.read (Elt F) f6) 1 r.2⌝
          ∗ chunks c V (spans v0 v1 v2 v3 v5 v6) (flying (spans v0 v1 v2 v3 v5 v6) 0 (spans v0 v1 v2 v3 v5 v6).nit) ∗ fill iprop(emp) c arg6 f6 1)) := by
  have htr := t1_trips v0 v1 v2 v3 v5 v6
  have hstep := fun k acc => t1_step c V arg0 harg0 arg1 harg1 arg2 harg2 arg3 harg3 arg4 harg4 harg5 arg6 harg6 arg7 harg7 arg8 harg8 arg9 harg9 arg10 harg10 arg11 harg11 arg12 harg12 harg13 wrepM harg14 vrawM harg15 v0 v1 v2 v3 v5 v6 k0_hw1 v36 v53 v74 v95 v112 v129 v151 v152 v154 c4_i32_71 v155 v157 c0_i32_73 k acc
  generalize spans v0 v1 v2 v3 v5 v6 = S at htr hstep ⊢
  unfold k0_part7_skel
  iintro ⟨HS, HF⟩
  iapply (Scf.wp_for_bind frame (wpE (defs₀ (F := F)) Variants.none (c : Thread nD τ) none) Set.univ _ _ _ _ () _
    (fun u _ => chunks c V S (flying S 0 u)) (fun u acc => hstep u acc)) $$ [HS]
  · rw [flying_none]
    iapply (chunks_idle c V _).2
    iexact HS
  iintro %acc HS
  sl_for0 (t4_trips v0 v1 v2 v3 v5 v6)
  rw [show Scf.trips (k0_t1_loop v0 v1 v2 v3 v5 v6).lb (k0_t1_loop v0 v1 v2 v3 v5 v6).ub (k0_t1_loop v0 v1 v2 v3 v5 v6).st = S.nit from htr]
  iapply (wp_wand_r frame (wpE (defs₀ (F := F)) Variants.none (c : Thread nD τ) none) Set.univ
    (Q := fun r => iprop(⌜IsRow (arg6.view.read (Elt F) f6) 1 r.2⌝ ∗ fill iprop(emp) c arg6 f6 1)))
  isplitl [HF]
  · refine BIBase.Entails.trans (Q := fill iprop(emp) c arg6 f6 0) (by iintro H; iexact H) ?_
    refine fill_load c arg6 f6 rfl fun v hv => ?_
    refine fill_store c arg6 f6 hv (isBc_cast _ _ _ broadcasts_S1x128_S32x128 _) rfl ?_
    refine fill_load c arg6 f6 rfl fun v hv => ?_
    refine BIBase.Entails.trans (Q := iprop(⌜IsRow (arg6.view.read (Elt F) f6) 1 (k0_pay4 v)⌝ ∗ fill iprop(emp) c arg6 f6 1)) ?_ ?_
    · iintro H
      isplitr
      · ipureintro; exact isRow_cast hv _ _
      iexact H
    refine after_ret ?_
    iintro H
    sl_step
    iexact H
  iintro %r ⟨%hr, HF⟩
  isplitr
  · ipureintro; exact hr
  isplitl [HS] <;> iassumption

/-- The last rows of the weights stored, the rows of products cleared, and the copies waited for and multiplied. -/
theorem part33_run (f6 : Buf (Elt F) (arg6.view.loc (c : Thread nD τ))) (v174 : BitVec 32) (v1068 : FVec F S1x128 .fp8e4m3) (hv : IsRow (arg6.view.read (Elt F) f6) 126 v1068) :
    iprop(chunks c V (spans v0 v1 v2 v3 v5 v6) (flying (spans v0 v1 v2 v3 v5 v6) 0 (spans v0 v1 v2 v3 v5 v6).nit) ∗ fill iprop(emp) c arg6 f6 126 ∗ (∃ W, owes (c : Thread nD τ) 0 W) ∗ ∃ f, vrawM.view.loc (c : Thread nD τ) ↦{fullShare} f)
      ⊢ wp frame (wpE (defs₀ (F := F)) Variants.none (c : Thread nD τ) none) Set.univ (k0_part33_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 v174 v1068)
        (fun r => iprop(⌜r = ⟨iota .tc S16x128 32 [0] iota_S16x128_d0_w32, iota .tc S16x128 32 [1] iota_S16x128_d1_w32, 2#32, k0_pay160, k0_pay161, k0_pay162⟩⌝
          ∗ (semsIdle c ∗ both c V Finset.univ) ∗ (∃ W, owes (c : Thread nD τ) 0 W)
          ∗ (arg6.view.loc (c : Thread nD τ) ↦[arg6.view.set]{fullShare} f6)
          ∗ ∃ Wc f, ⌜Filled (arg6.view.read (Elt F) f6) 128 Wc ∧ RowsOk V Wc (spans v0 v1 v2 v3 v5 v6) (spans v0 v1 v2 v3 v5 v6).nit f⌝
            ∗ (wrepM.view.loc (c : Thread nD τ) ↦{fullShare} Wc) ∗ (vrawM.view.loc (c : Thread nD τ) ↦{fullShare} f))) := by
  have htr := t7_trips v0 v1 v2 v3 v5 v6
  have hstep := fun Wc k acc => t7_step c V arg0 harg0 arg1 harg1 arg2 harg2 arg3 harg3 arg4 harg4 harg5 arg6 harg6 arg7 harg7 arg8 harg8 arg9 harg9 arg10 harg10 arg11 harg11 arg12 harg12 harg13 harg14 harg15 v0 v1 v2 v3 v5 v6 k0_hw1 v36 v53 v74 v95 v112 v129 v151 Wc v174 v1068 k acc
  generalize spans v0 v1 v2 v3 v5 v6 = S at htr hstep ⊢
  unfold k0_part33_skel
  refine BIBase.Entails.trans (Q := fill iprop(chunks c V S (flying S 0 S.nit) ∗ (∃ W, owes (c : Thread nD τ) 0 W) ∗ ∃ f, vrawM.view.loc (c : Thread nD τ) ↦{fullShare} f) c arg6 f6 126) ?_ ?_
  · unfold fill
    iintro ⟨HS, ⟨_, H6, HF⟩, HO, HV⟩
    isplitl [HS HO HV]
    · isplitl [HS]; · iexact HS
      isplitl [HO] <;> iassumption
    isplitl [H6] <;> iassumption
  refine fill_store c arg6 f6 hv (isBc_plain _ broadcasts_S1x128_S32x128 _) rfl ?_
  refine fill_load c arg6 f6 rfl fun v hv => ?_
  refine fill_store c arg6 f6 hv (isBc_cast _ _ _ broadcasts_S1x128_S32x128 _) rfl ?_
  refine after_ret ?_
  unfold fill
  iintro ⟨⟨HS, HO, %fv, HV⟩, H6, %Wc, %hW, HW⟩
  sl_exec
  iapply (Scf.wp_for_bind frame (wpE (defs₀ (F := F)) Variants.none (c : Thread nD τ) none) Set.univ _ _ _ _ () _
    (fun u _ => inv7 c V Wc S u) (fun u acc => hstep Wc u acc)) $$ [HS HO HW HV]
  · unfold inv7
    isplitl [HS]; · iexact HS
    isplitl [HO]; · iexact HO
    isplitl [HW]; · iexact HW
    iexists _
    isplitr
    rotate_left
    · iexact HV
    ipureintro
    intro i hi
    exact absurd hi (Nat.not_lt_zero i)
  iintro %acc HI
  sl_for0 (t10_trips v0 v1 v2 v3 v5 v6)
  rw [show Scf.trips (k0_t7_loop v0 v1 v2 v3 v5 v6).lb (k0_t7_loop v0 v1 v2 v3 v5 v6).ub (k0_t7_loop v0 v1 v2 v3 v5 v6).st = S.nit from htr]
  unfold inv7
  rw [flying_none]
  icases HI with ⟨HS, HO, HW, %f, %hf, HV⟩
  ihave HS := (chunks_idle c V S).1 $$ HS
  sl_exec
  sl_step
  isplitr
  · ipureintro; rfl
  isplitl [HS]; · iexact HS
  isplitl [HO]; · iexact HO
  isplitl [H6]; · iexact H6
  iexists Wc
  iexists f
  isplitr
  · ipureintro; exact ⟨hW, hf⟩
  isplitl [HW] <;> iassumption

end Body

end Cert.Kernel.Critic

end
-- ==== Proof.Tail.lean ====
module

public import Idealize.ShloMosaic.Lib.WritesUnit
public import proofs.«01_k».proof.Proof.Run

/-!
# The whole kernel body

The pieces of the body put together: from the inputs, the array in memory and the scratch buffers, the body runs to its
end, gives everything back, and leaves in the first result the masked, scaled products of the rows in flight.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

/-- A piece of a program run first, with what it does not touch set aside. -/
theorem piece {c : Dev nD} {α β : Type} {R P : sProp (MT nD τ sig Unit (Elt F) ℕ (Pipeline.UD sig nD τ) ℕ)} {Q : α → sProp (MT nD τ sig Unit (Elt F) ℕ (Pipeline.UD sig nD τ) ℕ)} {Q' : β → sProp (MT nD τ sig Unit (Elt F) ℕ (Pipeline.UD sig nD τ) ℕ)}
    {p : Prog (TpuEff nD τ sig (Elt F) Λ₀ .tc) α} {f : α → Prog (TpuEff nD τ sig (Elt F) Λ₀ .tc) β}
    (h : P ⊢ wp frame (wpE (defs₀ (F := F)) Variants.none (c : Thread nD τ) none) Set.univ p Q) (k : ∀ a, iprop(R ∗ Q a) ⊢ wp frame (wpE (defs₀ (F := F)) Variants.none (c : Thread nD τ) none) Set.univ (f a) Q') :
    iprop(R ∗ P) ⊢ wp frame (wpE (defs₀ (F := F)) Variants.none (c : Thread nD τ) none) Set.univ (p.bind f) Q' := by
  show _ ⊢ wp frame (wpE (defs₀ (F := F)) Variants.none (c : Thread nD τ) none) Set.univ (p >>= f) Q'
  rw [wp_bind]
  iintro ⟨HR, HP⟩
  iapply (wp_wand_r frame (wpE (defs₀ (F := F)) Variants.none (c : Thread nD τ) none) Set.univ (Q := Q))
  isplitl [HP]
  · iapply h
    iexact HP
  iintro %a HQ
  iapply (k a)
  isplitl [HR] <;> iassumption

/-- A piece that computes words only. -/
theorem pureWords {c : Dev nD} {α β : Type} {R : sProp (MT nD τ sig Unit (Elt F) ℕ (Pipeline.UD sig nD τ) ℕ)} {Q' : β → sProp (MT nD τ sig Unit (Elt F) ℕ (Pipeline.UD sig nD τ) ℕ)}
    {p : Prog (TpuEff nD τ sig (Elt F) Λ₀ .tc) α} {f : α → Prog (TpuEff nD τ sig (Elt F) Λ₀ .tc) β}
    (h : (iprop(emp) : sProp (MT nD τ sig Unit (Elt F) ℕ (Pipeline.UD sig nD τ) ℕ)) ⊢ wp frame (wpE (defs₀ (F := F)) Variants.none (c : Thread nD τ) none) Set.univ p (fun _ => iprop(emp))) (k : ∀ a, R ⊢ wp frame (wpE (defs₀ (F := F)) Variants.none (c : Thread nD τ) none) Set.univ (f a) Q') :
    R ⊢ wp frame (wpE (defs₀ (F := F)) Variants.none (c : Thread nD τ) none) Set.univ (p.bind f) Q' := by
  refine BIBase.Entails.trans (Q := iprop(R ∗ emp)) (by iintro H; isplitl [H]; · iexact H
                                                        iempintro) (piece h fun a => ?_)
  refine BIBase.Entails.trans ?_ (k a)
  iintro ⟨H, _⟩
  iexact H

/-- A fact kept beside what is held is at hand. -/
theorem with_fact {φ : Prop} {R P X : sProp (MT nD τ sig Unit (Elt F) ℕ (Pipeline.UD sig nD τ) ℕ)} (h : φ → (iprop(R ∗ P) ⊢ X)) : iprop(R ∗ ⌜φ⌝ ∗ P) ⊢ X := by
  iintro ⟨HR, %hφ, HP⟩
  iapply (h hφ)
  isplitl [HR] <;> iassumption

section Body
variable (c : Dev nD) (V : Hid F) (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole)
variable (harg5 : hidM.IsWhole) (harg13 : bufM.IsWhole) (harg14 : wrepM.IsWhole) (harg15 : vrawM.IsWhole)
variable (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))

/-- The positions within the span of their own row, by the words of the two tables. -/
def maskOf (p0 p1 l0 l1 : Elt F .i32) : IVec S16x128 1 :=
  k0_pay166 (F := F) p0 p1 (Scalar.addi p0 l0) (Scalar.addi p1 l1) (iota .tc S16x128 32 [0] iota_S16x128_d0_w32) (iota .tc S16x128 32 [1] iota_S16x128_d1_w32) 2#32 k0_pay160 k0_pay161 k0_pay162

/-- The first result, row by row of the rows of products `f`: scaled, shifted and masked. -/
def valsOf (f : Vec F S16x128 .f32) : FVec F S16x128 .f32 :=
  k0_pay168 (maskOf (word c arg0 f0 0) (word c arg0 f0 1) (word c arg1 f1 0) (word c arg1 f1 1)) f
    (arg7.view.readAt (Elt F) (Rect.unit (s := S2x1024) ![0, 0] S2x128.size inb_S2x1024_S2x128_0_0).toLoadRect f7)
    (arg7.view.readAt (Elt F) (Rect.unit (s := S2x1024) ![0, 128] S2x128.size inb_S2x1024_S2x128_0_128).toLoadRect f7)
    (arg7.view.readAt (Elt F) (Rect.unit (s := S2x1024) ![0, 256] S2x128.size inb_S2x1024_S2x128_0_256).toLoadRect f7)
    (arg7.view.readAt (Elt F) (Rect.unit (s := S2x1024) ![0, 384] S2x128.size inb_S2x1024_S2x128_0_384).toLoadRect f7)
    (arg7.view.readAt (Elt F) (Rect.unit (s := S2x1024) ![0, 512] S2x128.size inb_S2x1024_S2x128_0_512).toLoadRect f7)
    (arg7.view.readAt (Elt F) (Rect.unit (s := S2x1024) ![0, 640] S2x128.size inb_S2x1024_S2x128_0_640).toLoadRect f7)
    (arg7.view.readAt (Elt F) (Rect.unit (s := S2x1024) ![0, 768] S2x128.size inb_S2x1024_S2x128_0_768).toLoadRect f7)
    (arg7.view.readAt (Elt F) (Rect.unit (s := S2x1024) ![0, 896] S2x128.size inb_S2x1024_S2x128_0_896).toLoadRect f7)
    (arg3.view.readAt (Elt F) (Rect.unit (s := S1) ![0] S1.size inb_S1_S1_0).toLoadRect f3 (Shape.Idx.first (by rw [show (Rect.unit (s := S1) ![0] S1.size inb_S1_S1_0).shape.numel = 1 from numel1_S1]; exact Nat.one_pos)))
    (arg4.view.readAt (Elt F) (Rect.unit (s := S1) ![0] S1.size inb_S1_S1_0).toLoadRect f4 (Shape.Idx.first (by rw [show (Rect.unit (s := S1) ![0] S1.size inb_S1_S1_0).shape.numel = 1 from numel1_S1]; exact Nat.one_pos)))

/-- Rows of 128 laid out as rows of 1024: the first `k` of eight pieces. -/
def Laid (v : FVec F S16x128 .f32) (k : ℕ) (X : S2x1024.Idx → Elt F .f32) : Prop :=
  ∀ (i : S2x1024.Idx) (p : S16x128.Idx), (i 1).val < 128 * k → (p 0).val = 2 * ((i 1).val / 128) + (i 0).val → (p 1).val = (i 1).val % 128 → X i = v p

/-- A further piece laid down. -/
theorem laid_store {arg : Memref sig .tc .vmem S2x1024 .f32} {c : Dev nD} {v : FVec F S16x128 .f32} {k : ℕ} {f : Buf (Elt F) (arg.view.loc (c : Thread nD τ))}
    {L : List (View.Piece (Elt F) S2x1024 .f32)} (h : Laid v k (arg.view.read (Elt F) (arg.view.writes (Elt F) f L)))
    {off off' : Fin 2 → ℕ} (inb : ∀ a, off a + S2x128.size a ≤ S2x1024.size a) (hs : S16x128.Slices off' S2x128) (ho : off = ![0, 128 * k]) (ho' : off' = ![2 * k, 0]) :
    Laid v (k + 1) (arg.view.read (Elt F) (arg.view.writes (Elt F) f (⟨Rect.unit (s := S2x1024) off S2x128.size inb, extractStridedSlice S2x128 off' v hs⟩ :: L))) := by
  subst ho ho'
  intro i p hi hp0 hp1
  have h0 : (i 0).val < 2 := (i 0).isLt
  by_cases hk : (i 1).val < 128 * k
  · exact (View.read_writes_cons_unit_of_not_mem arg.view f inb _ L i rfl 1 (Or.inl hk)).trans (h i p hk hp0 hp1)
  · have hx : ∀ a : Fin 2, (![(i 0).val, (i 1).val - 128 * k] : Fin 2 → ℕ) a < S2x128.size a := by
      intro a
      fin_cases a
      · exact h0
      · show (i 1).val - 128 * k < 128
        omega
    refine (View.read_writes_cons_unit_of_mem arg.view f inb _ L i (fun a => ⟨(![(i 0).val, (i 1).val - 128 * k] : Fin 2 → ℕ) a, hx a⟩) rfl ?_).trans ?_
    · intro a
      fin_cases a
      · show (i 0).val = 0 + (i 0).val
        omega
      · show (i 1).val = 128 * k + ((i 1).val - 128 * k)
        omega
    refine congrArg v (funext fun a => Fin.ext ?_)
    fin_cases a
    · show 2 * k + (i 0).val = (p 0).val
      omega
    · show 0 + ((i 1).val - 128 * k) = (p 1).val
      omega

/-- The mask. -/
theorem part34_run (v0 v1 : Elt F .i32) (v4 v7 : BitVec 32) (v1093 v1094 : IVec S16x128 32) (c2 : BitVec 32) (v1096 v1099 : IVec S16x128 32) (v1101 : IVec S16x128 1) :
    (iprop(emp) : sProp 𝕄) ⊢ wp frame (wpE (defs₀ (F := F)) Variants.none (c : Thread nD τ) none) Set.univ (k0_part34_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v4 v7 v1093 v1094 c2 v1096 v1099 v1101)
      (fun x => iprop(⌜x.2.2.2 = k0_pay166 (F := F) v0 v1 v4 v7 v1093 v1094 c2 v1096 v1099 v1101⌝ ∗ emp)) := by
  unfold k0_part34_skel
  iintro H
  sl_step
  isplitr
  · ipureintro; rfl
  iempintro

/-- The rows of products read whole. -/
theorem vraw_whole (f : Vec F S16x128 .f32) :
    View.readAt (Elt F) vrawM.view (Rect.unit (s := S16x128) ![0, 0] S16x128.size inb_S16x128_S16x128_0_0).toLoadRect f = f :=
  Memref.readAt_unit_zero (Elt F) cc0_scratch2 (funext fun a => by fin_cases a <;> rfl) _ f

/-- The first result computed. -/
theorem part35_run (v1139 v1148 : IVec S16x128 1) (f : Vec F S16x128 .f32) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (vrawM.view.loc (c : Thread nD τ) ↦{fullShare} f)) : sProp 𝕄) ⊢ wp frame (wpE (defs₀ (F := F)) Variants.none (c : Thread nD τ) none) Set.univ (k0_part35_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v1139 v1148)
      (fun x => iprop(⌜x.2.1 = k0_pay168 v1148 f (arg7.view.readAt (Elt F) (Rect.unit (s := S2x1024) ![0, 0] S2x128.size inb_S2x1024_S2x128_0_0).toLoadRect f7) (arg7.view.readAt (Elt F) (Rect.unit (s := S2x1024) ![0, 128] S2x128.size inb_S2x1024_S2x128_0_128).toLoadRect f7) (arg7.view.readAt (Elt F) (Rect.unit (s := S2x1024) ![0, 256] S2x128.size inb_S2x1024_S2x128_0_256).toLoadRect f7) (arg7.view.readAt (Elt F) (Rect.unit (s := S2x1024) ![0, 384] S2x128.size inb_S2x1024_S2x128_0_384).toLoadRect f7) (arg7.view.readAt (Elt F) (Rect.unit (s := S2x1024) ![0, 512] S2x128.size inb_S2x1024_S2x128_0_512).toLoadRect f7) (arg7.view.readAt (Elt F) (Rect.unit (s := S2x1024) ![0, 640] S2x128.size inb_S2x1024_S2x128_0_640).toLoadRect f7) (arg7.view.readAt (Elt F) (Rect.unit (s := S2x1024) ![0, 768] S2x128.size inb_S2x1024_S2x128_0_768).toLoadRect f7) (arg7.view.readAt (Elt F) (Rect.unit (s := S2x1024) ![0, 896] S2x128.size inb_S2x1024_S2x128_0_896).toLoadRect f7) (arg3.view.readAt (Elt F) (Rect.unit (s := S1) ![0] S1.size inb_S1_S1_0).toLoadRect f3 (Shape.Idx.first (by rw [show (Rect.unit (s := S1) ![0] S1.size inb_S1_S1_0).shape.numel = 1 from numel1_S1]; exact Nat.one_pos))) (arg4.view.readAt (Elt F) (Rect.unit (s := S1) ![0] S1.size inb_S1_S1_0).toLoadRect f4 (Shape.Idx.first (by rw [show (Rect.unit (s := S1) ![0] S1.size inb_S1_S1_0).shape.numel = 1 from numel1_S1]; exact Nat.one_pos)))⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (vrawM.view.loc (c : Thread nD τ) ↦{fullShare} f))) := by
  have hv := vraw_whole f
  unfold k0_part35_skel
  iintro ⟨H2, H3, H4, H7, H8, HV⟩
  sl_exec
  sl_step
  isplitr
  · ipureintro
    dsimp only
    rfl
  isplitl [H2]; · iexact H2
  isplitl [H3]; · iexact H3
  isplitl [H4]; · iexact H4
  isplitl [H7]; · iexact H7
  isplitl [H8] <;> iassumption
end Body
end Cert.Kernel.Critic
end
-- ==== Proof.Body.lean ====
module

public import proofs.«01_k».proof.Proof.Tail

/-!
# The whole kernel body

The pieces of the body put together: from the inputs, the array in memory and the scratch buffers, the body runs to its
end, gives everything back, and leaves in the first result the masked, scaled products of the rows in flight.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.Kernel.Gen

variable {F : FTy → Type} [FloatOps F]

local notation "𝕄" => MT nD τ sig Unit (Elt F) ℕ (Pipeline.UD sig nD τ) ℕ

/-- A fact kept first is at hand. -/
theorem fact_first {φ : Prop} {P X : sProp (MT nD τ sig Unit (Elt F) ℕ (Pipeline.UD sig nD τ) ℕ)} (h : φ → (P ⊢ X)) : iprop(⌜φ⌝ ∗ P) ⊢ X := by
  iintro ⟨%hφ, HP⟩
  iapply (h hφ)
  iexact HP

/-- A piece that computes words only, of which a fact is kept. -/
theorem piece0 {c : Dev nD} {α β : Type} {φ : α → Prop} {R : sProp (MT nD τ sig Unit (Elt F) ℕ (Pipeline.UD sig nD τ) ℕ)} {Q' : β → sProp (MT nD τ sig Unit (Elt F) ℕ (Pipeline.UD sig nD τ) ℕ)}
    {p : Prog (TpuEff nD τ sig (Elt F) Λ₀ .tc) α} {f : α → Prog (TpuEff nD τ sig (Elt F) Λ₀ .tc) β}
    (h : (iprop(emp) : sProp (MT nD τ sig Unit (Elt F) ℕ (Pipeline.UD sig nD τ) ℕ)) ⊢ wp frame (wpE (defs₀ (F := F)) Variants.none (c : Thread nD τ) none) Set.univ p (fun a => iprop(⌜φ a⌝ ∗ emp))) (k : ∀ a, φ a → (R ⊢ wp frame (wpE (defs₀ (F := F)) Variants.none (c : Thread nD τ) none) Set.univ (f a) Q')) :
    R ⊢ wp frame (wpE (defs₀ (F := F)) Variants.none (c : Thread nD τ) none) Set.univ (p.bind f) Q' := by
  refine BIBase.Entails.trans (Q := iprop(R ∗ emp)) (by iintro H; isplitl [H]; · iexact H
                                                        iempintro) (piece h fun a => with_fact fun hφ => ?_)
  refine BIBase.Entails.trans ?_ (k a hφ)
  iintro ⟨H, _⟩
  iexact H

/-- Nothing beside what is held. -/
theorem emp_beside {P : sProp (MT nD τ sig Unit (Elt F) ℕ (Pipeline.UD sig nD τ) ℕ)} : P ⊢ iprop(emp ∗ P) := by
  iintro H
  isplitr
  · iempintro
  iexact H

section Body
variable (c : Dev nD) (V : Hid F) (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole)
variable (harg5 : hidM.IsWhole) (harg13 : bufM.IsWhole) (harg14 : wrepM.IsWhole) (harg15 : vrawM.IsWhole)
variable (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))

/-- What the body holds at its end, the last piece of the third result apart. -/
def bodyEnd : sProp 𝕄 :=
  iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
    ∗ (∃ (Wc : Vec F S32x16384 .fp8e4m3) (f : Vec F S16x128 .f32) (g10 : Buf (Elt F) (arg10.view.loc (c : Thread nD τ))),
        ⌜Filled (arg6.view.read (Elt F) f6) 128 Wc ∧ RowsOk V Wc (spans (word c arg0 f0 0) (word c arg0 f0 1) (word c arg0 f0 0) (word c arg1 f1 0) (word c arg0 f0 1) (word c arg1 f1 1)) (spans (word c arg0 f0 0) (word c arg0 f0 1) (word c arg0 f0 0) (word c arg1 f1 0) (word c arg0 f0 1) (word c arg1 f1 1)).nit f
          ∧ Laid (valsOf c arg0 arg1 arg3 arg4 arg7 f0 f1 f3 f4 f7 f) 8 (arg10.view.read (Elt F) g10)⌝
        ∗ (arg10.view.loc (c : Thread nD τ) ↦[arg10.view.set]{fullShare} g10) ∗ (wrepM.view.loc (c : Thread nD τ) ↦{fullShare} Wc) ∗ (vrawM.view.loc (c : Thread nD τ) ↦{fullShare} f))
    ∗ (∃ g11, (arg11.view.loc (c : Thread nD τ) ↦[arg11.view.set]{fullShare} g11)) ∗ (∃ g12, (arg12.view.loc (c : Thread nD τ) ↦[arg12.view.set]{fullShare} g12))
    ∗ (semsIdle c ∗ both c V Finset.univ) ∗ (∃ Wt, owes (c : Thread nD τ) 0 Wt))

set_option maxHeartbeats 4000000 in
/-- The body up to its last store. -/
theorem part41_run :
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f))
      ⊢ wp frame (wpE (defs₀ (F := F)) Variants.none (c : Thread nD τ) none) Set.univ (k0_part41_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3)
        (fun _ => bodyEnd c V arg0 arg1 arg2 arg3 arg4 arg6 arg7 arg8 arg9 arg10 arg11 arg12 f0 f1 f2 f3 f4 f6 f7 f8 f9) := by
  unfold k0_part41_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f)) ∗ ((arg0.view.loc (c : Thread nD τ) ↦[arg0.view.set]{fullShare} f0) ∗ (arg1.view.loc (c : Thread nD τ) ↦[arg1.view.set]{fullShare} f1)))) ?_ ?_
  · iintro ⟨H0, H1, H⟩
    isplitl [H]
    · iexact H
    isplitl [H0] <;> iassumption
  refine piece (part3_run c arg0 harg0 arg1 harg1 arg2 harg2 arg3 harg3 arg4 harg4 arg6 harg6 arg7 harg7 arg8 harg8 arg9 harg9 arg10 harg10 arg11 harg11 arg12 harg12 harg5 harg13 harg14 harg15 f0 f1) ?_
  rintro ⟨v0, v1, v2, v3, v4, v5, v6, k0_hw1, v7, v11, v13, v15, v17, v19, v20, v34, v35⟩
  refine with_fact fun hx => ?_
  simp only at hx
  obtain ⟨rfl, rfl, rfl, rfl, rfl, rfl, rfl, rfl⟩ := hx
  refine pureWords (part4_run c arg0 harg0 arg1 harg1 arg2 harg2 arg3 harg3 arg4 harg4 arg6 harg6 arg7 harg7 arg8 harg8 arg9 harg9 arg10 harg10 arg11 harg11 arg12 harg12 harg5 harg13 harg14 harg15 _ _ _ _ _ _ _ _) ?_
  rintro ⟨v36, v53, v74, v75, v76⟩
  refine pureWords (part5_run c arg0 harg0 arg1 harg1 arg2 harg2 arg3 harg3 arg4 harg4 arg6 harg6 arg7 harg7 arg8 harg8 arg9 harg9 arg10 harg10 arg11 harg11 arg12 harg12 harg5 harg13 harg14 harg15 _ _ _ _) ?_
  rintro ⟨v95, v112, c4_i32_50, v113, v118⟩
  refine pureWords (part6_run c arg0 harg0 arg1 harg1 arg2 harg2 arg3 harg3 arg4 harg4 arg6 harg6 arg7 harg7 arg8 harg8 arg9 harg9 arg10 harg10 arg11 harg11 arg12 harg12 harg5 harg13 harg14 harg15 _ _ _ _ _ _ _ _ _) ?_
  rintro ⟨v129, v151, v152, v154, c4_i32_71, v155, v157, c0_i32_73⟩
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1) ∗ (∃ Wt, owes (c : Thread nD τ) 0 Wt) ∗ (∃ f, vrawM.view.loc (c : Thread nD τ) ↦{fullShare} f)) ∗ ((semsIdle c ∗ both c V Finset.univ) ∗ fill iprop(emp) c arg6 f6 0))) ?_ ?_
  · unfold fill
    iintro ⟨⟨H2, H3, H4, H6, H7, H8, H9, H10, H11, H12, HS, HO, ⟨%fw, HW⟩, HV⟩, H0, H1⟩
    isplitl [H2 H3 H4 H7 H8 H9 H10 H11 H12 H0 H1 HO HV]
    · isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H0]; · iexact H0
      isplitl [H1]; · iexact H1
      isplitl [HO] <;> iassumption
    isplitl [HS]; · iexact HS
    isplitr; · iempintro
    isplitl [H6]; · iexact H6
    iexists fw
    isplitr
    · ipureintro
      intro p y h
      exact absurd h (by omega)
    iexact HW
  refine piece (part7_run c V arg0 harg0 arg1 harg1 arg2 harg2 arg3 harg3 arg4 harg4 arg6 harg6 arg7 harg7 arg8 harg8 arg9 harg9 arg10 harg10 arg11 harg11 arg12 harg12 harg5 harg13 harg14 harg15 _ _ _ _ _ _ k0_hw1 _ _ _ _ _ _ _ f6 _ _ _ _ _ _) ?_
  rintro ⟨v174, v193⟩
  refine with_fact fun hr7 => ?_
  simp only at hr7
  obtain ⟨h8, h9, h10, h11, h12, h13, h14, h15, h16, h17, h18, h19, h20, h21, h22, h23, h24, h25, h26, h27, h28, h29, h30, h31, h32⟩ := fill_parts c arg6 f6 arg0 harg0 arg1 harg1 arg2 harg2 arg3 harg3 arg4 harg4 harg6 arg7 harg7 arg8 harg8 arg9 harg9 arg10 harg10 arg11 harg11 arg12 harg12 harg5 harg13 harg14 harg15
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1) ∗ (∃ Wt, owes (c : Thread nD τ) 0 Wt) ∗ (∃ f, vrawM.view.loc (c : Thread nD τ) ↦{fullShare} f) ∗ chunks c V (spans (word c arg0 f0 0) (word c arg0 f0 1) (word c arg0 f0 0) (word c arg1 f1 0) (word c arg0 f0 1) (word c arg1 f1 1)) (flying (spans (word c arg0 f0 0) (word c arg0 f0 1) (word c arg0 f0 0) (word c arg1 f1 0) (word c arg0 f0 1) (word c arg1 f1 1)) 0 (spans (word c arg0 f0 0) (word c arg0 f0 1) (word c arg0 f0 0) (word c arg1 f1 0) (word c arg0 f0 1) (word c arg1 f1 1)).nit)) ∗ fill iprop(emp) c arg6 f6 1)) ?_ ?_
  · iintro ⟨⟨H2, H3, H4, H7, H8, H9, H10, H11, H12, H0, H1, HO, HV⟩, HS, HF⟩
    isplitr [HF]
    · isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H0]; · iexact H0
      isplitl [H1]; · iexact H1
      isplitl [HO]; · iexact HO
      isplitl [HV] <;> iassumption
    iexact HF
  refine piece (h8 _ _ hr7) fun v => with_fact fun hr8 => ?_
  refine piece (h9 _ _ hr8) fun v => with_fact fun hr9 => ?_
  refine piece (h10 _ _ hr9) fun v => with_fact fun hr10 => ?_
  refine piece (h11 _ _ hr10) fun v => with_fact fun hr11 => ?_
  refine piece (h12 _ _ hr11) fun v => with_fact fun hr12 => ?_
  refine piece (h13 _ _ hr12) fun v => with_fact fun hr13 => ?_
  refine piece (h14 _ _ hr13) fun v => with_fact fun hr14 => ?_
  refine piece (h15 _ _ hr14) fun v => with_fact fun hr15 => ?_
  refine piece (h16 _ _ hr15) fun v => with_fact fun hr16 => ?_
  refine piece (h17 _ _ hr16) fun v => with_fact fun hr17 => ?_
  refine piece (h18 _ _ hr17) fun v => with_fact fun hr18 => ?_
  refine piece (h19 _ _ hr18) fun v => with_fact fun hr19 => ?_
  refine piece (h20 _ _ hr19) fun v => with_fact fun hr20 => ?_
  refine piece (h21 _ _ hr20) fun v => with_fact fun hr21 => ?_
  refine piece (h22 _ _ hr21) fun v => with_fact fun hr22 => ?_
  refine piece (h23 _ _ hr22) fun v => with_fact fun hr23 => ?_
  refine piece (h24 _ _ hr23) fun v => with_fact fun hr24 => ?_
  refine piece (h25 _ _ hr24) fun v => with_fact fun hr25 => ?_
  refine piece (h26 _ _ hr25) fun v => with_fact fun hr26 => ?_
  refine piece (h27 _ _ hr26) fun v => with_fact fun hr27 => ?_
  refine piece (h28 _ _ hr27) fun v => with_fact fun hr28 => ?_
  refine piece (h29 _ _ hr28) fun v => with_fact fun hr29 => ?_
  refine piece (h30 _ _ hr29) fun v => with_fact fun hr30 => ?_
  refine piece (h31 _ _ hr30) fun v => with_fact fun hr31 => ?_
  refine piece (h32 _ _ hr31) fun v => with_fact fun hr32 => ?_
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1)) ∗ (chunks c V (spans (word c arg0 f0 0) (word c arg0 f0 1) (word c arg0 f0 0) (word c arg1 f1 0) (word c arg0 f0 1) (word c arg1 f1 1)) (flying (spans (word c arg0 f0 0) (word c arg0 f0 1) (word c arg0 f0 0) (word c arg1 f1 0) (word c arg0 f0 1) (word c arg1 f1 1)) 0 (spans (word c arg0 f0 0) (word c arg0 f0 1) (word c arg0 f0 0) (word c arg1 f1 0) (word c arg0 f0 1) (word c arg1 f1 1)).nit) ∗ fill iprop(emp) c arg6 f6 126 ∗ (∃ Wt, owes (c : Thread nD τ) 0 Wt) ∗ (∃ f, vrawM.view.loc (c : Thread nD τ) ↦{fullShare} f)))) ?_ ?_
  · iintro ⟨⟨H2, H3, H4, H7, H8, H9, H10, H11, H12, H0, H1, HO, HV, HS⟩, HF⟩
    isplitl [H2 H3 H4 H7 H8 H9 H10 H11 H12 H0 H1]
    · isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H0] <;> iassumption
    isplitl [HS]; · iexact HS
    isplitl [HF]; · iexact HF
    isplitl [HO] <;> iassumption
  refine piece (part33_run c V arg0 harg0 arg1 harg1 arg2 harg2 arg3 harg3 arg4 harg4 arg6 harg6 arg7 harg7 arg8 harg8 arg9 harg9 arg10 harg10 arg11 harg11 arg12 harg12 harg5 harg13 harg14 harg15 _ _ _ _ _ _ k0_hw1 _ _ _ _ _ _ _ f6 _ _ hr32) fun r => with_fact fun hr => ?_
  subst hr
  clear h8 h9 h10 h11 h12 h13 h14 h15 h16 h17 h18 h19 h20 h21 h22 h23 h24 h25 h26 h27 h28 h29 h30 h31 h32 hr7 hr8 hr9 hr10 hr11 hr12 hr13 hr14 hr15 hr16 hr17 hr18 hr19 hr20 hr21 hr22 hr23 hr24 hr25 hr26 hr27 hr28 hr29 hr30 hr31 hr32
  refine BIBase.Entails.trans (Q := iprop(∃ (Wc : Vec F S32x16384 .fp8e4m3) (f : Vec F S16x128 .f32), ⌜Filled (arg6.view.read (Elt F) f6) 128 Wc ∧ RowsOk V Wc (spans (word c arg0 f0 0) (word c arg0 f0 1) (word c arg0 f0 0) (word c arg1 f1 0) (word c arg0 f0 1) (word c arg1 f1 1)) (spans (word c arg0 f0 0) (word c arg0 f0 1) (word c arg0 f0 0) (word c arg1 f1 0) (word c arg0 f0 1) (word c arg1 f1 1)).nit f⌝ ∗ ((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1) ∗ (semsIdle c ∗ both c V Finset.univ) ∗ (∃ Wt, owes (c : Thread nD τ) 0 Wt) ∗ (arg6.view.loc (c : Thread nD τ) ↦[arg6.view.set]{fullShare} f6) ∗ (wrepM.view.loc (c : Thread nD τ) ↦{fullShare} Wc)) ∗ ((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (vrawM.view.loc (c : Thread nD τ) ↦{fullShare} f)))) ?_ ?_
  · iintro ⟨⟨H2, H3, H4, H7, H8, H9, H10, H11, H12, H0, H1⟩, HS, HO, H6, %Wc, %f, %hf, HW, HV⟩
    iexists Wc
    iexists f
    isplitr
    · ipureintro; exact hf
    isplitl [H9 H10 H11 H12 H0 H1 HS HO H6 HW]
    · isplitl [H9]; · iexact H9
      isplitl [H10]; · iexact H10
      isplitl [H11]; · iexact H11
      isplitl [H12]; · iexact H12
      isplitl [H0]; · iexact H0
      isplitl [H1]; · iexact H1
      isplitl [HS]; · iexact HS
      isplitl [HO]; · iexact HO
      isplitl [H6] <;> iassumption
    isplitl [H2]; · iexact H2
    isplitl [H3]; · iexact H3
    isplitl [H4]; · iexact H4
    isplitl [H7]; · iexact H7
    isplitl [H8] <;> iassumption
  refine exists_elim fun Wc => exists_elim fun f => fact_first fun hf => ?_
  refine piece0 (part34_run c arg0 harg0 arg1 harg1 arg2 harg2 arg3 harg3 arg4 harg4 arg6 harg6 arg7 harg7 arg8 harg8 arg9 harg9 arg10 harg10 arg11 harg11 arg12 harg12 harg5 harg13 harg14 harg15 _ _ _ _ _ _ _ _ _ _) ?_
  rintro ⟨v1121, v1139, v1145, v1148⟩ hm
  simp only at hm
  refine piece (part35_run c arg0 harg0 arg1 harg1 arg2 harg2 arg3 harg3 arg4 harg4 arg6 harg6 arg7 harg7 arg8 harg8 arg9 harg9 arg10 harg10 arg11 harg11 arg12 harg12 harg5 harg13 harg14 harg15 f2 f3 f4 f7 f8 v1139 v1148 f) ?_
  rintro ⟨v1153, v1172, v1174, v1176, v1178⟩
  refine with_fact fun hE => ?_
  simp only at hE
  have hE' : v1172 = valsOf c arg0 arg1 arg3 arg4 arg7 f0 f1 f3 f4 f7 f := by
    rw [hE, hm]
    rfl
  clear hE hm
  iintro ⟨⟨H9, H10, H11, H12, H0, H1, HS, HO, H6, HW⟩, H2, H3, H4, H7, H8, HV⟩
  sl_exec
  sl_step
  unfold bodyEnd
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10 HW HV]
  · iexists Wc
    iexists f
    iexists _
    isplitr
    rotate_left
    · isplitl [H10]; · iexact H10
      isplitl [HW] <;> iassumption
    ipureintro
    refine ⟨hf.1, hf.2, ?_⟩
    rw [← hE']
    refine laid_store (k := 7) ?_ _ slices_S16x128_o14_0_S2x128 rfl rfl
    refine laid_store (k := 6) ?_ _ slices_S16x128_o12_0_S2x128 rfl rfl
    refine laid_store (k := 5) ?_ _ slices_S16x128_o10_0_S2x128 rfl rfl
    refine laid_store (k := 4) ?_ _ slices_S16x128_o8_0_S2x128 rfl rfl
    refine laid_store (k := 3) ?_ _ slices_S16x128_o6_0_S2x128 rfl rfl
    refine laid_store (k := 2) ?_ _ slices_S16x128_o4_0_S2x128 rfl rfl
    refine laid_store (k := 1) ?_ _ slices_S16x128_o2_0_S2x128 rfl rfl
    refine laid_store (k := 0) (fun i p h => absurd h (by omega)) _ slices_S16x128_o0_0_S2x128 rfl rfl
  isplitl [H11]
  · iexists _
    iexact H11
  isplitl [H12]
  · iexists _
    iexact H12
  isplitl [HS] <;> iassumption

set_option maxHeartbeats 4000000 in
/-- The whole body: everything it is given comes back, the first result as stated. -/
theorem kernelRun :
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f))
      ⊢ wp frame (wpE (defs₀ (F := F)) Variants.none (c : Thread nD τ) none) Set.univ (cc0_ppo_critic (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3) (fun _ => bodyEnd c V arg0 arg1 arg2 arg3 arg4 arg6 arg7 arg8 arg9 arg10 arg11 arg12 f0 f1 f2 f3 f4 f6 f7 f8 f9) := by
  rw [cc0_ppo_critic_eq_skeleton]
  unfold cc0_ppo_critic_skel
  rw [k0_part41_eq_skeleton]
  refine BIBase.Entails.trans (Q := iprop(emp ∗ ((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f)))) emp_beside ?_
  refine piece (part41_run c V arg0 harg0 arg1 harg1 arg2 harg2 arg3 harg3 arg4 harg4 arg6 harg6 arg7 harg7 arg8 harg8 arg9 harg9 arg10 harg10 arg11 harg11 arg12 harg12 harg5 harg13 harg14 harg15 f0 f1 f2 f3 f4 f6 f7 f8 f9 f10 f11 f12) ?_
  intro v
  unfold bodyEnd
  iintro ⟨_, H0, H1, H2, H3, H4, H6, H7, H8, H9, HR, H11, ⟨%g12, H12⟩, HS⟩
  sl_exec
  sl_step
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [HR]; · iexact HR
  isplitl [H11]; · iexact H11
  isplitl [H12]
  · iexists _
    iexact H12
  iexact HS
end Body
end Cert.Kernel.Critic
end
-- ==== Proof.Frame.lean ====
module

public import proofs.«01_k».proof.Proof.Body
public import proofs.«01_k».proof.Proof.Gen.Kernel.Frame
public import Idealize.ShloMosaic.Lib.Pipeline.DatRel
public import Idealize.ShloMosaic.Lib.Pipeline.ArrRel

/-!
# The run of the whole program

The launch, the one grid point and the end: the program terminates, nothing faults, the arguments end unchanged, every
semaphore ends at zero, and the first result holds the masked, scaled products of the rows in flight.
-/

@[expose] public section

noncomputable section

namespace Cert.Kernel.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.Critic Cert.Kernel.Gen

variable {F : FTy → Type} [FloatOps F]

local notation "𝕄" => MT nD τ sig Unit (Elt F) ℕ (Pipeline.UD sig nD τ) ℕ

/-! ## What the first result holds, by the contents of the arguments -/

/-- Word `k` of a table. -/
def tab (X : S2.Idx → Elt F .i32) (k : Fin 2) : Elt F .i32 :=
  X (fun a => ⟨k.val, (by fin_cases a; exact k.isLt : k.val < S2.size a)⟩)

/-- The lanes of the first result, row by row of the rows of products `f`. -/
def Vals (X0 X1 : S2.Idx → Elt F .i32) (X3 X4 : S1.Idx → Elt F .f32) (X7 : S2x1024.Idx → Elt F .f32) (f : Vec F S16x128 .f32) : FVec F S16x128 .f32 :=
  k0_pay168 (maskOf (tab X0 0) (tab X0 1) (tab X1 0) (tab X1 1)) f
    (fun x => X7 ((Rect.unit (s := S2x1024) ![0, 0] S2x128.size inb_S2x1024_S2x128_0_0).toLoadRect.idx x))
    (fun x => X7 ((Rect.unit (s := S2x1024) ![0, 128] S2x128.size inb_S2x1024_S2x128_0_128).toLoadRect.idx x))
    (fun x => X7 ((Rect.unit (s := S2x1024) ![0, 256] S2x128.size inb_S2x1024_S2x128_0_256).toLoadRect.idx x))
    (fun x => X7 ((Rect.unit (s := S2x1024) ![0, 384] S2x128.size inb_S2x1024_S2x128_0_384).toLoadRect.idx x))
    (fun x => X7 ((Rect.unit (s := S2x1024) ![0, 512] S2x128.size inb_S2x1024_S2x128_0_512).toLoadRect.idx x))
    (fun x => X7 ((Rect.unit (s := S2x1024) ![0, 640] S2x128.size inb_S2x1024_S2x128_0_640).toLoadRect.idx x))
    (fun x => X7 ((Rect.unit (s := S2x1024) ![0, 768] S2x128.size inb_S2x1024_S2x128_0_768).toLoadRect.idx x))
    (fun x => X7 ((Rect.unit (s := S2x1024) ![0, 896] S2x128.size inb_S2x1024_S2x128_0_896).toLoadRect.idx x))
    (X3 ((Rect.unit (s := S1) ![0] S1.size inb_S1_S1_0).toLoadRect.idx (Shape.Idx.first (by rw [show (Rect.unit (s := S1) ![0] S1.size inb_S1_S1_0).shape.numel = 1 from numel1_S1]; exact Nat.one_pos))))
    (X4 ((Rect.unit (s := S1) ![0] S1.size inb_S1_S1_0).toLoadRect.idx (Shape.Idx.first (by rw [show (Rect.unit (s := S1) ![0] S1.size inb_S1_S1_0).shape.numel = 1 from numel1_S1]; exact Nat.one_pos))))

/-- The two spans of rows that the tables name. -/
def spansOf (X0 X1 : S2.Idx → Elt F .i32) : Spans := spans (tab X0 0) (tab X0 1) (tab X0 0) (tab X1 0) (tab X0 1) (tab X1 1)

theorem word_eq (c : Dev nD) (arg : Memref sig .tc .smem S2 .i32) (f : Buf (Elt F) (arg.view.loc (c : Thread nD τ))) (k : Fin 2) : word c arg f k = tab (arg.view.read (Elt F) f) k := rfl

theorem vals_eq (c : Dev nD) (arg0 arg1 : Memref sig .tc .smem S2 .i32) (arg3 arg4 : Memref sig .tc .smem S1 .f32) (arg7 : Memref sig .tc .vmem S2x1024 .f32) (f0 : Buf (Elt F) (arg0.view.loc (c : Thread nD τ))) (f1 : Buf (Elt F) (arg1.view.loc (c : Thread nD τ))) (f3 : Buf (Elt F) (arg3.view.loc (c : Thread nD τ))) (f4 : Buf (Elt F) (arg4.view.loc (c : Thread nD τ))) (f7 : Buf (Elt F) (arg7.view.loc (c : Thread nD τ))) (f : Vec F S16x128 .f32) :
    valsOf c arg0 arg1 arg3 arg4 arg7 f0 f1 f3 f4 f7 f = Vals (arg0.view.read (Elt F) f0) (arg1.view.read (Elt F) f1) (arg3.view.read (Elt F) f3) (arg4.view.read (Elt F) f4) (arg7.view.read (Elt F) f7) f := by
  unfold valsOf Vals
  simp only [word_eq]
  rfl

/-- What the first result holds: the products of the rows in flight with the replicated weights, scaled, shifted, masked. -/
def Res (V : Hid F) (X0 X1 : S2.Idx → Elt F .i32) (X3 X4 : S1.Idx → Elt F .f32) (X6 : S128x128.Idx → Elt F .fp8e4m3) (X7 X : S2x1024.Idx → Elt F .f32) : Prop :=
  ∃ (Wc : Vec F S32x16384 .fp8e4m3) (f : Vec F S16x128 .f32),
    Filled X6 128 Wc ∧ RowsOk V Wc (spansOf X0 X1) (spansOf X0 X1).nit f ∧ Laid (Vals X0 X1 X3 X4 X7 f) 8 X

variable (m : (ℓ : Loc nD τ sig) → Buf (Elt F) ℓ) (ρ : Dev nD → PrngReg)

/-! ## The invariant and the proof data -/

/-- The body's own semaphores. -/
abbrev osem0 : Fin 16 → SemLoc sig := fun q => SemLoc.dma (cellOf q)
theorem ownSemFacts0 : Pipeline.OwnSemFacts spec0 osem0 := by decide
/-- The buffer that the body reads itself. -/
abbrev H0 : Finset (Ref sig .tc) := {main_arg0}
theorem H0_sub : H0 ⊆ Pipeline.restRefs sig spec0 := by decide

/-- The invariant, piece by piece: the scratch buffers, the generator, the semaphores at rest, the array. -/
def Inv (c : Dev nD) : sProp 𝕄 :=
  iprop(((∃ g, bufPt c Finset.univ g) ∗ (∃ f, wrepM.view.loc (c : Thread nD τ) ↦{fullShare} f) ∗ (∃ f, vrawM.view.loc (c : Thread nD τ) ↦{fullShare} f))
    ∗ (∃ r, prngReg c r) ∗ semsIdle c ∗ hidPt c Finset.univ (V m c main_arg0))

theorem inv_eq (c : Dev nD) : (Pipeline.ΦD osem0 spec0 H0 (V m) c : sProp 𝕄) = Inv m c := by
  rw [Pipeline.ΦD_eq, scopedRest0_eq, BI.bigSep_singleton]
  rfl

/-- @main up to the region. -/
theorem main_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data: each window's block stays as it was fetched; the results are held to `Rl`. -/
def dats (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦD osem0 spec0 H0 (V m) c
  q _ := fullShare
  owed _ := 0

theorem A_eq (c : Dev nD) (w : Fin cfg0.W) : (dats m c).A w = V m c (Pipeline.arrRef spec0 w) := by dsimp only [dats]

/-- The results' windows. -/
def fgt : Fin cfg0.W → Bool := ![false, false, false, false, false, false, false, false, false, true, true, true]

/-- What is known of the results' windows. -/
def Rl (c : Dev nD) (w : Fin cfg0.W) (t : Fin cfg0.N) : ((cfg0.win w).block.Idx → Elt F (cfg0.win w).elt) → Prop :=
  match w with
  | ⟨9, _⟩ => fun X => Res (V m c main_arg0) (iblk m c 0 t) (iblk m c 1 t) (iblk m c 3 t) (iblk m c 4 t) (iblk m c 5 t) (iblk m c 6 t) X
  | _ => fun _ => True

theorem before_0 (c : Dev nD) (t : Fin cfg0.N) (d) : (dats m c).before 0 t d = iblk m c 0 t :=
  ((dats m c).before_in_eq_fetched 0 rfl (fun _ => rfl) (fun _ _ _ => rfl) (fun t => by unfold Dat.blockOf; rw [A_eq]; rfl) t d).trans
    (by unfold Dat.fetched Dat.blockOf iblk; rw [A_eq]; rfl)
theorem before_1 (c : Dev nD) (t : Fin cfg0.N) (d) : (dats m c).before 1 t d = iblk m c 1 t :=
  ((dats m c).before_in_eq_fetched 1 rfl (fun _ => rfl) (fun _ _ _ => rfl) (fun t => by unfold Dat.blockOf; rw [A_eq]; rfl) t d).trans
    (by unfold Dat.fetched Dat.blockOf iblk; rw [A_eq]; rfl)
theorem before_2 (c : Dev nD) (t : Fin cfg0.N) (d) : (dats m c).before 2 t d = iblk m c 2 t :=
  ((dats m c).before_in_eq_fetched 2 rfl (fun _ => rfl) (fun _ _ _ => rfl) (fun t => by unfold Dat.blockOf; rw [A_eq]; rfl) t d).trans
    (by unfold Dat.fetched Dat.blockOf iblk; rw [A_eq]; rfl)
theorem before_3 (c : Dev nD) (t : Fin cfg0.N) (d) : (dats m c).before 3 t d = iblk m c 3 t :=
  ((dats m c).before_in_eq_fetched 3 rfl (fun _ => rfl) (fun _ _ _ => rfl) (fun t => by unfold Dat.blockOf; rw [A_eq]; rfl) t d).trans
    (by unfold Dat.fetched Dat.blockOf iblk; rw [A_eq]; rfl)
theorem before_4 (c : Dev nD) (t : Fin cfg0.N) (d) : (dats m c).before 4 t d = iblk m c 4 t :=
  ((dats m c).before_in_eq_fetched 4 rfl (fun _ => rfl) (fun _ _ _ => rfl) (fun t => by unfold Dat.blockOf; rw [A_eq]; rfl) t d).trans
    (by unfold Dat.fetched Dat.blockOf iblk; rw [A_eq]; rfl)
theorem before_5 (c : Dev nD) (t : Fin cfg0.N) (d) : (dats m c).before 5 t d = iblk m c 5 t :=
  ((dats m c).before_in_eq_fetched 5 rfl (fun _ => rfl) (fun _ _ _ => rfl) (fun t => by unfold Dat.blockOf; rw [A_eq]; rfl) t d).trans
    (by unfold Dat.fetched Dat.blockOf iblk; rw [A_eq]; rfl)
theorem before_6 (c : Dev nD) (t : Fin cfg0.N) (d) : (dats m c).before 6 t d = iblk m c 6 t :=
  ((dats m c).before_in_eq_fetched 6 rfl (fun _ => rfl) (fun _ _ _ => rfl) (fun t => by unfold Dat.blockOf; rw [A_eq]; rfl) t d).trans
    (by unfold Dat.fetched Dat.blockOf iblk; rw [A_eq]; rfl)
theorem before_7 (c : Dev nD) (t : Fin cfg0.N) (d) : (dats m c).before 7 t d = iblk m c 7 t :=
  ((dats m c).before_in_eq_fetched 7 rfl (fun _ => rfl) (fun _ _ _ => rfl) (fun t => by unfold Dat.blockOf; rw [A_eq]; rfl) t d).trans
    (by unfold Dat.fetched Dat.blockOf iblk; rw [A_eq]; rfl)
theorem before_8 (c : Dev nD) (t : Fin cfg0.N) (d) : (dats m c).before 8 t d = iblk m c 8 t :=
  ((dats m c).before_in_eq_fetched 8 rfl (fun _ => rfl) (fun _ _ _ => rfl) (fun t => by unfold Dat.blockOf; rw [A_eq]; rfl) t d).trans
    (by unfold Dat.fetched Dat.blockOf iblk; rw [A_eq]; rfl)

/-! ## The body at the one point -/

/-- What the body leaves in the first result's window is what the arguments' blocks make of it. -/
theorem res_of (c : Dev nD) (t : Fin cfg0.N) {f0 f1 f3 f4 f5 f6 f9} {Wc : Vec F S32x16384 .fp8e4m3} {f : Vec F S16x128 .f32}
    (hR : Filled ((st0_5 t).view.read (Elt F) f5) 128 Wc
      ∧ RowsOk (V m c main_arg0) Wc (spans (word c (st0_0 t) f0 0) (word c (st0_0 t) f0 1) (word c (st0_0 t) f0 0) (word c (st0_1 t) f1 0) (word c (st0_0 t) f0 1) (word c (st0_1 t) f1 1)) (spans (word c (st0_0 t) f0 0) (word c (st0_0 t) f0 1) (word c (st0_0 t) f0 0) (word c (st0_1 t) f1 0) (word c (st0_0 t) f0 1) (word c (st0_1 t) f1 1)).nit f
      ∧ Laid (valsOf c (st0_0 t) (st0_1 t) (st0_3 t) (st0_4 t) (st0_6 t) f0 f1 f3 f4 f6 f) 8 ((st0_9 t).view.read (Elt F) f9))
    (e0 : (st0_0 t).view.read (Elt F) f0 = iblk m c 0 t)
    (e1 : (st0_1 t).view.read (Elt F) f1 = iblk m c 1 t)
    (e3 : (st0_3 t).view.read (Elt F) f3 = iblk m c 3 t)
    (e4 : (st0_4 t).view.read (Elt F) f4 = iblk m c 4 t)
    (e5 : (st0_5 t).view.read (Elt F) f5 = iblk m c 5 t)
    (e6 : (st0_6 t).view.read (Elt F) f6 = iblk m c 6 t) :
    Rl m c 9 t ((st0_9 t).view.read (Elt F) f9) := by
  show Res _ _ _ _ _ _ _ _
  rw [← e0, ← e1, ← e3, ← e4, ← e5, ← e6]
  obtain ⟨h1, h2, h3⟩ := hR
  refine ⟨Wc, f, h1, ?_, ?_⟩
  · rw [word_eq, word_eq, word_eq, word_eq] at h2
    exact h2
  · rw [vals_eq] at h3
    exact h3

/-- What the body finds. -/
def bodyPre (c : Dev nD) (t : Fin cfg0.N) : sProp 𝕄 :=
  iprop(Inv m c ∗ (dats m c).owesAt () t.castSucc ∗ (∃ d, owns c (st0_0 t) fullShare ((dats m c).before 0 t d)) ∗ (∃ d, owns c (st0_1 t) fullShare ((dats m c).before 1 t d)) ∗ (∃ d, owns c (st0_2 t) fullShare ((dats m c).before 2 t d)) ∗ (∃ d, owns c (st0_3 t) fullShare ((dats m c).before 3 t d)) ∗ (∃ d, owns c (st0_4 t) fullShare ((dats m c).before 4 t d)) ∗ (∃ d, owns c (st0_5 t) fullShare ((dats m c).before 5 t d)) ∗ (∃ d, owns c (st0_6 t) fullShare ((dats m c).before 6 t d)) ∗ (∃ d, owns c (st0_7 t) fullShare ((dats m c).before 7 t d)) ∗ (∃ d, owns c (st0_8 t) fullShare ((dats m c).before 8 t d)) ∗ (∃ Y, ⌜((dats m c).toRRel fgt (Rl m c)).Finds 9 t Y⌝ ∗ owns c (st0_9 t) fullShare Y) ∗ (∃ Y, ⌜((dats m c).toRRel fgt (Rl m c)).Finds 10 t Y⌝ ∗ owns c (st0_10 t) fullShare Y) ∗ (∃ Y, ⌜((dats m c).toRRel fgt (Rl m c)).Finds 11 t Y⌝ ∗ owns c (st0_11 t) fullShare Y))
/-- What the body leaves. -/
def bodyPost (c : Dev nD) (t : Fin cfg0.N) : sProp 𝕄 :=
  iprop(Inv m c ∗ (dats m c).owesAt () t.succ ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare (iblk m c 6 t) ∗ owns c (st0_7 t) fullShare (iblk m c 7 t) ∗ owns c (st0_8 t) fullShare (iblk m c 8 t) ∗ (∃ X, ⌜Rl m c 9 t X⌝ ∗ owns c (st0_9 t) fullShare X) ∗ (∃ X, ⌜Rl m c 10 t X⌝ ∗ owns c (st0_10 t) fullShare X) ∗ (∃ X, ⌜Rl m c 11 t X⌝ ∗ owns c (st0_11 t) fullShare X))

set_option maxHeartbeats 4000000 in
/-- The body, from what the pipeline hands it to what it takes back. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0 Inv
  unfold Dat.owesAt Pipeline.owesWithin
  rw [show (dats m c).owed t.castSucc = 0 from rfl, show (dats m c).owed t.succ = 0 from rfl]
  simp only [before_0, before_1, before_2, before_3, before_4, before_5, before_6, before_7, before_8]
  unfold owns
  iintro ⟨⟨⟨⟨%g, Hbuf⟩, Hw, Hv⟩, Hg, Hsem, Hhid⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%Y9, -, %f9, -, H9⟩, ⟨%Y10, -, %f10, -, H10⟩, ⟨%Y11, -, %f11, -, H11⟩⟩
  iapply (wp_wand_r frame (wpE (defs₀ (F := F)) Variants.none (c : Thread nD τ) none) Set.univ (Q := fun _ => bodyEnd c (V m c main_arg0) (st0_0 t) (st0_1 t) (st0_2 t) (st0_3 t) (st0_4 t) (st0_5 t) (st0_6 t) (st0_7 t) (st0_8 t) (st0_9 t) (st0_10 t) (st0_11 t) f0 f1 f2 f3 f4 f5 f6 f7 f8))
  isplitl [Hbuf Hw Hv Hsem Hhid HW H0 H1 H2 H3 H4 H5 H6 H7 H8 H9 H10 H11]
  · iapply (kernelRun c (V m c main_arg0) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (Memref.isWhole_whole _) (Memref.isWhole_whole _) (Memref.isWhole_whole _) (Memref.isWhole_whole _) f0 f1 f2 f3 f4 f5 f6 f7 f8 f9 f10 f11)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hsem Hhid Hbuf]
    · isplitl [Hsem]; · iexact Hsem
      unfold both
      isplitl [Hhid]; · iexact Hhid
      iexists g; iexact Hbuf
    isplitl [HW]; · iexists W; iexact HW
    isplitl [Hw]; · iexact Hw
    iexact Hv
  iintro %u
  unfold bodyEnd both
  iintro ⟨H0, H1, H2, H3, H4, H5, H6, H7, H8, ⟨%Wc, %f, %g9, %hR, H9, Hw, Hv⟩, ⟨%g10, H10⟩, ⟨%g11, H11⟩, ⟨Hsem, Hhid, Hbuf⟩, ⟨%Wt, HW⟩⟩
  isplitl [Hbuf Hw Hv Hg Hsem Hhid]
  · isplitl [Hbuf Hw Hv]
    · isplitl [Hbuf]; · iexact Hbuf
      isplitl [Hw]; · iexists Wc; iexact Hw
      iexists f; iexact Hv
    isplitl [Hg]; · iexact Hg
    isplitl [Hsem]; · iexact Hsem
    iexact Hhid
  isplitl [HW]
  · iexists Wt; isplitr
    · ipureintro; exact fun _ _ => Or.inl trivial
    iexact HW
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists _; isplitr
    · ipureintro; exact res_of m c t hR e0 e1 e3 e4 e5 e6
    iexists g9; isplitr
    · ipureintro; rfl
    iexact H9
  isplitl [H10]
  · iexists ((st0_10 t).view.read (Elt F) g10); isplitr
    · ipureintro; trivial
    iexists g10; isplitr
    · ipureintro; rfl
    iexact H10
  iexists ((st0_11 t).view.read (Elt F) g11); isplitr
  · ipureintro; trivial
  iexists g11; isplitr
  · ipureintro; rfl
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats m c) (defs₀ (F := F)) Variants.none () Set.univ fgt (Rl m c) := fun t => by
  rw [bigSep_W0, bigSep_W0, defs₀_row]
  exact triple_restated (sound_body m c t) rfl (.of_eq (by rw [show (dats m c).Φ t.castSucc = Inv m c from inv_eq m c]; rfl)) fun _ => (.of_eq (by rw [show (dats m c).Φ t.succ = Inv m c from inv_eq m c]; rfl))

/-! ## The run and the frame -/

/-- The data as relations. -/
abbrev rdats (c : Dev nD) : RDat τ (Elt F) Unit ℕ (Pipeline.UD sig nD τ) ℕ cfg0 c := (dats m c).toRRel fgt (Rl m c)

set_option backward.isDefEq.respectTransparency.types false in
/-- The run: every window's array ends as the data say, every other buffer as it was, every semaphore at zero. -/
theorem run_main : θ_run defs (onTc (τ := τ) (main (F := F))) (s₀ m ρ) (fun r => RDat.FramePost cfg0 (rdats m) (V m) r ∧ r.2.sem = fun _ => 0) :=
  RDat.θ_run_frame_dma (Q' := _) cfgs (0 : Fin 1) launch0 osem0 defs₀ Variants.none (rdats m) ownSemFacts0 H0 H0_sub m ρ main
    (hbody := fun c => (body_obligation m c).toRRel) (hshare := fun c => (dats m c).share_full fun _ => rfl)
    (howed := fun _ _ => rfl) (V := V m) (hmain := main_region m Variants.none) (hA := A_eq m)
    (hin := fun _ => .rfl) (hout := fun _ => .rfl)

/-- The frame: the program terminates, its arguments end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 6 rfl).trans ((A_eq m c 6).trans (V_main_arg1 m c)),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c)),
      (h.1.arr_in c 7 rfl).trans ((A_eq m c 7).trans (V_main_arg5 m c)),
      (h.1.arr_in c 8 rfl).trans ((A_eq m c 8).trans (V_main_arg6 m c)),
      (h.1.arr_in c 2 rfl).trans ((A_eq m c 2).trans (V_main_arg7 m c)),
      (h.1.arr_in c 1 rfl).trans ((A_eq m c 1).trans (V_main_arg8 m c)),
      (h.1.arr_in c 0 rfl).trans ((A_eq m c 0).trans (V_main_arg9 m c))⟩, h.2⟩) (run_main m ρ)

end Cert.Kernel.Critic

end
-- ==== Proof.KernelIdealWords.lean ====
module

public import proofs.«01_k».proof.Proof.Gen.KernelIdeal.Skeleton
public import proofs.«01_k».proof.Proof.Words

/-!
# The printed integers are the schedule's

Every loop bound, block offset and semaphore index that is printed for the kernel is one of the words of `Words`; the
checks the kernel makes of them (each access inside its buffer, each loop's step positive) hold for all arguments.
-/

@[expose] public section

noncomputable section

namespace Cert.KernelIdeal.Critic

open Idealize.ShloMosaic Cert.Critic
open Idealize.ShloMosaic.Affine (IsInt)

section Ties
variable (v0 v1 v2 v3 v5 v6 : BitVec 32)

/-- The first and last positions of the two answers, and the spans between them. -/
abbrev l0 : BitVec 32 := clampW v0
abbrev h0 : BitVec 32 := clampW (Scalar.addi v2 v3)
abbrev l1 : BitVec 32 := clampW v1
abbrev h1 : BitVec 32 := clampW (Scalar.addi v5 v6)

def spans : Spans where
  L0 := (clampW_isInt v0).choose
  H0 := (clampW_isInt (Scalar.addi v2 v3)).choose
  L1 := (clampW_isInt v1).choose
  H1 := (clampW_isInt (Scalar.addi v5 v6)).choose
  hL0 := (clampW_isInt v0).choose_spec.1
  hH0 := (clampW_isInt (Scalar.addi v2 v3)).choose_spec.1
  hL1 := (clampW_isInt v1).choose_spec.1
  hH1 := (clampW_isInt (Scalar.addi v5 v6)).choose_spec.1

theorem spans_of : (spans v0 v1 v2 v3 v5 v6).Of (l0 v0) (h0 v2 v3) (l1 v1) (h1 v5 v6) where
  l0 := (clampW_isInt v0).choose_spec.2.1
  h0 := (clampW_isInt (Scalar.addi v2 v3)).choose_spec.2.1
  l1 := (clampW_isInt v1).choose_spec.2.1
  h1 := (clampW_isInt (Scalar.addi v5 v6)).choose_spec.2.1

abbrev nitV : BitVec 32 := nitW (l0 v0) (h0 v2 v3) (l1 v1) (h1 v5 v6)
abbrev nblkV (t : Nat) : BitVec 32 := nblkW (l0 v0) (h0 v2 v3) (l1 v1) (h1 v5 v6) (itW t)
abbrev cellV (t : Nat) : BitVec 32 := cellW (l0 v0) (h0 v2 v3) (l1 v1) (itW t)
abbrev seqV (t : Nat) : BitVec 32 := seqW (l0 v0) (h0 v2 v3) (itW t)
abbrev rowV (t u : Nat) : BitVec 32 := rowW (l0 v0) (h0 v2 v3) (l1 v1) (itW t) u
abbrev chunkRowV (t : Nat) : BitVec 32 := chunkRowW (l0 v0) (h0 v2 v3) (l1 v1) (itW t)

theorem t1_loop_eq : k0_t1_loop v0 v1 v2 v3 v5 v6 = ⟨0#32, ubW (nitV v0 v1 v2 v3 v5 v6), 1#32⟩ := rfl

theorem t7_loop_eq : k0_t7_loop v0 v1 v2 v3 v5 v6 = ⟨0#32, ubW (nitV v0 v1 v2 v3 v5 v6), 1#32⟩ := rfl

theorem t2_loop_eq (k0_t1 : Fin (k0_t1_loop v0 v1 v2 v3 v5 v6).trips) :
    k0_t2_loop v0 v1 v2 v3 v5 v6 k0_t1 = ⟨0#32, ubW (nblkV v0 v1 v2 v3 v5 v6 k0_t1.val), 1#32⟩ := rfl

theorem t8_loop_eq (k0_t7 : Fin (k0_t7_loop v0 v1 v2 v3 v5 v6).trips) :
    k0_t8_loop v0 v1 v2 v3 v5 v6 k0_t7 = ⟨0#32, ubW (nblkV v0 v1 v2 v3 v5 v6 k0_t7.val), 1#32⟩ := rfl

theorem t4_trips : (k0_t4_loop v0 v1 v2 v3 v5 v6).trips = 0 := Scf.rem_trips 0#32 (nitV v0 v1 v2 v3 v5 v6)
theorem t4_ok : (k0_t4_loop v0 v1 v2 v3 v5 v6).OK := Scf.rem_ok 0#32 (nitV v0 v1 v2 v3 v5 v6)

theorem t10_trips : (k0_t10_loop v0 v1 v2 v3 v5 v6).trips = 0 := Scf.rem_trips 0#32 (nitV v0 v1 v2 v3 v5 v6)
theorem t10_ok : (k0_t10_loop v0 v1 v2 v3 v5 v6).OK := Scf.rem_ok 0#32 (nitV v0 v1 v2 v3 v5 v6)

theorem t3_trips (k0_t1 : Fin (k0_t1_loop v0 v1 v2 v3 v5 v6).trips) : (k0_t3_loop v0 v1 v2 v3 v5 v6 k0_t1).trips = 0 :=
  Scf.rem_trips 0#32 (nblkV v0 v1 v2 v3 v5 v6 k0_t1.val)
theorem t3_ok (k0_t1 : Fin (k0_t1_loop v0 v1 v2 v3 v5 v6).trips) : (k0_t3_loop v0 v1 v2 v3 v5 v6 k0_t1).OK :=
  Scf.rem_ok 0#32 (nblkV v0 v1 v2 v3 v5 v6 k0_t1.val)

theorem t9_trips (k0_t7 : Fin (k0_t7_loop v0 v1 v2 v3 v5 v6).trips) : (k0_t9_loop v0 v1 v2 v3 v5 v6 k0_t7).trips = 0 :=
  Scf.rem_trips 0#32 (nblkV v0 v1 v2 v3 v5 v6 k0_t7.val)
theorem t9_ok (k0_t7 : Fin (k0_t7_loop v0 v1 v2 v3 v5 v6).trips) : (k0_t9_loop v0 v1 v2 v3 v5 v6 k0_t7).OK :=
  Scf.rem_ok 0#32 (nblkV v0 v1 v2 v3 v5 v6 k0_t7.val)

theorem off1_eq (k0_t1 : Fin (k0_t1_loop v0 v1 v2 v3 v5 v6).trips) : k0_off1 v0 v1 v2 v3 v5 v6 k0_t1 = ![(cellV v0 v1 v2 v3 k0_t1.val).toNat] := rfl
theorem off2_eq (k0_t1 : Fin (k0_t1_loop v0 v1 v2 v3 v5 v6).trips) (k0_t2 : Fin (k0_t2_loop v0 v1 v2 v3 v5 v6 k0_t1).trips) :
    k0_off2 v0 v1 v2 v3 v5 v6 k0_t1 k0_t2 = ![(seqV v0 v2 v3 k0_t1.val).toNat, (rowV v0 v1 v2 v3 k0_t1.val k0_t2.val).toNat, 0] := rfl
theorem mult1_eq (k0_t1 : Fin (k0_t1_loop v0 v1 v2 v3 v5 v6).trips) (k0_t2 : Fin (k0_t2_loop v0 v1 v2 v3 v5 v6 k0_t1).trips) :
    k0_mult1 v0 v1 v2 v3 v5 v6 k0_t1 k0_t2 = rowV v0 v1 v2 v3 k0_t1.val k0_t2.val := rfl

theorem off9_eq (k0_t7 : Fin (k0_t7_loop v0 v1 v2 v3 v5 v6).trips) : k0_off9 v0 v1 v2 v3 v5 v6 k0_t7 = ![(cellV v0 v1 v2 v3 k0_t7.val).toNat] := rfl
theorem off10_eq (k0_t7 : Fin (k0_t7_loop v0 v1 v2 v3 v5 v6).trips) (k0_t8 : Fin (k0_t8_loop v0 v1 v2 v3 v5 v6 k0_t7).trips) :
    k0_off10 v0 v1 v2 v3 v5 v6 k0_t7 k0_t8 = ![(seqV v0 v2 v3 k0_t7.val).toNat, (rowV v0 v1 v2 v3 k0_t7.val k0_t8.val).toNat, 0] := rfl
theorem mult5_eq (k0_t7 : Fin (k0_t7_loop v0 v1 v2 v3 v5 v6).trips) (k0_t8 : Fin (k0_t8_loop v0 v1 v2 v3 v5 v6 k0_t7).trips) :
    k0_mult5 v0 v1 v2 v3 v5 v6 k0_t7 k0_t8 = rowV v0 v1 v2 v3 k0_t7.val k0_t8.val := rfl

theorem mult7_eq (k0_t7 : Fin (k0_t7_loop v0 v1 v2 v3 v5 v6).trips) : k0_mult7 v0 v1 v2 v3 v5 v6 k0_t7 = chunkRowV v0 v1 v2 v3 k0_t7.val := rfl
theorem off13_eq (k0_t7 : Fin (k0_t7_loop v0 v1 v2 v3 v5 v6).trips) :
    k0_off13 v0 v1 v2 v3 v5 v6 k0_t7 = ![(seqV v0 v2 v3 k0_t7.val).toNat, (chunkRowV v0 v1 v2 v3 k0_t7.val).toNat, 0] := rfl
theorem off14_eq (k0_t7 : Fin (k0_t7_loop v0 v1 v2 v3 v5 v6).trips) : k0_off14 v0 v1 v2 v3 v5 v6 k0_t7 = ![(cellV v0 v1 v2 v3 k0_t7.val).toNat, 0] := rfl

end Ties

section Bounds
variable (v0 v1 v2 v3 v5 v6 : BitVec 32)

theorem t1_trips : (k0_t1_loop v0 v1 v2 v3 v5 v6).trips = (spans v0 v1 v2 v3 v5 v6).nit := Spans.trips_nit (spans_of v0 v1 v2 v3 v5 v6)
theorem t1_lt (k0_t1 : Fin (k0_t1_loop v0 v1 v2 v3 v5 v6).trips) : k0_t1.val < (spans v0 v1 v2 v3 v5 v6).nit := lt_of_lt_of_eq k0_t1.isLt (t1_trips v0 v1 v2 v3 v5 v6)
theorem t1_ok : (k0_t1_loop v0 v1 v2 v3 v5 v6).OK := ok_ubW (Spans.isInt_nitW (spans_of v0 v1 v2 v3 v5 v6)) (by have := (spans v0 v1 v2 v3 v5 v6).nit_le; omega)
theorem t2_trips (k0_t1 : Fin (k0_t1_loop v0 v1 v2 v3 v5 v6).trips) : (k0_t2_loop v0 v1 v2 v3 v5 v6 k0_t1).trips = (spans v0 v1 v2 v3 v5 v6).nblk k0_t1.val :=
  Spans.trips_nblk (spans_of v0 v1 v2 v3 v5 v6) (t1_lt v0 v1 v2 v3 v5 v6 k0_t1)
theorem t2_lt (k0_t1 : Fin (k0_t1_loop v0 v1 v2 v3 v5 v6).trips) (k0_t2 : Fin (k0_t2_loop v0 v1 v2 v3 v5 v6 k0_t1).trips) :
    k0_t2.val < (spans v0 v1 v2 v3 v5 v6).nblk k0_t1.val := lt_of_lt_of_eq k0_t2.isLt (t2_trips v0 v1 v2 v3 v5 v6 k0_t1)
theorem t2_ok (k0_t1 : Fin (k0_t1_loop v0 v1 v2 v3 v5 v6).trips) : (k0_t2_loop v0 v1 v2 v3 v5 v6 k0_t1).OK :=
  ok_ubW (Spans.isInt_nblkW (spans_of v0 v1 v2 v3 v5 v6) (t1_lt v0 v1 v2 v3 v5 v6 k0_t1)) (by have := (spans v0 v1 v2 v3 v5 v6).nblk_le (t1_lt v0 v1 v2 v3 v5 v6 k0_t1); omega)
theorem off1_nat (k0_t1 : Fin (k0_t1_loop v0 v1 v2 v3 v5 v6).trips) :
    k0_off1 v0 v1 v2 v3 v5 v6 k0_t1 = ![2 * (spans v0 v1 v2 v3 v5 v6).chunk k0_t1.val + (spans v0 v1 v2 v3 v5 v6).seq k0_t1.val] := by
  rw [off1_eq, toNat_of_isInt (Spans.isInt_cellW (spans_of v0 v1 v2 v3 v5 v6) (t1_lt v0 v1 v2 v3 v5 v6 k0_t1))]
theorem off2_nat (k0_t1 : Fin (k0_t1_loop v0 v1 v2 v3 v5 v6).trips) (k0_t2 : Fin (k0_t2_loop v0 v1 v2 v3 v5 v6 k0_t1).trips) :
    k0_off2 v0 v1 v2 v3 v5 v6 k0_t1 k0_t2 = ![(spans v0 v1 v2 v3 v5 v6).seq k0_t1.val, 32 * ((spans v0 v1 v2 v3 v5 v6).first k0_t1.val + k0_t2.val), 0] := by
  rw [off2_eq, toNat_of_isInt (Spans.isInt_seqW (spans_of v0 v1 v2 v3 v5 v6) (t1_lt v0 v1 v2 v3 v5 v6 k0_t1)),
    toNat_of_isInt (Spans.isInt_rowW (spans_of v0 v1 v2 v3 v5 v6) (t1_lt v0 v1 v2 v3 v5 v6 k0_t1) (t2_lt v0 v1 v2 v3 v5 v6 k0_t1 k0_t2))]
theorem mult1_dvd (k0_t1 : Fin (k0_t1_loop v0 v1 v2 v3 v5 v6).trips) (k0_t2 : Fin (k0_t2_loop v0 v1 v2 v3 v5 v6 k0_t1).trips) :
    32 ∣ (k0_mult1 v0 v1 v2 v3 v5 v6 k0_t1 k0_t2).toNat := by
  rw [mult1_eq, toNat_of_isInt (Spans.isInt_rowW (spans_of v0 v1 v2 v3 v5 v6) (t1_lt v0 v1 v2 v3 v5 v6 k0_t1) (t2_lt v0 v1 v2 v3 v5 v6 k0_t1 k0_t2))]
  exact Nat.dvd_mul_right _ _
theorem off1_inb (k0_t1 : Fin (k0_t1_loop v0 v1 v2 v3 v5 v6).trips) (a) : k0_off1 v0 v1 v2 v3 v5 v6 k0_t1 a + S1.size a ≤ S16.size a := by
  obtain ⟨hs, hc, -⟩ := (spans v0 v1 v2 v3 v5 v6).facts (t1_lt v0 v1 v2 v3 v5 v6 k0_t1)
  rw [off1_nat]; fin_cases a
  show 2 * (spans v0 v1 v2 v3 v5 v6).chunk k0_t1.val + (spans v0 v1 v2 v3 v5 v6).seq k0_t1.val + 1 ≤ 16
  omega
theorem off2_inb (k0_t1 : Fin (k0_t1_loop v0 v1 v2 v3 v5 v6).trips) (k0_t2 : Fin (k0_t2_loop v0 v1 v2 v3 v5 v6 k0_t1).trips) (a) :
    k0_off2 v0 v1 v2 v3 v5 v6 k0_t1 k0_t2 a + S1x32x16384.size a ≤ S2x1024x16384.size a := by
  obtain ⟨hs, hc, -, hlt, hle⟩ := (spans v0 v1 v2 v3 v5 v6).facts (t1_lt v0 v1 v2 v3 v5 v6 k0_t1)
  have hu := t2_lt v0 v1 v2 v3 v5 v6 k0_t1 k0_t2
  unfold Spans.nblk at hu
  rw [off2_nat]; fin_cases a
  · show (spans v0 v1 v2 v3 v5 v6).seq k0_t1.val + 1 ≤ 2
    omega
  · show 32 * ((spans v0 v1 v2 v3 v5 v6).first k0_t1.val + k0_t2.val) + 32 ≤ 1024
    omega
  · show 0 + 16384 ≤ 16384
    omega
theorem off2_words (k0_t1 : Fin (k0_t1_loop v0 v1 v2 v3 v5 v6).trips) (k0_t2 : Fin (k0_t2_loop v0 v1 v2 v3 v5 v6 k0_t1).trips)
    (hinb : ∀ a, k0_off2 v0 v1 v2 v3 v5 v6 k0_t1 k0_t2 a + S1x32x16384.size a ≤ S2x1024x16384.size a) :
    (Rect.unit (s := S2x1024x16384) (k0_off2 v0 v1 v2 v3 v5 v6 k0_t1 k0_t2) S1x32x16384.size hinb).WholeWords (EltTy.packing .fp8e4m3) := by
  refine Affine.words_of_packed (Affine.packed_dvd (by decide) ?_ ?_)
  · rw [off2_nat]
    show 4 ∣ 32 * ((spans v0 v1 v2 v3 v5 v6).first k0_t1.val + k0_t2.val)
    omega
  · decide

theorem t7_trips : (k0_t7_loop v0 v1 v2 v3 v5 v6).trips = (spans v0 v1 v2 v3 v5 v6).nit := Spans.trips_nit (spans_of v0 v1 v2 v3 v5 v6)
theorem t7_lt (k0_t7 : Fin (k0_t7_loop v0 v1 v2 v3 v5 v6).trips) : k0_t7.val < (spans v0 v1 v2 v3 v5 v6).nit := lt_of_lt_of_eq k0_t7.isLt (t7_trips v0 v1 v2 v3 v5 v6)
theorem t7_ok : (k0_t7_loop v0 v1 v2 v3 v5 v6).OK := ok_ubW (Spans.isInt_nitW (spans_of v0 v1 v2 v3 v5 v6)) (by have := (spans v0 v1 v2 v3 v5 v6).nit_le; omega)
theorem t8_trips (k0_t7 : Fin (k0_t7_loop v0 v1 v2 v3 v5 v6).trips) : (k0_t8_loop v0 v1 v2 v3 v5 v6 k0_t7).trips = (spans v0 v1 v2 v3 v5 v6).nblk k0_t7.val :=
  Spans.trips_nblk (spans_of v0 v1 v2 v3 v5 v6) (t7_lt v0 v1 v2 v3 v5 v6 k0_t7)
theorem t8_lt (k0_t7 : Fin (k0_t7_loop v0 v1 v2 v3 v5 v6).trips) (k0_t8 : Fin (k0_t8_loop v0 v1 v2 v3 v5 v6 k0_t7).trips) :
    k0_t8.val < (spans v0 v1 v2 v3 v5 v6).nblk k0_t7.val := lt_of_lt_of_eq k0_t8.isLt (t8_trips v0 v1 v2 v3 v5 v6 k0_t7)
theorem t8_ok (k0_t7 : Fin (k0_t7_loop v0 v1 v2 v3 v5 v6).trips) : (k0_t8_loop v0 v1 v2 v3 v5 v6 k0_t7).OK :=
  ok_ubW (Spans.isInt_nblkW (spans_of v0 v1 v2 v3 v5 v6) (t7_lt v0 v1 v2 v3 v5 v6 k0_t7)) (by have := (spans v0 v1 v2 v3 v5 v6).nblk_le (t7_lt v0 v1 v2 v3 v5 v6 k0_t7); omega)
theorem off9_nat (k0_t7 : Fin (k0_t7_loop v0 v1 v2 v3 v5 v6).trips) :
    k0_off9 v0 v1 v2 v3 v5 v6 k0_t7 = ![2 * (spans v0 v1 v2 v3 v5 v6).chunk k0_t7.val + (spans v0 v1 v2 v3 v5 v6).seq k0_t7.val] := by
  rw [off9_eq, toNat_of_isInt (Spans.isInt_cellW (spans_of v0 v1 v2 v3 v5 v6) (t7_lt v0 v1 v2 v3 v5 v6 k0_t7))]
theorem off10_nat (k0_t7 : Fin (k0_t7_loop v0 v1 v2 v3 v5 v6).trips) (k0_t8 : Fin (k0_t8_loop v0 v1 v2 v3 v5 v6 k0_t7).trips) :
    k0_off10 v0 v1 v2 v3 v5 v6 k0_t7 k0_t8 = ![(spans v0 v1 v2 v3 v5 v6).seq k0_t7.val, 32 * ((spans v0 v1 v2 v3 v5 v6).first k0_t7.val + k0_t8.val), 0] := by
  rw [off10_eq, toNat_of_isInt (Spans.isInt_seqW (spans_of v0 v1 v2 v3 v5 v6) (t7_lt v0 v1 v2 v3 v5 v6 k0_t7)),
    toNat_of_isInt (Spans.isInt_rowW (spans_of v0 v1 v2 v3 v5 v6) (t7_lt v0 v1 v2 v3 v5 v6 k0_t7) (t8_lt v0 v1 v2 v3 v5 v6 k0_t7 k0_t8))]
theorem mult5_dvd (k0_t7 : Fin (k0_t7_loop v0 v1 v2 v3 v5 v6).trips) (k0_t8 : Fin (k0_t8_loop v0 v1 v2 v3 v5 v6 k0_t7).trips) :
    32 ∣ (k0_mult5 v0 v1 v2 v3 v5 v6 k0_t7 k0_t8).toNat := by
  rw [mult5_eq, toNat_of_isInt (Spans.isInt_rowW (spans_of v0 v1 v2 v3 v5 v6) (t7_lt v0 v1 v2 v3 v5 v6 k0_t7) (t8_lt v0 v1 v2 v3 v5 v6 k0_t7 k0_t8))]
  exact Nat.dvd_mul_right _ _
theorem off9_inb (k0_t7 : Fin (k0_t7_loop v0 v1 v2 v3 v5 v6).trips) (a) : k0_off9 v0 v1 v2 v3 v5 v6 k0_t7 a + S1.size a ≤ S16.size a := by
  obtain ⟨hs, hc, -⟩ := (spans v0 v1 v2 v3 v5 v6).facts (t7_lt v0 v1 v2 v3 v5 v6 k0_t7)
  rw [off9_nat]; fin_cases a
  show 2 * (spans v0 v1 v2 v3 v5 v6).chunk k0_t7.val + (spans v0 v1 v2 v3 v5 v6).seq k0_t7.val + 1 ≤ 16
  omega
theorem off10_inb (k0_t7 : Fin (k0_t7_loop v0 v1 v2 v3 v5 v6).trips) (k0_t8 : Fin (k0_t8_loop v0 v1 v2 v3 v5 v6 k0_t7).trips) (a) :
    k0_off10 v0 v1 v2 v3 v5 v6 k0_t7 k0_t8 a + S1x32x16384.size a ≤ S2x1024x16384.size a := by
  obtain ⟨hs, hc, -, hlt, hle⟩ := (spans v0 v1 v2 v3 v5 v6).facts (t7_lt v0 v1 v2 v3 v5 v6 k0_t7)
  have hu := t8_lt v0 v1 v2 v3 v5 v6 k0_t7 k0_t8
  unfold Spans.nblk at hu
  rw [off10_nat]; fin_cases a
  · show (spans v0 v1 v2 v3 v5 v6).seq k0_t7.val + 1 ≤ 2
    omega
  · show 32 * ((spans v0 v1 v2 v3 v5 v6).first k0_t7.val + k0_t8.val) + 32 ≤ 1024
    omega
  · show 0 + 16384 ≤ 16384
    omega
theorem off10_words (k0_t7 : Fin (k0_t7_loop v0 v1 v2 v3 v5 v6).trips) (k0_t8 : Fin (k0_t8_loop v0 v1 v2 v3 v5 v6 k0_t7).trips)
    (hinb : ∀ a, k0_off10 v0 v1 v2 v3 v5 v6 k0_t7 k0_t8 a + S1x32x16384.size a ≤ S2x1024x16384.size a) :
    (Rect.unit (s := S2x1024x16384) (k0_off10 v0 v1 v2 v3 v5 v6 k0_t7 k0_t8) S1x32x16384.size hinb).WholeWords (EltTy.packing .fp8e4m3) := by
  refine Affine.words_of_packed (Affine.packed_dvd (by decide) ?_ ?_)
  · rw [off10_nat]
    show 4 ∣ 32 * ((spans v0 v1 v2 v3 v5 v6).first k0_t7.val + k0_t8.val)
    omega
  · decide

theorem mult7_dvd (k0_t7 : Fin (k0_t7_loop v0 v1 v2 v3 v5 v6).trips) : 128 ∣ (k0_mult7 v0 v1 v2 v3 v5 v6 k0_t7).toNat := by
  rw [mult7_eq, toNat_of_isInt (Spans.isInt_chunkRowW (spans_of v0 v1 v2 v3 v5 v6) (t7_lt v0 v1 v2 v3 v5 v6 k0_t7))]
  exact Nat.dvd_mul_right _ _
theorem off13_nat (k0_t7 : Fin (k0_t7_loop v0 v1 v2 v3 v5 v6).trips) :
    k0_off13 v0 v1 v2 v3 v5 v6 k0_t7 = ![(spans v0 v1 v2 v3 v5 v6).seq k0_t7.val, 128 * (spans v0 v1 v2 v3 v5 v6).chunk k0_t7.val, 0] := by
  rw [off13_eq, toNat_of_isInt (Spans.isInt_seqW (spans_of v0 v1 v2 v3 v5 v6) (t7_lt v0 v1 v2 v3 v5 v6 k0_t7)),
    toNat_of_isInt (Spans.isInt_chunkRowW (spans_of v0 v1 v2 v3 v5 v6) (t7_lt v0 v1 v2 v3 v5 v6 k0_t7))]
theorem off14_nat (k0_t7 : Fin (k0_t7_loop v0 v1 v2 v3 v5 v6).trips) :
    k0_off14 v0 v1 v2 v3 v5 v6 k0_t7 = ![2 * (spans v0 v1 v2 v3 v5 v6).chunk k0_t7.val + (spans v0 v1 v2 v3 v5 v6).seq k0_t7.val, 0] := by
  rw [off14_eq, toNat_of_isInt (Spans.isInt_cellW (spans_of v0 v1 v2 v3 v5 v6) (t7_lt v0 v1 v2 v3 v5 v6 k0_t7))]
theorem off13_inb (k0_t7 : Fin (k0_t7_loop v0 v1 v2 v3 v5 v6).trips) (a) : k0_off13 v0 v1 v2 v3 v5 v6 k0_t7 a + S1x128x16384.size a ≤ S2x1024x16384.size a := by
  obtain ⟨hs, hc, -⟩ := (spans v0 v1 v2 v3 v5 v6).facts (t7_lt v0 v1 v2 v3 v5 v6 k0_t7)
  rw [off13_nat]; fin_cases a
  · show (spans v0 v1 v2 v3 v5 v6).seq k0_t7.val + 1 ≤ 2
    omega
  · show 128 * (spans v0 v1 v2 v3 v5 v6).chunk k0_t7.val + 128 ≤ 1024
    omega
  · show 0 + 16384 ≤ 16384
    omega
theorem off14_inb (k0_t7 : Fin (k0_t7_loop v0 v1 v2 v3 v5 v6).trips) (a) : k0_off14 v0 v1 v2 v3 v5 v6 k0_t7 a + S1x128.size a ≤ S16x128.size a := by
  obtain ⟨hs, hc, -⟩ := (spans v0 v1 v2 v3 v5 v6).facts (t7_lt v0 v1 v2 v3 v5 v6 k0_t7)
  rw [off14_nat]; fin_cases a
  · show 2 * (spans v0 v1 v2 v3 v5 v6).chunk k0_t7.val + (spans v0 v1 v2 v3 v5 v6).seq k0_t7.val + 1 ≤ 16
    omega
  · show 0 + 128 ≤ 128
    omega

/-- Nothing is said of a trip of a loop that makes none. -/
theorem no_trip {n : Nat} (h : n = 0) {P : Fin n → Prop} (k : Fin n) : P k := (Nat.not_lt_zero _ (lt_of_lt_of_eq k.isLt h)).elim

/-- The checks the kernel makes of its word-computed loops and offsets hold, whatever the arguments. -/
theorem chk : k0_chk1 v0 v1 v2 v3 v5 v6 := by
  have n4 : ∀ {P : Fin (k0_t4_loop v0 v1 v2 v3 v5 v6).trips → Prop} (k), P k := fun k => no_trip (t4_trips v0 v1 v2 v3 v5 v6) k
  have n10 : ∀ {P : Fin (k0_t10_loop v0 v1 v2 v3 v5 v6).trips → Prop} (k), P k := fun k => no_trip (t10_trips v0 v1 v2 v3 v5 v6) k
  have n3 : ∀ k1, ∀ {P : Fin (k0_t3_loop v0 v1 v2 v3 v5 v6 k1).trips → Prop} (k), P k := fun k1 _ k => no_trip (t3_trips v0 v1 v2 v3 v5 v6 k1) k
  have n9 : ∀ k1, ∀ {P : Fin (k0_t9_loop v0 v1 v2 v3 v5 v6 k1).trips → Prop} (k), P k := fun k1 _ k => no_trip (t9_trips v0 v1 v2 v3 v5 v6 k1) k
  exact ⟨⟨t1_ok v0 v1 v2 v3 v5 v6, t2_ok v0 v1 v2 v3 v5 v6, mult1_dvd v0 v1 v2 v3 v5 v6, fun k _ => off1_inb v0 v1 v2 v3 v5 v6 k, off2_inb v0 v1 v2 v3 v5 v6, off2_words v0 v1 v2 v3 v5 v6,
    t3_ok v0 v1 v2 v3 v5 v6, fun k1 => n3 k1, fun k1 => n3 k1, fun k1 => n3 k1, fun k1 => n3 k1,
    t4_ok v0 v1 v2 v3 v5 v6, n4, n4, n4, n4, n4, n4, n4, n4, n4, n4,
    t7_ok v0 v1 v2 v3 v5 v6, t8_ok v0 v1 v2 v3 v5 v6, mult5_dvd v0 v1 v2 v3 v5 v6, fun k _ => off9_inb v0 v1 v2 v3 v5 v6 k, off10_inb v0 v1 v2 v3 v5 v6, off10_words v0 v1 v2 v3 v5 v6,
    t9_ok v0 v1 v2 v3 v5 v6, fun k1 => n9 k1, fun k1 => n9 k1, fun k1 => n9 k1⟩,
    ⟨fun k1 => n9 k1, mult7_dvd v0 v1 v2 v3 v5 v6, off13_inb v0 v1 v2 v3 v5 v6, off14_inb v0 v1 v2 v3 v5 v6,
    t10_ok v0 v1 v2 v3 v5 v6, n10, n10, n10, n10, n10, n10, n10, n10, n10, n10, n10, n10, n10⟩⟩

end Bounds

end Cert.KernelIdeal.Critic
-- ==== Proof.KernelIdealChunks.lean ====
module

public import proofs.«01_k».proof.Proof.KernelIdealWords
public import proofs.«01_k».proof.Proof.Gen.KernelIdeal.Loops
public import Idealize.ShloMosaic.Lib.Batch
public import Idealize.ShloMosaic.Lib.Ring
public import Idealize.ShloMosaic.Lib.LoopRemainder
public import Idealize.ShloMosaic.Lib.Pipeline.Frame

/-!
# What the kernel holds of its two copies of the hidden rows

The hidden rows are streamed from their array into a buffer of the same shape, 32 rows at a time; 128 consecutive rows
of one answer (a chunk) share one semaphore. This module names sets of rows, and what is held of one chunk: at rest,
or with copies of some of its rows in flight.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

/-- The array of hidden rows and the buffer they are copied into. -/
abbrev hidM : Memref sig .tc .hbm S2x1024x16384 .fp8e4m3 := Memref.whole main_arg0
abbrev bufM : Memref sig .tc .vmem S2x1024x16384 .fp8e4m3 := Memref.whole cc0_scratch0

/-- Rows `lo` to `hi` of answer `b`, whole. -/
def rows (b lo hi : ℕ) : Finset S2x1024x16384.Idx :=
  Finset.univ.filter fun i => (i 0).val = b ∧ lo ≤ (i 1).val ∧ (i 1).val < hi

theorem mem_rows {b lo hi : ℕ} {i : S2x1024x16384.Idx} : i ∈ rows b lo hi ↔ (i 0).val = b ∧ lo ≤ (i 1).val ∧ (i 1).val < hi := by
  simp [rows]

theorem rows_split {b lo mid hi : ℕ} (h : lo ≤ mid) (h' : mid ≤ hi) : rows b lo mid ∪ rows b mid hi = rows b lo hi := by
  ext i; simp only [Finset.mem_union, mem_rows]; omega

theorem rows_disjoint {b lo mid hi : ℕ} : Disjoint (rows b lo mid) (rows b mid hi) := by
  rw [Finset.disjoint_left]; intro i; simp only [mem_rows]; omega

theorem rows_sub {b lo hi lo' hi' : ℕ} (h : lo ≤ lo') (h' : hi' ≤ hi) : rows b lo' hi' ⊆ rows b lo hi := by
  intro i; simp only [mem_rows]; omega

/-- The elements a box of consecutive whole rows covers. -/
theorem rect_rows {off size : Fin 3 → ℕ} (inb : ∀ a, off a + size a ≤ S2x1024x16384.size a) {b lo n : ℕ}
    (ho : off = ![b, lo, 0]) (hs : size = ![1, n, 16384]) :
    (Rect.unit (s := S2x1024x16384) off size inb).set = rows b lo (lo + n) := by
  subst ho hs
  ext i
  rw [Rect.mem_set_unit, mem_rows]
  constructor
  · intro h
    have h0 : b ≤ (i 0).val ∧ (i 0).val < b + 1 := h 0
    have h1 : lo ≤ (i 1).val ∧ (i 1).val < lo + n := h 1
    omega
  · rintro ⟨h0, h1, h2⟩ a
    fin_cases a
    · show b ≤ (i 0).val ∧ (i 0).val < b + 1; omega
    · show lo ≤ (i 1).val ∧ (i 1).val < lo + n; omega
    · show 0 ≤ (i 2).val ∧ (i 2).val < 0 + 16384
      have : (i 2).val < 16384 := (i 2).isLt
      omega

/-- Contents of the array, or of the buffer. -/
abbrev Hid (F : FTy → Type) : Type := S2x1024x16384.Idx → Elt F .fp8e4m3

/-- Elements `S` of the array, of the buffer, held at contents `f`. -/
def hidPt (c : Dev nD) (S : Finset S2x1024x16384.Idx) (f : Hid F) : sProp 𝕄 :=
  hidM.view.loc (c : Thread nD τ) ↦[S]{fullShare} f
def bufPt (c : Dev nD) (S : Finset S2x1024x16384.Idx) (f : Hid F) : sProp 𝕄 :=
  bufM.view.loc (c : Thread nD τ) ↦[S]{fullShare} f

/-- The box of 32 rows at offsets `off`, of the array and of the buffer. -/
abbrev hidBlk (off : Fin 3 → ℕ) (inb : ∀ a, off a + S1x32x16384.size a ≤ S2x1024x16384.size a) : Memref sig .tc .hbm S32x16384 .fp8e4m3 :=
  (hidM.slice (Rect.unit (s := S2x1024x16384) off S1x32x16384.size inb) (fun _ => rfl)).squeeze S32x16384 squeezes_S1x32x16384_S32x16384
abbrev bufBlk (off : Fin 3 → ℕ) (inb : ∀ a, off a + S1x32x16384.size a ≤ S2x1024x16384.size a) : Memref sig .tc .vmem S32x16384 .fp8e4m3 :=
  (bufM.slice (Rect.unit (s := S2x1024x16384) off S1x32x16384.size inb) (fun _ => rfl)).squeeze S32x16384 squeezes_S1x32x16384_S32x16384

theorem size_blk : S1x32x16384.size = ![1, 32, 16384] := rfl

theorem hidBlk_set {off} (inb) {b lo : ℕ} (ho : off = ![b, lo, 0]) : (hidBlk off inb).view.set = rows b lo (lo + 32) :=
  ((View.set_reshape _ _).trans (View.set_slice_whole _ _)).trans (rect_rows inb ho size_blk)
theorem bufBlk_set {off} (inb) {b lo : ℕ} (ho : off = ![b, lo, 0]) : (bufBlk off inb).view.set = rows b lo (lo + 32) :=
  ((View.set_reshape _ _).trans (View.set_slice_whole _ _)).trans (rect_rows inb ho size_blk)

/-- A copy between the same rows of the two leaves the buffer's rows at the array's contents. -/
theorem copied {off} (inb) (f g : Hid F) (i : S2x1024x16384.Idx) (hi : i ∈ (bufBlk off inb).view.set) :
    ((bufBlk off inb).view.write (Elt F) g (ReadAs.same.apply ((hidBlk off inb).view.read (Elt F) f)) Finset.univ : Hid F) i = f i := by
  obtain ⟨x, -, rfl⟩ := Finset.mem_map.mp hi
  exact (View.write_emb_of_mem (v := (bufBlk off inb).view) g _ (Finset.mem_univ x)).trans rfl

/-- The units one copy of 32 rows pays. -/
def NN : ℕ := (bufBlk ![0, 0, 0] (by decide)).view.dmaCredit
theorem credit_eq {off} (inb) : (bufBlk off inb).view.dmaCredit = NN := rfl
theorem NN_pos : 0 < NN := View.dmaCredit_pos _ (by decide)

/-- The semaphore of chunk `q`. -/
def cellOf (q : Fin 16) : DmaSem sig :=
  ((cc0_scratch3.slice (Rect.unit (s := S16) ![q.val] S1.size (fun a => by fin_cases a; show q.val + 1 ≤ 16; omega))).squeeze S_ squeezes_S1_S_).sem
theorem cell_eq {off : Fin 1 → ℕ} (inb : ∀ a, off a + S1.size a ≤ S16.size a) (q : Fin 16) (ho : off = ![q.val]) :
    ((cc0_scratch3.slice (Rect.unit (s := S16) off S1.size inb)).squeeze S_ squeezes_S1_S_).sem = cellOf q := by
  subst ho; rfl

/-- What the copy of rows `lo` to `lo + 32` of answer `b` hands back: the buffer's rows at the array's contents, and the
    array's rows. -/
def landed (c : Dev nD) (V : Hid F) (b lo : ℕ) : sProp 𝕄 :=
  iprop(bufPt c (rows b lo (lo + 32)) V ∗ hidPt c (rows b lo (lo + 32)) V)
instance landed_storable (c : Dev nD) (V : Hid F) (b lo : ℕ) : BI.Storable (upEmb : UEmb _ 𝕄) (landed c V b lo) := by
  unfold landed bufPt hidPt; infer_instance

/-- `n` copies of 32 rows of answer `b` from row `32 first` on, `j` of them issued and `u` units waited for. -/
abbrev flight (c : Dev nD) (V : Hid F) (q : Fin 16) (b first n j u : ℕ) : sProp 𝕄 :=
  Transfers.Batch (countersEmb (U := Pipeline.UD sig nD τ)) (c : Thread nD τ) (.dma (cellOf q)) () NN
    (fun t : Fin n => landed c V b (32 * (first + t.val))) j u

/-- The rows of one answer held by both: of the array at contents `V`, of the buffer at some. -/
def both (c : Dev nD) (V : Hid F) (S : Finset S2x1024x16384.Idx) : sProp 𝕄 :=
  iprop(hidPt c S V ∗ ∃ g, bufPt c S g)

theorem hidPt_union (c : Dev nD) {S T : Finset S2x1024x16384.Idx} (h : Disjoint S T) (f : Hid F) :
    (hidPt c (S ∪ T) f : sProp 𝕄) ⊣⊢ iprop(hidPt c S f ∗ hidPt c T f) := pointsTo_union h
theorem bufPt_union (c : Dev nD) {S T : Finset S2x1024x16384.Idx} (h : Disjoint S T) (f : Hid F) :
    (bufPt c (S ∪ T) f : sProp 𝕄) ⊣⊢ iprop(bufPt c S f ∗ bufPt c T f) := pointsTo_union h

theorem both_union (c : Dev nD) (V : Hid F) {S T : Finset S2x1024x16384.Idx} (h : Disjoint S T) :
    (both c V (S ∪ T) : sProp 𝕄) ⊣⊢ iprop(both c V S ∗ both c V T) := by
  constructor
  · unfold both
    iintro ⟨H, %g, B⟩
    ihave H := (hidPt_union c h V).1 $$ H
    ihave B := (bufPt_union c h g).1 $$ B
    icases H with ⟨H1, H2⟩
    icases B with ⟨B1, B2⟩
    isplitl [H1 B1]
    · isplitl [H1]; · iexact H1
      iexists g; iexact B1
    · isplitl [H2]; · iexact H2
      iexists g; iexact B2
  · unfold both
    iintro ⟨⟨H1, %g1, B1⟩, ⟨H2, %g2, B2⟩⟩
    isplitl [H1 H2]
    · iapply (hidPt_union c h V).2
      isplitl [H1] <;> iassumption
    · iexists (T.piecewise g2 g1)
      unfold bufPt
      iapply (pointsTo_join h)
      isplitl [B1] <;> iassumption

/-- Rows put back at known contents beside the rest of a set: one holding, equal to the known contents on those rows. -/
theorem rejoin (c : Dev nD) (V : Hid F) {S T : Finset S2x1024x16384.Idx} (h : Disjoint S T) :
    iprop((bufPt c S V ∗ hidPt c S V) ∗ both c V T)
      ⊢ (iprop(hidPt c (S ∪ T) V ∗ ∃ g : Hid F, ⌜∀ i ∈ S, g i = V i⌝ ∗ bufPt c (S ∪ T) g) : sProp 𝕄) := by
  unfold both
  iintro ⟨⟨B1, H1⟩, H2, %g2, B2⟩
  isplitl [H1 H2]
  · iapply (hidPt_union c h V).2
    isplitl [H1] <;> iassumption
  · iexists (T.piecewise g2 V)
    isplitr
    · ipureintro
      intro i hi
      exact Finset.piecewise_eq_of_notMem _ _ _ (Finset.disjoint_left.mp h hi)
    unfold bufPt
    iapply (pointsTo_join h)
    isplitl [B1] <;> iassumption

theorem bufPt_blocks (c : Dev nD) (f : Hid F) {n : ℕ} (K : Fin n → Finset S2x1024x16384.Idx) (S : Finset S2x1024x16384.Idx)
    (hd : ∀ t t', t ≠ t' → Disjoint (K t) (K t')) (hS : ∀ i, i ∈ S ↔ ∃ t, i ∈ K t) :
    (bufPt c S f : sProp 𝕄) = bigSep Finset.univ fun t => bufPt c (K t) f := by
  unfold bufPt
  refine Ring.pointsTo_sub_blocks (ℓ := bufM.view.loc (c : Thread nD τ)) K hd S ?_ f
  ext i
  exact (Finset.mem_biUnion.trans ⟨fun ⟨t, _, h⟩ => ⟨t, h⟩, fun ⟨t, h⟩ => ⟨t, Finset.mem_univ t, h⟩⟩).trans (hS i).symm
theorem hidPt_blocks (c : Dev nD) (f : Hid F) {n : ℕ} (K : Fin n → Finset S2x1024x16384.Idx) (S : Finset S2x1024x16384.Idx)
    (hd : ∀ t t', t ≠ t' → Disjoint (K t) (K t')) (hS : ∀ i, i ∈ S ↔ ∃ t, i ∈ K t) :
    (hidPt c S f : sProp 𝕄) = bigSep Finset.univ fun t => hidPt c (K t) f := by
  unfold hidPt
  refine Ring.pointsTo_sub_blocks (ℓ := hidM.view.loc (c : Thread nD τ)) K hd S ?_ f
  ext i
  exact (Finset.mem_biUnion.trans ⟨fun ⟨t, _, h⟩ => ⟨t, h⟩, fun ⟨t, h⟩ => ⟨t, Finset.mem_univ t, h⟩⟩).trans (hS i).symm

/-- Every copy of a batch handed back is the run of its rows, of both. -/
theorem landed_all (c : Dev nD) (V : Hid F) (b first n : ℕ) :
    (bigSep Finset.univ (fun t : Fin n => landed c V b (32 * (first + t.val))) : sProp 𝕄)
      ⊢ iprop(bufPt c (rows b (32 * first) (32 * (first + n))) V ∗ hidPt c (rows b (32 * first) (32 * (first + n))) V) := by
  have hd : ∀ t t' : Fin n, t ≠ t' → Disjoint (rows b (32 * (first + t.val)) (32 * (first + t.val) + 32)) (rows b (32 * (first + t'.val)) (32 * (first + t'.val) + 32)) := by
    intro t t' h
    have : t.val ≠ t'.val := fun e => h (Fin.ext e)
    rw [Finset.disjoint_left]; intro i; simp only [mem_rows]; omega
  have hU : ∀ i, i ∈ rows b (32 * first) (32 * (first + n)) ↔ ∃ t : Fin n, i ∈ rows b (32 * (first + t.val)) (32 * (first + t.val) + 32) := by
    intro i
    simp only [mem_rows]
    constructor
    · rintro ⟨h0, h1, h2⟩
      refine ⟨⟨(i 1).val / 32 - first, by omega⟩, ?_⟩
      simp only
      omega
    · rintro ⟨t, h⟩; have := t.isLt; omega
  rw [bufPt_blocks c V _ _ hd hU, hidPt_blocks c V _ _ hd hU]
  exact Entails.of_eq (BI.bigSep_sep Finset.univ _ _)

end Cert.KernelIdeal.Critic

end
-- ==== Proof.KernelIdealFlights.lean ====
module

public import proofs.«01_k».proof.Proof.KernelIdealChunks

/-!
# The loop that issues the copies

Item `i` of the work list is one chunk of 128 rows of one answer; its copies are those of the blocks of 32 rows the
answer's span meets. One pass issues the copies of every item on the item's semaphore; a second pass waits for them
item by item.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

section Rules
variable (c : Dev nD) (V : Hid F) (q : Fin 16) (b first n : ℕ)
variable {off : Fin 3 → ℕ} {inb : ∀ a, off a + S1x32x16384.size a ≤ S2x1024x16384.size a}
variable {k : PUnit.{1} → Prog (TpuEff nD τ sig (Elt F) Λ₀ .tc) Unit} {Q : Unit → sProp (MT nD τ sig Unit (Elt F) ℕ (Pipeline.UD sig nD τ) ℕ)} {R : sProp (MT nD τ sig Unit (Elt F) ℕ (Pipeline.UD sig nD τ) ℕ)}

/-- Issuing copy `j`: its rows of both are given to the batch. -/
theorem issueBlk {j : ℕ} (hj : j < n) (ho : off = ![b, 32 * (first + j), 0]) {d : DmaSem sig} (hd : d = cellOf q)
    {hsrc : (hidBlk off inb).view.WordExact} {hdst : (bufBlk off inb).view.WordExact}
    {hsem : DmaTarget.Typed (nD := nD) (p := (c : Thread nD τ).2) .hbm (.dma d) (.here (bufBlk off inb))}
    (h : iprop(R ∗ flight c V q b first n (j + 1) 0) ⊢ wp frame (wpE (defs₀ (F := F)) Variants.none (c : Thread nD τ) none) Set.univ (k ⟨⟩) Q) :
    iprop(R ∗ flight c V q b first n j 0 ∗ both c V (rows b (32 * (first + j)) (32 * (first + j) + 32)))
      ⊢ wp frame (wpE (defs₀ (F := F)) Variants.none (c : Thread nD τ) none) Set.univ
        (.op (.enqueueDma (hidBlk off inb) (.here (bufBlk off inb)) (.dma d) hsrc hdst hsem) k) Q := by
  subst hd
  unfold both hidPt
  rw [← hidBlk_set inb ho]
  iintro ⟨HR, HB, Hh, %g, Hb⟩
  ihave Hb := (show bufPt c (hidBlk off inb).view.set g ⊢ (iprop((bufBlk off inb).view.loc (c : Thread nD τ) ↦[(bufBlk off inb).view.set]{fullShare} g) : sProp 𝕄) from .rfl) $$ Hb
  iapply (Transfers.wp_dmaBatch (countersEmb (U := Pipeline.UD sig nD τ)) Variants.none (c : Thread nD τ) none () NN
    (src := hidBlk off inb) (via := ReadAs.same) (dst := bufBlk off inb) (q := fullShare) (fs := V) (fd := g)
    (D := fun t : Fin n => landed c V b (32 * (first + t.val))) (j := j) (u := 0) rfl (Finset.Subset.refl _) hj (Nat.zero_le _) ?_) $$ [HB Hh Hb]
  · unfold landed bufPt hidPt
    dsimp only
    rw [← hidBlk_set inb ho]
    refine sep_mono (Entails.of_eq ?_) .rfl
    exact pointsTo_congr (fun i hi => copied inb V g i hi)
  · isplitl [Hh]; · iexact Hh
    isplitl [Hb]; · iexact Hb
    iexact HB
  iintro HB
  iapply h
  isplitl [HR] <;> iassumption

/-- A wait that is not the batch's last, -/
theorem await {u : ℕ} (hu : u + NN < NN * n) {d : DmaSem sig} (hd : d = cellOf q)
    {hsrc : (hidBlk off inb).view.WordExact} {hdst : (bufBlk off inb).view.WordExact}
    (h : iprop(R ∗ flight c V q b first n n (u + NN) ∗ ∃ W, owes (c : Thread nD τ) 0 W) ⊢ wp frame (wpE (defs₀ (F := F)) Variants.none (c : Thread nD τ) none) Set.univ (k ⟨⟩) Q) :
    iprop(R ∗ flight c V q b first n n u ∗ ∃ W, owes (c : Thread nD τ) 0 W)
      ⊢ wp frame (wpE (defs₀ (F := F)) Variants.none (c : Thread nD τ) none) Set.univ
        (.op (.waitDma2 d (hidBlk off inb) (bufBlk off inb) hsrc hdst) k) Q := by
  subst hd
  iintro ⟨HR, HB, %W, HO⟩
  iapply (Transfers.wp_waitBatch (countersEmb (U := Pipeline.UD sig nD τ)) Variants.none (c : Thread nD τ) none (srcw := hidBlk off inb) (dstw := bufBlk off inb) () (N := NN) rfl hu) $$ [HB HO]
  · isplitl [HB] <;> iassumption
  iintro ⟨HB, HO⟩
  iapply h
  isplitl [HR]; · iexact HR
  isplitl [HB]; · iexact HB
  iexists _; iexact HO

/-- and the last: every copy's rows come back, the semaphore at rest. -/
theorem awaitLast {u : ℕ} (hu : u + NN = NN * n) {d : DmaSem sig} (hd : d = cellOf q)
    {hsrc : (hidBlk off inb).view.WordExact} {hdst : (bufBlk off inb).view.WordExact}
    (h : iprop(R ∗ (semVal ((c : Thread nD τ), SemLoc.dma (cellOf q)) 0 ∗ bufPt c (rows b (32 * first) (32 * (first + n))) V ∗ hidPt c (rows b (32 * first) (32 * (first + n))) V) ∗ ∃ W, owes (c : Thread nD τ) 0 W)
      ⊢ wp frame (wpE (defs₀ (F := F)) Variants.none (c : Thread nD τ) none) Set.univ (k ⟨⟩) Q) :
    iprop(R ∗ flight c V q b first n n u ∗ ∃ W, owes (c : Thread nD τ) 0 W)
      ⊢ wp frame (wpE (defs₀ (F := F)) Variants.none (c : Thread nD τ) none) Set.univ
        (.op (.waitDma2 d (hidBlk off inb) (bufBlk off inb) hsrc hdst) k) Q := by
  subst hd
  iintro ⟨HR, HB, %W, HO⟩
  iapply (Transfers.wp_waitBatchLast (countersEmb (U := Pipeline.UD sig nD τ)) Variants.none (c : Thread nD τ) none (srcw := hidBlk off inb) (dstw := bufBlk off inb) () (N := NN) rfl NN_pos hu) $$ [HB HO]
  · isplitl [HB] <;> iassumption
  iintro ⟨HD, Hs, HO⟩
  ihave HD := (landed_all c V b first n) $$ HD
  iapply h
  isplitl [HR]; · iexact HR
  isplitl [Hs HD]
  · isplitl [Hs] <;> iassumption
  iexists _; iexact HO

end Rules

/-! ## Items and their chunks -/

/-- The chunk of item `i`, as the number of its semaphore. -/
def qOf (S : Spans) (i : ℕ) : Fin 16 := ⟨(2 * S.chunk i + S.seq i) % 16, Nat.mod_lt _ (Nat.succ_pos 15)⟩

theorem qOf_val {S : Spans} {i : ℕ} (hi : i < S.nit) : (qOf S i).val = 2 * S.chunk i + S.seq i := by
  have h := S.facts hi
  show (2 * S.chunk i + S.seq i) % 16 = _
  omega

theorem qOf_inj {S : Spans} {i k : ℕ} (hi : i < S.nit) (hk : k < S.nit) (h : qOf S i = qOf S k) : i = k := by
  have h' := congrArg Fin.val h
  rw [qOf_val hi, qOf_val hk] at h'
  have := S.facts hi
  have := S.facts hk
  exact S.cell_inj (by omega) (by omega)

/-- The 128 rows of chunk `q`. -/
def chunkRows (q : Fin 16) : Finset S2x1024x16384.Idx := rows (q.val % 2) (128 * (q.val / 2)) (128 * (q.val / 2) + 128)

theorem chunkRows_qOf {S : Spans} {i : ℕ} (hi : i < S.nit) : chunkRows (qOf S i) = rows (S.seq i) (128 * S.chunk i) (128 * S.chunk i + 128) := by
  have h := S.facts hi
  unfold chunkRows
  rw [qOf_val hi, show (2 * S.chunk i + S.seq i) % 2 = S.seq i by omega, show (2 * S.chunk i + S.seq i) / 2 = S.chunk i by omega]

/-- The rows of item `i` its copies bring, -/
def live (S : Spans) (i : ℕ) : Finset S2x1024x16384.Idx := rows (S.seq i) (32 * S.first i) (32 * (S.first i + S.nblk i))
/-- and the rest of its chunk. -/
def rest (S : Spans) (i : ℕ) : Finset S2x1024x16384.Idx := chunkRows (qOf S i) \ live S i

theorem first_nblk {S : Spans} {i : ℕ} (hi : i < S.nit) : S.first i + S.nblk i = S.last i := by
  have h := S.facts hi
  show S.first i + (S.last i - S.first i) = S.last i
  omega

theorem live_sub {S : Spans} {i : ℕ} (hi : i < S.nit) : live S i ⊆ chunkRows (qOf S i) := by
  have h := S.facts hi
  unfold live
  rw [chunkRows_qOf hi, first_nblk hi]
  exact rows_sub (by omega) (by omega)

theorem live_union_rest {S : Spans} {i : ℕ} (hi : i < S.nit) : live S i ∪ rest S i = chunkRows (qOf S i) :=
  Finset.union_sdiff_of_subset (live_sub hi)

theorem live_disj {S : Spans} {i : ℕ} : Disjoint (live S i) (rest S i) := Finset.disjoint_sdiff

/-- What is held of chunk `q`: at rest, or with an item's copies in flight. -/
def chunkSt (c : Dev nD) (V : Hid F) (S : Spans) (q : Fin 16) : Bool → sProp 𝕄
  | false => iprop(semVal ((c : Thread nD τ), SemLoc.dma (cellOf q)) 0 ∗ both c V (chunkRows q))
  | true => iprop(∃ i, ⌜i < S.nit ∧ qOf S i = q⌝ ∗ flight c V q (S.seq i) (S.first i) (S.nblk i) (S.nblk i) 0 ∗ both c V (rest S i))

theorem chunkSt_false (c : Dev nD) (V : Hid F) (S : Spans) (q : Fin 16) : (chunkSt c V S q false : sProp 𝕄)
    = iprop(semVal ((c : Thread nD τ), SemLoc.dma (cellOf q)) 0 ∗ both c V (chunkRows q)) := rfl
theorem chunkSt_true (c : Dev nD) (V : Hid F) (S : Spans) (q : Fin 16) : (chunkSt c V S q true : sProp 𝕄)
    = iprop(∃ i, ⌜i < S.nit ∧ qOf S i = q⌝ ∗ flight c V q (S.seq i) (S.first i) (S.nblk i) (S.nblk i) 0 ∗ both c V (rest S i)) := rfl

open scoped Classical in
/-- The chunks in flight once items `lo` to `hi` are issued and not waited for. -/
def flying (S : Spans) (lo hi : ℕ) (q : Fin 16) : Bool := decide (∃ i, lo ≤ i ∧ i < hi ∧ qOf S i = q)

theorem flying_iff {S : Spans} {lo hi : ℕ} {q : Fin 16} : flying S lo hi q = true ↔ ∃ i, lo ≤ i ∧ i < hi ∧ qOf S i = q := by
  classical
  unfold flying
  exact decide_eq_true_iff

theorem flying_false {S : Spans} {lo hi : ℕ} {q : Fin 16} (h : ¬ ∃ i, lo ≤ i ∧ i < hi ∧ qOf S i = q) : flying S lo hi q = false :=
  Bool.eq_false_iff.mpr fun e => h (flying_iff.mp e)

theorem flying_step {S : Spans} {k : ℕ} (hk : k < S.nit) : flying S 0 (k + 1) = Function.update (flying S 0 k) (qOf S k) true := by
  funext q
  by_cases h : q = qOf S k
  · subst h
    rw [Function.update_self]
    exact flying_iff.mpr ⟨k, by omega, by omega, rfl⟩
  · rw [Function.update_of_ne h]
    refine Bool.eq_iff_iff.mpr (flying_iff.trans (Iff.trans ⟨?_, ?_⟩ flying_iff.symm))
    · rintro ⟨i, h0, h1, rfl⟩
      refine ⟨i, h0, ?_, rfl⟩
      rcases Nat.lt_succ_iff_lt_or_eq.mp h1 with h1 | rfl
      · exact h1
      · exact absurd rfl h
    · rintro ⟨i, h0, h1, h2⟩; exact ⟨i, h0, by omega, h2⟩

theorem flying_drop {S : Spans} {k : ℕ} (hk : k < S.nit) : flying S (k + 1) S.nit = Function.update (flying S k S.nit) (qOf S k) false := by
  funext q
  by_cases h : q = qOf S k
  · subst h
    rw [Function.update_self]
    refine flying_false ?_
    rintro ⟨i, h0, h1, h2⟩
    have := qOf_inj h1 hk h2
    omega
  · rw [Function.update_of_ne h]
    refine Bool.eq_iff_iff.mpr (flying_iff.trans (Iff.trans ⟨?_, ?_⟩ flying_iff.symm))
    · rintro ⟨i, h0, h1, h2⟩; exact ⟨i, by omega, h1, h2⟩
    · rintro ⟨i, h0, h1, rfl⟩
      refine ⟨i, ?_, h1, rfl⟩
      rcases Nat.eq_or_lt_of_le h0 with h0 | h0
      · subst h0; exact absurd rfl h
      · omega

theorem flying_now {S : Spans} {k : ℕ} (hk : k < S.nit) : flying S k S.nit (qOf S k) = true :=
  flying_iff.mpr ⟨k, le_refl _, hk, rfl⟩
theorem flying_not {S : Spans} {k : ℕ} (hk : k < S.nit) : flying S 0 k (qOf S k) = false := by
  refine flying_false ?_
  rintro ⟨i, h0, h1, h2⟩
  have := qOf_inj (by omega) hk h2
  omega
theorem flying_none {S : Spans} {k : ℕ} : flying S k k = fun _ => false := by
  funext q
  refine flying_false ?_
  rintro ⟨i, h0, h1, h2⟩
  omega

/-- Every chunk in its state. -/
def chunks (c : Dev nD) (V : Hid F) (S : Spans) (st : Fin 16 → Bool) : sProp 𝕄 := Ring.AtW (chunkSt c V S) st

/-! ## Issuing -/

section Body
variable (c : Dev nD) (V : Hid F)
    (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (harg5 : hidM.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole) (harg13 : bufM.IsWhole) (arg14 : Memref sig .tc .vmem S32x16384 .fp8e4m3) (harg14 : arg14.IsWhole) (arg15 : Memref sig .tc .vmem S16x128 .f32) (harg15 : arg15.IsWhole)
    (v0 v1 v2 v3 v5 v6 : Elt F .i32) (k0_hw1 : k0_chk1 v0 v1 v2 v3 v5 v6)
    (v36 v53 v74 v95 v112 v129 v151 : BitVec 32) (v152 : BitVec 1) (v154 c4_i32_71 v155 v157 c0_i32_73 : BitVec 32)

/-- Before copy `u` of item `i` is issued. -/
def inv2 (S : Spans) (i u : ℕ) : sProp 𝕄 :=
  iprop(flight c V (qOf S i) (S.seq i) (S.first i) (S.nblk i) u 0 ∗ both c V (rows (S.seq i) (32 * (S.first i + u)) (32 * (S.first i + S.nblk i))))

theorem t2_step (k0_t1 : Fin (k0_t1_loop v0 v1 v2 v3 v5 v6).trips) (k0_t2 : Fin (k0_t2_loop v0 v1 v2 v3 v5 v6 k0_t1).trips) (acc : Unit) :
    inv2 c V (spans v0 v1 v2 v3 v5 v6) k0_t1.val k0_t2.val
      ⊢ wp frame (wpE (defs₀ (F := F)) Variants.none (c : Thread nD τ) none) Set.univ
        (k0_t2_body (F := F) arg0 harg0 arg1 harg1 arg2 harg2 arg3 harg3 arg4 harg4 hidM harg5 arg6 harg6 arg7 harg7 arg8 harg8 arg9 harg9 arg10 harg10 arg11 harg11 arg12 harg12 bufM harg13 arg14 harg14 arg15 harg15 cc0_scratch3 v0 v1 v2 v3 v5 v6 k0_hw1 v36 v53 v74 v95 v112 v129 v151 v152 v154 c4_i32_71 v155 v157 c0_i32_73 k0_t1 k0_t2 acc)
        (fun _ => inv2 c V (spans v0 v1 v2 v3 v5 v6) k0_t1.val (k0_t2.val + 1)) := by
  have hi := t1_lt v0 v1 v2 v3 v5 v6 k0_t1
  have hu := t2_lt v0 v1 v2 v3 v5 v6 k0_t1 k0_t2
  generalize hS : spans v0 v1 v2 v3 v5 v6 = S at hi hu ⊢
  have hoff := off2_nat v0 v1 v2 v3 v5 v6 k0_t1 k0_t2
  have hcell := off1_nat v0 v1 v2 v3 v5 v6 k0_t1
  rw [hS] at hoff hcell
  rw [← qOf_val hi] at hcell
  have hsplit := both_union c V (rows_disjoint (b := S.seq k0_t1.val) (lo := 32 * (S.first k0_t1.val + k0_t2.val)) (mid := 32 * (S.first k0_t1.val + k0_t2.val) + 32) (hi := 32 * (S.first k0_t1.val + S.nblk k0_t1.val)))
  rw [rows_split (by omega) (by omega)] at hsplit
  refine BIBase.Entails.trans ?_ (issueBlk c V (qOf S k0_t1.val) (S.seq k0_t1.val) (S.first k0_t1.val) (S.nblk k0_t1.val) (k := fun _ => pure ⟨⟩)
    (R := both c V (rows (S.seq k0_t1.val) (32 * (S.first k0_t1.val + k0_t2.val) + 32) (32 * (S.first k0_t1.val + S.nblk k0_t1.val))))
    hu hoff (cell_eq _ _ hcell) ?_)
  · unfold inv2
    iintro ⟨HB, HH⟩
    ihave HH := hsplit.1 $$ HH
    icases HH with ⟨H1, H2⟩
    isplitl [H2]; · iexact H2
    isplitl [HB] <;> iassumption
  · unfold inv2
    rw [show S.first k0_t1.val + (k0_t2.val + 1) = S.first k0_t1.val + k0_t2.val + 1 by omega, Nat.mul_add 32 (S.first k0_t1.val + k0_t2.val) 1]
    iintro ⟨HR, HB⟩
    sl_step
    isplitl [HB] <;> iassumption

theorem t1_step (k0_t1 : Fin (k0_t1_loop v0 v1 v2 v3 v5 v6).trips) (acc : Unit) :
    chunks c V (spans v0 v1 v2 v3 v5 v6) (flying (spans v0 v1 v2 v3 v5 v6) 0 k0_t1.val)
      ⊢ wp frame (wpE (defs₀ (F := F)) Variants.none (c : Thread nD τ) none) Set.univ
        (k0_t1_body (F := F) arg0 harg0 arg1 harg1 arg2 harg2 arg3 harg3 arg4 harg4 hidM harg5 arg6 harg6 arg7 harg7 arg8 harg8 arg9 harg9 arg10 harg10 arg11 harg11 arg12 harg12 bufM harg13 arg14 harg14 arg15 harg15 cc0_scratch3 v0 v1 v2 v3 v5 v6 k0_hw1 v36 v53 v74 v95 v112 v129 v151 v152 v154 c4_i32_71 v155 v157 c0_i32_73 k0_t1 acc)
        (fun _ => chunks c V (spans v0 v1 v2 v3 v5 v6) (flying (spans v0 v1 v2 v3 v5 v6) 0 (k0_t1.val + 1))) := by
  have hi := t1_lt v0 v1 v2 v3 v5 v6 k0_t1
  have htr := t2_trips v0 v1 v2 v3 v5 v6 k0_t1
  have htr3 := t3_trips v0 v1 v2 v3 v5 v6 k0_t1
  have hstep := t2_step c V arg0 harg0 arg1 harg1 arg2 harg2 arg3 harg3 arg4 harg4 harg5 arg6 harg6 arg7 harg7 arg8 harg8 arg9 harg9 arg10 harg10 arg11 harg11 arg12 harg12 harg13 arg14 harg14 arg15 harg15 v0 v1 v2 v3 v5 v6 k0_hw1 v36 v53 v74 v95 v112 v129 v151 v152 v154 c4_i32_71 v155 v157 c0_i32_73 k0_t1
  generalize spans v0 v1 v2 v3 v5 v6 = S at hi htr hstep ⊢
  rw [flying_step hi]
  unfold chunks
  rw [Ring.AtW_focus _ _ (qOf S k0_t1.val), flying_not hi, chunkSt_false]
  iintro ⟨⟨Hs, HH⟩, Hrest⟩
  imod (Transfers.batch_alloc' (Lvl := ℕ) (countersEmb (U := Pipeline.UD sig nD τ)) (c : Thread nD τ) () NN
    (fun t : Fin (S.nblk k0_t1.val) => landed c V (S.seq k0_t1.val) (32 * (S.first k0_t1.val + t.val))) (sm := .dma (cellOf (qOf S k0_t1.val))) (E := Set.univ)) $$ Hs with HB
  ihave HH := (show both c V (chunkRows (qOf S k0_t1.val)) ⊢ (iprop(both c V (live S k0_t1.val) ∗ both c V (rest S k0_t1.val)) : sProp 𝕄) from by
    rw [← live_union_rest hi]; exact (both_union c V live_disj).1) $$ HH
  icases HH with ⟨H1, H2⟩
  iapply (Scf.wp_for_bind frame (wpE (defs₀ (F := F)) Variants.none (c : Thread nD τ) none) Set.univ _ _ _ _ () _
    (fun u _ => inv2 c V S k0_t1.val u) (fun u acc => hstep u acc)) $$ [HB H1]
  · unfold inv2 live
    rw [Nat.add_zero]
    isplitl [HB] <;> iassumption
  iintro %acc HI
  iapply (Scf.wp_for0_bind frame (wpE (defs₀ (F := F)) Variants.none (c : Thread nD τ) none) Set.univ _ _ _ _ _ htr3 _ _
    iprop(inv2 c V S k0_t1.val (k0_t2_loop v0 v1 v2 v3 v5 v6 k0_t1).trips ∗ both c V (rest S k0_t1.val) ∗ Ring.restW (chunkSt c V S) (flying S 0 k0_t1.val) (qOf S k0_t1.val)) ?_)
  · iintro ⟨HI, H2, Hrest⟩
    sl_step
    iapply (Ring.AtW_update (chunkSt c V S) (flying S 0 k0_t1.val) (qOf S k0_t1.val) true)
    isplitr [Hrest]
    · rw [chunkSt_true]
      unfold inv2
      rw [htr]
      icases HI with ⟨HB, -⟩
      iexists k0_t1.val
      isplitr; · ipureintro; exact ⟨hi, rfl⟩
      isplitl [HB] <;> iassumption
    · iexact Hrest
  · isplitl [HI]; · iexact HI
    isplitl [H2] <;> iassumption

end Body

end Cert.KernelIdeal.Critic

end
-- ==== Proof.KernelIdealDrain.lean ====
module

public import proofs.«01_k».proof.Proof.KernelIdealFlights
public import Idealize.ShloMosaic.Lib.Pipeline.ValueKit.Geometry

/-!
# The loop that waits for the copies and multiplies

Item by item the second pass waits for the item's copies, multiplies its chunk of 128 rows by the replicated weights
and stores the products as one row of a 16 by 128 scratch. Rows of the chunk that no copy brought hold whatever the
buffer held; what is said of a stored row is that it is the product with SOME chunk agreeing with the hidden rows on the
rows that were brought.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

/-- The replicated weights and the rows of products. -/
abbrev wrepM : Memref sig .tc .vmem S32x16384 .fp8e4m3 := Memref.whole cc0_scratch1
abbrev vrawM : Memref sig .tc .vmem S16x128 .f32 := Memref.whole cc0_scratch2

/-- A chunk that agrees with the hidden rows on the rows item `i`'s copies bring. -/
def ChunkOk (V : Hid F) (S : Spans) (i : ℕ) (ch : Vec F S1x128x16384 .fp8e4m3) : Prop :=
  ∀ (x : S1x128x16384.Idx) (y : S2x1024x16384.Idx), y ∈ live S i → (y 1).val = 128 * S.chunk i + (x 1).val → (y 2).val = (x 2).val → ch x = V y

/-- The products of items before `k`: item `i`'s in row `qOf i`. -/
def RowsOk (V : Hid F) (Wc : Vec F S32x16384 .fp8e4m3) (S : Spans) (k : ℕ) (f : S16x128.Idx → Elt F .f32) : Prop :=
  ∀ i, i < k → ∃ ch, ChunkOk V S i ch ∧ ∀ (p : S16x128.Idx) (p' : S1x128.Idx), (p 0).val = (qOf S i).val → (p' 1).val = (p 1).val →
    f p = k0_pay158 (k0_pay1 Wc ch) p'

/-- Where an element of a box of a scratch lies in it. -/
theorem vraw_emb {off : Fin 2 → ℕ} (inb : ∀ a, off a + S1x128.size a ≤ S16x128.size a) (x : S1x128.Idx) (a : Fin 2) :
    (((vrawM.access (Rect.unit (s := S16x128) off S1x128.size inb)).emb x : S16x128.Idx) a).val = off a + (x a).val :=
  ValueKit.view_emb_slice_whole_unit_val cc0_scratch2 off S1x128.size inb x a
theorem buf_emb {off : Fin 3 → ℕ} (inb : ∀ a, off a + S1x128x16384.size a ≤ S2x1024x16384.size a) (x : S1x128x16384.Idx) (a : Fin 3) :
    (((bufM.access (Rect.unit (s := S2x1024x16384) off S1x128x16384.size inb)).emb x : S2x1024x16384.Idx) a).val = off a + (x a).val :=
  ValueKit.view_emb_slice_whole_unit_val cc0_scratch0 off S1x128x16384.size inb x a

/-- The replicated weights read whole. -/
theorem wrep_read (inb : ∀ a, (![0, 0] : Fin 2 → ℕ) a + S32x16384.size a ≤ S32x16384.size a) (Wc : Vec F S32x16384 .fp8e4m3) :
    View.readAt (Elt F) wrepM.view (Rect.unit (s := S32x16384) ![0, 0] S32x16384.size inb).toLoadRect Wc = Wc := by
  funext x
  have e : (Rect.unit (s := S32x16384) ![0, 0] S32x16384.size inb).idx x = x := by
    funext a
    refine Fin.ext ((ValueKit.rect_emb_unit_val (s := S32x16384) ![0, 0] S32x16384.size inb x a).trans ?_)
    fin_cases a
    · exact Nat.zero_add _
    · exact Nat.zero_add _
  exact congrArg Wc e

/-- Storing a row: the row's elements become the row stored, the others stay. -/
theorem rowStore {off : Fin 2 → ℕ} (inb : ∀ a, off a + S1x128.size a ≤ S16x128.size a) {q : ℕ} (ho : off = ![q, 0])
    (f : S16x128.Idx → Elt F .f32) (w : S1x128.Idx → Elt F .f32) :
    (∀ (p : S16x128.Idx) (p' : S1x128.Idx), (p 0).val = q → (p' 1).val = (p 1).val →
        ((vrawM.access (Rect.unit (s := S16x128) off S1x128.size inb)).write (Elt F) f w Finset.univ : S16x128.Idx → Elt F .f32) p = w p')
      ∧ ∀ p : S16x128.Idx, (p 0).val ≠ q →
        ((vrawM.access (Rect.unit (s := S16x128) off S1x128.size inb)).write (Elt F) f w Finset.univ : S16x128.Idx → Elt F .f32) p = f p := by
  subst ho
  constructor
  · intro p p' h0 h1
    have e : p = (vrawM.access (Rect.unit (s := S16x128) ![q, 0] S1x128.size inb)).emb p' := by
      funext a
      fin_cases a
      · refine Fin.ext (Eq.trans ?_ (vraw_emb inb p' 0).symm)
        have : (p' 0).val < 1 := (p' 0).isLt
        show (p 0).val = q + (p' 0).val
        omega
      · refine Fin.ext (Eq.trans ?_ (vraw_emb inb p' 1).symm)
        show (p 1).val = 0 + (p' 1).val
        omega
    rw [e]
    exact (View.write_emb_of_mem (v := vrawM.access (Rect.unit (s := S16x128) ![q, 0] S1x128.size inb)) f w (Finset.mem_univ p')).trans rfl
  · intro p h0
    refine View.write_of_not_mem (v := vrawM.access (Rect.unit (s := S16x128) ![q, 0] S1x128.size inb)) f w Finset.univ ?_
    intro hm
    obtain ⟨x, -, rfl⟩ := Finset.mem_map.mp hm
    apply h0
    have : (x 0).val < 1 := (x 0).isLt
    refine (vraw_emb inb x 0).trans ?_
    show q + (x 0).val = q
    omega

/-- The chunk read from a buffer agreeing with the hidden rows on the rows brought. -/
theorem chunkRead {V g : Hid F} {S : Spans} {i : ℕ} {off : Fin 3 → ℕ} (inb : ∀ a, off a + S1x128x16384.size a ≤ S2x1024x16384.size a)
    (ho : off = ![S.seq i, 128 * S.chunk i, 0]) (hg : ∀ y ∈ live S i, g y = V y) :
    ChunkOk V S i ((bufM.access (Rect.unit (s := S2x1024x16384) off S1x128x16384.size inb)).read (Elt F) g) := by
  subst ho
  intro x y hy h1 h2
  rw [← hg y hy]
  have e : y = (bufM.access (Rect.unit (s := S2x1024x16384) ![S.seq i, 128 * S.chunk i, 0] S1x128x16384.size inb)).emb x := by
    have h0 := (mem_rows.mp hy).1
    funext a
    fin_cases a
    · refine Fin.ext (Eq.trans ?_ (buf_emb inb x 0).symm)
      have : (x 0).val < 1 := (x 0).isLt
      show (y 0).val = S.seq i + (x 0).val
      omega
    · refine Fin.ext (Eq.trans ?_ (buf_emb inb x 1).symm)
      show (y 1).val = 128 * S.chunk i + (x 1).val
      omega
    · refine Fin.ext (Eq.trans ?_ (buf_emb inb x 2).symm)
      show (y 2).val = 0 + (x 2).val
      omega
  rw [e]
  rfl

theorem size_chunk : S1x128x16384.size = ![1, 128, 16384] := rfl

theorem bufChunk_set {off : Fin 3 → ℕ} (inb : ∀ a, off a + S1x128x16384.size a ≤ S2x1024x16384.size a) {b lo : ℕ} (ho : off = ![b, lo, 0]) :
    (bufM.access (Rect.unit (s := S2x1024x16384) off S1x128x16384.size inb)).set = rows b lo (lo + 128) :=
  (View.set_slice_whole _ _).trans (rect_rows inb ho size_chunk)

section Body
variable (c : Dev nD) (V : Hid F)
    (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (harg5 : hidM.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole) (harg13 : bufM.IsWhole) (harg14 : wrepM.IsWhole) (harg15 : vrawM.IsWhole)
    (v0 v1 v2 v3 v5 v6 : Elt F .i32) (k0_hw1 : k0_chk1 v0 v1 v2 v3 v5 v6)
    (v36 v53 v74 v95 v112 v129 v151 : BitVec 32) (c1_i32_354 c0_i32_355 c0_i32_356 c1_i32_358 : BitVec 32)

/-- Before wait `u` of item `i`; after the last, the rows brought. -/
def inv8 (S : Spans) (i u : ℕ) : sProp 𝕄 :=
  iprop((if u < S.nblk i then flight c V (qOf S i) (S.seq i) (S.first i) (S.nblk i) (S.nblk i) (u * NN)
    else iprop(semVal ((c : Thread nD τ), SemLoc.dma (cellOf (qOf S i))) 0 ∗ bufPt c (live S i) V ∗ hidPt c (live S i) V)) ∗ ∃ W, owes (c : Thread nD τ) 0 W)

theorem t8_step (k0_t7 : Fin (k0_t7_loop v0 v1 v2 v3 v5 v6).trips) (k0_t8 : Fin (k0_t8_loop v0 v1 v2 v3 v5 v6 k0_t7).trips) (acc : Unit) :
    inv8 c V (spans v0 v1 v2 v3 v5 v6) k0_t7.val k0_t8.val
      ⊢ wp frame (wpE (defs₀ (F := F)) Variants.none (c : Thread nD τ) none) Set.univ
        (k0_t8_body (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 c1_i32_354 c0_i32_355 c0_i32_356 c1_i32_358 k0_t7 k0_t8 acc)
        (fun _ => inv8 c V (spans v0 v1 v2 v3 v5 v6) k0_t7.val (k0_t8.val + 1)) := by
  have hi := t7_lt v0 v1 v2 v3 v5 v6 k0_t7
  have hu := t8_lt v0 v1 v2 v3 v5 v6 k0_t7 k0_t8
  have hcell := off9_nat v0 v1 v2 v3 v5 v6 k0_t7
  generalize hS : spans v0 v1 v2 v3 v5 v6 = S at hi hu hcell ⊢
  rw [← qOf_val hi] at hcell
  unfold inv8
  rw [if_pos hu]
  by_cases hl : k0_t8.val + 1 < S.nblk k0_t7.val
  · rw [if_pos hl]
    refine BIBase.Entails.trans ?_ (await c V (qOf S k0_t7.val) (S.seq k0_t7.val) (S.first k0_t7.val) (S.nblk k0_t7.val) (k := fun _ => pure ⟨⟩)
      (R := iprop(emp)) (u := k0_t8.val * NN) ?_ (cell_eq _ _ hcell) ?_)
    · iintro ⟨H, HO⟩
      isplitr; · iempintro
      isplitl [H] <;> iassumption
    · have := Nat.mul_lt_mul_of_pos_left hl NN_pos
      rw [Nat.mul_add, Nat.mul_one, Nat.mul_comm NN k0_t8.val] at this
      exact this
    · rw [Nat.add_mul, Nat.one_mul]
      iintro ⟨-, H, HO⟩
      sl_step
      isplitl [H] <;> iassumption
  · rw [if_neg hl]
    refine BIBase.Entails.trans ?_ (awaitLast c V (qOf S k0_t7.val) (S.seq k0_t7.val) (S.first k0_t7.val) (S.nblk k0_t7.val) (k := fun _ => pure ⟨⟩)
      (R := iprop(emp)) (u := k0_t8.val * NN) ?_ (cell_eq _ _ hcell) ?_)
    · iintro ⟨H, HO⟩
      isplitr; · iempintro
      isplitl [H] <;> iassumption
    · rw [show S.nblk k0_t7.val = k0_t8.val + 1 by omega, Nat.mul_add, Nat.mul_one, Nat.mul_comm NN k0_t8.val]
    · iintro ⟨-, H, HO⟩
      sl_step
      unfold live
      isplitl [H] <;> iassumption

/-- Before item `k` is waited for. -/
def inv7 (Wc : Vec F S32x16384 .fp8e4m3) (S : Spans) (k : ℕ) : sProp 𝕄 :=
  iprop(chunks c V S (flying S k S.nit) ∗ (∃ W, owes (c : Thread nD τ) 0 W) ∗ (wrepM.view.loc (c : Thread nD τ) ↦{fullShare} Wc)
    ∗ ∃ f, ⌜RowsOk V Wc S k f⌝ ∗ (vrawM.view.loc (c : Thread nD τ) ↦{fullShare} f))

/-- One item: its copies waited for, its chunk multiplied. -/
theorem part1_run (Wc : Vec F S32x16384 .fp8e4m3) (f : S16x128.Idx → Elt F .f32) (k0_t7 : Fin (k0_t7_loop v0 v1 v2 v3 v5 v6).trips) :
    iprop(chunkSt c V (spans v0 v1 v2 v3 v5 v6) (qOf (spans v0 v1 v2 v3 v5 v6) k0_t7.val) true ∗ (∃ W, owes (c : Thread nD τ) 0 W)
        ∗ (wrepM.view.loc (c : Thread nD τ) ↦{fullShare} Wc) ∗ (vrawM.view.loc (c : Thread nD τ) ↦{fullShare} f))
      ⊢ wp frame (wpE (defs₀ (F := F)) Variants.none (c : Thread nD τ) none) Set.univ
        (k0_part1_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 c1_i32_354 c0_i32_355 c0_i32_356 c1_i32_358 k0_t7)
        (fun r => iprop(⌜∃ ch, ChunkOk V (spans v0 v1 v2 v3 v5 v6) k0_t7.val ch ∧ r.1 = k0_pay1 Wc ch⌝
          ∗ chunkSt c V (spans v0 v1 v2 v3 v5 v6) (qOf (spans v0 v1 v2 v3 v5 v6) k0_t7.val) false ∗ (∃ W, owes (c : Thread nD τ) 0 W)
          ∗ (wrepM.view.loc (c : Thread nD τ) ↦{fullShare} Wc) ∗ (vrawM.view.loc (c : Thread nD τ) ↦{fullShare} f))) := by
  have hi := t7_lt v0 v1 v2 v3 v5 v6 k0_t7
  have htr := t8_trips v0 v1 v2 v3 v5 v6 k0_t7
  have htr9 := t9_trips v0 v1 v2 v3 v5 v6 k0_t7
  have hoff := off13_nat v0 v1 v2 v3 v5 v6 k0_t7
  have hstep := t8_step c V arg0 harg0 arg1 harg1 arg2 harg2 arg3 harg3 arg4 harg4 harg5 arg6 harg6 arg7 harg7 arg8 harg8 arg9 harg9 arg10 harg10 arg11 harg11 arg12 harg12 harg13 harg14 harg15 v0 v1 v2 v3 v5 v6 k0_hw1 v36 v53 v74 v95 v112 v129 v151 c1_i32_354 c0_i32_355 c0_i32_356 c1_i32_358 k0_t7
  generalize spans v0 v1 v2 v3 v5 v6 = S at hi htr hoff hstep ⊢
  rw [chunkSt_true, chunkSt_false]
  iintro ⟨⟨%i, %hq, HB, HR⟩, HO, HW, HF⟩
  obtain ⟨hi', hq⟩ := hq
  obtain rfl := qOf_inj hi' hi hq
  unfold k0_part1_skel
  iapply (Scf.wp_for_bind frame (wpE (defs₀ (F := F)) Variants.none (c : Thread nD τ) none) Set.univ _ _ _ _ () _
    (fun u _ => inv8 c V S k0_t7.val u) (fun u acc => hstep u acc)) $$ [HB HO]
  · unfold inv8
    rw [if_pos (S.nblk_pos hi), Nat.zero_mul]
    isplitl [HB] <;> iassumption
  iintro %acc HI
  ihave HI := (show inv8 c V S k0_t7.val (k0_t8_loop v0 v1 v2 v3 v5 v6 k0_t7).trips ⊢ (iprop((semVal ((c : Thread nD τ), SemLoc.dma (cellOf (qOf S k0_t7.val))) 0 ∗ bufPt c (live S k0_t7.val) V ∗ hidPt c (live S k0_t7.val) V) ∗ ∃ W, owes (c : Thread nD τ) 0 W) : sProp 𝕄) from by
    unfold inv8; rw [htr, if_neg (Nat.lt_irrefl _)]) $$ HI
  icases HI with ⟨⟨Hs, HLB, HLH⟩, HO⟩
  ihave HH := (rejoin c V (live_disj (S := S) (i := k0_t7.val))) $$ [HLB HLH HR]
  · isplitl [HLB HLH]
    · isplitl [HLB] <;> iassumption
    · iexact HR
  rw [live_union_rest hi]
  icases HH with ⟨HH, %g, %hg, HG⟩
  sl_for0 htr9
  sl_exec
  have hset : (bufM.access (Rect.unit (s := S2x1024x16384) (k0_off13 v0 v1 v2 v3 v5 v6 k0_t7) S1x128x16384.size (k0_off13_inb v0 v1 v2 v3 v5 v6 k0_hw1 k0_t7))).set ⊆ chunkRows (qOf S k0_t7.val) := by
    rw [bufChunk_set _ hoff, chunkRows_qOf hi]
  unfold bufPt
  iapply (wp_load_rect (defs := defs₀ (F := F)) Variants.none (c : Thread nD τ) none Set.univ (m := bufM)
    (r := Rect.unit (s := S2x1024x16384) (k0_off13 v0 v1 v2 v3 v5 v6 k0_t7) S1x128x16384.size (k0_off13_inb v0 v1 v2 v3 v5 v6 k0_hw1 k0_t7))
    (S := chunkRows (qOf S k0_t7.val)) (q := fullShare) (f := g) hset) $$ HG
  iintro HG
  sl_exec
  sl_step
  isplitr
  · ipureintro
    refine ⟨_, chunkRead (k0_off13_inb v0 v1 v2 v3 v5 v6 k0_hw1 k0_t7) hoff hg, ?_⟩
    rw [wrep_read]
  isplitl [Hs HH HG]
  · isplitl [Hs]; · iexact Hs
    unfold both bufPt
    isplitl [HH]; · iexact HH
    iexists g; iexact HG
  isplitl [HO]; · iexact HO
  isplitl [HW] <;> iassumption

/-- One item and the store of its row. -/
theorem t7_step (Wc : Vec F S32x16384 .fp8e4m3) (v174 : BitVec 32) (v1068 : FVec F S1x128 .fp8e4m3) (k0_t7 : Fin (k0_t7_loop v0 v1 v2 v3 v5 v6).trips) (acc : Unit) :
    inv7 c V Wc (spans v0 v1 v2 v3 v5 v6) k0_t7.val
      ⊢ wp frame (wpE (defs₀ (F := F)) Variants.none (c : Thread nD τ) none) Set.univ
        (k0_t7_body (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 v174 v1068 k0_t7 acc)
        (fun _ => inv7 c V Wc (spans v0 v1 v2 v3 v5 v6) (k0_t7.val + 1)) := by
  have hi := t7_lt v0 v1 v2 v3 v5 v6 k0_t7
  have hoff := off14_nat v0 v1 v2 v3 v5 v6 k0_t7
  have hrun := fun f => part1_run c V arg0 harg0 arg1 harg1 arg2 harg2 arg3 harg3 arg4 harg4 harg5 arg6 harg6 arg7 harg7 arg8 harg8 arg9 harg9 arg10 harg10 arg11 harg11 arg12 harg12 harg13 harg14 harg15 v0 v1 v2 v3 v5 v6 k0_hw1 v36 v53 v74 v95 v112 v129 v151 1#32 0#32 0#32 1#32 Wc f k0_t7
  generalize spans v0 v1 v2 v3 v5 v6 = S at hi hoff hrun ⊢
  rw [← qOf_val hi] at hoff
  unfold inv7 chunks
  rw [flying_drop hi, Ring.AtW_focus _ _ (qOf S k0_t7.val), flying_now hi]
  unfold k0_t7_body
  rw [k0_part1_eq_skeleton]
  iintro ⟨⟨Hc, Hrest⟩, HO, HW, %f, %hf, HF⟩
  rw [wp_bind]
  iapply (wp_wand_r frame (wpE (defs₀ (F := F)) Variants.none (c : Thread nD τ) none) Set.univ)
  isplitl [Hc HO HW HF]
  · iapply (hrun f)
    isplitl [Hc]; · iexact Hc
    isplitl [HO]; · iexact HO
    isplitl [HW] <;> iassumption
  iintro %r ⟨%hr, Hc, HO, HW, HF⟩
  obtain ⟨ch, hch, hr⟩ := hr
  sl_exec
  sl_step
  isplitl [Hc Hrest]
  · iapply (Ring.AtW_update (chunkSt c V S) (flying S k0_t7.val S.nit) (qOf S k0_t7.val) false)
    isplitl [Hc] <;> iassumption
  isplitl [HO]; · iexact HO
  isplitl [HW]; · iexact HW
  iexists _
  isplitr
  rotate_left
  · iexact HF
  ipureintro
  have hst := rowStore (F := F) (k0_off14_inb v0 v1 v2 v3 v5 v6 k0_hw1 k0_t7) hoff f (k0_pay158 r.1)
  intro i hik
  rcases Nat.lt_succ_iff_lt_or_eq.mp hik with hlt | rfl
  · obtain ⟨ch', hch', hrow⟩ := hf i hlt
    refine ⟨ch', hch', fun p p' h0 h1 => (hst.2 p fun e => ?_).trans (hrow p p' h0 h1)⟩
    have := qOf_inj (by omega) hi (Fin.ext (h0.symm.trans e))
    omega
  · refine ⟨ch, hch, fun p p' h0 h1 => ?_⟩
    rw [← hr]
    exact hst.1 p p' h0 h1

end Body

end Cert.KernelIdeal.Critic

end
-- ==== Proof.KernelIdealFill.lean ====
module

public import proofs.«01_k».proof.Proof.KernelIdealDrain
public import proofs.«01_k».proof.Proof.Gen.KernelIdeal.Skeleton
public import Idealize.ShloMosaic.Lib.Pipeline.Value

/-!
# The replicated weights

Row `r` of the 128 by 128 weights is stored, repeated on 32 sublanes, in columns `128 r` to `128 r + 128` of a scratch,
row after row. `Filled w k f` says the first `k` rows are there.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

/-- The first `k` rows of `w` are in place. -/
def Filled (w : Vec F S128x128 .fp8e4m3) (k : ℕ) (f : Vec F S32x16384 .fp8e4m3) : Prop :=
  ∀ (p : S32x16384.Idx) (y : S128x128.Idx), (p 1).val < 128 * k → (p 1).val = 128 * (y 0).val + (y 1).val → f p = w y

/-- `v` is row `r` of `w`. -/
def IsRow (w : Vec F S128x128 .fp8e4m3) (r : ℕ) (v : Vec F S1x128 .fp8e4m3) : Prop :=
  ∀ (x : S1x128.Idx) (y : S128x128.Idx), (y 0).val = r → (y 1).val = (x 1).val → v x = w y

/-- `g` is one row repeated on 32 sublanes. -/
def IsBc (v : Vec F S1x128 .fp8e4m3) (g : Vec F S32x128 .fp8e4m3) : Prop :=
  ∀ (p : S32x128.Idx) (x : S1x128.Idx), (x 1).val = (p 1).val → g p = v x

theorem isBc_plain (v : Vec F S1x128 .fp8e4m3) (h : S1x128.Broadcasts S32x128) (h' : S32x128.ShapeCasts S32x128) :
    IsBc v (shapeCast S32x128 (broadcastTo S32x128 v h) h') := by
  intro p x hx
  rw [shapeCast_self]
  refine broadcastTo_apply v h p x fun a => ?_
  fin_cases a
  · have : (x 0).val < 1 := (x 0).isLt
    show (x 0).val = 0
    omega
  · exact hx
theorem isBc_cast (v : Vec F S1x128 .fp8e4m3) (h1 h2 : S1x128.ShapeCasts S1x128) (h : S1x128.Broadcasts S32x128) (h' : S32x128.ShapeCasts S32x128) :
    IsBc v (shapeCast S32x128 (broadcastTo S32x128 (shapeCast S1x128 (shapeCast S1x128 v h1) h2) h) h') := by
  rw [shapeCast_self v h1, shapeCast_self v h2]
  exact isBc_plain v h h'

theorem wrep_emb {off : Fin 2 → ℕ} (inb : ∀ a, off a + S32x128.size a ≤ S32x16384.size a) (x : S32x128.Idx) (a : Fin 2) :
    (((wrepM.access (Rect.unit (s := S32x16384) off S32x128.size inb)).emb x : S32x16384.Idx) a).val = off a + (x a).val :=
  ValueKit.view_emb_slice_whole_unit_val cc0_scratch1 off S32x128.size inb x a

/-- Storing row `k` in place. -/
theorem filled_store {w : Vec F S128x128 .fp8e4m3} {k : ℕ} {f : Vec F S32x16384 .fp8e4m3} {v : Vec F S1x128 .fp8e4m3} {g : Vec F S32x128 .fp8e4m3}
    (hf : Filled w k f) (hv : IsRow w k v) (hg : IsBc v g)
    {off : Fin 2 → ℕ} (inb : ∀ a, off a + S32x128.size a ≤ S32x16384.size a) (ho : off = ![0, 128 * k]) :
    Filled w (k + 1) ((wrepM.access (Rect.unit (s := S32x16384) off S32x128.size inb)).write (Elt F) f g Finset.univ : S32x16384.Idx → Elt F .fp8e4m3) := by
  subst ho
  intro p y hp hy
  by_cases h : (p 1).val < 128 * k
  · refine (View.write_of_not_mem (v := wrepM.access (Rect.unit (s := S32x16384) ![0, 128 * k] S32x128.size inb)) f g Finset.univ ?_).trans (hf p y h hy)
    intro hm
    obtain ⟨x, -, rfl⟩ := Finset.mem_map.mp hm
    have e := wrep_emb inb x 1
    have e' : (![0, 128 * k] : Fin 2 → ℕ) 1 = 128 * k := rfl
    rw [e'] at e
    have h' := h
    erw [e] at h'
    omega
  · have h0 : (p 0).val < 32 := (p 0).isLt
    have hy1 : (y 1).val < 128 := (y 1).isLt
    have h0' : ∀ a : Fin 2, (![(p 0).val, (p 1).val - 128 * k] : Fin 2 → ℕ) a < S32x128.size a := by
      intro a
      fin_cases a
      · exact h0
      · show (p 1).val - 128 * k < 128
        omega
    have e : p = (wrepM.access (Rect.unit (s := S32x16384) ![0, 128 * k] S32x128.size inb)).emb
        (fun a => ⟨(![(p 0).val, (p 1).val - 128 * k] : Fin 2 → ℕ) a, h0' a⟩) := by
      funext a
      fin_cases a
      · refine Fin.ext (Eq.trans ?_ (wrep_emb inb _ 0).symm)
        show (p 0).val = 0 + (p 0).val
        omega
      · refine Fin.ext (Eq.trans ?_ (wrep_emb inb _ 1).symm)
        show (p 1).val = 128 * k + ((p 1).val - 128 * k)
        omega
    have hx : ∀ a : Fin 2, (![0, (p 1).val - 128 * k] : Fin 2 → ℕ) a < S1x128.size a := by
      intro a
      fin_cases a
      · exact Nat.one_pos
      · show (p 1).val - 128 * k < 128
        omega
    have hw := hv (fun a => ⟨(![0, (p 1).val - 128 * k] : Fin 2 → ℕ) a, hx a⟩) y (by omega) (by
      show (y 1).val = (p 1).val - 128 * k
      omega)
    have hb := hg (fun a => ⟨(![(p 0).val, (p 1).val - 128 * k] : Fin 2 → ℕ) a, h0' a⟩) (fun a => ⟨(![0, (p 1).val - 128 * k] : Fin 2 → ℕ) a, hx a⟩) rfl
    refine Eq.trans ?_ (hb.trans hw)
    refine (congrArg ((wrepM.access (Rect.unit (s := S32x16384) ![0, 128 * k] S32x128.size inb)).write (Elt F) f g Finset.univ : S32x16384.Idx → Elt F .fp8e4m3) e).trans ?_
    exact (View.write_emb_of_mem (v := wrepM.access (Rect.unit (s := S32x16384) ![0, 128 * k] S32x128.size inb)) f g (Finset.mem_univ _)).trans rfl

/-- A row read is that row. -/
theorem row_read (arg6 : Memref sig .tc .vmem S128x128 .fp8e4m3) (c : Dev nD) (f6 : Buf (Elt F) (arg6.view.loc (c : Thread nD τ)))
    {off : Fin 2 → ℕ} (inb : ∀ a, off a + S1x128.size a ≤ S128x128.size a) {r : ℕ} (ho : off = ![r, 0]) :
    IsRow (arg6.view.read (Elt F) f6) r (arg6.view.readAt (Elt F) (Rect.unit (s := S128x128) off S1x128.size inb).toLoadRect f6) := by
  subst ho
  intro x y h0 h1
  have e : (Rect.unit (s := S128x128) ![r, 0] S1x128.size inb).idx x = y := by
    funext a
    refine Fin.ext ((ValueKit.rect_emb_unit_val (s := S128x128) ![r, 0] S1x128.size inb x a).trans ?_)
    fin_cases a
    · have : (x 0).val < 1 := (x 0).isLt
      show r + (x 0).val = (y 0).val
      omega
    · show 0 + (x 1).val = (y 1).val
      omega
  show arg6.view.read (Elt F) f6 ((Rect.unit (s := S128x128) ![r, 0] S1x128.size inb).idx x) = _
  rw [e]

/-- Something else, the weights' window, and the scratch with the first `k` rows in place. -/
def fill (R : sProp 𝕄) (c : Dev nD) (arg6 : Memref sig .tc .vmem S128x128 .fp8e4m3) (f6 : Buf (Elt F) (arg6.view.loc (c : Thread nD τ))) (k : ℕ) : sProp 𝕄 :=
  iprop(R ∗ (arg6.view.loc (c : Thread nD τ) ↦[arg6.view.set]{fullShare} f6)
    ∗ ∃ f, ⌜Filled (arg6.view.read (Elt F) f6) k f⌝ ∗ (wrepM.view.loc (c : Thread nD τ) ↦{fullShare} f))

section Row
variable {R : sProp (MT nD τ sig Unit (Elt F) ℕ (Pipeline.UD sig nD τ) ℕ)} (c : Dev nD) (arg6 : Memref sig .tc .vmem S128x128 .fp8e4m3) (f6 : Buf (Elt F) (arg6.view.loc (c : Thread nD τ)))
variable {β : Type} {Q : β → sProp (MT nD τ sig Unit (Elt F) ℕ (Pipeline.UD sig nD τ) ℕ)}

/-- One row stored: the columns it replaces are read (and dropped), then the row is put there. -/
theorem fill_store {k : ℕ} {v : Vec F S1x128 .fp8e4m3} {g : Vec F S32x128 .fp8e4m3} (hv : IsRow (arg6.view.read (Elt F) f6) k v) (hg : IsBc v g)
    {off : Fin 2 → ℕ} {inb : ∀ a, off a + S32x128.size a ≤ S32x16384.size a} (ho : off = ![0, 128 * k])
    {hl} {hs} {hs'} {K : PUnit.{1} → Prog (TpuEff nD τ sig (Elt F) Λ₀ .tc) β}
    (h : fill R c arg6 f6 (k + 1) ⊢ wp frame (wpE (defs₀ (F := F)) Variants.none (c : Thread nD τ) none) Set.univ (K ⟨⟩) Q) :
    fill R c arg6 f6 k ⊢ wp frame (wpE (defs₀ (F := F)) Variants.none (c : Thread nD τ) none) Set.univ
      (.op (.load wrepM (Rect.unit (s := S32x16384) off S32x128.size inb).toLoadRect hl) fun _ =>
        .op (.store wrepM (Rect.unit (s := S32x16384) off S32x128.size inb) g Finset.univ hs hs') K) Q := by
  unfold fill at h ⊢
  iintro ⟨HR, H6, %f, %hf, HW⟩
  sl_exec
  iapply h
  isplitl [HR]; · iexact HR
  isplitl [H6]; · iexact H6
  iexists _
  isplitr
  rotate_left
  · iexact HW
  ipureintro
  exact filled_store hf hv hg inb ho

/-- The next row read. -/
theorem fill_load {k : ℕ} {off : Fin 2 → ℕ} {inb : ∀ a, off a + S1x128.size a ≤ S128x128.size a} (ho : off = ![k, 0])
    {hl} {K : (S1x128.Idx → Elt F .fp8e4m3) → Prog (TpuEff nD τ sig (Elt F) Λ₀ .tc) β}
    (h : ∀ v, IsRow (arg6.view.read (Elt F) f6) k v →
      (fill R c arg6 f6 k ⊢ wp frame (wpE (defs₀ (F := F)) Variants.none (c : Thread nD τ) none) Set.univ (K v) Q)) :
    fill R c arg6 f6 k ⊢ wp frame (wpE (defs₀ (F := F)) Variants.none (c : Thread nD τ) none) Set.univ
      (.op (.load arg6 (Rect.unit (s := S128x128) off S1x128.size inb).toLoadRect hl) K) Q := by
  have h' := h _ (row_read arg6 c f6 inb ho)
  unfold fill at h' ⊢
  iintro ⟨HR, H6, %f, %hf, HW⟩
  sl_exec
  iapply h'
  isplitl [HR]; · iexact HR
  isplitl [H6]; · iexact H6
  iexists f
  isplitr
  · ipureintro; exact hf
  iexact HW

/-- Five rows stored, the first given, and the sixth read. -/
def FillPart (k : ℕ) (prog : FVec F S1x128 .fp8e4m3 → Prog (TpuEff nD τ sig (Elt F) Λ₀ .tc) (FVec F S1x128 .fp8e4m3)) : Prop :=
  ∀ (R : sProp 𝕄) v, IsRow (arg6.view.read (Elt F) f6) k v →
    (fill R c arg6 f6 k ⊢ wp frame (wpE (defs₀ (F := F)) Variants.none (c : Thread nD τ) none) Set.univ (prog v)
      (fun v' => iprop(⌜IsRow (arg6.view.read (Elt F) f6) (k + 5) v'⌝ ∗ fill R c arg6 f6 (k + 5))))

theorem isRow_cast {w : Vec F S128x128 .fp8e4m3} {r : ℕ} {v : Vec F S1x128 .fp8e4m3} (hv : IsRow w r v) (h1 h2 : S1x128.ShapeCasts S1x128) :
    IsRow w r (shapeCast S1x128 (shapeCast S1x128 v h1) h2) := by
  rw [shapeCast_self v h1, shapeCast_self v h2]
  exact hv

theorem fill_ret {k : ℕ} {v : Vec F S1x128 .fp8e4m3} (hv : IsRow (arg6.view.read (Elt F) f6) k v) :
    fill R c arg6 f6 k ⊢ wp frame (wpE (defs₀ (F := F)) Variants.none (c : Thread nD τ) none) Set.univ (.ret v)
      (fun v' => iprop(⌜IsRow (arg6.view.read (Elt F) f6) k v'⌝ ∗ fill R c arg6 f6 k)) := by
  iintro H
  sl_step
  isplitr
  · ipureintro; exact hv
  iexact H

set_option maxHeartbeats 2000000 in
/-- The parts of the body that store the weights' rows, five each. -/
theorem fill_parts (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole) (harg5 : hidM.IsWhole) (harg13 : bufM.IsWhole) (harg14 : wrepM.IsWhole) (harg15 : vrawM.IsWhole) :
    FillPart c arg6 f6 1 (fun v => k0_part8_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 6 (fun v => k0_part9_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 11 (fun v => k0_part10_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 16 (fun v => k0_part11_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 21 (fun v => k0_part12_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 26 (fun v => k0_part13_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 31 (fun v => k0_part14_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 36 (fun v => k0_part15_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 41 (fun v => k0_part16_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 46 (fun v => k0_part17_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 51 (fun v => k0_part18_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 56 (fun v => k0_part19_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 61 (fun v => k0_part20_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 66 (fun v => k0_part21_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 71 (fun v => k0_part22_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 76 (fun v => k0_part23_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 81 (fun v => k0_part24_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 86 (fun v => k0_part25_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 91 (fun v => k0_part26_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 96 (fun v => k0_part27_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 101 (fun v => k0_part28_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 106 (fun v => k0_part29_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 111 (fun v => k0_part30_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 116 (fun v => k0_part31_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v)
      ∧ FillPart c arg6 f6 121 (fun v => k0_part32_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v) := by
  refine ⟨?_, ?_, ?_, ?_, ?_, ?_, ?_, ?_, ?_, ?_, ?_, ?_, ?_, ?_, ?_, ?_, ?_, ?_, ?_, ?_, ?_, ?_, ?_, ?_, ?_⟩
  all_goals
    intro R v hv
    refine fill_store c arg6 f6 hv (isBc_plain _ broadcasts_S1x128_S32x128 _) rfl ?_
    iterate 4
      refine fill_load c arg6 f6 rfl fun v hv => ?_
      refine fill_store c arg6 f6 hv (isBc_cast _ _ _ broadcasts_S1x128_S32x128 _) rfl ?_
    refine fill_load c arg6 f6 rfl fun v hv => ?_
    exact fill_ret c arg6 f6 (isRow_cast hv _ _)

end Row

end Cert.KernelIdeal.Critic

end
-- ==== Proof.KernelIdealRun.lean ====
module

public import proofs.«01_k».proof.Proof.KernelIdealFill

/-!
# The kernel body

The run of the whole body: the words read from the two tables of lengths, the copies issued, the weights replicated, the
copies waited for and their chunks multiplied, and the results computed from the rows of products and stored.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

/-- The rows of a family of chunks, held together or chunk by chunk. -/
theorem both_chunks (c : Dev nD) (V : Hid F) (s : Finset (Fin 16)) :
    (both c V (s.biUnion chunkRows) : sProp 𝕄) ⊣⊢ bigSep s fun q => both c V (chunkRows q) := by
  induction s using Finset.induction_on with
  | empty =>
    rw [Finset.biUnion_empty, BI.bigSep_empty]
    unfold both hidPt bufPt
    constructor
    · exact Idealize.SL.BI.Affine.affine
    · rw [pointsTo_empty]
      iintro _
      isplitr
      · iempintro
      · iexists V
        rw [pointsTo_empty]
        iempintro
  | insert q s hq ih =>
    rw [Finset.biUnion_insert, BI.bigSep_insert hq]
    have hd : Disjoint (chunkRows q) (s.biUnion chunkRows) := by
      rw [Finset.disjoint_biUnion_right]
      intro q' hq'
      rw [Finset.disjoint_left]
      intro i h h'
      unfold chunkRows at h h'
      rw [mem_rows] at h h'
      exact hq ((Fin.ext (show q.val = q'.val by omega)) ▸ hq')
    exact ⟨(both_union c V hd).1.trans (sep_mono .rfl ih.1), (sep_mono .rfl ih.2).trans (both_union c V hd).2⟩

theorem chunkRows_univ : (Finset.univ : Finset (Fin 16)).biUnion chunkRows = Finset.univ := by
  ext i
  have h0 : (i 0).val < 2 := (i 0).isLt
  have h1 : (i 1).val < 1024 := (i 1).isLt
  refine ⟨fun _ => Finset.mem_univ i, fun _ => Finset.mem_biUnion.mpr ⟨⟨2 * ((i 1).val / 128) + (i 0).val, by omega⟩, Finset.mem_univ _, ?_⟩⟩
  unfold chunkRows
  rw [mem_rows]
  simp only
  omega

/-- All sixteen semaphores at rest. -/
def semsIdle (c : Dev nD) : sProp 𝕄 := bigSep Finset.univ fun q : Fin 16 => semVal ((c : Thread nD τ), SemLoc.dma (cellOf q)) 0

/-- Nothing in flight: the semaphores at rest, the array and the buffer held whole. -/
theorem chunks_idle (c : Dev nD) (V : Hid F) (S : Spans) :
    (chunks c V S (fun _ => false) : sProp 𝕄) ⊣⊢ iprop(semsIdle c ∗ both c V Finset.univ) := by
  have e : (chunks c V S (fun _ => false) : sProp 𝕄) = iprop(semsIdle c ∗ bigSep Finset.univ fun q => both c V (chunkRows q)) :=
    BI.bigSep_sep Finset.univ (fun q : Fin 16 => semVal ((c : Thread nD τ), SemLoc.dma (cellOf q)) 0) (fun q => both c V (chunkRows q))
  have h := both_chunks c V Finset.univ
  rw [chunkRows_univ] at h
  rw [e]
  exact ⟨sep_mono .rfl h.2, sep_mono .rfl h.1⟩

/-- A program that goes on with a value at hand. -/
theorem after_ret {c : Dev nD} {α β : Type} {P : sProp 𝕄} {x : α} {k : α → Prog (TpuEff nD τ sig (Elt F) Λ₀ .tc) β} {Q : β → sProp 𝕄}
    (h : P ⊢ wp frame (wpE (defs₀ (F := F)) Variants.none (c : Thread nD τ) none) Set.univ (k x) Q) :
    P ⊢ wp frame (wpE (defs₀ (F := F)) Variants.none (c : Thread nD τ) none) Set.univ ((Prog.ret x).bind k) Q := h

section Body
variable (c : Dev nD) (V : Hid F) (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole)
variable (harg5 : hidM.IsWhole) (harg13 : bufM.IsWhole) (harg14 : wrepM.IsWhole) (harg15 : vrawM.IsWhole)

/-- Word `k` of a table. -/
def word (arg : Memref sig .tc .smem S2 .i32) (f : Buf (Elt F) (arg.view.loc (c : Thread nD τ))) (k : Fin 2) : Elt F .i32 :=
  arg.view.read (Elt F) f (fun a => ⟨k.val, (by fin_cases a; exact k.isLt : k.val < S2.size a)⟩)

/-- What the part that reads the tables returns. -/
abbrev Part3 (F : FTy → Type) [FloatOps F] : Type := Σ' (v0 : Elt F .i32) (v1 : Elt F .i32) (v2 : Elt F .i32) (v3 : Elt F .i32) (v4 : BitVec 32) (v5 : Elt F .i32) (v6 : Elt F .i32) (k0_hw1 : k0_chk1 v0 v1 v2 v3 v5 v6) (v7 : BitVec 32) (v11 : BitVec 32) (v13 : BitVec 32) (v15 : BitVec 32) (v17 : BitVec 32) (v19 : BitVec 32) (v20 : BitVec 32) (v34 : BitVec 1), BitVec 32

/-- The number of positions of one sequence, by its two words. -/
theorem count_cong {a b p l : BitVec 32} (ha : a = p) (hb : b = l) :
    Scalar.maxsi (Scalar.subi (Scalar.minsi 1024#32 (Scalar.maxsi 0#32 (Scalar.addi a b))) (Scalar.minsi 1024#32 (Scalar.maxsi 0#32 a))) 0#32 = cntW (clampW p) (clampW (Scalar.addi p l)) := by
  subst ha hb
  rfl

set_option maxHeartbeats 400000 in
/-- The words of the tables. -/
theorem part3_run (f0 : Buf (Elt F) (arg0.view.loc (c : Thread nD τ))) (f1 : Buf (Elt F) (arg1.view.loc (c : Thread nD τ))) :
    (iprop((arg0.view.loc (c : Thread nD τ) ↦[arg0.view.set]{fullShare} f0) ∗ (arg1.view.loc (c : Thread nD τ) ↦[arg1.view.set]{fullShare} f1)) : sProp 𝕄)
      ⊢ wp frame (wpE (defs₀ (F := F)) Variants.none (c : Thread nD τ) none) Set.univ (k0_part3_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3)
        (fun x : Part3 F => iprop(⌜x.1 = word c arg0 f0 0 ∧ x.2.1 = word c arg0 f0 1 ∧ x.2.2.1 = word c arg0 f0 0 ∧ x.2.2.2.1 = word c arg1 f1 0
            ∧ x.2.2.2.2.1 = Scalar.addi (word c arg0 f0 0) (word c arg1 f1 0) ∧ x.2.2.2.2.2.1 = word c arg0 f0 1 ∧ x.2.2.2.2.2.2.1 = word c arg1 f1 1
            ∧ x.2.2.2.2.2.2.2.2.1 = Scalar.addi (word c arg0 f0 1) (word c arg1 f1 1)
            ∧ x.2.2.2.2.2.2.2.2.2.2.2.2.1 = cntW (clampW (word c arg0 f0 0)) (clampW (Scalar.addi (word c arg0 f0 0) (word c arg1 f1 0)))
            ∧ x.2.2.2.2.2.2.2.2.2.2.2.2.2.1 = cntW (clampW (word c arg0 f0 1)) (clampW (Scalar.addi (word c arg0 f0 1) (word c arg1 f1 1)))⌝
          ∗ (arg0.view.loc (c : Thread nD τ) ↦[arg0.view.set]{fullShare} f0) ∗ (arg1.view.loc (c : Thread nD τ) ↦[arg1.view.set]{fullShare} f1))) := by
  have hchk := fun (a b c d e f : Elt F .i32) => chk a b c d e f
  unfold k0_part3_skel
  iintro ⟨H0, H1⟩
  sl_exec
  sl_step
  isplitr
  · ipureintro
    refine ⟨?_, ?_, ?_, ?_, ?_, ?_, ?_, ?_, ?_, ?_⟩
    rotate_left 8
    · dsimp only
      unfold part3_run.sl.v17 part3_run.sl.v16 part3_run.sl.v13 part3_run.sl.v9 part3_run.sl.v12 part3_run.sl.v8 part3_run.sl.v4
      refine count_cong ?_ ?_
      · exact congrArg (View.read (Elt F) _ _) (funext fun a => by fin_cases a; rfl)
      · exact congrArg (View.read (Elt F) _ _) (funext fun a => by fin_cases a; rfl)
    · dsimp only
      unfold part3_run.sl.v19 part3_run.sl.v18 part3_run.sl.v15 part3_run.sl.v11 part3_run.sl.v14 part3_run.sl.v10 part3_run.sl.v7
      refine count_cong ?_ ?_
      · exact congrArg (View.read (Elt F) _ _) (funext fun a => by fin_cases a; rfl)
      · exact congrArg (View.read (Elt F) _ _) (funext fun a => by fin_cases a; rfl)
    all_goals first | exact congrArg (View.read (Elt F) _ _) (funext fun a => by fin_cases a; rfl) | exact congrArg₂ Scalar.addi (congrArg (View.read (Elt F) _ _) (funext fun a => by fin_cases a; rfl)) (congrArg (View.read (Elt F) _ _) (funext fun a => by fin_cases a; rfl))
  isplitl [H0] <;> iassumption

/-- Pure words. -/
theorem part4_run (v11 v13 v15 v17 v19 v20 : BitVec 32) (v34 : BitVec 1) (v35 : BitVec 32) :
    (iprop(emp) : sProp 𝕄) ⊢ wp frame (wpE (defs₀ (F := F)) Variants.none (c : Thread nD τ) none) Set.univ (k0_part4_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v11 v13 v15 v17 v19 v20 v34 v35) (fun _ => iprop(emp)) := by
  unfold k0_part4_skel
  iintro H
  sl_exec
  sl_step
  iempintro
theorem part5_run (v36 v53 : BitVec 32) (v75 : BitVec 1) (v76 : BitVec 32) :
    (iprop(emp) : sProp 𝕄) ⊢ wp frame (wpE (defs₀ (F := F)) Variants.none (c : Thread nD τ) none) Set.univ (k0_part5_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v36 v53 v75 v76) (fun _ => iprop(emp)) := by
  unfold k0_part5_skel
  iintro H
  sl_exec
  sl_step
  iempintro
theorem part6_run (v17 v19 v53 v74 v95 v112 c4_i32_50 v113 v118 : BitVec 32) :
    (iprop(emp) : sProp 𝕄) ⊢ wp frame (wpE (defs₀ (F := F)) Variants.none (c : Thread nD τ) none) Set.univ (k0_part6_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v17 v19 v53 v74 v95 v112 c4_i32_50 v113 v118) (fun _ => iprop(emp)) := by
  unfold k0_part6_skel
  iintro H
  sl_exec
  sl_step
  iempintro

variable (v0 v1 v2 v3 v5 v6 : Elt F .i32) (k0_hw1 : k0_chk1 v0 v1 v2 v3 v5 v6) (v36 v53 v74 v95 v112 v129 v151 : BitVec 32)

/-- The copies issued and the first row of the weights stored. -/
theorem part7_run (f6 : Buf (Elt F) (arg6.view.loc (c : Thread nD τ))) (v152 : BitVec 1) (v154 c4_i32_71 v155 v157 c0_i32_73 : BitVec 32) :
    iprop((semsIdle c ∗ both c V Finset.univ) ∗ fill iprop(emp) c arg6 f6 0)
      ⊢ wp frame (wpE (defs₀ (F := F)) Variants.none (c : Thread nD τ) none) Set.univ (k0_part7_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 v152 v154 c4_i32_71 v155 v157 c0_i32_73)
        (fun r => iprop(⌜IsRow (arg6.view.read (Elt F) f6) 1 r.2⌝
          ∗ chunks c V (spans v0 v1 v2 v3 v5 v6) (flying (spans v0 v1 v2 v3 v5 v6) 0 (spans v0 v1 v2 v3 v5 v6).nit) ∗ fill iprop(emp) c arg6 f6 1)) := by
  have htr := t1_trips v0 v1 v2 v3 v5 v6
  have hstep := fun k acc => t1_step c V arg0 harg0 arg1 harg1 arg2 harg2 arg3 harg3 arg4 harg4 harg5 arg6 harg6 arg7 harg7 arg8 harg8 arg9 harg9 arg10 harg10 arg11 harg11 arg12 harg12 harg13 wrepM harg14 vrawM harg15 v0 v1 v2 v3 v5 v6 k0_hw1 v36 v53 v74 v95 v112 v129 v151 v152 v154 c4_i32_71 v155 v157 c0_i32_73 k acc
  generalize spans v0 v1 v2 v3 v5 v6 = S at htr hstep ⊢
  unfold k0_part7_skel
  iintro ⟨HS, HF⟩
  iapply (Scf.wp_for_bind frame (wpE (defs₀ (F := F)) Variants.none (c : Thread nD τ) none) Set.univ _ _ _ _ () _
    (fun u _ => chunks c V S (flying S 0 u)) (fun u acc => hstep u acc)) $$ [HS]
  · rw [flying_none]
    iapply (chunks_idle c V _).2
    iexact HS
  iintro %acc HS
  sl_for0 (t4_trips v0 v1 v2 v3 v5 v6)
  rw [show Scf.trips (k0_t1_loop v0 v1 v2 v3 v5 v6).lb (k0_t1_loop v0 v1 v2 v3 v5 v6).ub (k0_t1_loop v0 v1 v2 v3 v5 v6).st = S.nit from htr]
  iapply (wp_wand_r frame (wpE (defs₀ (F := F)) Variants.none (c : Thread nD τ) none) Set.univ
    (Q := fun r => iprop(⌜IsRow (arg6.view.read (Elt F) f6) 1 r.2⌝ ∗ fill iprop(emp) c arg6 f6 1)))
  isplitl [HF]
  · refine BIBase.Entails.trans (Q := fill iprop(emp) c arg6 f6 0) (by iintro H; iexact H) ?_
    refine fill_load c arg6 f6 rfl fun v hv => ?_
    refine fill_store c arg6 f6 hv (isBc_cast _ _ _ broadcasts_S1x128_S32x128 _) rfl ?_
    refine fill_load c arg6 f6 rfl fun v hv => ?_
    refine BIBase.Entails.trans (Q := iprop(⌜IsRow (arg6.view.read (Elt F) f6) 1 (k0_pay4 v)⌝ ∗ fill iprop(emp) c arg6 f6 1)) ?_ ?_
    · iintro H
      isplitr
      · ipureintro; exact isRow_cast hv _ _
      iexact H
    refine after_ret ?_
    iintro H
    sl_step
    iexact H
  iintro %r ⟨%hr, HF⟩
  isplitr
  · ipureintro; exact hr
  isplitl [HS] <;> iassumption

/-- The last rows of the weights stored, the rows of products cleared, and the copies waited for and multiplied. -/
theorem part33_run (f6 : Buf (Elt F) (arg6.view.loc (c : Thread nD τ))) (v174 : BitVec 32) (v1068 : FVec F S1x128 .fp8e4m3) (hv : IsRow (arg6.view.read (Elt F) f6) 126 v1068) :
    iprop(chunks c V (spans v0 v1 v2 v3 v5 v6) (flying (spans v0 v1 v2 v3 v5 v6) 0 (spans v0 v1 v2 v3 v5 v6).nit) ∗ fill iprop(emp) c arg6 f6 126 ∗ (∃ W, owes (c : Thread nD τ) 0 W) ∗ ∃ f, vrawM.view.loc (c : Thread nD τ) ↦{fullShare} f)
      ⊢ wp frame (wpE (defs₀ (F := F)) Variants.none (c : Thread nD τ) none) Set.univ (k0_part33_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v2 v3 v5 v6 k0_hw1 v36 v53 v74 v95 v112 v129 v151 v174 v1068)
        (fun r => iprop(⌜r = ⟨iota .tc S16x128 32 [0] iota_S16x128_d0_w32, iota .tc S16x128 32 [1] iota_S16x128_d1_w32, 2#32, k0_pay160, k0_pay161, k0_pay162⟩⌝
          ∗ (semsIdle c ∗ both c V Finset.univ) ∗ (∃ W, owes (c : Thread nD τ) 0 W)
          ∗ (arg6.view.loc (c : Thread nD τ) ↦[arg6.view.set]{fullShare} f6)
          ∗ ∃ Wc f, ⌜Filled (arg6.view.read (Elt F) f6) 128 Wc ∧ RowsOk V Wc (spans v0 v1 v2 v3 v5 v6) (spans v0 v1 v2 v3 v5 v6).nit f⌝
            ∗ (wrepM.view.loc (c : Thread nD τ) ↦{fullShare} Wc) ∗ (vrawM.view.loc (c : Thread nD τ) ↦{fullShare} f))) := by
  have htr := t7_trips v0 v1 v2 v3 v5 v6
  have hstep := fun Wc k acc => t7_step c V arg0 harg0 arg1 harg1 arg2 harg2 arg3 harg3 arg4 harg4 harg5 arg6 harg6 arg7 harg7 arg8 harg8 arg9 harg9 arg10 harg10 arg11 harg11 arg12 harg12 harg13 harg14 harg15 v0 v1 v2 v3 v5 v6 k0_hw1 v36 v53 v74 v95 v112 v129 v151 Wc v174 v1068 k acc
  generalize spans v0 v1 v2 v3 v5 v6 = S at htr hstep ⊢
  unfold k0_part33_skel
  refine BIBase.Entails.trans (Q := fill iprop(chunks c V S (flying S 0 S.nit) ∗ (∃ W, owes (c : Thread nD τ) 0 W) ∗ ∃ f, vrawM.view.loc (c : Thread nD τ) ↦{fullShare} f) c arg6 f6 126) ?_ ?_
  · unfold fill
    iintro ⟨HS, ⟨_, H6, HF⟩, HO, HV⟩
    isplitl [HS HO HV]
    · isplitl [HS]; · iexact HS
      isplitl [HO] <;> iassumption
    isplitl [H6] <;> iassumption
  refine fill_store c arg6 f6 hv (isBc_plain _ broadcasts_S1x128_S32x128 _) rfl ?_
  refine fill_load c arg6 f6 rfl fun v hv => ?_
  refine fill_store c arg6 f6 hv (isBc_cast _ _ _ broadcasts_S1x128_S32x128 _) rfl ?_
  refine after_ret ?_
  unfold fill
  iintro ⟨⟨HS, HO, %fv, HV⟩, H6, %Wc, %hW, HW⟩
  sl_exec
  iapply (Scf.wp_for_bind frame (wpE (defs₀ (F := F)) Variants.none (c : Thread nD τ) none) Set.univ _ _ _ _ () _
    (fun u _ => inv7 c V Wc S u) (fun u acc => hstep Wc u acc)) $$ [HS HO HW HV]
  · unfold inv7
    isplitl [HS]; · iexact HS
    isplitl [HO]; · iexact HO
    isplitl [HW]; · iexact HW
    iexists _
    isplitr
    rotate_left
    · iexact HV
    ipureintro
    intro i hi
    exact absurd hi (Nat.not_lt_zero i)
  iintro %acc HI
  sl_for0 (t10_trips v0 v1 v2 v3 v5 v6)
  rw [show Scf.trips (k0_t7_loop v0 v1 v2 v3 v5 v6).lb (k0_t7_loop v0 v1 v2 v3 v5 v6).ub (k0_t7_loop v0 v1 v2 v3 v5 v6).st = S.nit from htr]
  unfold inv7
  rw [flying_none]
  icases HI with ⟨HS, HO, HW, %f, %hf, HV⟩
  ihave HS := (chunks_idle c V S).1 $$ HS
  sl_exec
  sl_step
  isplitr
  · ipureintro; rfl
  isplitl [HS]; · iexact HS
  isplitl [HO]; · iexact HO
  isplitl [H6]; · iexact H6
  iexists Wc
  iexists f
  isplitr
  · ipureintro; exact ⟨hW, hf⟩
  isplitl [HW] <;> iassumption

end Body

end Cert.KernelIdeal.Critic

end
-- ==== Proof.KernelIdealTail.lean ====
module

public import Idealize.ShloMosaic.Lib.WritesUnit
public import proofs.«01_k».proof.Proof.KernelIdealRun

/-!
# The whole kernel body

The pieces of the body put together: from the inputs, the array in memory and the scratch buffers, the body runs to its
end, gives everything back, and leaves in the first result the masked, scaled products of the rows in flight.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

/-- A piece of a program run first, with what it does not touch set aside. -/
theorem piece {c : Dev nD} {α β : Type} {R P : sProp (MT nD τ sig Unit (Elt F) ℕ (Pipeline.UD sig nD τ) ℕ)} {Q : α → sProp (MT nD τ sig Unit (Elt F) ℕ (Pipeline.UD sig nD τ) ℕ)} {Q' : β → sProp (MT nD τ sig Unit (Elt F) ℕ (Pipeline.UD sig nD τ) ℕ)}
    {p : Prog (TpuEff nD τ sig (Elt F) Λ₀ .tc) α} {f : α → Prog (TpuEff nD τ sig (Elt F) Λ₀ .tc) β}
    (h : P ⊢ wp frame (wpE (defs₀ (F := F)) Variants.none (c : Thread nD τ) none) Set.univ p Q) (k : ∀ a, iprop(R ∗ Q a) ⊢ wp frame (wpE (defs₀ (F := F)) Variants.none (c : Thread nD τ) none) Set.univ (f a) Q') :
    iprop(R ∗ P) ⊢ wp frame (wpE (defs₀ (F := F)) Variants.none (c : Thread nD τ) none) Set.univ (p.bind f) Q' := by
  show _ ⊢ wp frame (wpE (defs₀ (F := F)) Variants.none (c : Thread nD τ) none) Set.univ (p >>= f) Q'
  rw [wp_bind]
  iintro ⟨HR, HP⟩
  iapply (wp_wand_r frame (wpE (defs₀ (F := F)) Variants.none (c : Thread nD τ) none) Set.univ (Q := Q))
  isplitl [HP]
  · iapply h
    iexact HP
  iintro %a HQ
  iapply (k a)
  isplitl [HR] <;> iassumption

/-- A piece that computes words only. -/
theorem pureWords {c : Dev nD} {α β : Type} {R : sProp (MT nD τ sig Unit (Elt F) ℕ (Pipeline.UD sig nD τ) ℕ)} {Q' : β → sProp (MT nD τ sig Unit (Elt F) ℕ (Pipeline.UD sig nD τ) ℕ)}
    {p : Prog (TpuEff nD τ sig (Elt F) Λ₀ .tc) α} {f : α → Prog (TpuEff nD τ sig (Elt F) Λ₀ .tc) β}
    (h : (iprop(emp) : sProp (MT nD τ sig Unit (Elt F) ℕ (Pipeline.UD sig nD τ) ℕ)) ⊢ wp frame (wpE (defs₀ (F := F)) Variants.none (c : Thread nD τ) none) Set.univ p (fun _ => iprop(emp))) (k : ∀ a, R ⊢ wp frame (wpE (defs₀ (F := F)) Variants.none (c : Thread nD τ) none) Set.univ (f a) Q') :
    R ⊢ wp frame (wpE (defs₀ (F := F)) Variants.none (c : Thread nD τ) none) Set.univ (p.bind f) Q' := by
  refine BIBase.Entails.trans (Q := iprop(R ∗ emp)) (by iintro H; isplitl [H]; · iexact H
                                                        iempintro) (piece h fun a => ?_)
  refine BIBase.Entails.trans ?_ (k a)
  iintro ⟨H, _⟩
  iexact H

/-- A fact kept beside what is held is at hand. -/
theorem with_fact {φ : Prop} {R P X : sProp (MT nD τ sig Unit (Elt F) ℕ (Pipeline.UD sig nD τ) ℕ)} (h : φ → (iprop(R ∗ P) ⊢ X)) : iprop(R ∗ ⌜φ⌝ ∗ P) ⊢ X := by
  iintro ⟨HR, %hφ, HP⟩
  iapply (h hφ)
  isplitl [HR] <;> iassumption

section Body
variable (c : Dev nD) (V : Hid F) (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole)
variable (harg5 : hidM.IsWhole) (harg13 : bufM.IsWhole) (harg14 : wrepM.IsWhole) (harg15 : vrawM.IsWhole)
variable (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))

/-- The positions within the span of their own row, by the words of the two tables. -/
def maskOf (p0 p1 l0 l1 : Elt F .i32) : IVec S16x128 1 :=
  k0_pay166 (F := F) p0 p1 (Scalar.addi p0 l0) (Scalar.addi p1 l1) (iota .tc S16x128 32 [0] iota_S16x128_d0_w32) (iota .tc S16x128 32 [1] iota_S16x128_d1_w32) 2#32 k0_pay160 k0_pay161 k0_pay162

/-- The first result, row by row of the rows of products `f`: scaled, shifted and masked. -/
def valsOf (f : Vec F S16x128 .f32) : FVec F S16x128 .f32 :=
  k0_pay168 (maskOf (word c arg0 f0 0) (word c arg0 f0 1) (word c arg1 f1 0) (word c arg1 f1 1)) f
    (arg7.view.readAt (Elt F) (Rect.unit (s := S2x1024) ![0, 0] S2x128.size inb_S2x1024_S2x128_0_0).toLoadRect f7)
    (arg7.view.readAt (Elt F) (Rect.unit (s := S2x1024) ![0, 128] S2x128.size inb_S2x1024_S2x128_0_128).toLoadRect f7)
    (arg7.view.readAt (Elt F) (Rect.unit (s := S2x1024) ![0, 256] S2x128.size inb_S2x1024_S2x128_0_256).toLoadRect f7)
    (arg7.view.readAt (Elt F) (Rect.unit (s := S2x1024) ![0, 384] S2x128.size inb_S2x1024_S2x128_0_384).toLoadRect f7)
    (arg7.view.readAt (Elt F) (Rect.unit (s := S2x1024) ![0, 512] S2x128.size inb_S2x1024_S2x128_0_512).toLoadRect f7)
    (arg7.view.readAt (Elt F) (Rect.unit (s := S2x1024) ![0, 640] S2x128.size inb_S2x1024_S2x128_0_640).toLoadRect f7)
    (arg7.view.readAt (Elt F) (Rect.unit (s := S2x1024) ![0, 768] S2x128.size inb_S2x1024_S2x128_0_768).toLoadRect f7)
    (arg7.view.readAt (Elt F) (Rect.unit (s := S2x1024) ![0, 896] S2x128.size inb_S2x1024_S2x128_0_896).toLoadRect f7)
    (arg3.view.readAt (Elt F) (Rect.unit (s := S1) ![0] S1.size inb_S1_S1_0).toLoadRect f3 (Shape.Idx.first (by rw [show (Rect.unit (s := S1) ![0] S1.size inb_S1_S1_0).shape.numel = 1 from numel1_S1]; exact Nat.one_pos)))
    (arg4.view.readAt (Elt F) (Rect.unit (s := S1) ![0] S1.size inb_S1_S1_0).toLoadRect f4 (Shape.Idx.first (by rw [show (Rect.unit (s := S1) ![0] S1.size inb_S1_S1_0).shape.numel = 1 from numel1_S1]; exact Nat.one_pos)))

/-- The third result, row by row, from the rows of the first and the pieces of the two tables of log probabilities. -/
def retsFrom (i0 i1 pos e : IVec S16x128 32) (M : IVec S16x128 1) (sc v : FVec F S16x128 .f32) (a0 a1 a2 : FVec F S2x128 .f32) (a3 a4 a5 a6 a7 b0 b1 b2 b3 b4 b5 b6 b7 : Vec F S2x128 .bf16) : FVec F S16x128 .f32 :=
  k0_pay195 v (k0_pay175 i0 M (k0_pay174 i0 i1 M sc v (k0_pay172 a0 a1 a2 a3 a4 a5 a6 a7 b0 b1 b2 b3 b4 b5 b6 b7) (k0_pay173 pos e)))

/-- The third result from the words of the tables, the two scores, the rows of the first result and the pieces. -/
def retsRaw (p0 p1 l0 l1 : Elt F .i32) (s0 s1 : Elt F .f32) (v : FVec F S16x128 .f32) (a0 a1 a2 a3 a4 a5 a6 a7 b0 b1 b2 b3 b4 b5 b6 b7 : Vec F S2x128 .bf16) : FVec F S16x128 .f32 :=
  retsFrom (iota .tc S16x128 32 [0] iota_S16x128_d0_w32) (iota .tc S16x128 32 [1] iota_S16x128_d1_w32)
    (k0_pay163 (iota .tc S16x128 32 [0] iota_S16x128_d0_w32) (iota .tc S16x128 32 [1] iota_S16x128_d1_w32) 2#32 k0_pay160 k0_pay161 k0_pay162)
    (k0_pay165 (Scalar.addi p0 l0) (Scalar.addi p1 l1) (iota .tc S16x128 32 [0] iota_S16x128_d0_w32)) (maskOf (F := F) p0 p1 l0 l1)
    (k0_pay167 (k0_pay164 (iota .tc S16x128 32 [0] iota_S16x128_d0_w32)) s0 s1) v (k0_pay169 a0) (k0_pay170 a1) (k0_pay171 a2) a3 a4 a5 a6 a7 b0 b1 b2 b3 b4 b5 b6 b7

/-- The third result, row by row of the rows of products `f`. -/
def retsOf (f : Vec F S16x128 .f32) : FVec F S16x128 .f32 :=
  retsRaw (word c arg0 f0 0) (word c arg0 f0 1) (word c arg1 f1 0) (word c arg1 f1 1)
    (arg2.view.readAt (Elt F) (Rect.unit (s := S2) ![0] S1.size inb_S2_S1_0).toLoadRect f2 (Shape.Idx.first (by rw [show (Rect.unit (s := S2) ![0] S1.size inb_S2_S1_0).shape.numel = 1 from numel1_S1]; exact Nat.one_pos)))
    (arg2.view.readAt (Elt F) (Rect.unit (s := S2) ![1] S1.size inb_S2_S1_1).toLoadRect f2 (Shape.Idx.first (by rw [show (Rect.unit (s := S2) ![1] S1.size inb_S2_S1_1).shape.numel = 1 from numel1_S1]; exact Nat.one_pos)))
    (valsOf c arg0 arg1 arg3 arg4 arg7 f0 f1 f3 f4 f7 f)
    (arg8.view.readAt (Elt F) (Rect.unit (s := S2x1024) ![0, 0] S2x128.size inb_S2x1024_S2x128_0_0).toLoadRect f8)
    (arg8.view.readAt (Elt F) (Rect.unit (s := S2x1024) ![0, 128] S2x128.size inb_S2x1024_S2x128_0_128).toLoadRect f8)
    (arg8.view.readAt (Elt F) (Rect.unit (s := S2x1024) ![0, 256] S2x128.size inb_S2x1024_S2x128_0_256).toLoadRect f8)
    (arg8.view.readAt (Elt F) (Rect.unit (s := S2x1024) ![0, 384] S2x128.size inb_S2x1024_S2x128_0_384).toLoadRect f8)
    (arg8.view.readAt (Elt F) (Rect.unit (s := S2x1024) ![0, 512] S2x128.size inb_S2x1024_S2x128_0_512).toLoadRect f8)
    (arg8.view.readAt (Elt F) (Rect.unit (s := S2x1024) ![0, 640] S2x128.size inb_S2x1024_S2x128_0_640).toLoadRect f8)
    (arg8.view.readAt (Elt F) (Rect.unit (s := S2x1024) ![0, 768] S2x128.size inb_S2x1024_S2x128_0_768).toLoadRect f8)
    (arg8.view.readAt (Elt F) (Rect.unit (s := S2x1024) ![0, 896] S2x128.size inb_S2x1024_S2x128_0_896).toLoadRect f8)
    (arg9.view.readAt (Elt F) (Rect.unit (s := S2x1024) ![0, 0] S2x128.size inb_S2x1024_S2x128_0_0).toLoadRect f9)
    (arg9.view.readAt (Elt F) (Rect.unit (s := S2x1024) ![0, 128] S2x128.size inb_S2x1024_S2x128_0_128).toLoadRect f9)
    (arg9.view.readAt (Elt F) (Rect.unit (s := S2x1024) ![0, 256] S2x128.size inb_S2x1024_S2x128_0_256).toLoadRect f9)
    (arg9.view.readAt (Elt F) (Rect.unit (s := S2x1024) ![0, 384] S2x128.size inb_S2x1024_S2x128_0_384).toLoadRect f9)
    (arg9.view.readAt (Elt F) (Rect.unit (s := S2x1024) ![0, 512] S2x128.size inb_S2x1024_S2x128_0_512).toLoadRect f9)
    (arg9.view.readAt (Elt F) (Rect.unit (s := S2x1024) ![0, 640] S2x128.size inb_S2x1024_S2x128_0_640).toLoadRect f9)
    (arg9.view.readAt (Elt F) (Rect.unit (s := S2x1024) ![0, 768] S2x128.size inb_S2x1024_S2x128_0_768).toLoadRect f9)
    (arg9.view.readAt (Elt F) (Rect.unit (s := S2x1024) ![0, 896] S2x128.size inb_S2x1024_S2x128_0_896).toLoadRect f9)

/-- The second result, row by row, from the rows of the first and the pieces of the two tables of log probabilities. -/
def advsFrom (n0 n1 : BitVec 32) (i0 i1 pos e : IVec S16x128 32) (M : IVec S16x128 1) (sc v : FVec F S16x128 .f32) (a0 a1 a2 : FVec F S2x128 .f32) (a3 a4 a5 a6 a7 b0 b1 b2 b3 b4 b5 b6 b7 : Vec F S2x128 .bf16) : FVec F S16x128 .f32 :=
  k0_pay178 M (k0_pay175 i0 M (k0_pay174 i0 i1 M sc v (k0_pay172 a0 a1 a2 a3 a4 a5 a6 a7 b0 b1 b2 b3 b4 b5 b6 b7) (k0_pay173 pos e))) (k0_pay176 n0 n1) (k0_pay177 n0 n1 i0 M (k0_pay174 i0 i1 M sc v (k0_pay172 a0 a1 a2 a3 a4 a5 a6 a7 b0 b1 b2 b3 b4 b5 b6 b7) (k0_pay173 pos e)))

/-- The second result from the words of the tables, the two scores, the rows of the first result and the pieces. -/
def advsRaw (p0 p1 l0 l1 : Elt F .i32) (s0 s1 : Elt F .f32) (v : FVec F S16x128 .f32) (a0 a1 a2 a3 a4 a5 a6 a7 b0 b1 b2 b3 b4 b5 b6 b7 : Vec F S2x128 .bf16) : FVec F S16x128 .f32 :=
  advsFrom (cntW (clampW p0) (clampW (Scalar.addi p0 l0))) (cntW (clampW p1) (clampW (Scalar.addi p1 l1))) (iota .tc S16x128 32 [0] iota_S16x128_d0_w32) (iota .tc S16x128 32 [1] iota_S16x128_d1_w32)
    (k0_pay163 (iota .tc S16x128 32 [0] iota_S16x128_d0_w32) (iota .tc S16x128 32 [1] iota_S16x128_d1_w32) 2#32 k0_pay160 k0_pay161 k0_pay162)
    (k0_pay165 (Scalar.addi p0 l0) (Scalar.addi p1 l1) (iota .tc S16x128 32 [0] iota_S16x128_d0_w32)) (maskOf (F := F) p0 p1 l0 l1)
    (k0_pay167 (k0_pay164 (iota .tc S16x128 32 [0] iota_S16x128_d0_w32)) s0 s1) v (k0_pay169 a0) (k0_pay170 a1) (k0_pay171 a2) a3 a4 a5 a6 a7 b0 b1 b2 b3 b4 b5 b6 b7

/-- The second result, row by row of the rows of products `f`. -/
def advsOf (f : Vec F S16x128 .f32) : FVec F S16x128 .f32 :=
  advsRaw (word c arg0 f0 0) (word c arg0 f0 1) (word c arg1 f1 0) (word c arg1 f1 1)
    (arg2.view.readAt (Elt F) (Rect.unit (s := S2) ![0] S1.size inb_S2_S1_0).toLoadRect f2 (Shape.Idx.first (by rw [show (Rect.unit (s := S2) ![0] S1.size inb_S2_S1_0).shape.numel = 1 from numel1_S1]; exact Nat.one_pos)))
    (arg2.view.readAt (Elt F) (Rect.unit (s := S2) ![1] S1.size inb_S2_S1_1).toLoadRect f2 (Shape.Idx.first (by rw [show (Rect.unit (s := S2) ![1] S1.size inb_S2_S1_1).shape.numel = 1 from numel1_S1]; exact Nat.one_pos)))
    (valsOf c arg0 arg1 arg3 arg4 arg7 f0 f1 f3 f4 f7 f)
    (arg8.view.readAt (Elt F) (Rect.unit (s := S2x1024) ![0, 0] S2x128.size inb_S2x1024_S2x128_0_0).toLoadRect f8)
    (arg8.view.readAt (Elt F) (Rect.unit (s := S2x1024) ![0, 128] S2x128.size inb_S2x1024_S2x128_0_128).toLoadRect f8)
    (arg8.view.readAt (Elt F) (Rect.unit (s := S2x1024) ![0, 256] S2x128.size inb_S2x1024_S2x128_0_256).toLoadRect f8)
    (arg8.view.readAt (Elt F) (Rect.unit (s := S2x1024) ![0, 384] S2x128.size inb_S2x1024_S2x128_0_384).toLoadRect f8)
    (arg8.view.readAt (Elt F) (Rect.unit (s := S2x1024) ![0, 512] S2x128.size inb_S2x1024_S2x128_0_512).toLoadRect f8)
    (arg8.view.readAt (Elt F) (Rect.unit (s := S2x1024) ![0, 640] S2x128.size inb_S2x1024_S2x128_0_640).toLoadRect f8)
    (arg8.view.readAt (Elt F) (Rect.unit (s := S2x1024) ![0, 768] S2x128.size inb_S2x1024_S2x128_0_768).toLoadRect f8)
    (arg8.view.readAt (Elt F) (Rect.unit (s := S2x1024) ![0, 896] S2x128.size inb_S2x1024_S2x128_0_896).toLoadRect f8)
    (arg9.view.readAt (Elt F) (Rect.unit (s := S2x1024) ![0, 0] S2x128.size inb_S2x1024_S2x128_0_0).toLoadRect f9)
    (arg9.view.readAt (Elt F) (Rect.unit (s := S2x1024) ![0, 128] S2x128.size inb_S2x1024_S2x128_0_128).toLoadRect f9)
    (arg9.view.readAt (Elt F) (Rect.unit (s := S2x1024) ![0, 256] S2x128.size inb_S2x1024_S2x128_0_256).toLoadRect f9)
    (arg9.view.readAt (Elt F) (Rect.unit (s := S2x1024) ![0, 384] S2x128.size inb_S2x1024_S2x128_0_384).toLoadRect f9)
    (arg9.view.readAt (Elt F) (Rect.unit (s := S2x1024) ![0, 512] S2x128.size inb_S2x1024_S2x128_0_512).toLoadRect f9)
    (arg9.view.readAt (Elt F) (Rect.unit (s := S2x1024) ![0, 640] S2x128.size inb_S2x1024_S2x128_0_640).toLoadRect f9)
    (arg9.view.readAt (Elt F) (Rect.unit (s := S2x1024) ![0, 768] S2x128.size inb_S2x1024_S2x128_0_768).toLoadRect f9)
    (arg9.view.readAt (Elt F) (Rect.unit (s := S2x1024) ![0, 896] S2x128.size inb_S2x1024_S2x128_0_896).toLoadRect f9)

/-- Rows of 128 laid out as rows of 1024: the first `k` of eight pieces. -/
def Laid (v : FVec F S16x128 .f32) (k : ℕ) (X : S2x1024.Idx → Elt F .f32) : Prop :=
  ∀ (i : S2x1024.Idx) (p : S16x128.Idx), (i 1).val < 128 * k → (p 0).val = 2 * ((i 1).val / 128) + (i 0).val → (p 1).val = (i 1).val % 128 → X i = v p

/-- A further piece laid down. -/
theorem laid_store {arg : Memref sig .tc .vmem S2x1024 .f32} {c : Dev nD} {v : FVec F S16x128 .f32} {k : ℕ} {f : Buf (Elt F) (arg.view.loc (c : Thread nD τ))}
    {L : List (View.Piece (Elt F) S2x1024 .f32)} (h : Laid v k (arg.view.read (Elt F) (arg.view.writes (Elt F) f L)))
    {off off' : Fin 2 → ℕ} (inb : ∀ a, off a + S2x128.size a ≤ S2x1024.size a) (hs : S16x128.Slices off' S2x128) (ho : off = ![0, 128 * k]) (ho' : off' = ![2 * k, 0]) :
    Laid v (k + 1) (arg.view.read (Elt F) (arg.view.writes (Elt F) f (⟨Rect.unit (s := S2x1024) off S2x128.size inb, extractStridedSlice S2x128 off' v hs⟩ :: L))) := by
  subst ho ho'
  intro i p hi hp0 hp1
  have h0 : (i 0).val < 2 := (i 0).isLt
  by_cases hk : (i 1).val < 128 * k
  · exact (View.read_writes_cons_unit_of_not_mem arg.view f inb _ L i rfl 1 (Or.inl hk)).trans (h i p hk hp0 hp1)
  · have hx : ∀ a : Fin 2, (![(i 0).val, (i 1).val - 128 * k] : Fin 2 → ℕ) a < S2x128.size a := by
      intro a
      fin_cases a
      · exact h0
      · show (i 1).val - 128 * k < 128
        omega
    refine (View.read_writes_cons_unit_of_mem arg.view f inb _ L i (fun a => ⟨(![(i 0).val, (i 1).val - 128 * k] : Fin 2 → ℕ) a, hx a⟩) rfl ?_).trans ?_
    · intro a
      fin_cases a
      · show (i 0).val = 0 + (i 0).val
        omega
      · show (i 1).val = 128 * k + ((i 1).val - 128 * k)
        omega
    refine congrArg v (funext fun a => Fin.ext ?_)
    fin_cases a
    · show 2 * k + (i 0).val = (p 0).val
      omega
    · show 0 + ((i 1).val - 128 * k) = (p 1).val
      omega

/-- The mask. -/
theorem part34_run (v0 v1 : Elt F .i32) (v4 v7 : BitVec 32) (v1093 v1094 : IVec S16x128 32) (c2 : BitVec 32) (v1096 v1099 : IVec S16x128 32) (v1101 : IVec S16x128 1) :
    (iprop(emp) : sProp 𝕄) ⊢ wp frame (wpE (defs₀ (F := F)) Variants.none (c : Thread nD τ) none) Set.univ (k0_part34_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v0 v1 v4 v7 v1093 v1094 c2 v1096 v1099 v1101)
      (fun x => iprop(⌜x.2.2.2 = k0_pay166 (F := F) v0 v1 v4 v7 v1093 v1094 c2 v1096 v1099 v1101 ∧ x.1 = k0_pay163 v1093 v1094 c2 v1096 v1099 v1101 ∧ x.2.1 = k0_pay164 v1093 ∧ x.2.2.1 = k0_pay165 v4 v7 v1093⌝ ∗ emp)) := by
  unfold k0_part34_skel
  iintro H
  sl_step
  isplitr
  · ipureintro; exact ⟨rfl, rfl, rfl, rfl⟩
  iempintro

/-- The rows of products read whole. -/
theorem vraw_whole (f : Vec F S16x128 .f32) :
    View.readAt (Elt F) vrawM.view (Rect.unit (s := S16x128) ![0, 0] S16x128.size inb_S16x128_S16x128_0_0).toLoadRect f = f :=
  Memref.readAt_unit_zero (Elt F) cc0_scratch2 (funext fun a => by fin_cases a <;> rfl) _ f

/-- The first result computed. -/
theorem part35_run (v1139 v1148 : IVec S16x128 1) (f : Vec F S16x128 .f32) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (vrawM.view.loc (c : Thread nD τ) ↦{fullShare} f)) : sProp 𝕄) ⊢ wp frame (wpE (defs₀ (F := F)) Variants.none (c : Thread nD τ) none) Set.univ (k0_part35_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3 v1139 v1148)
      (fun x => iprop(⌜x.2.1 = k0_pay168 v1148 f (arg7.view.readAt (Elt F) (Rect.unit (s := S2x1024) ![0, 0] S2x128.size inb_S2x1024_S2x128_0_0).toLoadRect f7) (arg7.view.readAt (Elt F) (Rect.unit (s := S2x1024) ![0, 128] S2x128.size inb_S2x1024_S2x128_0_128).toLoadRect f7) (arg7.view.readAt (Elt F) (Rect.unit (s := S2x1024) ![0, 256] S2x128.size inb_S2x1024_S2x128_0_256).toLoadRect f7) (arg7.view.readAt (Elt F) (Rect.unit (s := S2x1024) ![0, 384] S2x128.size inb_S2x1024_S2x128_0_384).toLoadRect f7) (arg7.view.readAt (Elt F) (Rect.unit (s := S2x1024) ![0, 512] S2x128.size inb_S2x1024_S2x128_0_512).toLoadRect f7) (arg7.view.readAt (Elt F) (Rect.unit (s := S2x1024) ![0, 640] S2x128.size inb_S2x1024_S2x128_0_640).toLoadRect f7) (arg7.view.readAt (Elt F) (Rect.unit (s := S2x1024) ![0, 768] S2x128.size inb_S2x1024_S2x128_0_768).toLoadRect f7) (arg7.view.readAt (Elt F) (Rect.unit (s := S2x1024) ![0, 896] S2x128.size inb_S2x1024_S2x128_0_896).toLoadRect f7) (arg3.view.readAt (Elt F) (Rect.unit (s := S1) ![0] S1.size inb_S1_S1_0).toLoadRect f3 (Shape.Idx.first (by rw [show (Rect.unit (s := S1) ![0] S1.size inb_S1_S1_0).shape.numel = 1 from numel1_S1]; exact Nat.one_pos))) (arg4.view.readAt (Elt F) (Rect.unit (s := S1) ![0] S1.size inb_S1_S1_0).toLoadRect f4 (Shape.Idx.first (by rw [show (Rect.unit (s := S1) ![0] S1.size inb_S1_S1_0).shape.numel = 1 from numel1_S1]; exact Nat.one_pos))) ∧ x.1 = k0_pay167 v1139 (arg2.view.readAt (Elt F) (Rect.unit (s := S2) ![0] S1.size inb_S2_S1_0).toLoadRect f2 (Shape.Idx.first (by rw [show (Rect.unit (s := S2) ![0] S1.size inb_S2_S1_0).shape.numel = 1 from numel1_S1]; exact Nat.one_pos))) (arg2.view.readAt (Elt F) (Rect.unit (s := S2) ![1] S1.size inb_S2_S1_1).toLoadRect f2 (Shape.Idx.first (by rw [show (Rect.unit (s := S2) ![1] S1.size inb_S2_S1_1).shape.numel = 1 from numel1_S1]; exact Nat.one_pos))) ∧ x.2.2.1 = k0_pay169 (arg8.view.readAt (Elt F) (Rect.unit (s := S2x1024) ![0, 0] S2x128.size inb_S2x1024_S2x128_0_0).toLoadRect f8) ∧ x.2.2.2.1 = k0_pay170 (arg8.view.readAt (Elt F) (Rect.unit (s := S2x1024) ![0, 128] S2x128.size inb_S2x1024_S2x128_0_128).toLoadRect f8) ∧ x.2.2.2.2 = k0_pay171 (arg8.view.readAt (Elt F) (Rect.unit (s := S2x1024) ![0, 256] S2x128.size inb_S2x1024_S2x128_0_256).toLoadRect f8)⌝ ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (vrawM.view.loc (c : Thread nD τ) ↦{fullShare} f))) := by
  have hv := vraw_whole f
  unfold k0_part35_skel
  iintro ⟨H2, H3, H4, H7, H8, HV⟩
  sl_exec
  sl_step
  isplitr
  · ipureintro
    dsimp only
    exact ⟨rfl, rfl, rfl, rfl, rfl⟩
  isplitl [H2]; · iexact H2
  isplitl [H3]; · iexact H3
  isplitl [H4]; · iexact H4
  isplitl [H7]; · iexact H7
  isplitl [H8] <;> iassumption
end Body
end Cert.KernelIdeal.Critic
end
-- ==== Proof.KernelIdealBody.lean ====
module

public import proofs.«01_k».proof.Proof.KernelIdealTail

/-!
# The whole kernel body

The pieces of the body put together: from the inputs, the array in memory and the scratch buffers, the body runs to its
end, gives everything back, and leaves in the first result the masked, scaled products of the rows in flight, in the third what the sums make of them.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Critic Cert.KernelIdeal.Gen

variable {F : FTy → Type} [FloatOps F] [Named F]

local notation "𝕄" => MT nD τ sig Unit (Elt F) ℕ (Pipeline.UD sig nD τ) ℕ

/-- A fact kept first is at hand. -/
theorem fact_first {φ : Prop} {P X : sProp (MT nD τ sig Unit (Elt F) ℕ (Pipeline.UD sig nD τ) ℕ)} (h : φ → (P ⊢ X)) : iprop(⌜φ⌝ ∗ P) ⊢ X := by
  iintro ⟨%hφ, HP⟩
  iapply (h hφ)
  iexact HP

/-- A piece that computes words only, of which a fact is kept. -/
theorem piece0 {c : Dev nD} {α β : Type} {φ : α → Prop} {R : sProp (MT nD τ sig Unit (Elt F) ℕ (Pipeline.UD sig nD τ) ℕ)} {Q' : β → sProp (MT nD τ sig Unit (Elt F) ℕ (Pipeline.UD sig nD τ) ℕ)}
    {p : Prog (TpuEff nD τ sig (Elt F) Λ₀ .tc) α} {f : α → Prog (TpuEff nD τ sig (Elt F) Λ₀ .tc) β}
    (h : (iprop(emp) : sProp (MT nD τ sig Unit (Elt F) ℕ (Pipeline.UD sig nD τ) ℕ)) ⊢ wp frame (wpE (defs₀ (F := F)) Variants.none (c : Thread nD τ) none) Set.univ p (fun a => iprop(⌜φ a⌝ ∗ emp))) (k : ∀ a, φ a → (R ⊢ wp frame (wpE (defs₀ (F := F)) Variants.none (c : Thread nD τ) none) Set.univ (f a) Q')) :
    R ⊢ wp frame (wpE (defs₀ (F := F)) Variants.none (c : Thread nD τ) none) Set.univ (p.bind f) Q' := by
  refine BIBase.Entails.trans (Q := iprop(R ∗ emp)) (by iintro H; isplitl [H]; · iexact H
                                                        iempintro) (piece h fun a => with_fact fun hφ => ?_)
  refine BIBase.Entails.trans ?_ (k a hφ)
  iintro ⟨H, _⟩
  iexact H

/-- Nothing beside what is held. -/
theorem emp_beside {P : sProp (MT nD τ sig Unit (Elt F) ℕ (Pipeline.UD sig nD τ) ℕ)} : P ⊢ iprop(emp ∗ P) := by
  iintro H
  isplitr
  · iempintro
  iexact H

section Body
variable (c : Dev nD) (V : Hid F) (arg0 : Memref sig .tc .smem S2 .i32) (harg0 : arg0.IsWhole) (arg1 : Memref sig .tc .smem S2 .i32) (harg1 : arg1.IsWhole) (arg2 : Memref sig .tc .smem S2 .f32) (harg2 : arg2.IsWhole) (arg3 : Memref sig .tc .smem S1 .f32) (harg3 : arg3.IsWhole) (arg4 : Memref sig .tc .smem S1 .f32) (harg4 : arg4.IsWhole) (arg6 : Memref sig .tc .vmem S128x128 .fp8e4m3) (harg6 : arg6.IsWhole) (arg7 : Memref sig .tc .vmem S2x1024 .f32) (harg7 : arg7.IsWhole) (arg8 : Memref sig .tc .vmem S2x1024 .bf16) (harg8 : arg8.IsWhole) (arg9 : Memref sig .tc .vmem S2x1024 .bf16) (harg9 : arg9.IsWhole) (arg10 : Memref sig .tc .vmem S2x1024 .f32) (harg10 : arg10.IsWhole) (arg11 : Memref sig .tc .vmem S2x1024 .f32) (harg11 : arg11.IsWhole) (arg12 : Memref sig .tc .vmem S2x1024 .f32) (harg12 : arg12.IsWhole)
variable (harg5 : hidM.IsWhole) (harg13 : bufM.IsWhole) (harg14 : wrepM.IsWhole) (harg15 : vrawM.IsWhole)
variable (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))

/-- What the body holds once `k` pieces of the third result are laid down; `E` is what is known of its rows besides. -/
def bodyMid (k : ℕ) (E : FVec F S16x128 .f32 → Prop) : sProp 𝕄 :=
  iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
    ∗ (∃ (Wc : Vec F S32x16384 .fp8e4m3) (f : Vec F S16x128 .f32) (g10 : Buf (Elt F) (arg10.view.loc (c : Thread nD τ))) (g11 : Buf (Elt F) (arg11.view.loc (c : Thread nD τ))) (g12 : Buf (Elt F) (arg12.view.loc (c : Thread nD τ))),
        ⌜Filled (arg6.view.read (Elt F) f6) 128 Wc ∧ RowsOk V Wc (spans (word c arg0 f0 0) (word c arg0 f0 1) (word c arg0 f0 0) (word c arg1 f1 0) (word c arg0 f0 1) (word c arg1 f1 1)) (spans (word c arg0 f0 0) (word c arg0 f0 1) (word c arg0 f0 0) (word c arg1 f1 0) (word c arg0 f0 1) (word c arg1 f1 1)).nit f
          ∧ Laid (valsOf c arg0 arg1 arg3 arg4 arg7 f0 f1 f3 f4 f7 f) 8 (arg10.view.read (Elt F) g10)
          ∧ Laid (advsOf c arg0 arg1 arg2 arg3 arg4 arg7 arg8 arg9 f0 f1 f2 f3 f4 f7 f8 f9 f) 8 (arg11.view.read (Elt F) g11)
          ∧ Laid (retsOf c arg0 arg1 arg2 arg3 arg4 arg7 arg8 arg9 f0 f1 f2 f3 f4 f7 f8 f9 f) k (arg12.view.read (Elt F) g12) ∧ E (retsOf c arg0 arg1 arg2 arg3 arg4 arg7 arg8 arg9 f0 f1 f2 f3 f4 f7 f8 f9 f)⌝
        ∗ (arg10.view.loc (c : Thread nD τ) ↦[arg10.view.set]{fullShare} g10) ∗ (wrepM.view.loc (c : Thread nD τ) ↦{fullShare} Wc) ∗ (vrawM.view.loc (c : Thread nD τ) ↦{fullShare} f) ∗ (arg11.view.loc (c : Thread nD τ) ↦[arg11.view.set]{fullShare} g11) ∗ (arg12.view.loc (c : Thread nD τ) ↦[arg12.view.set]{fullShare} g12))
    ∗ (semsIdle c ∗ both c V Finset.univ) ∗ (∃ Wt, owes (c : Thread nD τ) 0 Wt))

/-- What the body holds at its end. -/
def bodyEnd : sProp 𝕄 := bodyMid c V arg0 arg1 arg2 arg3 arg4 arg6 arg7 arg8 arg9 arg10 arg11 arg12 f0 f1 f2 f3 f4 f6 f7 f8 f9 8 fun _ => True

set_option maxHeartbeats 4000000 in
/-- The body up to its last store. -/
theorem part41_run :
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f))
      ⊢ wp frame (wpE (defs₀ (F := F)) Variants.none (c : Thread nD τ) none) Set.univ (k0_part41_skel (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3)
        (fun v => bodyMid c V arg0 arg1 arg2 arg3 arg4 arg6 arg7 arg8 arg9 arg10 arg11 arg12 f0 f1 f2 f3 f4 f6 f7 f8 f9 7 fun R => v = extractStridedSlice S2x128 ![14, 0] R slices_S16x128_o14_0_S2x128) := by
  unfold k0_part41_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f)) ∗ ((arg0.view.loc (c : Thread nD τ) ↦[arg0.view.set]{fullShare} f0) ∗ (arg1.view.loc (c : Thread nD τ) ↦[arg1.view.set]{fullShare} f1)))) ?_ ?_
  · iintro ⟨H0, H1, H⟩
    isplitl [H]
    · iexact H
    isplitl [H0] <;> iassumption
  refine piece (part3_run c arg0 harg0 arg1 harg1 arg2 harg2 arg3 harg3 arg4 harg4 arg6 harg6 arg7 harg7 arg8 harg8 arg9 harg9 arg10 harg10 arg11 harg11 arg12 harg12 harg5 harg13 harg14 harg15 f0 f1) ?_
  rintro ⟨v0, v1, v2, v3, v4, v5, v6, k0_hw1, v7, v11, v13, v15, v17, v19, v20, v34, v35⟩
  refine with_fact fun hx => ?_
  simp only at hx
  obtain ⟨rfl, rfl, rfl, rfl, rfl, rfl, rfl, rfl, rfl, rfl⟩ := hx
  refine pureWords (part4_run c arg0 harg0 arg1 harg1 arg2 harg2 arg3 harg3 arg4 harg4 arg6 harg6 arg7 harg7 arg8 harg8 arg9 harg9 arg10 harg10 arg11 harg11 arg12 harg12 harg5 harg13 harg14 harg15 _ _ _ _ _ _ _ _) ?_
  rintro ⟨v36, v53, v74, v75, v76⟩
  refine pureWords (part5_run c arg0 harg0 arg1 harg1 arg2 harg2 arg3 harg3 arg4 harg4 arg6 harg6 arg7 harg7 arg8 harg8 arg9 harg9 arg10 harg10 arg11 harg11 arg12 harg12 harg5 harg13 harg14 harg15 _ _ _ _) ?_
  rintro ⟨v95, v112, c4_i32_50, v113, v118⟩
  refine pureWords (part6_run c arg0 harg0 arg1 harg1 arg2 harg2 arg3 harg3 arg4 harg4 arg6 harg6 arg7 harg7 arg8 harg8 arg9 harg9 arg10 harg10 arg11 harg11 arg12 harg12 harg5 harg13 harg14 harg15 _ _ _ _ _ _ _ _ _) ?_
  rintro ⟨v129, v151, v152, v154, c4_i32_71, v155, v157, c0_i32_73⟩
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1) ∗ (∃ Wt, owes (c : Thread nD τ) 0 Wt) ∗ (∃ f, vrawM.view.loc (c : Thread nD τ) ↦{fullShare} f)) ∗ ((semsIdle c ∗ both c V Finset.univ) ∗ fill iprop(emp) c arg6 f6 0))) ?_ ?_
  · unfold fill
    iintro ⟨⟨H2, H3, H4, H6, H7, H8, H9, H10, H11, H12, HS, HO, ⟨%fw, HW⟩, HV⟩, H0, H1⟩
    isplitl [H2 H3 H4 H7 H8 H9 H10 H11 H12 H0 H1 HO HV]
    · isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H0]; · iexact H0
      isplitl [H1]; · iexact H1
      isplitl [HO] <;> iassumption
    isplitl [HS]; · iexact HS
    isplitr; · iempintro
    isplitl [H6]; · iexact H6
    iexists fw
    isplitr
    · ipureintro
      intro p y h
      exact absurd h (by omega)
    iexact HW
  refine piece (part7_run c V arg0 harg0 arg1 harg1 arg2 harg2 arg3 harg3 arg4 harg4 arg6 harg6 arg7 harg7 arg8 harg8 arg9 harg9 arg10 harg10 arg11 harg11 arg12 harg12 harg5 harg13 harg14 harg15 _ _ _ _ _ _ k0_hw1 _ _ _ _ _ _ _ f6 _ _ _ _ _ _) ?_
  rintro ⟨v174, v193⟩
  refine with_fact fun hr7 => ?_
  simp only at hr7
  obtain ⟨h8, h9, h10, h11, h12, h13, h14, h15, h16, h17, h18, h19, h20, h21, h22, h23, h24, h25, h26, h27, h28, h29, h30, h31, h32⟩ := fill_parts c arg6 f6 arg0 harg0 arg1 harg1 arg2 harg2 arg3 harg3 arg4 harg4 harg6 arg7 harg7 arg8 harg8 arg9 harg9 arg10 harg10 arg11 harg11 arg12 harg12 harg5 harg13 harg14 harg15
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1) ∗ (∃ Wt, owes (c : Thread nD τ) 0 Wt) ∗ (∃ f, vrawM.view.loc (c : Thread nD τ) ↦{fullShare} f) ∗ chunks c V (spans (word c arg0 f0 0) (word c arg0 f0 1) (word c arg0 f0 0) (word c arg1 f1 0) (word c arg0 f0 1) (word c arg1 f1 1)) (flying (spans (word c arg0 f0 0) (word c arg0 f0 1) (word c arg0 f0 0) (word c arg1 f1 0) (word c arg0 f0 1) (word c arg1 f1 1)) 0 (spans (word c arg0 f0 0) (word c arg0 f0 1) (word c arg0 f0 0) (word c arg1 f1 0) (word c arg0 f0 1) (word c arg1 f1 1)).nit)) ∗ fill iprop(emp) c arg6 f6 1)) ?_ ?_
  · iintro ⟨⟨H2, H3, H4, H7, H8, H9, H10, H11, H12, H0, H1, HO, HV⟩, HS, HF⟩
    isplitr [HF]
    · isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H0]; · iexact H0
      isplitl [H1]; · iexact H1
      isplitl [HO]; · iexact HO
      isplitl [HV] <;> iassumption
    iexact HF
  refine piece (h8 _ _ hr7) fun v => with_fact fun hr8 => ?_
  refine piece (h9 _ _ hr8) fun v => with_fact fun hr9 => ?_
  refine piece (h10 _ _ hr9) fun v => with_fact fun hr10 => ?_
  refine piece (h11 _ _ hr10) fun v => with_fact fun hr11 => ?_
  refine piece (h12 _ _ hr11) fun v => with_fact fun hr12 => ?_
  refine piece (h13 _ _ hr12) fun v => with_fact fun hr13 => ?_
  refine piece (h14 _ _ hr13) fun v => with_fact fun hr14 => ?_
  refine piece (h15 _ _ hr14) fun v => with_fact fun hr15 => ?_
  refine piece (h16 _ _ hr15) fun v => with_fact fun hr16 => ?_
  refine piece (h17 _ _ hr16) fun v => with_fact fun hr17 => ?_
  refine piece (h18 _ _ hr17) fun v => with_fact fun hr18 => ?_
  refine piece (h19 _ _ hr18) fun v => with_fact fun hr19 => ?_
  refine piece (h20 _ _ hr19) fun v => with_fact fun hr20 => ?_
  refine piece (h21 _ _ hr20) fun v => with_fact fun hr21 => ?_
  refine piece (h22 _ _ hr21) fun v => with_fact fun hr22 => ?_
  refine piece (h23 _ _ hr22) fun v => with_fact fun hr23 => ?_
  refine piece (h24 _ _ hr23) fun v => with_fact fun hr24 => ?_
  refine piece (h25 _ _ hr24) fun v => with_fact fun hr25 => ?_
  refine piece (h26 _ _ hr25) fun v => with_fact fun hr26 => ?_
  refine piece (h27 _ _ hr26) fun v => with_fact fun hr27 => ?_
  refine piece (h28 _ _ hr27) fun v => with_fact fun hr28 => ?_
  refine piece (h29 _ _ hr28) fun v => with_fact fun hr29 => ?_
  refine piece (h30 _ _ hr29) fun v => with_fact fun hr30 => ?_
  refine piece (h31 _ _ hr30) fun v => with_fact fun hr31 => ?_
  refine piece (h32 _ _ hr31) fun v => with_fact fun hr32 => ?_
  refine BIBase.Entails.trans (Q := iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1)) ∗ (chunks c V (spans (word c arg0 f0 0) (word c arg0 f0 1) (word c arg0 f0 0) (word c arg1 f1 0) (word c arg0 f0 1) (word c arg1 f1 1)) (flying (spans (word c arg0 f0 0) (word c arg0 f0 1) (word c arg0 f0 0) (word c arg1 f1 0) (word c arg0 f0 1) (word c arg1 f1 1)) 0 (spans (word c arg0 f0 0) (word c arg0 f0 1) (word c arg0 f0 0) (word c arg1 f1 0) (word c arg0 f0 1) (word c arg1 f1 1)).nit) ∗ fill iprop(emp) c arg6 f6 126 ∗ (∃ Wt, owes (c : Thread nD τ) 0 Wt) ∗ (∃ f, vrawM.view.loc (c : Thread nD τ) ↦{fullShare} f)))) ?_ ?_
  · iintro ⟨⟨H2, H3, H4, H7, H8, H9, H10, H11, H12, H0, H1, HO, HV, HS⟩, HF⟩
    isplitl [H2 H3 H4 H7 H8 H9 H10 H11 H12 H0 H1]
    · isplitl [H2]; · iexact H2
      isplitl [H3]; · iexact H3
      isplitl [H4]; · iexact H4
      isplitl [H7]; · iexact H7
      isplitl [H8]; · iexact H8
      isplitl [H9]; · iexact H9
      isplitl [H10]; · iexact H10
      isplitl [H11]; · iexact H11
      isplitl [H12]; · iexact H12
      isplitl [H0] <;> iassumption
    isplitl [HS]; · iexact HS
    isplitl [HF]; · iexact HF
    isplitl [HO] <;> iassumption
  refine piece (part33_run c V arg0 harg0 arg1 harg1 arg2 harg2 arg3 harg3 arg4 harg4 arg6 harg6 arg7 harg7 arg8 harg8 arg9 harg9 arg10 harg10 arg11 harg11 arg12 harg12 harg5 harg13 harg14 harg15 _ _ _ _ _ _ k0_hw1 _ _ _ _ _ _ _ f6 _ _ hr32) fun r => with_fact fun hr => ?_
  subst hr
  clear h8 h9 h10 h11 h12 h13 h14 h15 h16 h17 h18 h19 h20 h21 h22 h23 h24 h25 h26 h27 h28 h29 h30 h31 h32 hr7 hr8 hr9 hr10 hr11 hr12 hr13 hr14 hr15 hr16 hr17 hr18 hr19 hr20 hr21 hr22 hr23 hr24 hr25 hr26 hr27 hr28 hr29 hr30 hr31 hr32
  refine BIBase.Entails.trans (Q := iprop(∃ (Wc : Vec F S32x16384 .fp8e4m3) (f : Vec F S16x128 .f32), ⌜Filled (arg6.view.read (Elt F) f6) 128 Wc ∧ RowsOk V Wc (spans (word c arg0 f0 0) (word c arg0 f0 1) (word c arg0 f0 0) (word c arg1 f1 0) (word c arg0 f0 1) (word c arg1 f1 1)) (spans (word c arg0 f0 0) (word c arg0 f0 1) (word c arg0 f0 0) (word c arg1 f1 0) (word c arg0 f0 1) (word c arg1 f1 1)).nit f⌝ ∗ ((arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg0.view.loc (c : Thread nD τ) ↦[arg0.view.set]{fullShare} f0) ∗ (arg1.view.loc (c : Thread nD τ) ↦[arg1.view.set]{fullShare} f1) ∗ (semsIdle c ∗ both c V Finset.univ) ∗ (∃ Wt, owes (c : Thread nD τ) 0 Wt) ∗ (arg6.view.loc (c : Thread nD τ) ↦[arg6.view.set]{fullShare} f6) ∗ (wrepM.view.loc (c : Thread nD τ) ↦{fullShare} Wc)) ∗ ((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7) ∗ (arg8.view.loc (c : Thread nD τ) ↦[arg8.view.set]{fullShare} f8) ∗ (vrawM.view.loc (c : Thread nD τ) ↦{fullShare} f)))) ?_ ?_
  · iintro ⟨⟨H2, H3, H4, H7, H8, H9, H10, H11, H12, H0, H1⟩, HS, HO, H6, %Wc, %f, %hf, HW, HV⟩
    iexists Wc
    iexists f
    isplitr
    · ipureintro; exact hf
    isplitl [H9 H10 H11 H12 H0 H1 HS HO H6 HW]
    · isplitl [H9]; · iexact H9
      isplitl [H10]; · iexact H10
      isplitl [H11]; · iexact H11
      isplitl [H12]; · iexact H12
      isplitl [H0]; · iexact H0
      isplitl [H1]; · iexact H1
      isplitl [HS]; · iexact HS
      isplitl [HO]; · iexact HO
      isplitl [H6] <;> iassumption
    isplitl [H2]; · iexact H2
    isplitl [H3]; · iexact H3
    isplitl [H4]; · iexact H4
    isplitl [H7]; · iexact H7
    isplitl [H8] <;> iassumption
  refine exists_elim fun Wc => exists_elim fun f => fact_first fun hf => ?_
  refine piece0 (part34_run c arg0 harg0 arg1 harg1 arg2 harg2 arg3 harg3 arg4 harg4 arg6 harg6 arg7 harg7 arg8 harg8 arg9 harg9 arg10 harg10 arg11 harg11 arg12 harg12 harg5 harg13 harg14 harg15 _ _ _ _ _ _ _ _ _ _) ?_
  rintro ⟨v1121, v1139, v1145, v1148⟩ hm
  simp only at hm
  refine piece (part35_run c arg0 harg0 arg1 harg1 arg2 harg2 arg3 harg3 arg4 harg4 arg6 harg6 arg7 harg7 arg8 harg8 arg9 harg9 arg10 harg10 arg11 harg11 arg12 harg12 harg5 harg13 harg14 harg15 f2 f3 f4 f7 f8 v1139 v1148 f) ?_
  rintro ⟨v1153, v1172, v1174, v1176, v1178⟩
  refine with_fact fun hE => ?_
  simp only at hE
  obtain ⟨hE, hs, ha0, ha1, ha2⟩ := hE
  obtain ⟨hm, hp, ho, he⟩ := hm
  have hE' : v1172 = valsOf c arg0 arg1 arg3 arg4 arg7 f0 f1 f3 f4 f7 f := by
    rw [hE, hm]
    rfl
  have hR' : retsOf c arg0 arg1 arg2 arg3 arg4 arg7 arg8 arg9 f0 f1 f2 f3 f4 f7 f8 f9 f = retsFrom (iota .tc S16x128 32 [0] iota_S16x128_d0_w32) (iota .tc S16x128 32 [1] iota_S16x128_d1_w32) v1121 v1145 v1148 v1153 v1172 v1174 v1176 v1178
      (arg8.view.readAt (Elt F) (Rect.unit (s := S2x1024) ![0, 384] S2x128.size inb_S2x1024_S2x128_0_384).toLoadRect f8)
      (arg8.view.readAt (Elt F) (Rect.unit (s := S2x1024) ![0, 512] S2x128.size inb_S2x1024_S2x128_0_512).toLoadRect f8)
      (arg8.view.readAt (Elt F) (Rect.unit (s := S2x1024) ![0, 640] S2x128.size inb_S2x1024_S2x128_0_640).toLoadRect f8)
      (arg8.view.readAt (Elt F) (Rect.unit (s := S2x1024) ![0, 768] S2x128.size inb_S2x1024_S2x128_0_768).toLoadRect f8)
      (arg8.view.readAt (Elt F) (Rect.unit (s := S2x1024) ![0, 896] S2x128.size inb_S2x1024_S2x128_0_896).toLoadRect f8)
      (arg9.view.readAt (Elt F) (Rect.unit (s := S2x1024) ![0, 0] S2x128.size inb_S2x1024_S2x128_0_0).toLoadRect f9)
      (arg9.view.readAt (Elt F) (Rect.unit (s := S2x1024) ![0, 128] S2x128.size inb_S2x1024_S2x128_0_128).toLoadRect f9)
      (arg9.view.readAt (Elt F) (Rect.unit (s := S2x1024) ![0, 256] S2x128.size inb_S2x1024_S2x128_0_256).toLoadRect f9)
      (arg9.view.readAt (Elt F) (Rect.unit (s := S2x1024) ![0, 384] S2x128.size inb_S2x1024_S2x128_0_384).toLoadRect f9)
      (arg9.view.readAt (Elt F) (Rect.unit (s := S2x1024) ![0, 512] S2x128.size inb_S2x1024_S2x128_0_512).toLoadRect f9)
      (arg9.view.readAt (Elt F) (Rect.unit (s := S2x1024) ![0, 640] S2x128.size inb_S2x1024_S2x128_0_640).toLoadRect f9)
      (arg9.view.readAt (Elt F) (Rect.unit (s := S2x1024) ![0, 768] S2x128.size inb_S2x1024_S2x128_0_768).toLoadRect f9)
      (arg9.view.readAt (Elt F) (Rect.unit (s := S2x1024) ![0, 896] S2x128.size inb_S2x1024_S2x128_0_896).toLoadRect f9) := by
    rw [hE', hs, ha0, ha1, ha2, hm, hp, ho, he]
    rfl
  have hA' : advsOf c arg0 arg1 arg2 arg3 arg4 arg7 arg8 arg9 f0 f1 f2 f3 f4 f7 f8 f9 f = advsFrom (cntW (clampW (word c arg0 f0 0)) (clampW (Scalar.addi (word c arg0 f0 0) (word c arg1 f1 0)))) (cntW (clampW (word c arg0 f0 1)) (clampW (Scalar.addi (word c arg0 f0 1) (word c arg1 f1 1)))) (iota .tc S16x128 32 [0] iota_S16x128_d0_w32) (iota .tc S16x128 32 [1] iota_S16x128_d1_w32) v1121 v1145 v1148 v1153 v1172 v1174 v1176 v1178
      (arg8.view.readAt (Elt F) (Rect.unit (s := S2x1024) ![0, 384] S2x128.size inb_S2x1024_S2x128_0_384).toLoadRect f8)
      (arg8.view.readAt (Elt F) (Rect.unit (s := S2x1024) ![0, 512] S2x128.size inb_S2x1024_S2x128_0_512).toLoadRect f8)
      (arg8.view.readAt (Elt F) (Rect.unit (s := S2x1024) ![0, 640] S2x128.size inb_S2x1024_S2x128_0_640).toLoadRect f8)
      (arg8.view.readAt (Elt F) (Rect.unit (s := S2x1024) ![0, 768] S2x128.size inb_S2x1024_S2x128_0_768).toLoadRect f8)
      (arg8.view.readAt (Elt F) (Rect.unit (s := S2x1024) ![0, 896] S2x128.size inb_S2x1024_S2x128_0_896).toLoadRect f8)
      (arg9.view.readAt (Elt F) (Rect.unit (s := S2x1024) ![0, 0] S2x128.size inb_S2x1024_S2x128_0_0).toLoadRect f9)
      (arg9.view.readAt (Elt F) (Rect.unit (s := S2x1024) ![0, 128] S2x128.size inb_S2x1024_S2x128_0_128).toLoadRect f9)
      (arg9.view.readAt (Elt F) (Rect.unit (s := S2x1024) ![0, 256] S2x128.size inb_S2x1024_S2x128_0_256).toLoadRect f9)
      (arg9.view.readAt (Elt F) (Rect.unit (s := S2x1024) ![0, 384] S2x128.size inb_S2x1024_S2x128_0_384).toLoadRect f9)
      (arg9.view.readAt (Elt F) (Rect.unit (s := S2x1024) ![0, 512] S2x128.size inb_S2x1024_S2x128_0_512).toLoadRect f9)
      (arg9.view.readAt (Elt F) (Rect.unit (s := S2x1024) ![0, 640] S2x128.size inb_S2x1024_S2x128_0_640).toLoadRect f9)
      (arg9.view.readAt (Elt F) (Rect.unit (s := S2x1024) ![0, 768] S2x128.size inb_S2x1024_S2x128_0_768).toLoadRect f9)
      (arg9.view.readAt (Elt F) (Rect.unit (s := S2x1024) ![0, 896] S2x128.size inb_S2x1024_S2x128_0_896).toLoadRect f9) := by
    rw [hE', hs, ha0, ha1, ha2, hm, hp, ho, he]
    rfl
  clear hE hm hs ha0 ha1 ha2 hp ho he
  iintro ⟨⟨H9, H10, H11, H12, H0, H1, HS, HO, H6, HW⟩, H2, H3, H4, H7, H8, HV⟩
  sl_exec
  sl_step
  unfold bodyMid
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10 HW HV H11 H12]
  · iexists Wc
    iexists f
    iexists _
    iexists _
    iexists _
    isplitr
    rotate_left
    · isplitl [H10]; · iexact H10
      isplitl [HW]; · iexact HW
      isplitl [HV]; · iexact HV
      isplitl [H11]; · iexact H11
      iexact H12
    ipureintro
    rw [hR', hA', ← hE']
    refine ⟨hf.1, hf.2, ?_, ?_, ?_, rfl⟩
    rotate_left
    · refine laid_store (k := 7) ?_ _ slices_S16x128_o14_0_S2x128 rfl rfl
      refine laid_store (k := 6) ?_ _ slices_S16x128_o12_0_S2x128 rfl rfl
      refine laid_store (k := 5) ?_ _ slices_S16x128_o10_0_S2x128 rfl rfl
      refine laid_store (k := 4) ?_ _ slices_S16x128_o8_0_S2x128 rfl rfl
      refine laid_store (k := 3) ?_ _ slices_S16x128_o6_0_S2x128 rfl rfl
      refine laid_store (k := 2) ?_ _ slices_S16x128_o4_0_S2x128 rfl rfl
      refine laid_store (k := 1) ?_ _ slices_S16x128_o2_0_S2x128 rfl rfl
      refine laid_store (k := 0) (fun i p h => absurd h (by omega)) _ slices_S16x128_o0_0_S2x128 rfl rfl
    · refine laid_store (k := 6) ?_ _ slices_S16x128_o12_0_S2x128 rfl rfl
      refine laid_store (k := 5) ?_ _ slices_S16x128_o10_0_S2x128 rfl rfl
      refine laid_store (k := 4) ?_ _ slices_S16x128_o8_0_S2x128 rfl rfl
      refine laid_store (k := 3) ?_ _ slices_S16x128_o6_0_S2x128 rfl rfl
      refine laid_store (k := 2) ?_ _ slices_S16x128_o4_0_S2x128 rfl rfl
      refine laid_store (k := 1) ?_ _ slices_S16x128_o2_0_S2x128 rfl rfl
      refine laid_store (k := 0) (fun i p h => absurd h (by omega)) _ slices_S16x128_o0_0_S2x128 rfl rfl
    refine laid_store (k := 7) ?_ _ slices_S16x128_o14_0_S2x128 rfl rfl
    refine laid_store (k := 6) ?_ _ slices_S16x128_o12_0_S2x128 rfl rfl
    refine laid_store (k := 5) ?_ _ slices_S16x128_o10_0_S2x128 rfl rfl
    refine laid_store (k := 4) ?_ _ slices_S16x128_o8_0_S2x128 rfl rfl
    refine laid_store (k := 3) ?_ _ slices_S16x128_o6_0_S2x128 rfl rfl
    refine laid_store (k := 2) ?_ _ slices_S16x128_o4_0_S2x128 rfl rfl
    refine laid_store (k := 1) ?_ _ slices_S16x128_o2_0_S2x128 rfl rfl
    refine laid_store (k := 0) (fun i p h => absurd h (by omega)) _ slices_S16x128_o0_0_S2x128 rfl rfl
  isplitl [HS] <;> iassumption

set_option maxHeartbeats 4000000 in
/-- The whole body: everything it is given comes back, the first result as stated. -/
theorem kernelRun :
    iprop((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f))
      ⊢ wp frame (wpE (defs₀ (F := F)) Variants.none (c : Thread nD τ) none) Set.univ (cc0_ppo_critic (F := F) arg0 harg0 arg1 harg1 arg2 harg2 arg3 harg3 arg4 harg4 hidM harg5 arg6 harg6 arg7 harg7 arg8 harg8 arg9 harg9 arg10 harg10 arg11 harg11 arg12 harg12 bufM harg13 wrepM harg14 vrawM harg15 cc0_scratch3) (fun _ => bodyEnd c V arg0 arg1 arg2 arg3 arg4 arg6 arg7 arg8 arg9 arg10 arg11 arg12 f0 f1 f2 f3 f4 f6 f7 f8 f9) := by
  rw [cc0_ppo_critic_eq_skeleton]
  unfold cc0_ppo_critic_skel
  rw [k0_part41_eq_skeleton]
  refine BIBase.Entails.trans (Q := iprop(emp ∗ ((arg0.view.loc (c : Thread nD τ) ↦[arg0.view.set]{fullShare} f0) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (semsIdle c ∗ both c V Finset.univ) ∗ (∃ Wt, owes (c : Thread nD τ) 0 Wt) ∗ (∃ f, wrepM.view.loc (c : Thread nD τ) ↦{fullShare} f) ∗ (∃ f, vrawM.view.loc (c : Thread nD τ) ↦{fullShare} f)))) emp_beside ?_
  refine piece (part41_run c V arg0 harg0 arg1 harg1 arg2 harg2 arg3 harg3 arg4 harg4 arg6 harg6 arg7 harg7 arg8 harg8 arg9 harg9 arg10 harg10 arg11 harg11 arg12 harg12 harg5 harg13 harg14 harg15 f0 f1 f2 f3 f4 f6 f7 f8 f9 f10 f11 f12) ?_
  intro v
  unfold bodyEnd bodyMid
  iintro ⟨_, H0, H1, H2, H3, H4, H6, H7, H8, H9, ⟨%Wc, %f, %g10, %g11, %g12, %hR, H10, HW, HV, H11, H12⟩, HS⟩
  obtain ⟨hF, hO, hL, hA, hT, rfl⟩ := hR
  sl_exec
  sl_step
  isplitl [H0]; · iexact H0
  isplitl [H1]; · iexact H1
  isplitl [H2]; · iexact H2
  isplitl [H3]; · iexact H3
  isplitl [H4]; · iexact H4
  isplitl [H6]; · iexact H6
  isplitl [H7]; · iexact H7
  isplitl [H8]; · iexact H8
  isplitl [H9]; · iexact H9
  isplitl [H10 HW HV H11 H12]
  · iexists Wc
    iexists f
    iexists g10
    iexists g11
    iexists _
    isplitr
    rotate_left
    · isplitl [H10]; · iexact H10
      isplitl [HW]; · iexact HW
      isplitl [HV]; · iexact HV
      isplitl [H11]; · iexact H11
      iexact H12
    ipureintro
    exact ⟨hF, hO, hL, hA, laid_store (k := 7) (L := []) hT _ slices_S16x128_o14_0_S2x128 rfl rfl, trivial⟩
  iexact HS
end Body
end Cert.KernelIdeal.Critic
end
-- ==== Proof.KernelIdealFrame.lean ====
module

public import proofs.«01_k».proof.Proof.KernelIdealBody
public import proofs.«01_k».proof.Proof.Gen.KernelIdeal.Frame
public import Idealize.ShloMosaic.Lib.Pipeline.DatRel
public import Idealize.ShloMosaic.Lib.Pipeline.ArrRel

/-!
# The run of the whole program

The launch, the one grid point and the end: the program terminates, nothing faults, the arguments end unchanged, every
semaphore ends at zero, and the first result holds the masked, scaled products of the rows in flight.
-/

@[expose] public section

noncomputable section

namespace Cert.KernelIdeal.Critic

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window)
open Cert.Critic Cert.KernelIdeal.Gen

variable {F : FTy → Type} [FloatOps F] [Named F]

local notation "𝕄" => MT nD τ sig Unit (Elt F) ℕ (Pipeline.UD sig nD τ) ℕ

/-! ## What the first result holds, by the contents of the arguments -/

/-- Word `k` of a table. -/
def tab (X : S2.Idx → Elt F .i32) (k : Fin 2) : Elt F .i32 :=
  X (fun a => ⟨k.val, (by fin_cases a; exact k.isLt : k.val < S2.size a)⟩)

/-- The lanes of the first result, row by row of the rows of products `f`. -/
def Vals (X0 X1 : S2.Idx → Elt F .i32) (X3 X4 : S1.Idx → Elt F .f32) (X7 : S2x1024.Idx → Elt F .f32) (f : Vec F S16x128 .f32) : FVec F S16x128 .f32 :=
  k0_pay168 (maskOf (tab X0 0) (tab X0 1) (tab X1 0) (tab X1 1)) f
    (fun x => X7 ((Rect.unit (s := S2x1024) ![0, 0] S2x128.size inb_S2x1024_S2x128_0_0).toLoadRect.idx x))
    (fun x => X7 ((Rect.unit (s := S2x1024) ![0, 128] S2x128.size inb_S2x1024_S2x128_0_128).toLoadRect.idx x))
    (fun x => X7 ((Rect.unit (s := S2x1024) ![0, 256] S2x128.size inb_S2x1024_S2x128_0_256).toLoadRect.idx x))
    (fun x => X7 ((Rect.unit (s := S2x1024) ![0, 384] S2x128.size inb_S2x1024_S2x128_0_384).toLoadRect.idx x))
    (fun x => X7 ((Rect.unit (s := S2x1024) ![0, 512] S2x128.size inb_S2x1024_S2x128_0_512).toLoadRect.idx x))
    (fun x => X7 ((Rect.unit (s := S2x1024) ![0, 640] S2x128.size inb_S2x1024_S2x128_0_640).toLoadRect.idx x))
    (fun x => X7 ((Rect.unit (s := S2x1024) ![0, 768] S2x128.size inb_S2x1024_S2x128_0_768).toLoadRect.idx x))
    (fun x => X7 ((Rect.unit (s := S2x1024) ![0, 896] S2x128.size inb_S2x1024_S2x128_0_896).toLoadRect.idx x))
    (X3 ((Rect.unit (s := S1) ![0] S1.size inb_S1_S1_0).toLoadRect.idx (Shape.Idx.first (by rw [show (Rect.unit (s := S1) ![0] S1.size inb_S1_S1_0).shape.numel = 1 from numel1_S1]; exact Nat.one_pos))))
    (X4 ((Rect.unit (s := S1) ![0] S1.size inb_S1_S1_0).toLoadRect.idx (Shape.Idx.first (by rw [show (Rect.unit (s := S1) ![0] S1.size inb_S1_S1_0).shape.numel = 1 from numel1_S1]; exact Nat.one_pos))))

/-- The lanes of the third result, row by row of the rows of products `f`. -/
def Rets (X0 X1 : S2.Idx → Elt F .i32) (X2 : S2.Idx → Elt F .f32) (X3 X4 : S1.Idx → Elt F .f32) (X7 : S2x1024.Idx → Elt F .f32) (X8 X9 : S2x1024.Idx → Elt F .bf16) (f : Vec F S16x128 .f32) : FVec F S16x128 .f32 :=
  retsRaw (tab X0 0) (tab X0 1) (tab X1 0) (tab X1 1)
    (X2 ((Rect.unit (s := S2) ![0] S1.size inb_S2_S1_0).toLoadRect.idx (Shape.Idx.first (by rw [show (Rect.unit (s := S2) ![0] S1.size inb_S2_S1_0).shape.numel = 1 from numel1_S1]; exact Nat.one_pos))))
    (X2 ((Rect.unit (s := S2) ![1] S1.size inb_S2_S1_1).toLoadRect.idx (Shape.Idx.first (by rw [show (Rect.unit (s := S2) ![1] S1.size inb_S2_S1_1).shape.numel = 1 from numel1_S1]; exact Nat.one_pos))))
    (Vals X0 X1 X3 X4 X7 f)
    (fun x => X8 ((Rect.unit (s := S2x1024) ![0, 0] S2x128.size inb_S2x1024_S2x128_0_0).toLoadRect.idx x))
    (fun x => X8 ((Rect.unit (s := S2x1024) ![0, 128] S2x128.size inb_S2x1024_S2x128_0_128).toLoadRect.idx x))
    (fun x => X8 ((Rect.unit (s := S2x1024) ![0, 256] S2x128.size inb_S2x1024_S2x128_0_256).toLoadRect.idx x))
    (fun x => X8 ((Rect.unit (s := S2x1024) ![0, 384] S2x128.size inb_S2x1024_S2x128_0_384).toLoadRect.idx x))
    (fun x => X8 ((Rect.unit (s := S2x1024) ![0, 512] S2x128.size inb_S2x1024_S2x128_0_512).toLoadRect.idx x))
    (fun x => X8 ((Rect.unit (s := S2x1024) ![0, 640] S2x128.size inb_S2x1024_S2x128_0_640).toLoadRect.idx x))
    (fun x => X8 ((Rect.unit (s := S2x1024) ![0, 768] S2x128.size inb_S2x1024_S2x128_0_768).toLoadRect.idx x))
    (fun x => X8 ((Rect.unit (s := S2x1024) ![0, 896] S2x128.size inb_S2x1024_S2x128_0_896).toLoadRect.idx x))
    (fun x => X9 ((Rect.unit (s := S2x1024) ![0, 0] S2x128.size inb_S2x1024_S2x128_0_0).toLoadRect.idx x))
    (fun x => X9 ((Rect.unit (s := S2x1024) ![0, 128] S2x128.size inb_S2x1024_S2x128_0_128).toLoadRect.idx x))
    (fun x => X9 ((Rect.unit (s := S2x1024) ![0, 256] S2x128.size inb_S2x1024_S2x128_0_256).toLoadRect.idx x))
    (fun x => X9 ((Rect.unit (s := S2x1024) ![0, 384] S2x128.size inb_S2x1024_S2x128_0_384).toLoadRect.idx x))
    (fun x => X9 ((Rect.unit (s := S2x1024) ![0, 512] S2x128.size inb_S2x1024_S2x128_0_512).toLoadRect.idx x))
    (fun x => X9 ((Rect.unit (s := S2x1024) ![0, 640] S2x128.size inb_S2x1024_S2x128_0_640).toLoadRect.idx x))
    (fun x => X9 ((Rect.unit (s := S2x1024) ![0, 768] S2x128.size inb_S2x1024_S2x128_0_768).toLoadRect.idx x))
    (fun x => X9 ((Rect.unit (s := S2x1024) ![0, 896] S2x128.size inb_S2x1024_S2x128_0_896).toLoadRect.idx x))

/-- The lanes of the second result, row by row of the rows of products `f`. -/
def Advs (X0 X1 : S2.Idx → Elt F .i32) (X2 : S2.Idx → Elt F .f32) (X3 X4 : S1.Idx → Elt F .f32) (X7 : S2x1024.Idx → Elt F .f32) (X8 X9 : S2x1024.Idx → Elt F .bf16) (f : Vec F S16x128 .f32) : FVec F S16x128 .f32 :=
  advsRaw (tab X0 0) (tab X0 1) (tab X1 0) (tab X1 1)
    (X2 ((Rect.unit (s := S2) ![0] S1.size inb_S2_S1_0).toLoadRect.idx (Shape.Idx.first (by rw [show (Rect.unit (s := S2) ![0] S1.size inb_S2_S1_0).shape.numel = 1 from numel1_S1]; exact Nat.one_pos))))
    (X2 ((Rect.unit (s := S2) ![1] S1.size inb_S2_S1_1).toLoadRect.idx (Shape.Idx.first (by rw [show (Rect.unit (s := S2) ![1] S1.size inb_S2_S1_1).shape.numel = 1 from numel1_S1]; exact Nat.one_pos))))
    (Vals X0 X1 X3 X4 X7 f)
    (fun x => X8 ((Rect.unit (s := S2x1024) ![0, 0] S2x128.size inb_S2x1024_S2x128_0_0).toLoadRect.idx x))
    (fun x => X8 ((Rect.unit (s := S2x1024) ![0, 128] S2x128.size inb_S2x1024_S2x128_0_128).toLoadRect.idx x))
    (fun x => X8 ((Rect.unit (s := S2x1024) ![0, 256] S2x128.size inb_S2x1024_S2x128_0_256).toLoadRect.idx x))
    (fun x => X8 ((Rect.unit (s := S2x1024) ![0, 384] S2x128.size inb_S2x1024_S2x128_0_384).toLoadRect.idx x))
    (fun x => X8 ((Rect.unit (s := S2x1024) ![0, 512] S2x128.size inb_S2x1024_S2x128_0_512).toLoadRect.idx x))
    (fun x => X8 ((Rect.unit (s := S2x1024) ![0, 640] S2x128.size inb_S2x1024_S2x128_0_640).toLoadRect.idx x))
    (fun x => X8 ((Rect.unit (s := S2x1024) ![0, 768] S2x128.size inb_S2x1024_S2x128_0_768).toLoadRect.idx x))
    (fun x => X8 ((Rect.unit (s := S2x1024) ![0, 896] S2x128.size inb_S2x1024_S2x128_0_896).toLoadRect.idx x))
    (fun x => X9 ((Rect.unit (s := S2x1024) ![0, 0] S2x128.size inb_S2x1024_S2x128_0_0).toLoadRect.idx x))
    (fun x => X9 ((Rect.unit (s := S2x1024) ![0, 128] S2x128.size inb_S2x1024_S2x128_0_128).toLoadRect.idx x))
    (fun x => X9 ((Rect.unit (s := S2x1024) ![0, 256] S2x128.size inb_S2x1024_S2x128_0_256).toLoadRect.idx x))
    (fun x => X9 ((Rect.unit (s := S2x1024) ![0, 384] S2x128.size inb_S2x1024_S2x128_0_384).toLoadRect.idx x))
    (fun x => X9 ((Rect.unit (s := S2x1024) ![0, 512] S2x128.size inb_S2x1024_S2x128_0_512).toLoadRect.idx x))
    (fun x => X9 ((Rect.unit (s := S2x1024) ![0, 640] S2x128.size inb_S2x1024_S2x128_0_640).toLoadRect.idx x))
    (fun x => X9 ((Rect.unit (s := S2x1024) ![0, 768] S2x128.size inb_S2x1024_S2x128_0_768).toLoadRect.idx x))
    (fun x => X9 ((Rect.unit (s := S2x1024) ![0, 896] S2x128.size inb_S2x1024_S2x128_0_896).toLoadRect.idx x))

/-- The two spans of rows that the tables name. -/
def spansOf (X0 X1 : S2.Idx → Elt F .i32) : Spans := spans (tab X0 0) (tab X0 1) (tab X0 0) (tab X1 0) (tab X0 1) (tab X1 1)

theorem word_eq (c : Dev nD) (arg : Memref sig .tc .smem S2 .i32) (f : Buf (Elt F) (arg.view.loc (c : Thread nD τ))) (k : Fin 2) : word c arg f k = tab (arg.view.read (Elt F) f) k := rfl

theorem vals_eq (c : Dev nD) (arg0 arg1 : Memref sig .tc .smem S2 .i32) (arg3 arg4 : Memref sig .tc .smem S1 .f32) (arg7 : Memref sig .tc .vmem S2x1024 .f32) (f0 : Buf (Elt F) (arg0.view.loc (c : Thread nD τ))) (f1 : Buf (Elt F) (arg1.view.loc (c : Thread nD τ))) (f3 : Buf (Elt F) (arg3.view.loc (c : Thread nD τ))) (f4 : Buf (Elt F) (arg4.view.loc (c : Thread nD τ))) (f7 : Buf (Elt F) (arg7.view.loc (c : Thread nD τ))) (f : Vec F S16x128 .f32) :
    valsOf c arg0 arg1 arg3 arg4 arg7 f0 f1 f3 f4 f7 f = Vals (arg0.view.read (Elt F) f0) (arg1.view.read (Elt F) f1) (arg3.view.read (Elt F) f3) (arg4.view.read (Elt F) f4) (arg7.view.read (Elt F) f7) f := by
  unfold valsOf Vals
  simp only [word_eq]
  rfl

theorem rets_eq (c : Dev nD) (arg0 arg1 : Memref sig .tc .smem S2 .i32) (arg2 : Memref sig .tc .smem S2 .f32) (arg3 arg4 : Memref sig .tc .smem S1 .f32) (arg7 : Memref sig .tc .vmem S2x1024 .f32) (arg8 arg9 : Memref sig .tc .vmem S2x1024 .bf16) (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f : Vec F S16x128 .f32) :
    retsOf c arg0 arg1 arg2 arg3 arg4 arg7 arg8 arg9 f0 f1 f2 f3 f4 f7 f8 f9 f = Rets (arg0.view.read (Elt F) f0) (arg1.view.read (Elt F) f1) (arg2.view.read (Elt F) f2) (arg3.view.read (Elt F) f3) (arg4.view.read (Elt F) f4) (arg7.view.read (Elt F) f7) (arg8.view.read (Elt F) f8) (arg9.view.read (Elt F) f9) f := by
  unfold retsOf Rets
  rw [vals_eq]
  simp only [word_eq]
  rfl

theorem advs_eq (c : Dev nD) (arg0 arg1 : Memref sig .tc .smem S2 .i32) (arg2 : Memref sig .tc .smem S2 .f32) (arg3 arg4 : Memref sig .tc .smem S1 .f32) (arg7 : Memref sig .tc .vmem S2x1024 .f32) (arg8 arg9 : Memref sig .tc .vmem S2x1024 .bf16) (f0 : Buf (Elt F) (arg0.view.loc (c : Thread nD τ))) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f7 : Buf (Elt F) (arg7.view.loc (c : Thread nD τ))) (f8 : Buf (Elt F) (arg8.view.loc (c : Thread nD τ))) (f9 : Buf (Elt F) (arg9.view.loc (c : Thread nD τ))) (f : Vec F S16x128 .f32) :
    advsOf c arg0 arg1 arg2 arg3 arg4 arg7 arg8 arg9 f0 f1 f2 f3 f4 f7 f8 f9 f = Advs (arg0.view.read (Elt F) f0) (arg1.view.read (Elt F) f1) (arg2.view.read (Elt F) f2) (arg3.view.read (Elt F) f3) (arg4.view.read (Elt F) f4) (arg7.view.read (Elt F) f7) (arg8.view.read (Elt F) f8) (arg9.view.read (Elt F) f9) f := by
  unfold advsOf Advs
  rw [vals_eq]
  simp only [word_eq]
  rfl

/-- What the first result holds: the products of the rows in flight with the replicated weights, scaled, shifted, masked. -/
def Res (V : Hid F) (X0 X1 : S2.Idx → Elt F .i32) (X3 X4 : S1.Idx → Elt F .f32) (X6 : S128x128.Idx → Elt F .fp8e4m3) (X7 X : S2x1024.Idx → Elt F .f32) : Prop :=
  ∃ (Wc : Vec F S32x16384 .fp8e4m3) (f : Vec F S16x128 .f32),
    Filled X6 128 Wc ∧ RowsOk V Wc (spansOf X0 X1) (spansOf X0 X1).nit f ∧ Laid (Vals X0 X1 X3 X4 X7 f) 8 X

/-- What the third result holds: the sums over what follows, made from the rows of the first. -/
def ResR (V : Hid F) (X0 X1 : S2.Idx → Elt F .i32) (X2 : S2.Idx → Elt F .f32) (X3 X4 : S1.Idx → Elt F .f32) (X6 : S128x128.Idx → Elt F .fp8e4m3) (X7 : S2x1024.Idx → Elt F .f32) (X8 X9 : S2x1024.Idx → Elt F .bf16) (X : S2x1024.Idx → Elt F .f32) : Prop :=
  ∃ (Wc : Vec F S32x16384 .fp8e4m3) (f : Vec F S16x128 .f32),
    Filled X6 128 Wc ∧ RowsOk V Wc (spansOf X0 X1) (spansOf X0 X1).nit f ∧ Laid (Rets X0 X1 X2 X3 X4 X7 X8 X9 f) 8 X

/-- What the second result holds: the whitened sums over what follows, made from the rows of the first. -/
def ResA (V : Hid F) (X0 X1 : S2.Idx → Elt F .i32) (X2 : S2.Idx → Elt F .f32) (X3 X4 : S1.Idx → Elt F .f32) (X6 : S128x128.Idx → Elt F .fp8e4m3) (X7 : S2x1024.Idx → Elt F .f32) (X8 X9 : S2x1024.Idx → Elt F .bf16) (X : S2x1024.Idx → Elt F .f32) : Prop :=
  ∃ (Wc : Vec F S32x16384 .fp8e4m3) (f : Vec F S16x128 .f32),
    Filled X6 128 Wc ∧ RowsOk V Wc (spansOf X0 X1) (spansOf X0 X1).nit f ∧ Laid (Advs X0 X1 X2 X3 X4 X7 X8 X9 f) 8 X

variable (m : (ℓ : Loc nD τ sig) → Buf (Elt F) ℓ) (ρ : Dev nD → PrngReg)

/-! ## The invariant and the proof data -/

/-- The body's own semaphores. -/
abbrev osem0 : Fin 16 → SemLoc sig := fun q => SemLoc.dma (cellOf q)
theorem ownSemFacts0 : Pipeline.OwnSemFacts spec0 osem0 := by decide
/-- The buffer that the body reads itself. -/
abbrev H0 : Finset (Ref sig .tc) := {main_arg0}
theorem H0_sub : H0 ⊆ Pipeline.restRefs sig spec0 := by decide

/-- The invariant, piece by piece: the scratch buffers, the generator, the semaphores at rest, the array. -/
def Inv (c : Dev nD) : sProp 𝕄 :=
  iprop(((∃ g, bufPt c Finset.univ g) ∗ (∃ f, wrepM.view.loc (c : Thread nD τ) ↦{fullShare} f) ∗ (∃ f, vrawM.view.loc (c : Thread nD τ) ↦{fullShare} f))
    ∗ (∃ r, prngReg c r) ∗ semsIdle c ∗ hidPt c Finset.univ (V m c main_arg0))

theorem inv_eq (c : Dev nD) : (Pipeline.ΦD osem0 spec0 H0 (V m) c : sProp 𝕄) = Inv m c := by
  rw [Pipeline.ΦD_eq, scopedRest0_eq, BI.bigSep_singleton]
  rfl

/-- @main up to the region. -/
theorem main_region (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data: each window's block stays as it was fetched; the results are held to `Rl`. -/
def dats (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ _ := Pipeline.ΦD osem0 spec0 H0 (V m) c
  q _ := fullShare
  owed _ := 0

theorem A_eq (c : Dev nD) (w : Fin cfg0.W) : (dats m c).A w = V m c (Pipeline.arrRef spec0 w) := by dsimp only [dats]

/-- The results' windows. -/
def fgt : Fin cfg0.W → Bool := ![false, false, false, false, false, false, false, false, false, true, true, true]

/-- What is known of the results' windows. -/
def Rl (c : Dev nD) (w : Fin cfg0.W) (t : Fin cfg0.N) : ((cfg0.win w).block.Idx → Elt F (cfg0.win w).elt) → Prop :=
  match w with
  | ⟨9, _⟩ => fun X => Res (V m c main_arg0) (iblk m c 0 t) (iblk m c 1 t) (iblk m c 3 t) (iblk m c 4 t) (iblk m c 5 t) (iblk m c 6 t) X
  | ⟨10, _⟩ => fun X => ResA (V m c main_arg0) (iblk m c 0 t) (iblk m c 1 t) (iblk m c 2 t) (iblk m c 3 t) (iblk m c 4 t) (iblk m c 5 t) (iblk m c 6 t) (iblk m c 7 t) (iblk m c 8 t) X
  | ⟨11, _⟩ => fun X => ResR (V m c main_arg0) (iblk m c 0 t) (iblk m c 1 t) (iblk m c 2 t) (iblk m c 3 t) (iblk m c 4 t) (iblk m c 5 t) (iblk m c 6 t) (iblk m c 7 t) (iblk m c 8 t) X
  | _ => fun _ => True

theorem before_0 (c : Dev nD) (t : Fin cfg0.N) (d) : (dats m c).before 0 t d = iblk m c 0 t :=
  ((dats m c).before_in_eq_fetched 0 rfl (fun _ => rfl) (fun _ _ _ => rfl) (fun t => by unfold Dat.blockOf; rw [A_eq]; rfl) t d).trans
    (by unfold Dat.fetched Dat.blockOf iblk; rw [A_eq]; rfl)
theorem before_1 (c : Dev nD) (t : Fin cfg0.N) (d) : (dats m c).before 1 t d = iblk m c 1 t :=
  ((dats m c).before_in_eq_fetched 1 rfl (fun _ => rfl) (fun _ _ _ => rfl) (fun t => by unfold Dat.blockOf; rw [A_eq]; rfl) t d).trans
    (by unfold Dat.fetched Dat.blockOf iblk; rw [A_eq]; rfl)
theorem before_2 (c : Dev nD) (t : Fin cfg0.N) (d) : (dats m c).before 2 t d = iblk m c 2 t :=
  ((dats m c).before_in_eq_fetched 2 rfl (fun _ => rfl) (fun _ _ _ => rfl) (fun t => by unfold Dat.blockOf; rw [A_eq]; rfl) t d).trans
    (by unfold Dat.fetched Dat.blockOf iblk; rw [A_eq]; rfl)
theorem before_3 (c : Dev nD) (t : Fin cfg0.N) (d) : (dats m c).before 3 t d = iblk m c 3 t :=
  ((dats m c).before_in_eq_fetched 3 rfl (fun _ => rfl) (fun _ _ _ => rfl) (fun t => by unfold Dat.blockOf; rw [A_eq]; rfl) t d).trans
    (by unfold Dat.fetched Dat.blockOf iblk; rw [A_eq]; rfl)
theorem before_4 (c : Dev nD) (t : Fin cfg0.N) (d) : (dats m c).before 4 t d = iblk m c 4 t :=
  ((dats m c).before_in_eq_fetched 4 rfl (fun _ => rfl) (fun _ _ _ => rfl) (fun t => by unfold Dat.blockOf; rw [A_eq]; rfl) t d).trans
    (by unfold Dat.fetched Dat.blockOf iblk; rw [A_eq]; rfl)
theorem before_5 (c : Dev nD) (t : Fin cfg0.N) (d) : (dats m c).before 5 t d = iblk m c 5 t :=
  ((dats m c).before_in_eq_fetched 5 rfl (fun _ => rfl) (fun _ _ _ => rfl) (fun t => by unfold Dat.blockOf; rw [A_eq]; rfl) t d).trans
    (by unfold Dat.fetched Dat.blockOf iblk; rw [A_eq]; rfl)
theorem before_6 (c : Dev nD) (t : Fin cfg0.N) (d) : (dats m c).before 6 t d = iblk m c 6 t :=
  ((dats m c).before_in_eq_fetched 6 rfl (fun _ => rfl) (fun _ _ _ => rfl) (fun t => by unfold Dat.blockOf; rw [A_eq]; rfl) t d).trans
    (by unfold Dat.fetched Dat.blockOf iblk; rw [A_eq]; rfl)
theorem before_7 (c : Dev nD) (t : Fin cfg0.N) (d) : (dats m c).before 7 t d = iblk m c 7 t :=
  ((dats m c).before_in_eq_fetched 7 rfl (fun _ => rfl) (fun _ _ _ => rfl) (fun t => by unfold Dat.blockOf; rw [A_eq]; rfl) t d).trans
    (by unfold Dat.fetched Dat.blockOf iblk; rw [A_eq]; rfl)
theorem before_8 (c : Dev nD) (t : Fin cfg0.N) (d) : (dats m c).before 8 t d = iblk m c 8 t :=
  ((dats m c).before_in_eq_fetched 8 rfl (fun _ => rfl) (fun _ _ _ => rfl) (fun t => by unfold Dat.blockOf; rw [A_eq]; rfl) t d).trans
    (by unfold Dat.fetched Dat.blockOf iblk; rw [A_eq]; rfl)

/-! ## The body at the one point -/

/-- What the body leaves in the first result's window is what the arguments' blocks make of it. -/
theorem res_of (c : Dev nD) (t : Fin cfg0.N) {f0 f1 f3 f4 f5 f6 f9} {Wc : Vec F S32x16384 .fp8e4m3} {f : Vec F S16x128 .f32}
    (hR : Filled ((st0_5 t).view.read (Elt F) f5) 128 Wc
      ∧ RowsOk (V m c main_arg0) Wc (spans (word c (st0_0 t) f0 0) (word c (st0_0 t) f0 1) (word c (st0_0 t) f0 0) (word c (st0_1 t) f1 0) (word c (st0_0 t) f0 1) (word c (st0_1 t) f1 1)) (spans (word c (st0_0 t) f0 0) (word c (st0_0 t) f0 1) (word c (st0_0 t) f0 0) (word c (st0_1 t) f1 0) (word c (st0_0 t) f0 1) (word c (st0_1 t) f1 1)).nit f
      ∧ Laid (valsOf c (st0_0 t) (st0_1 t) (st0_3 t) (st0_4 t) (st0_6 t) f0 f1 f3 f4 f6 f) 8 ((st0_9 t).view.read (Elt F) f9))
    (e0 : (st0_0 t).view.read (Elt F) f0 = iblk m c 0 t)
    (e1 : (st0_1 t).view.read (Elt F) f1 = iblk m c 1 t)
    (e3 : (st0_3 t).view.read (Elt F) f3 = iblk m c 3 t)
    (e4 : (st0_4 t).view.read (Elt F) f4 = iblk m c 4 t)
    (e5 : (st0_5 t).view.read (Elt F) f5 = iblk m c 5 t)
    (e6 : (st0_6 t).view.read (Elt F) f6 = iblk m c 6 t) :
    Rl m c 9 t ((st0_9 t).view.read (Elt F) f9) := by
  show Res _ _ _ _ _ _ _ _
  rw [← e0, ← e1, ← e3, ← e4, ← e5, ← e6]
  obtain ⟨h1, h2, h3⟩ := hR
  refine ⟨Wc, f, h1, ?_, ?_⟩
  · rw [word_eq, word_eq, word_eq, word_eq] at h2
    exact h2
  · rw [vals_eq] at h3
    exact h3

/-- What the body leaves in the third result's window is what the arguments' blocks make of it. -/
theorem resR_of (c : Dev nD) (t : Fin cfg0.N) {f0 f1 f2 f3 f4 f5 f6 f7 f8 f11} {Wc : Vec F S32x16384 .fp8e4m3} {f : Vec F S16x128 .f32}
    (hR : Filled ((st0_5 t).view.read (Elt F) f5) 128 Wc
      ∧ RowsOk (V m c main_arg0) Wc (spans (word c (st0_0 t) f0 0) (word c (st0_0 t) f0 1) (word c (st0_0 t) f0 0) (word c (st0_1 t) f1 0) (word c (st0_0 t) f0 1) (word c (st0_1 t) f1 1)) (spans (word c (st0_0 t) f0 0) (word c (st0_0 t) f0 1) (word c (st0_0 t) f0 0) (word c (st0_1 t) f1 0) (word c (st0_0 t) f0 1) (word c (st0_1 t) f1 1)).nit f
      ∧ Laid (retsOf c (st0_0 t) (st0_1 t) (st0_2 t) (st0_3 t) (st0_4 t) (st0_6 t) (st0_7 t) (st0_8 t) f0 f1 f2 f3 f4 f6 f7 f8 f) 8 ((st0_11 t).view.read (Elt F) f11))
    (e0 : (st0_0 t).view.read (Elt F) f0 = iblk m c 0 t)
    (e1 : (st0_1 t).view.read (Elt F) f1 = iblk m c 1 t)
    (e2 : (st0_2 t).view.read (Elt F) f2 = iblk m c 2 t)
    (e3 : (st0_3 t).view.read (Elt F) f3 = iblk m c 3 t)
    (e4 : (st0_4 t).view.read (Elt F) f4 = iblk m c 4 t)
    (e5 : (st0_5 t).view.read (Elt F) f5 = iblk m c 5 t)
    (e6 : (st0_6 t).view.read (Elt F) f6 = iblk m c 6 t)
    (e7 : (st0_7 t).view.read (Elt F) f7 = iblk m c 7 t)
    (e8 : (st0_8 t).view.read (Elt F) f8 = iblk m c 8 t) :
    Rl m c 11 t ((st0_11 t).view.read (Elt F) f11) := by
  show ResR _ _ _ _ _ _ _ _ _ _ _
  rw [← e0, ← e1, ← e2, ← e3, ← e4, ← e5, ← e6, ← e7, ← e8]
  obtain ⟨h1, h2, h3⟩ := hR
  refine ⟨Wc, f, h1, ?_, ?_⟩
  · rw [word_eq, word_eq, word_eq, word_eq] at h2
    exact h2
  · rw [rets_eq] at h3
    exact h3

/-- What the body leaves in the second result's window is what the arguments' blocks make of it. -/
theorem resA_of (c : Dev nD) (t : Fin cfg0.N) {f0 f1 f2 f3 f4 f5 f6 f7 f8 f10} {Wc : Vec F S32x16384 .fp8e4m3} {f : Vec F S16x128 .f32}
    (hR : Filled ((st0_5 t).view.read (Elt F) f5) 128 Wc
      ∧ RowsOk (V m c main_arg0) Wc (spans (word c (st0_0 t) f0 0) (word c (st0_0 t) f0 1) (word c (st0_0 t) f0 0) (word c (st0_1 t) f1 0) (word c (st0_0 t) f0 1) (word c (st0_1 t) f1 1)) (spans (word c (st0_0 t) f0 0) (word c (st0_0 t) f0 1) (word c (st0_0 t) f0 0) (word c (st0_1 t) f1 0) (word c (st0_0 t) f0 1) (word c (st0_1 t) f1 1)).nit f
      ∧ Laid (advsOf c (st0_0 t) (st0_1 t) (st0_2 t) (st0_3 t) (st0_4 t) (st0_6 t) (st0_7 t) (st0_8 t) f0 f1 f2 f3 f4 f6 f7 f8 f) 8 ((st0_10 t).view.read (Elt F) f10))
    (e0 : (st0_0 t).view.read (Elt F) f0 = iblk m c 0 t)
    (e1 : (st0_1 t).view.read (Elt F) f1 = iblk m c 1 t)
    (e2 : (st0_2 t).view.read (Elt F) f2 = iblk m c 2 t)
    (e3 : (st0_3 t).view.read (Elt F) f3 = iblk m c 3 t)
    (e4 : (st0_4 t).view.read (Elt F) f4 = iblk m c 4 t)
    (e5 : (st0_5 t).view.read (Elt F) f5 = iblk m c 5 t)
    (e6 : (st0_6 t).view.read (Elt F) f6 = iblk m c 6 t)
    (e7 : (st0_7 t).view.read (Elt F) f7 = iblk m c 7 t)
    (e8 : (st0_8 t).view.read (Elt F) f8 = iblk m c 8 t) :
    Rl m c 10 t ((st0_10 t).view.read (Elt F) f10) := by
  show ResA _ _ _ _ _ _ _ _ _ _ _
  rw [← e0, ← e1, ← e2, ← e3, ← e4, ← e5, ← e6, ← e7, ← e8]
  obtain ⟨h1, h2, h3⟩ := hR
  refine ⟨Wc, f, h1, ?_, ?_⟩
  · rw [word_eq, word_eq, word_eq, word_eq] at h2
    exact h2
  · rw [advs_eq] at h3
    exact h3

/-- What the body finds. -/
def bodyPre (c : Dev nD) (t : Fin cfg0.N) : sProp 𝕄 :=
  iprop(Inv m c ∗ (dats m c).owesAt () t.castSucc ∗ (∃ d, owns c (st0_0 t) fullShare ((dats m c).before 0 t d)) ∗ (∃ d, owns c (st0_1 t) fullShare ((dats m c).before 1 t d)) ∗ (∃ d, owns c (st0_2 t) fullShare ((dats m c).before 2 t d)) ∗ (∃ d, owns c (st0_3 t) fullShare ((dats m c).before 3 t d)) ∗ (∃ d, owns c (st0_4 t) fullShare ((dats m c).before 4 t d)) ∗ (∃ d, owns c (st0_5 t) fullShare ((dats m c).before 5 t d)) ∗ (∃ d, owns c (st0_6 t) fullShare ((dats m c).before 6 t d)) ∗ (∃ d, owns c (st0_7 t) fullShare ((dats m c).before 7 t d)) ∗ (∃ d, owns c (st0_8 t) fullShare ((dats m c).before 8 t d)) ∗ (∃ Y, ⌜((dats m c).toRRel fgt (Rl m c)).Finds 9 t Y⌝ ∗ owns c (st0_9 t) fullShare Y) ∗ (∃ Y, ⌜((dats m c).toRRel fgt (Rl m c)).Finds 10 t Y⌝ ∗ owns c (st0_10 t) fullShare Y) ∗ (∃ Y, ⌜((dats m c).toRRel fgt (Rl m c)).Finds 11 t Y⌝ ∗ owns c (st0_11 t) fullShare Y))
/-- What the body leaves. -/
def bodyPost (c : Dev nD) (t : Fin cfg0.N) : sProp 𝕄 :=
  iprop(Inv m c ∗ (dats m c).owesAt () t.succ ∗ owns c (st0_0 t) fullShare (iblk m c 0 t) ∗ owns c (st0_1 t) fullShare (iblk m c 1 t) ∗ owns c (st0_2 t) fullShare (iblk m c 2 t) ∗ owns c (st0_3 t) fullShare (iblk m c 3 t) ∗ owns c (st0_4 t) fullShare (iblk m c 4 t) ∗ owns c (st0_5 t) fullShare (iblk m c 5 t) ∗ owns c (st0_6 t) fullShare (iblk m c 6 t) ∗ owns c (st0_7 t) fullShare (iblk m c 7 t) ∗ owns c (st0_8 t) fullShare (iblk m c 8 t) ∗ (∃ X, ⌜Rl m c 9 t X⌝ ∗ owns c (st0_9 t) fullShare X) ∗ (∃ X, ⌜Rl m c 10 t X⌝ ∗ owns c (st0_10 t) fullShare X) ∗ (∃ X, ⌜Rl m c 11 t X⌝ ∗ owns c (st0_11 t) fullShare X))

set_option maxHeartbeats 4000000 in
/-- The body, from what the pipeline hands it to what it takes back. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0 Inv
  unfold Dat.owesAt Pipeline.owesWithin
  rw [show (dats m c).owed t.castSucc = 0 from rfl, show (dats m c).owed t.succ = 0 from rfl]
  simp only [before_0, before_1, before_2, before_3, before_4, before_5, before_6, before_7, before_8]
  unfold owns
  iintro ⟨⟨⟨⟨%g, Hbuf⟩, Hw, Hv⟩, Hg, Hsem, Hhid⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%Y9, -, %f9, -, H9⟩, ⟨%Y10, -, %f10, -, H10⟩, ⟨%Y11, -, %f11, -, H11⟩⟩
  iapply (wp_wand_r frame (wpE (defs₀ (F := F)) Variants.none (c : Thread nD τ) none) Set.univ (Q := fun _ => bodyEnd c (V m c main_arg0) (st0_0 t) (st0_1 t) (st0_2 t) (st0_3 t) (st0_4 t) (st0_5 t) (st0_6 t) (st0_7 t) (st0_8 t) (st0_9 t) (st0_10 t) (st0_11 t) f0 f1 f2 f3 f4 f5 f6 f7 f8))
  isplitl [Hbuf Hw Hv Hsem Hhid HW H0 H1 H2 H3 H4 H5 H6 H7 H8 H9 H10 H11]
  · iapply (kernelRun c (V m c main_arg0) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (st0_9 t) (hstage0_9 0) (st0_10 t) (hstage0_10 0) (st0_11 t) (hstage0_11 0) (Memref.isWhole_whole _) (Memref.isWhole_whole _) (Memref.isWhole_whole _) (Memref.isWhole_whole _) f0 f1 f2 f3 f4 f5 f6 f7 f8 f9 f10 f11)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hsem Hhid Hbuf]
    · isplitl [Hsem]; · iexact Hsem
      unfold both
      isplitl [Hhid]; · iexact Hhid
      iexists g; iexact Hbuf
    isplitl [HW]; · iexists W; iexact HW
    isplitl [Hw]; · iexact Hw
    iexact Hv
  iintro %u
  unfold bodyEnd bodyMid both
  iintro ⟨H0, H1, H2, H3, H4, H5, H6, H7, H8, ⟨%Wc, %f, %g9, %g10, %g11, %hR, H9, Hw, Hv, H10, H11⟩, ⟨Hsem, Hhid, Hbuf⟩, ⟨%Wt, HW⟩⟩
  isplitl [Hbuf Hw Hv Hg Hsem Hhid]
  · isplitl [Hbuf Hw Hv]
    · isplitl [Hbuf]; · iexact Hbuf
      isplitl [Hw]; · iexists Wc; iexact Hw
      iexists f; iexact Hv
    isplitl [Hg]; · iexact Hg
    isplitl [Hsem]; · iexact Hsem
    iexact Hhid
  isplitl [HW]
  · iexists Wt; isplitr
    · ipureintro; exact fun _ _ => Or.inl trivial
    iexact HW
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists _; isplitr
    · ipureintro; exact res_of m c t ⟨hR.1, hR.2.1, hR.2.2.1⟩ e0 e1 e3 e4 e5 e6
    iexists g9; isplitr
    · ipureintro; rfl
    iexact H9
  isplitl [H10]
  · iexists ((st0_10 t).view.read (Elt F) g10); isplitr
    · ipureintro; exact resA_of m c t ⟨hR.1, hR.2.1, hR.2.2.2.1⟩ e0 e1 e2 e3 e4 e5 e6 e7 e8
    iexists g10; isplitr
    · ipureintro; rfl
    iexact H10
  iexists ((st0_11 t).view.read (Elt F) g11); isplitr
  · ipureintro; exact resR_of m c t ⟨hR.1, hR.2.1, hR.2.2.2.2.1⟩ e0 e1 e2 e3 e4 e5 e6 e7 e8
  iexists g11; isplitr
  · ipureintro; rfl
  iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligationRel (dats m c) (defs₀ (F := F)) Variants.none () Set.univ fgt (Rl m c) := fun t => by
  rw [bigSep_W0, bigSep_W0, defs₀_row]
  exact triple_restated (sound_body m c t) rfl (.of_eq (by rw [show (dats m c).Φ t.castSucc = Inv m c from inv_eq m c]; rfl)) fun _ => (.of_eq (by rw [show (dats m c).Φ t.succ = Inv m c from inv_eq m c]; rfl))

/-! ## The run and the frame -/

/-- The data as relations. -/
abbrev rdats (c : Dev nD) : RDat τ (Elt F) Unit ℕ (Pipeline.UD sig nD τ) ℕ cfg0 c := (dats m c).toRRel fgt (Rl m c)

set_option backward.isDefEq.respectTransparency.types false in
/-- The run: every window's array ends as the data say, every other buffer as it was, every semaphore at zero. -/
theorem run_main : θ_run defs (onTc (τ := τ) (main (F := F))) (s₀ m ρ) (fun r => RDat.FramePost cfg0 (rdats m) (V m) r ∧ r.2.sem = fun _ => 0) :=
  RDat.θ_run_frame_dma (Q' := _) cfgs (0 : Fin 1) launch0 osem0 defs₀ Variants.none (rdats m) ownSemFacts0 H0 H0_sub m ρ main
    (hbody := fun c => (body_obligation m c).toRRel) (hshare := fun c => (dats m c).share_full fun _ => rfl)
    (howed := fun _ _ => rfl) (V := V m) (hmain := main_region m Variants.none) (hA := A_eq m)
    (hin := fun _ => .rfl) (hout := fun _ => .rfl)

/-- The frame: the program terminates, its arguments end unchanged, every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c),
      (h.1.arr_in c 6 rfl).trans ((A_eq m c 6).trans (V_main_arg1 m c)),
      ((h.1 c).2 main_arg2 (Pipeline.mem_restRefs_of main_arg2 (by decide) (by decide))).trans (V_main_arg2 m c),
      (h.1.arr_in c 3 rfl).trans ((A_eq m c 3).trans (V_main_arg3 m c)),
      (h.1.arr_in c 4 rfl).trans ((A_eq m c 4).trans (V_main_arg4 m c)),
      (h.1.arr_in c 7 rfl).trans ((A_eq m c 7).trans (V_main_arg5 m c)),
      (h.1.arr_in c 8 rfl).trans ((A_eq m c 8).trans (V_main_arg6 m c)),
      (h.1.arr_in c 2 rfl).trans ((A_eq m c 2).trans (V_main_arg7 m c)),
      (h.1.arr_in c 1 rfl).trans ((A_eq m c 1).trans (V_main_arg8 m c)),
      (h.1.arr_in c 0 rfl).trans ((A_eq m c 0).trans (V_main_arg9 m c))⟩, h.2⟩) (run_main m ρ)

end Cert.KernelIdeal.Critic

end
-- ==== Proof.Spec.lean ====
module

public import Idealize.ShloMosaic.Lib.Pointwise

/-!
# The values, element by element

What the first result holds at sequence `r` and position `t`, over the extended reals: inside the answer of the sequence
the product of the hidden row with the weights, scaled and shifted, and zero outside it.
-/

@[expose] public section

noncomputable section

namespace Cert.Critic

open Idealize.ShloMosaic

/-- Whether position `t` lies in an answer that starts at `p` and is `l` positions long, as a bit. -/
def maskBit (p l : BitVec 32) (t : ℕ) : BitVec 1 :=
  IntOp.andi (IntOp.cmpi .sge (BitVec.ofNat 32 t) p) (IntOp.cmpi .slt (BitVec.ofNat 32 t) (IntOp.addi p l))

/-- The product of hidden row `(r, t)` with the weights. -/
def dotRow (V : FVec Ideal ⟨3, ![2, 1024, 16384]⟩ .fp8e4m3) (w : FVec Ideal ⟨1, ![16384]⟩ .fp8e4m3) (r : Fin 2) (t : Fin 1024) : EReal :=
  ∑ k : Fin 16384, (V (ix3 r t k) : EReal) * (w (ix1 k) : EReal)

/-- The value at sequence `r` and position `t`. -/
def valueAt (V : FVec Ideal ⟨3, ![2, 1024, 16384]⟩ .fp8e4m3) (hs : FVec Ideal ⟨2, ![2, 1024]⟩ .f32) (w : FVec Ideal ⟨1, ![16384]⟩ .fp8e4m3)
    (ws b : FVec Ideal ⟨1, ![1]⟩ .f32) (len start : IVec ⟨1, ![2]⟩ 32) (r : Fin 2) (t : Fin 1024) : EReal :=
  Scalar.select (maskBit (start (ix1 r)) (len (ix1 r)) t.val)
    (dotRow V w r t * (hs (ix2 r t) : EReal) * (ws (ix1 0) : EReal) + (b (ix1 0) : EReal)) (0 : EReal)

end Cert.Critic

end
end
-- ==== Proof.KernelIdealPoint.lean ====
module

public import proofs.«01_k».proof.Proof.KernelIdealFrame
public import proofs.«01_k».proof.Proof.Spec
public import Idealize.ShloMosaic.Lib.Tactic.WordOmega
public import Idealize.ShloMosaic.Lib.Pipeline.ValueKit

/-!
# The kernel's first result, element by element

What the run leaves in the first result is, at every sequence and position, the value of that position.
-/

@[expose] public section

set_option maxRecDepth 16384

noncomputable section

namespace Cert.KernelIdeal.Critic

open Idealize.ShloMosaic Idealize.ShloMosaic.TcCoe Idealize.ShloMosaic.Tactic
open Idealize.SL Idealize.SL.Sem
open Cert.Critic Cert.KernelIdeal.Gen

/-- The position of lane `l` of row `q`, as a word. -/
theorem pos_word (q : Fin 16) (l : Fin 128) :
    k0_pay163 (iota .tc S16x128 32 [0] iota_S16x128_d0_w32) (iota .tc S16x128 32 [1] iota_S16x128_d1_w32) 2#32 k0_pay160 k0_pay161 k0_pay162 (ix2 q l)
      = BitVec.ofNat 32 (128 * (q.val / 2) + l.val) := by
  pointwise [k0_pay163, k0_pay160, k0_pay161, k0_pay162]
  refine (congrArg (fun x => IntOp.addi x (BitVec.ofNat 32 l.val)) (?_ : _ = BitVec.ofNat 32 (128 * (q.val / 2)))).trans ?_
  · revert q; decide +kernel
  · exact (BitVec.ofNat_add _ _).symm

/-- The odd rows belong to the second sequence. -/
theorem odd_row (q : Fin 16) (l : Fin 128) :
    k0_pay164 (iota .tc S16x128 32 [0] iota_S16x128_d0_w32) (ix2 q l) = BitVec.ofBool (q.val % 2 = 1) := by
  pointwise [k0_pay164]
  revert q; decide +kernel

/-- The mask at the lane that holds position `t` of sequence `r`. -/
theorem mask_at (p0 p1 l0 l1 : BitVec 32) (r : Fin 2) (t : Fin 1024) (q : Fin 16) (l : Fin 128) (hq : q.val = 2 * (t.val / 128) + r.val) (hl : l.val = t.val % 128) :
    maskOf (F := Ideal) p0 p1 l0 l1 (ix2 q l) = maskBit (![p0, p1] r) (![l0, l1] r) t.val := by
  have ht : 128 * (q.val / 2) + l.val = t.val := by omega
  have hr : q.val % 2 = r.val := by omega
  unfold maskOf
  pointwise [k0_pay166, k0_pay165, maskBit]
  rw [pos_word q l, odd_row q l, ht, hr]
  match r with
  | ⟨0, _⟩ => rfl
  | ⟨1, _⟩ => rfl

/-- A piece of 128 positions of both sequences, from position `o`. -/
def sl (X7 : S2x1024.Idx → Elt Ideal .f32) (o : ℕ) (inb : ∀ a, (![0, o] : Fin 2 → ℕ) a + S2x128.size a ≤ S2x1024.size a) : Vec Ideal S2x128 .f32 :=
  fun x => X7 ((Rect.unit (s := S2x1024) ![0, o] S2x128.size inb).toLoadRect.idx x)

theorem sl_apply (X7 : S2x1024.Idx → Elt Ideal .f32) (o : ℕ) (inb : ∀ a, (![0, o] : Fin 2 → ℕ) a + S2x128.size a ≤ S2x1024.size a) (a : Fin 2) (l : Fin 128) :
    sl X7 o inb (ix2 a l) = X7 (ix2 a ⟨o + l.val, Nat.lt_of_lt_of_le (Nat.add_lt_add_left l.isLt o) (inb 1)⟩) := by
  refine congrArg X7 (funext fun b => Fin.ext ?_)
  refine (ValueKit.rect_emb_unit_val (s := S2x1024) ![0, o] S2x128.size inb (ix2 a l) b).trans ?_
  match b with
  | ⟨0, _⟩ => exact Nat.zero_add _
  | ⟨1, _⟩ => rfl

/-- The piece that holds a position holds it at the position's place in the piece. -/
theorem pieces_apply (X7 : S2x1024.Idx → Elt Ideal .f32) (k : Fin 8) (a : Fin 2) (l : Fin 128) :
    (![sl X7 0 inb_S2x1024_S2x128_0_0, sl X7 128 inb_S2x1024_S2x128_0_128, sl X7 256 inb_S2x1024_S2x128_0_256, sl X7 384 inb_S2x1024_S2x128_0_384, sl X7 512 inb_S2x1024_S2x128_0_512, sl X7 640 inb_S2x1024_S2x128_0_640, sl X7 768 inb_S2x1024_S2x128_0_768, sl X7 896 inb_S2x1024_S2x128_0_896] : Fin 8 → Vec Ideal S2x128 .f32) k (ix2 a l)
      = X7 (ix2 a ⟨128 * k.val + l.val, by omega⟩) :=
  match k with
  | ⟨0, _⟩ => sl_apply X7 0 inb_S2x1024_S2x128_0_0 a l
  | ⟨1, _⟩ => sl_apply X7 128 inb_S2x1024_S2x128_0_128 a l
  | ⟨2, _⟩ => sl_apply X7 256 inb_S2x1024_S2x128_0_256 a l
  | ⟨3, _⟩ => sl_apply X7 384 inb_S2x1024_S2x128_0_384 a l
  | ⟨4, _⟩ => sl_apply X7 512 inb_S2x1024_S2x128_0_512 a l
  | ⟨5, _⟩ => sl_apply X7 640 inb_S2x1024_S2x128_0_640 a l
  | ⟨6, _⟩ => sl_apply X7 768 inb_S2x1024_S2x128_0_768 a l
  | ⟨7, _⟩ => sl_apply X7 896 inb_S2x1024_S2x128_0_896 a l

/-- One lane of the rows scaled, shifted and masked, the scales laid down in eight pieces. -/
theorem pay168_at (M : IVec S16x128 1) (f : Vec Ideal S16x128 .f32) (x0 x1 x2 x3 x4 x5 x6 x7 : Vec Ideal S2x128 .f32) (ws b : Elt Ideal .f32) (q : Fin 16) (l : Fin 128) :
    k0_pay168 M f x0 x1 x2 x3 x4 x5 x6 x7 ws b (ix2 q l) = Scalar.select (M (ix2 q l))
      ((f (ix2 q l) : EReal) * ((![x0, x1, x2, x3, x4, x5, x6, x7] : Fin 8 → Vec Ideal S2x128 .f32) ⟨q.val / 2, by omega⟩ (ix2 ⟨q.val % 2, by omega⟩ l) : EReal) * (ws : EReal) + (b : EReal)) (0 : EReal) := by
  pointwise [k0_pay168]
  fin_vals q with hq
  all_goals simp only [hq, Nat.reduceSub, Nat.reduceLT, ↓reduceDIte]
  all_goals rfl

theorem one_idx (x : S1.Idx) : x = ix1 0 :=
  funext fun a => match a with
    | ⟨0, _⟩ => Subsingleton.elim (α := Fin 1) _ _

/-- The lanes of the first result, one by one. -/
theorem vals_at (X0 X1 : S2.Idx → Elt Ideal .i32) (X3 X4 : S1.Idx → Elt Ideal .f32) (X7 : S2x1024.Idx → Elt Ideal .f32) (f : Vec Ideal S16x128 .f32)
    (r : Fin 2) (t : Fin 1024) (q : Fin 16) (l : Fin 128) (hq : q.val = 2 * (t.val / 128) + r.val) (hl : l.val = t.val % 128) :
    Vals X0 X1 X3 X4 X7 f (ix2 q l) = Scalar.select (maskBit (![tab X0 0, tab X0 1] r) (![tab X1 0, tab X1 1] r) t.val)
      ((f (ix2 q l) : EReal) * (X7 (ix2 r t) : EReal) * (X3 (ix1 0) : EReal) + (X4 (ix1 0) : EReal)) (0 : EReal) := by
  have hm := mask_at (tab X0 0) (tab X0 1) (tab X1 0) (tab X1 1) r t q l hq hl
  have hp := pieces_apply X7 ⟨q.val / 2, by omega⟩ ⟨q.val % 2, by omega⟩ l
  have ht : (ix2 ⟨q.val % 2, by omega⟩ ⟨128 * (q.val / 2) + l.val, by omega⟩ : S2x1024.Idx) = ix2 r t := by
    congr 1 <;> exact Fin.ext (by simp only []; omega)
  have h3 : ∀ h, X3 ((Rect.unit (s := S1) ![0] S1.size inb_S1_S1_0).toLoadRect.idx (Shape.Idx.first h)) = X3 (ix1 0) := fun h => congrArg X3 (one_idx _)
  have h4 : ∀ h, X4 ((Rect.unit (s := S1) ![0] S1.size inb_S1_S1_0).toLoadRect.idx (Shape.Idx.first h)) = X4 (ix1 0) := fun h => congrArg X4 (one_idx _)
  refine (pay168_at _ f (sl X7 0 inb_S2x1024_S2x128_0_0) (sl X7 128 inb_S2x1024_S2x128_0_128) (sl X7 256 inb_S2x1024_S2x128_0_256) (sl X7 384 inb_S2x1024_S2x128_0_384) (sl X7 512 inb_S2x1024_S2x128_0_512) (sl X7 640 inb_S2x1024_S2x128_0_640) (sl X7 768 inb_S2x1024_S2x128_0_768) (sl X7 896 inb_S2x1024_S2x128_0_896) _ _ q l).trans ?_
  rw [hm, hp, ht, h3, h4]

/-- A row of products, lane by lane: the products of the chunk's rows with the first row of the replicated weights. -/
theorem dot_at (Wc : Vec Ideal S32x16384 .fp8e4m3) (ch : Vec Ideal S1x128x16384 .fp8e4m3) (l : Fin 128) :
    k0_pay158 (k0_pay1 Wc ch) (ix2 0 l) = ∑ k : Fin 16384, (Wc (ix2 0 k) : EReal) * (ch (ix3 0 l k) : EReal) := by
  pointwise [k0_pay158, k0_pay1]

/-- A position that the mask keeps lies between the two words, read as signed numbers. -/
theorem mask_span {p l : BitVec 32} {t : ℕ} (ht : t < 1024) (h : maskBit p l t = 1#1) : p.toInt ≤ t ∧ (t : Int) < (Scalar.addi p l).toInt := by
  unfold maskBit at h
  unfold Scalar.addi
  constructor <;> word_omega

/-- Every position of a span lies in the rows that some work item brings. -/
theorem item_of (S : Spans) (r : Fin 2) (t : ℕ) (hL : ![S.L0, S.L1] r ≤ t) (hH : t < ![S.H0, S.H1] r) :
    ∃ i, i < S.nit ∧ S.seq i = r.val ∧ S.chunk i = t / 128 ∧ 32 * S.first i ≤ t ∧ t < 32 * S.last i := by
  have h1 := S.hL0; have h2 := S.hH0; have h3 := S.hL1; have h4 := S.hH1
  match r with
  | ⟨0, _⟩ =>
    have hL : S.L0 ≤ t := hL
    have hH : t < S.H0 := hH
    refine ⟨t / 128 - S.L0 / 128, ?_⟩
    simp only [Spans.nit, chn, bhi, Spans.seq, Spans.chunk, Spans.first, Spans.last]
    split_ifs <;> omega
  | ⟨1, _⟩ =>
    have hL : S.L1 ≤ t := hL
    have hH : t < S.H1 := hH
    refine ⟨chn S.L0 S.H0 + (t / 128 - S.L1 / 128), ?_⟩
    simp only [Spans.nit, chn, bhi, Spans.seq, Spans.chunk, Spans.first, Spans.last]
    split_ifs <;> omega

/-- A position that the mask keeps lies in the span of its sequence. -/
theorem span_of (X0 X1 : S2.Idx → Elt Ideal .i32) (r : Fin 2) (t : Fin 1024)
    (hm : maskBit (![tab X0 0, tab X0 1] r) (![tab X1 0, tab X1 1] r) t.val = 1#1) :
    ![(spansOf X0 X1).L0, (spansOf X0 X1).L1] r ≤ t.val ∧ t.val < ![(spansOf X0 X1).H0, (spansOf X0 X1).H1] r := by
  have ht := t.isLt
  match r with
  | ⟨0, _⟩ =>
    have h := mask_span (p := tab X0 0) (l := tab X1 0) ht hm
    have hL : ((spansOf X0 X1).L0 : Int) = min 1024 (max 0 (tab X0 0).toInt) := (clampW_isInt (tab X0 0)).choose_spec.2.2
    have hH : ((spansOf X0 X1).H0 : Int) = min 1024 (max 0 (Scalar.addi (tab X0 0) (tab X1 0)).toInt) := (clampW_isInt (Scalar.addi (tab X0 0) (tab X1 0))).choose_spec.2.2
    show (spansOf X0 X1).L0 ≤ t.val ∧ t.val < (spansOf X0 X1).H0
    omega
  | ⟨1, _⟩ =>
    have h := mask_span (p := tab X0 1) (l := tab X1 1) ht hm
    have hL : ((spansOf X0 X1).L1 : Int) = min 1024 (max 0 (tab X0 1).toInt) := (clampW_isInt (tab X0 1)).choose_spec.2.2
    have hH : ((spansOf X0 X1).H1 : Int) = min 1024 (max 0 (Scalar.addi (tab X0 1) (tab X1 1)).toInt) := (clampW_isInt (Scalar.addi (tab X0 1) (tab X1 1))).choose_spec.2.2
    show (spansOf X0 X1).L1 ≤ t.val ∧ t.val < (spansOf X0 X1).H1
    omega

/-- At a position that the mask keeps, the rows of products hold the product of its hidden row with the weights. -/
theorem row_at (V : Hid Ideal) (Wc : Vec Ideal S32x16384 .fp8e4m3) (X0 X1 : S2.Idx → Elt Ideal .i32) (X6 : S128x128.Idx → Elt Ideal .fp8e4m3)
    (w : FVec Ideal ⟨1, ![16384]⟩ .fp8e4m3) (f : Vec Ideal S16x128 .f32) (hF : Filled X6 128 Wc) (hR : RowsOk V Wc (spansOf X0 X1) (spansOf X0 X1).nit f)
    (hw : ∀ k : Fin 16384, X6 (ix2 ⟨k.val / 128, by omega⟩ ⟨k.val % 128, by omega⟩) = w (ix1 k))
    (r : Fin 2) (t : Fin 1024) (q : Fin 16) (l : Fin 128) (hq : q.val = 2 * (t.val / 128) + r.val) (hl : l.val = t.val % 128)
    (hm : maskBit (![tab X0 0, tab X0 1] r) (![tab X1 0, tab X1 1] r) t.val = 1#1) :
    f (ix2 q l) = dotRow V w r t := by
  obtain ⟨hL, hH⟩ := span_of X0 X1 r t hm
  obtain ⟨i, hi, hs, hc, h1, h2⟩ := item_of (spansOf X0 X1) r t.val hL hH
  obtain ⟨ch, hch, hf⟩ := hR i hi
  have hqi : q.val = (qOf (spansOf X0 X1) i).val := by rw [qOf_val hi, hs, hc]; exact hq
  rw [hf (ix2 q l) (ix2 0 l) hqi rfl, dot_at]
  unfold dotRow
  refine Finset.sum_congr rfl fun k _ => ?_
  have e1 : Wc (ix2 0 k) = w (ix1 k) :=
    (hF (ix2 0 k) (ix2 ⟨k.val / 128, by omega⟩ ⟨k.val % 128, by omega⟩) k.isLt (Nat.div_add_mod k.val 128).symm).trans (hw k)
  have e2 : ch (ix3 0 l k) = V (ix3 r t k) := by
    refine hch (ix3 0 l k) (ix3 r t k) ?_ ?_ rfl
    · refine mem_rows.2 ⟨hs.symm, h1, ?_⟩
      rw [first_nblk hi]
      exact h2
    · show t.val = 128 * (spansOf X0 X1).chunk i + l.val
      rw [hc]; omega
  rw [e1, e2]
  exact mul_comm _ _

theorem tab_eq (X : S2.Idx → Elt Ideal .i32) (r : Fin 2) : (![tab X 0, tab X 1] : Fin 2 → BitVec 32) r = X (ix1 r) := by
  match r with
  | ⟨0, _⟩ => exact congrArg X (funext fun a => match a with | ⟨0, _⟩ => rfl)
  | ⟨1, _⟩ => exact congrArg X (funext fun a => match a with | ⟨0, _⟩ => rfl)

/-- The first result, element by element. -/
theorem res_value (V : Hid Ideal) (X0 X1 : S2.Idx → Elt Ideal .i32) (X3 X4 : S1.Idx → Elt Ideal .f32) (X6 : S128x128.Idx → Elt Ideal .fp8e4m3)
    (X7 X : S2x1024.Idx → Elt Ideal .f32) (w : FVec Ideal ⟨1, ![16384]⟩ .fp8e4m3)
    (hw : ∀ k : Fin 16384, X6 (ix2 ⟨k.val / 128, by omega⟩ ⟨k.val % 128, by omega⟩) = w (ix1 k))
    (h : Res V X0 X1 X3 X4 X6 X7 X) (r : Fin 2) (t : Fin 1024) : X (ix2 r t) = valueAt V X7 w X3 X4 X1 X0 r t := by
  obtain ⟨Wc, f, hF, hR, hX⟩ := h
  have hq : 2 * (t.val / 128) + r.val < 16 := by omega
  rw [hX (ix2 r t) (ix2 ⟨2 * (t.val / 128) + r.val, hq⟩ ⟨t.val % 128, by omega⟩) t.isLt rfl rfl,
    vals_at X0 X1 X3 X4 X7 f r t ⟨2 * (t.val / 128) + r.val, hq⟩ ⟨t.val % 128, by omega⟩ rfl rfl]
  unfold valueAt
  have hrow := row_at V Wc X0 X1 X6 w f hF hR hw r t ⟨2 * (t.val / 128) + r.val, hq⟩ ⟨t.val % 128, by omega⟩ rfl rfl
  rw [tab_eq, tab_eq] at hrow ⊢
  by_cases hb : maskBit (X0 (ix1 r)) (X1 (ix1 r)) t.val = 1#1
  · rw [hrow hb]
  · unfold Scalar.select
    exact (if_neg hb).trans (if_neg hb).symm

variable (m : (ℓ : Loc nD τ sig) → Buf (Elt Ideal) ℓ) (ρ : Dev nD → PrngReg)

/-- The one point. -/
abbrev t₀ : Fin cfg0.N := ⟨0, by decide⟩

theorem start_blk (c : Dev nD) : iblk m c 0 t₀ = m ((c : Thread nD τ).loc main_arg9) := by
  funext x
  idx_vars x
  blk_point [iblk, V]
  rw [show win0_0.index t₀ 0 = 0 from rfl]; omega
theorem len_blk (c : Dev nD) : iblk m c 1 t₀ = m ((c : Thread nD τ).loc main_arg8) := by
  funext x
  idx_vars x
  blk_point [iblk, V]
  rw [show win0_1.index t₀ 0 = 0 from rfl]; omega
theorem ws_blk (c : Dev nD) : iblk m c 3 t₀ = m ((c : Thread nD τ).loc main_arg3) := by
  funext x
  idx_vars x
  blk_point [iblk, V]
  all_goals rfl
theorem b_blk (c : Dev nD) : iblk m c 4 t₀ = m ((c : Thread nD τ).loc main_arg4) := by
  funext x
  idx_vars x
  blk_point [iblk, V]
  all_goals rfl
theorem hs_blk (c : Dev nD) : iblk m c 6 t₀ = m ((c : Thread nD τ).loc main_arg1) := by
  funext x
  idx_vars x
  blk_point [iblk, V]
  · rw [show win0_6.index t₀ 0 = 0 from rfl]; omega
  · rw [show win0_6.index t₀ 1 = 0 from rfl]; omega
theorem w_blk (c : Dev nD) (k : Fin 16384) : iblk m c 5 t₀ (ix2 ⟨k.val / 128, by omega⟩ ⟨k.val % 128, by omega⟩) = m ((c : Thread nD τ).loc main_arg2) (ix1 k) := by
  blk_simp [iblk]
  entry_read
  pointwise
  blk_ext
  show (0 * 128 + k.val / 128) * 128 + (0 * 128 + k.val % 128) = k.val
  omega

/-- The run: the first result holds the value of every sequence and position. -/
theorem run_values : θ_run defs (onTc (τ := τ) (main (F := Ideal))) (s₀ m ρ) (fun r => ∀ (c : Dev nD) (i : S2x1024.Idx),
    r.2.mem ((c : Thread nD τ).loc main_v1_0) i
      = valueAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg8)) (m ((c : Thread nD τ).loc main_arg9)) (i 0) (i 1)) := by
  refine (θ_run defs _ _).mono (fun r h c i => ?_) (run_main m ρ)
  obtain ⟨X, hX, hG⟩ := ((h.1 c).1 9).emb_eq_of_wholeAt (t₀ := t₀) (by decide +kernel)
  have hR := (dats m c).toRRel_leaves (w := 9) rfl hX
  have hR : Res (V m c main_arg0) (iblk m c 0 t₀) (iblk m c 1 t₀) (iblk m c 3 t₀) (iblk m c 4 t₀) (iblk m c 5 t₀) (iblk m c 6 t₀) X := hR
  rw [V_main_arg0, start_blk, len_blk, ws_blk, b_blk, hs_blk] at hR
  have hv := res_value _ _ _ _ _ _ _ _ (m ((c : Thread nD τ).loc main_arg2)) (w_blk m c) hR (i 0) (i 1)
  rw [← hv]
  refine (congrArg (r.2.mem ((c : Thread nD τ).loc main_v1_0)) (?_ : i = _)).trans ((hG i).trans ?_)
  · funext a; exact Fin.ext (by blk_simp)
  · refine congrArg X ?_
    funext a
    match a with
    | ⟨0, _⟩ => rfl
    | ⟨1, _⟩ => rfl

end Cert.KernelIdeal.Critic

end
end
-- ==== Proof.Returns.lean ====
module

public import proofs.«01_k».proof.Proof.Spec
public import Mathlib.Analysis.SpecialFunctions.Pow.Real

/-!
# The returns, element by element

What the third result holds at sequence `r` and position `t`, over the extended reals: the value plus the decayed sum of
the differences that follow within the answer, taken in chunks of 128 positions. The powers of the decay are non-negative
reals, so that a product with one of them is distributed over a sum of any extended reals.
-/

@[expose] public section

noncomputable section

namespace Cert.Critic

open Idealize.ShloMosaic

/-- A power of the decay. -/
def pw (n : ℕ) : EReal := (((19 / 20 : ℝ) ^ n : ℝ) : EReal)

theorem pw_add (a b : ℕ) : pw (a + b) = pw a * pw b := by
  unfold pw
  rw [pow_add, EReal.coe_mul]

theorem pw_nonneg (n : ℕ) : 0 ≤ pw n := EReal.coe_nonneg.2 (by positivity)
theorem pw_ne_top (n : ℕ) : pw n ≠ ⊤ := EReal.coe_ne_top _
theorem pw_mul_add (n : ℕ) (x y : EReal) : pw n * (x + y) = pw n * x + pw n * y := EReal.left_distrib_of_nonneg_of_ne_top (pw_nonneg n) (pw_ne_top n) x y
theorem add_mul_pw (n : ℕ) (x y : EReal) : (x + y) * pw n = x * pw n + y * pw n := EReal.right_distrib_of_nonneg_of_ne_top (pw_nonneg n) (pw_ne_top n) x y

theorem sum_mul_pw {ι : Type} (n : ℕ) (s : Finset ι) (f : ι → EReal) : (∑ i ∈ s, f i) * pw n = ∑ i ∈ s, f i * pw n := by
  classical
  induction s using Finset.induction_on with
  | empty => simp
  | insert a s h ih => rw [Finset.sum_insert h, Finset.sum_insert h, add_mul_pw, ih]

/-- The decay raised to a whole number. -/
theorem pow_pw (n : ℕ) : Ideal.pow (((19 / 20 : ℝ)) : EReal) (((n : ℤ) : ℝ) : EReal) = pw n := by
  rw [Ideal.pow_coe_coe]
  unfold pw
  congr 1
  rw [Int.cast_natCast]
  exact Real.rpow_natCast _ n

/-- Two raised to a whole multiple of the decay's logarithm. -/
theorem exp2_pw (n : ℕ) : Ideal.exp2 ((((n : ℤ) : ℝ) : EReal) * ((((Real.log (19 / 20)) * (Real.log 2)⁻¹ : ℝ)) : EReal)) = pw n := by
  rw [← EReal.coe_mul, Ideal.exp2_coe]
  unfold pw
  congr 1
  have h2 : Real.log 2 ≠ 0 := (Real.log_pos (by norm_num)).ne'
  rw [Real.rpow_eq_pow, Real.rpow_def_of_pos (by norm_num), Int.cast_natCast,
    show Real.log 2 * ((n : ℝ) * (Real.log (19 / 20) * (Real.log 2)⁻¹)) = n * Real.log (19 / 20) by field_simp,
    mul_comm, Real.exp_mul, Real.exp_log (by norm_num), Real.rpow_natCast]

/-- The decayed sum of a chunk's differences from its place `l` on. -/
def localAt (d : Fin 1024 → EReal) (k : Fin 8) (l : Fin 128) : EReal :=
  ∑ j : Fin 128, d ⟨128 * k.val + j.val, by omega⟩ * (if l.val ≤ j.val then pw (j.val - l.val) else 0)

/-- The decayed sum of the chunks after chunk `k`, as seen from the start of the next one. -/
def nextAt (d : Fin 1024 → EReal) (k : Fin 8) : EReal :=
  ∑ i : Fin 8, localAt d i 0 * (if k.val + 1 ≤ i.val then pw (128 * (i.val - k.val - 1)) else 0)

/-- The decayed sum of a chunk's differences as seen from place `l` of the chunk before it; no chunk, no sum. -/
def carryAt (d : Fin 1024 → EReal) (l : Fin 128) (k : ℕ) : EReal :=
  if h : k < 8 then ∑ j : Fin 128, d ⟨128 * k + j.val, by omega⟩ * pw (j.val + 128 - l.val) else 0

theorem carryAt_eq (d : Fin 1024 → EReal) (l : Fin 128) (k : Fin 8) : carryAt d l k.val = localAt d k 0 * pw (128 - l.val) := by
  unfold carryAt localAt
  rw [dif_pos k.isLt, sum_mul_pw]
  refine Finset.sum_congr rfl fun j _ => ?_
  have hl := l.isLt
  rw [if_pos (show (0 : Fin 128).val ≤ j.val from Nat.zero_le _), mul_assoc, ← pw_add]
  congr 2
  show j.val + 128 - l.val = j.val - 0 + (128 - l.val)
  omega

/-- Three doubling steps of a sequence of sums. -/
def double1 (a : ℕ → EReal) (k : ℕ) : EReal := a (k + 1) + pw 128 * a (k + 1 + 1)
def double2 (a : ℕ → EReal) (k : ℕ) : EReal := double1 a k + pw 256 * double1 a (k + 2)
def double3 (a : ℕ → EReal) (k : ℕ) : EReal := double2 a k + pw 512 * double2 a (k + 4)

theorem double_eq (H : Fin 8 → EReal) (n : ℕ) (a : ℕ → EReal) (ha : ∀ k : Fin 8, a k.val = H k * pw n) (hz : ∀ k, 8 ≤ k → a k = 0) (k : Fin 8) :
    double3 a k.val = (∑ i : Fin 8, H i * (if k.val + 1 ≤ i.val then pw (128 * (i.val - k.val - 1)) else 0)) * pw n := by
  have h1 := ha 1; have h2 := ha 2; have h3 := ha 3; have h4 := ha 4; have h5 := ha 5; have h6 := ha 6; have h7 := ha 7
  have e0 : pw 0 = 1 := by unfold pw; rw [pow_zero]; rfl
  have e2 : pw 384 = pw 256 * pw 128 := pw_add 256 128
  have e4 : pw 640 = pw 512 * pw 128 := pw_add 512 128
  have e5 : pw 768 = pw 512 * pw 256 := pw_add 512 256
  simp only [Fin.val_one, Fin.val_two, show (3 : Fin 8).val = 3 from rfl, show (4 : Fin 8).val = 4 from rfl, show (5 : Fin 8).val = 5 from rfl, show (6 : Fin 8).val = 6 from rfl, show (7 : Fin 8).val = 7 from rfl] at h1 h2 h3 h4 h5 h6 h7
  unfold double3 double2 double1
  rw [Fin.sum_univ_eight]
  fin_cases k
  all_goals
    simp [h1, h2, h3, h4, h5, h6, h7, hz, e0, e2, e4, e5]
    try simp only [pw_mul_add, add_mul_pw]
    try ac_rfl

/-- The doubling steps give each chunk the decayed sum of all the chunks after it. -/
theorem carry_sum (d : Fin 1024 → EReal) (l : Fin 128) (k : Fin 8) : double3 (carryAt d l) k.val = nextAt d k * pw (128 - l.val) :=
  double_eq (fun i => localAt d i 0) (128 - l.val) (carryAt d l) (carryAt_eq d l) (fun k h => dif_neg (by omega)) k

/-- The reward at a position: the scaled difference of the log probabilities, and the score at the answer's last position. -/
def rewardAt (lp lr : FVec Ideal ⟨2, ![2, 1024]⟩ .bf16) (score : FVec Ideal ⟨1, ![2]⟩ .f32) (len start : IVec ⟨1, ![2]⟩ 32) (r : Fin 2) (t : Fin 1024) : EReal :=
  Scalar.select (maskBit (start (ix1 r)) (len (ix1 r)) t.val)
    (Ideal.ofBits .f32 0xBD4CCCCD#32 * ((lp (ix2 r t) : EReal) - (lr (ix2 r t) : EReal))
      + Scalar.select (IntOp.cmpi .eq (BitVec.ofNat 32 t.val) (IntOp.subi (IntOp.addi (start (ix1 r)) (len (ix1 r))) 1#32)) (score (ix1 r) : EReal) 0) 0

/-- The difference at a position: the reward and the next value, less the value; zero outside the answer. -/
def deltaAt (v : Fin 1024 → EReal) (rw : Fin 1024 → EReal) (p l : BitVec 32) (t : Fin 1024) : EReal :=
  Scalar.select (maskBit p l t.val) (rw t + 1 * (if h : t.val + 1 < 1024 then v ⟨t.val + 1, h⟩ else 0) - v t) 0

/-- The return at a position. -/
def returnAt (v : Fin 1024 → EReal) (rw : Fin 1024 → EReal) (p l : BitVec 32) (t : Fin 1024) : EReal :=
  Scalar.select (maskBit p l t.val)
    (localAt (deltaAt v rw p l) ⟨t.val / 128, by omega⟩ ⟨t.val % 128, by omega⟩
      + nextAt (deltaAt v rw p l) ⟨t.val / 128, by omega⟩ * pw (128 - t.val % 128)) 0 + v t

end Cert.Critic

end
end
-- ==== Proof.KernelIdealDecay.lean ====
module

public import proofs.«01_k».proof.Proof.Gen.KernelIdeal.Skeleton
public import proofs.«01_k».proof.Proof.Returns
public import Idealize.ShloMosaic.Lib.Tactic.WordOmega
public import Idealize.ShloMosaic.Lib.Pipeline.ValueKit
public import Idealize.ShloMosaic.PureOps.IdealRules

/-!
# The kernel's decayed sums, lane by lane

The rows shifted up, the matrix of powers, and the three doubling steps, read at a row and a lane.
-/

@[expose] public section

set_option maxRecDepth 16384

noncomputable section

namespace Cert.KernelIdeal.Critic

open Idealize.ShloMosaic Idealize.ShloMosaic.TcCoe Idealize.ShloMosaic.Tactic
open Cert.Critic Cert.KernelIdeal.Gen

/-- The row of each lane, and its place in the row. -/
abbrev i0 : IVec S16x128 32 := iota .tc S16x128 32 [0] iota_S16x128_d0_w32
abbrev i1 : IVec S16x128 32 := iota .tc S16x128 32 [1] iota_S16x128_d1_w32

/-- The rows moved up, zero where no row follows. -/
def up (n : BitVec 32) (x : FVec Ideal S16x128 .f32) : FVec Ideal S16x128 .f32 :=
  select (cmpi .slt i0 (broadcast S16x128 n)) (dynamicRotate 0 n none x rotates_S16x128_d0) (broadcast S16x128 (Scalar.ofBits .f32 0x00000000#32))

/-- Chunk `k` of sequence `r` at lane `l`; no chunk, zero. -/
def rowAt (x : FVec Ideal S16x128 .f32) (r : Fin 2) (l : Fin 128) (k : ℕ) : EReal := if h : k < 8 then x (ix2 ⟨2 * k + r.val, by omega⟩ l) else 0

theorem up_at (s : ℕ) (hs : s = 1 ∨ s = 2 ∨ s = 4) (x : FVec Ideal S16x128 .f32) (r : Fin 2) (l : Fin 128) (k : ℕ) :
    rowAt (up (BitVec.ofNat 32 (16 - 2 * s)) x) r l k = rowAt x r l (k + s) := by
  unfold rowAt
  by_cases hk : k < 8
  · rw [dif_pos hk]
    rcases hs with rfl | rfl | rfl
    · pointwise [up]
      by_cases h : k + 1 < 8
      · rw [dif_pos h, show IntOp.cmpi CmpIPredicate.slt (BitVec.ofNat 32 (2 * k + r.val)) 14#32 = 1#1 from by word_omega]
        exact congrArg x (congrArg (ix2 · l) (Fin.ext (by show (2 * k + r.val + 16 - 14) % 16 = 2 * (k + 1) + r.val; omega)))
      · rw [dif_neg h, show IntOp.cmpi CmpIPredicate.slt (BitVec.ofNat 32 (2 * k + r.val)) 14#32 = 0#1 from by word_omega]
        rfl
    · pointwise [up]
      by_cases h : k + 2 < 8
      · rw [dif_pos h, show IntOp.cmpi CmpIPredicate.slt (BitVec.ofNat 32 (2 * k + r.val)) 12#32 = 1#1 from by word_omega]
        exact congrArg x (congrArg (ix2 · l) (Fin.ext (by show (2 * k + r.val + 16 - 12) % 16 = 2 * (k + 2) + r.val; omega)))
      · rw [dif_neg h, show IntOp.cmpi CmpIPredicate.slt (BitVec.ofNat 32 (2 * k + r.val)) 12#32 = 0#1 from by word_omega]
        rfl
    · pointwise [up]
      by_cases h : k + 4 < 8
      · rw [dif_pos h, show IntOp.cmpi CmpIPredicate.slt (BitVec.ofNat 32 (2 * k + r.val)) 8#32 = 1#1 from by word_omega]
        exact congrArg x (congrArg (ix2 · l) (Fin.ext (by show (2 * k + r.val + 16 - 8) % 16 = 2 * (k + 4) + r.val; omega)))
      · rw [dif_neg h, show IntOp.cmpi CmpIPredicate.slt (BitVec.ofNat 32 (2 * k + r.val)) 8#32 = 0#1 from by word_omega]
        rfl
  · rw [dif_neg hk, dif_neg (by omega)]

def nextRows (v : FVec Ideal S16x128 .f32) : FVec Ideal S16x128 .f32 :=
  select (cmpi .eq i1 (broadcast S16x128 127#32))
    (broadcastTo S16x128 (shapeCast S16x1 (extractStridedSlice S16x1 ![0, 0] (up 14#32 v) slices_S16x128_o0_0_S16x1) shapeCasts_S16x1_S16x1) broadcasts_S16x1_S16x128)
    (dynamicRotate 1 127#32 none v rotates_S16x128_d1)

def zeros : FVec Ideal S16x128 .f32 := broadcast S16x128 (Scalar.ofBits .f32 0x00000000#32)

def deltaRows (M : IVec S16x128 1) (sc v kl : FVec Ideal S16x128 .f32) (last : IVec S16x128 1) : FVec Ideal S16x128 .f32 :=
  select M (subf (addf (select M (addf kl (select last sc zeros)) zeros) (mulf (broadcast S16x128 (Scalar.ofBits .f32 0x3F800000#32)) (nextRows v))) v) zeros

def dist : IVec S128x128 32 := subi (iota .tc S128x128 32 [0] iota_S128x128_d0_w32) (iota .tc S128x128 32 [1] iota_S128x128_d1_w32)

def powers (w : IVec S128x128 32) : FVec Ideal S128x128 .f32 :=
  exp2 (mulf (sitofp .f32 w) (broadcast S128x128 (Named.named κ "log2_decay" 0xBD978D9E#32)))

def within : FVec Ideal S128x128 .f32 :=
  select (cmpi .sge dist (broadcast S128x128 0#32)) (powers (maxsi dist (broadcast S128x128 0#32))) (broadcast S128x128 (Scalar.ofBits .f32 0x00000000#32))

def across : FVec Ideal S128x128 .f32 := powers (addi dist (broadcast S128x128 128#32))

def both2 : FVec Ideal S128x256 .f32 := concatenate S128x256 1 [⟨S128x128, within⟩, ⟨S128x128, across⟩] concatenates_S128x128_S128x128_S128x256_d1

theorem pay174_eq (M : IVec S16x128 1) (sc v kl : FVec Ideal S16x128 .f32) (last : IVec S16x128 1) :
    k0_pay174 i0 i1 M sc v kl last = matmul dot_S16x128_S128x256_S16x256_1_0_0_1_n_n (some .fp32) (deltaRows M sc v kl last) both2 (constant S16x256 .f32 0x00000000#32) := rfl

theorem power_word (w : BitVec 32) (n : ℕ) (h : w = BitVec.ofNat 32 n) (hn : n < 1024) :
    (FloatOps.exp2 (F := Ideal) (φ := .f32) ((FloatOps.sitofp (F := Ideal) FTy.f32 w : EReal) * (Named.named (F := Ideal) κ "log2_decay" (φ := .f32) 0xBD978D9E#32 : EReal) : EReal) : EReal) = pw n := by
  have hi : w.toInt = (n : ℤ) := by
    rw [h, BitVec.toInt_eq_toNat_cond, BitVec.toNat_ofNat, Nat.mod_eq_of_lt (by omega)]
    exact if_pos (by omega)
  rw [← exp2_pw n, ← hi]
  exact congrArg (fun x => Ideal.exp2 (((w.toInt : ℝ) : EReal) * x)) (IdealRules.named_const.ideal_named_scalar (φ := .f32) κ "log2_decay" 0xBD978D9E#32 _ rfl)

theorem within_at (j l : Fin 128) : within (ix2 j l) = if l.val ≤ j.val then pw (j.val - l.val) else 0 := by
  pointwise [within, powers, dist]
  by_cases h : l.val ≤ j.val
  · have hd : IntOp.subi (BitVec.ofNat 32 j.val) (BitVec.ofNat 32 l.val) = BitVec.ofNat 32 (j.val - l.val) := by unfold IntOp.subi; word_omega
    rw [if_pos h, hd, show IntOp.cmpi CmpIPredicate.sge (BitVec.ofNat 32 (j.val - l.val)) 0#32 = 1#1 from by word_omega]
    exact power_word _ (j.val - l.val) ((by decide +kernel : ∀ n : Fin 128, IntOp.maxsi (BitVec.ofNat 32 n.val) 0#32 = BitVec.ofNat 32 n.val) ⟨j.val - l.val, by omega⟩) (by omega)
  · rw [if_neg h, show IntOp.cmpi CmpIPredicate.sge (IntOp.subi (BitVec.ofNat 32 j.val) (BitVec.ofNat 32 l.val)) 0#32 = 0#1 from by unfold IntOp.subi; word_omega]
    rfl

theorem across_at (j l : Fin 128) : across (ix2 j l) = pw (j.val + 128 - l.val) := by
  pointwise [across, powers, dist]
  exact power_word _ (j.val + 128 - l.val) (by unfold IntOp.subi IntOp.addi; word_omega) (by omega)

theorem prod_at (D : FVec Ideal S16x128 .f32) (q : Fin 16) (c : Fin 256) :
    matmul dot_S16x128_S128x256_S16x256_1_0_0_1_n_n (some .fp32) D both2 (constant S16x256 .f32 0x00000000#32) (ix2 q c)
      = ∑ j : Fin 128, (D (ix2 q j) : EReal) * (both2 (ix2 j c) : EReal) := by
  pointwise

theorem both2_lo (j l : Fin 128) : both2 (ix2 j ⟨l.val, by omega⟩) = within (ix2 j l) := by
  pointwise [both2]
theorem both2_hi (j l : Fin 128) : both2 (ix2 j ⟨128 + l.val, by omega⟩) = across (ix2 j l) := by
  pointwise [both2]

theorem next_at (v : FVec Ideal S16x128 .f32) (q : Fin 16) (l : Fin 128) : nextRows v (ix2 q l)
    = if h : l.val + 1 < 128 then v (ix2 q ⟨l.val + 1, h⟩) else up 14#32 v (ix2 q 0) := by
  pointwise [nextRows]
  by_cases h : l.val + 1 < 128
  · rw [dif_pos h, show IntOp.cmpi CmpIPredicate.eq (BitVec.ofNat 32 l.val) 127#32 = 0#1 from by word_omega]
    exact congrArg v (congrArg (ix2 q ·) (Fin.ext (by show (l.val + 128 - 127) % 128 = l.val + 1; omega)))
  · rw [dif_neg h, show IntOp.cmpi CmpIPredicate.eq (BitVec.ofNat 32 l.val) 127#32 = 1#1 from by word_omega]
    rfl

def doubled (p : FVec Ideal S16x128 .f32) : FVec Ideal S16x128 .f32 :=
  let c0 := up 14#32 p
  let c1 := addf c0 (mulf (broadcast S16x128 (Named.named κ "decay_1" 0x3AB88EB0#32)) (up 14#32 c0))
  let c2 := addf c1 (mulf (broadcast S16x128 (Named.named κ "decay_2" 0x36050D6D#32)) (up 12#32 c1))
  addf c2 (mulf (broadcast S16x128 (Named.named κ "decay_4" 0x2C8A4DE7#32)) (up 8#32 c2))

theorem pay175_eq (M : IVec S16x128 1) (P : FVec Ideal S16x256 .f32) : k0_pay175 i0 M P
    = select M (addf (extractStridedSlice S16x128 ![0, 0] P slices_S16x256_o0_0_S16x128) (doubled (extractStridedSlice S16x128 ![0, 128] P slices_S16x256_o0_128_S16x128))) zeros := rfl

theorem named_1 : (Named.named (F := Ideal) κ "decay_1" (φ := .f32) 0x3AB88EB0#32 : EReal) = pw 128 := by
  refine (IdealRules.named_const.ideal_named_scalar κ "decay_1" 0x3AB88EB0#32 _ rfl).trans ?_
  unfold pw
  norm_num
theorem named_2 : (Named.named (F := Ideal) κ "decay_2" (φ := .f32) 0x36050D6D#32 : EReal) = pw 256 := by
  refine (IdealRules.named_const.ideal_named_scalar κ "decay_2" 0x36050D6D#32 _ rfl).trans ?_
  unfold pw
  rw [show (256 : ℕ) = 128 * 2 from rfl, pow_mul]
  norm_num
theorem named_4 : (Named.named (F := Ideal) κ "decay_4" (φ := .f32) 0x2C8A4DE7#32 : EReal) = pw 512 := by
  refine (IdealRules.named_const.ideal_named_scalar κ "decay_4" 0x2C8A4DE7#32 _ rfl).trans ?_
  unfold pw
  rw [show (512 : ℕ) = 128 * 4 from rfl, pow_mul]
  norm_num

theorem doubled_at (p : FVec Ideal S16x128 .f32) (r : Fin 2) (l : Fin 128) (k : ℕ) : rowAt (doubled p) r l k = double3 (rowAt p r l) k := by
  have ha : ∀ (x y : FVec Ideal S16x128 .f32) k, rowAt (addf x y) r l k = rowAt x r l k + rowAt y r l k := by
    intro x y k
    unfold rowAt
    split
    · rfl
    · exact (add_zero _).symm
  have hm : ∀ (c : EReal) (y : FVec Ideal S16x128 .f32) k, rowAt (mulf (broadcast S16x128 (c : Ideal .f32)) y) r l k = c * rowAt y r l k := by
    intro c y k
    unfold rowAt
    split
    · rfl
    · exact (mul_zero _).symm
  have u1 := fun x k => up_at 1 (Or.inl rfl) x r l k
  have u2 := fun x k => up_at 2 (Or.inr (Or.inl rfl)) x r l k
  have u4 := fun x k => up_at 4 (Or.inr (Or.inr rfl)) x r l k
  simp only [Nat.reduceMul, Nat.reduceSub] at u1 u2 u4
  unfold doubled double3 double2 double1
  simp only [ha]
  rw [named_1, named_2, named_4]
  simp only [ha, hm, u1, u2, u4]

end Cert.KernelIdeal.Critic

end
end
-- ==== Proof.Advantages.lean ====
module

public import proofs.«01_k».proof.Proof.Returns
public import proofs.«01_k».proof.Proof.Words
public import Idealize.ShloMosaic.Lib.Tactic.WordOmega

/-!
# The advantages, element by element

What the second result holds at sequence `r` and position `t`, over the extended reals: the masked decayed sum, less the
mean of all of them, times the inverse square root of their variance. The mean and the variance run over both sequences;
the number of positions is the sum of the mask's bits.
-/

@[expose] public section

noncomputable section

namespace Cert.Critic

open Idealize.ShloMosaic

/-- The decayed sum at a position; zero outside the answer. -/
def sumAt (v : Fin 1024 → EReal) (rw : Fin 1024 → EReal) (p l : BitVec 32) (t : Fin 1024) : EReal :=
  Scalar.select (maskBit p l t.val)
    (localAt (deltaAt v rw p l) ⟨t.val / 128, by omega⟩ ⟨t.val % 128, by omega⟩
      + nextAt (deltaAt v rw p l) ⟨t.val / 128, by omega⟩ * pw (128 - t.val % 128)) 0

theorem returnAt_eq (v : Fin 1024 → EReal) (rw : Fin 1024 → EReal) (p l : BitVec 32) (t : Fin 1024) : returnAt v rw p l t = sumAt v rw p l t + v t := rfl

/-- The number of positions that the mask keeps. -/
def countOf (mk : Fin 2 → Fin 1024 → BitVec 1) : EReal := ∑ r, ∑ t, (Scalar.select (mk r t) 1 0 : EReal)
/-- The mean of the sums. -/
def meanOf (mk : Fin 2 → Fin 1024 → BitVec 1) (A : Fin 2 → Fin 1024 → EReal) : EReal := Ideal.div (∑ r, ∑ t, A r t) (countOf mk)
/-- How far a sum is from the mean; zero where the mask drops it. -/
def devAt (mk : Fin 2 → Fin 1024 → BitVec 1) (A : Fin 2 → Fin 1024 → EReal) (r : Fin 2) (t : Fin 1024) : EReal := Scalar.select (mk r t) (A r t - meanOf mk A) 0
/-- The variance of the sums. -/
def varOf (mk : Fin 2 → Fin 1024 → BitVec 1) (A : Fin 2 → Fin 1024 → EReal) : EReal := Ideal.div (∑ r, ∑ t, devAt mk A r t * devAt mk A r t) (countOf mk - 1)
/-- The advantage at a position. -/
def whiteAt (mk : Fin 2 → Fin 1024 → BitVec 1) (A : Fin 2 → Fin 1024 → EReal) (r : Fin 2) (t : Fin 1024) : EReal :=
  Scalar.select (mk r t) (devAt mk A r t * Ideal.rsqrt (varOf mk A + Ideal.ofBits .f32 0x322BCC77#32)) 0

/-- The advantage at a position, from the values and the rewards. -/
def advAt (v rw : Fin 2 → Fin 1024 → EReal) (start len : IVec ⟨1, ![2]⟩ 32) (r : Fin 2) (t : Fin 1024) : EReal :=
  whiteAt (fun r t => maskBit (start (ix1 r)) (len (ix1 r)) t.val) (fun r => sumAt (v r) (rw r) (start (ix1 r)) (len (ix1 r))) r t

/-- A bit keeps or drops. -/
theorem sel_cases {α : Type} (b : BitVec 1) (x y : α) : (b = 1#1 ∧ Scalar.select b x y = x) ∨ (b = 0#1 ∧ Scalar.select b x y = y) := by
  unfold Scalar.select
  by_cases h : b = 1#1
  · exact Or.inl ⟨h, if_pos h⟩
  · exact Or.inr ⟨by revert h; revert b; decide, if_neg h⟩

/-- A bit as a number times anything. -/
theorem bit_mul (b : BitVec 1) (x : EReal) : ((b.toNat : ℝ) : EReal) * x = Scalar.select b x 0 := by
  rcases sel_cases b x 0 with ⟨h, e⟩ | ⟨h, e⟩ <;> rw [e, h] <;> simp

theorem bit_num (b : BitVec 1) : ((b.toNat : ℝ) : EReal) = Scalar.select b 1 0 := by
  rcases sel_cases b (1 : EReal) 0 with ⟨h, e⟩ | ⟨h, e⟩ <;> rw [e, h] <;> simp

theorem bit_sumAt (v : Fin 1024 → EReal) (rw : Fin 1024 → EReal) (p l : BitVec 32) (t : Fin 1024) :
    ((((maskBit p l t.val).toNat : ℝ)) : EReal) * sumAt v rw p l t = sumAt v rw p l t := by
  rw [bit_mul]
  unfold sumAt Scalar.select
  split_ifs <;> rfl

theorem bit_square (b : BitVec 1) (x : EReal) : ((b.toNat : ℝ) : EReal) * (x * x) = Scalar.select b x 0 * Scalar.select b x 0 := by
  rw [bit_mul]
  unfold Scalar.select
  split_ifs <;> simp

theorem select_mul (b : BitVec 1) (x y : EReal) : Scalar.select b (x * y) 0 = Scalar.select b (Scalar.select b x 0 * y) 0 := by
  unfold Scalar.select
  split_ifs <;> rfl

/-- A sum over rows of 128 as a sum over sequences and positions. -/
theorem sum_rows (g : Fin 16 → Fin 128 → EReal) (G : Fin 2 → Fin 1024 → EReal)
    (h : ∀ (r : Fin 2) (k : Fin 8) (l : Fin 128), g ⟨2 * k.val + r.val, by omega⟩ l = G r ⟨128 * k.val + l.val, by omega⟩) : ∑ q, ∑ l, g q l = ∑ r, ∑ t, G r t := by
  have h1 : ∑ q, ∑ l, g q l = ∑ k : Fin 8, ∑ r : Fin 2, ∑ l, g ⟨2 * k.val + r.val, by omega⟩ l := by
    rw [← Fintype.sum_prod_type' (fun (k : Fin 8) (r : Fin 2) => ∑ l, g ⟨2 * k.val + r.val, by omega⟩ l)]
    refine (Fintype.sum_equiv (finProdFinEquiv (m := 8) (n := 2)) _ (fun q : Fin 16 => ∑ l, g q l) fun x => ?_).symm
    exact congrArg (fun q => ∑ l, g q l) (Fin.ext (Nat.add_comm _ _))
  have h2 : ∀ r, ∑ t, G r t = ∑ k : Fin 8, ∑ l : Fin 128, G r ⟨128 * k.val + l.val, by omega⟩ := fun r => by
    rw [← Fintype.sum_prod_type' (fun (k : Fin 8) (l : Fin 128) => G r ⟨128 * k.val + l.val, by omega⟩)]
    refine (Fintype.sum_equiv (finProdFinEquiv (m := 8) (n := 128)) _ (fun t : Fin 1024 => G r t) fun x => ?_).symm
    exact congrArg (G r) (Fin.ext (Nat.add_comm _ _))
  rw [h1, Finset.sum_comm]
  refine Finset.sum_congr rfl fun r _ => ?_
  rw [h2]
  exact Finset.sum_congr rfl fun k _ => Finset.sum_congr rfl fun l _ => h r k l

/-- Whether the mask keeps a position, by signed numbers. -/
theorem mask_iff (p l : BitVec 32) (t : ℕ) (ht : t < 1024) : maskBit p l t = 1#1 ↔ p.toInt ≤ t ∧ (t : Int) < (Scalar.addi p l).toInt := by
  unfold maskBit Scalar.addi
  constructor
  · intro h
    constructor <;> word_omega
  · rintro ⟨h1, h2⟩
    word_omega

/-- The word of the number of positions of one sequence. -/
abbrev countW (p l : BitVec 32) : BitVec 32 := cntW (clampW p) (clampW (Scalar.addi p l))

/-- The positions of one sequence that the mask keeps, counted. -/
theorem span_count (p l : BitVec 32) : ∃ n : ℕ, n ≤ 1024 ∧ (countW p l).toInt = n ∧ ∑ t : Fin 1024, (Scalar.select (maskBit p l t.val) 1 0 : EReal) = ((n : ℝ) : EReal) := by
  obtain ⟨L, hL, hl, eL⟩ := clampW_isInt p
  obtain ⟨H, hH, hh, eH⟩ := clampW_isInt (Scalar.addi p l)
  have hc := isInt_cntW hl hh hL hH
  refine ⟨H - L, by omega, ?_, ?_⟩
  · unfold Affine.IsInt at hc
    show (cntW (clampW p) (clampW (Scalar.addi p l))).toInt = _
    omega
  · have hs : ∀ t : Fin 1024, (Scalar.select (maskBit p l t.val) 1 0 : EReal) = if L ≤ t.val ∧ t.val < H then (1 : EReal) else 0 := fun t => by
      have hm := mask_iff p l t.val t.isLt
      unfold Scalar.select
      refine if_congr (hm.trans ?_) rfl rfl
      have := t.isLt
      constructor
      · rintro ⟨h1, h2⟩; omega
      · rintro ⟨h1, h2⟩; omega
    rw [Finset.sum_congr rfl fun t _ => hs t, ← Finset.sum_range (fun t => if L ≤ t ∧ t < H then (1 : EReal) else 0), Finset.sum_boole]
    rw [show (Finset.range 1024).filter (fun t => L ≤ t ∧ t < H) = Finset.Ico L H from by ext t; simp only [Finset.mem_filter, Finset.mem_range, Finset.mem_Ico]; omega, Nat.card_Ico]
    exact (EReal.coe_coe_eq_natCast _).symm

theorem add_count (x y : BitVec 32) (a b : ℕ) (ha : a ≤ 1024) (hb : b ≤ 1024) (hx : x.toInt = a) (hy : y.toInt = b) : (Scalar.addi x y).toInt = ((a + b : ℕ) : ℤ) := by
  have hs : (Scalar.addi x y).toInt = (x.toInt + y.toInt).bmod (2 ^ 32) := BitVec.toInt_add x y
  rw [hs, hx, hy, Int.bmod_eq_of_le (by omega) (by omega), Nat.cast_add]

/-- The two words added, read as a number, count what the mask keeps. -/
theorem count_word (start len : IVec ⟨1, ![2]⟩ 32) :
    ((((Scalar.addi (countW (start (ix1 0)) (len (ix1 0))) (countW (start (ix1 1)) (len (ix1 1)))).toInt : ℝ)) : EReal)
      = countOf (fun r t => maskBit (start (ix1 r)) (len (ix1 r)) t.val) := by
  obtain ⟨a, ha, ea, sa⟩ := span_count (start (ix1 0)) (len (ix1 0))
  obtain ⟨b, hb, eb, sb⟩ := span_count (start (ix1 1)) (len (ix1 1))
  unfold countOf
  rw [add_count _ _ a b ha hb ea eb, Int.cast_natCast, Nat.cast_add, EReal.coe_add, Fin.sum_univ_two]
  exact congrArg₂ (· + ·) sa.symm sb.symm

end Cert.Critic

end
end
-- ==== Proof.KernelIdealWhite.lean ====
module

public import proofs.«01_k».proof.Proof.KernelIdealDecay
public import proofs.«01_k».proof.Proof.Advantages

/-!
# The kernel's whitening, element by element

The rows of masked sums, less their mean, times the inverse square root of their variance.
-/

@[expose] public section

set_option maxRecDepth 16384

noncomputable section

namespace Cert.KernelIdeal.Critic

open Idealize.ShloMosaic Idealize.ShloMosaic.TcCoe Idealize.ShloMosaic.Tactic
open Idealize.SL Idealize.SL.Sem
open Cert.Critic Cert.KernelIdeal.Gen

/-- The mean of the rows of sums. -/
theorem pay177_at (n0 n1 : BitVec 32) (i : IVec S16x128 32) (M : IVec S16x128 1) (P : FVec Ideal S16x256 .f32) (x y : Fin 1) :
    k0_pay177 n0 n1 i M P (ix2 x y) = Ideal.div (∑ q : Fin 16, ∑ l : Fin 128, (k0_pay175 i M P (ix2 q l) : EReal)) ((((Scalar.addi n0 n1).toInt : ℝ)) : EReal) := by
  pointwise [k0_pay177, k0_pay176]

/-- How far a sum is from the mean. -/
def devRow (M : IVec S16x128 1) (A : FVec Ideal S16x128 .f32) (mu : EReal) (q : Fin 16) (l : Fin 128) : EReal :=
  Scalar.select (M (ix2 q l)) ((A (ix2 q l) : EReal) - mu) 0

theorem pay178_at (M : IVec S16x128 1) (A : FVec Ideal S16x128 .f32) (n : Ideal .f32) (mu : FVec Ideal S1x1 .f32) (q : Fin 16) (l : Fin 128) :
    k0_pay178 M A n mu (ix2 q l) = Scalar.select (M (ix2 q l)) (devRow M A (mu (ix2 0 0)) q l
      * Ideal.rsqrt (Ideal.div (∑ q : Fin 16, ∑ l : Fin 128, devRow M A (mu (ix2 0 0)) q l * devRow M A (mu (ix2 0 0)) q l) ((n : EReal) - 1) + Ideal.ofBits .f32 0x322BCC77#32)) 0 := by
  pointwise [k0_pay178, devRow]

/-- The rows of advantages from the rows of sums. -/
theorem white_at (n0 n1 : BitVec 32) (i : IVec S16x128 32) (M : IVec S16x128 1) (P : FVec Ideal S16x256 .f32) (mk : Fin 2 → Fin 1024 → BitVec 1) (A : Fin 2 → Fin 1024 → EReal)
    (hn : ((((Scalar.addi n0 n1).toInt : ℝ)) : EReal) = countOf mk)
    (hM : ∀ (r : Fin 2) (k : Fin 8) (l : Fin 128), M (ix2 ⟨2 * k.val + r.val, by omega⟩ l) = mk r ⟨128 * k.val + l.val, by omega⟩)
    (hA : ∀ (r : Fin 2) (k : Fin 8) (l : Fin 128), k0_pay175 i M P (ix2 ⟨2 * k.val + r.val, by omega⟩ l) = A r ⟨128 * k.val + l.val, by omega⟩)
    (r : Fin 2) (k : Fin 8) (l : Fin 128) :
    k0_pay178 M (k0_pay175 i M P) (k0_pay176 n0 n1) (k0_pay177 n0 n1 i M P) (ix2 ⟨2 * k.val + r.val, by omega⟩ l) = whiteAt mk A r ⟨128 * k.val + l.val, by omega⟩ := by
  have hmu : k0_pay177 n0 n1 i M P (ix2 0 0) = meanOf mk A := by
    rw [pay177_at, sum_rows _ A hA, hn]
    rfl
  have hd : ∀ (r : Fin 2) (k : Fin 8) (l : Fin 128), devRow M (k0_pay175 i M P) (meanOf mk A) ⟨2 * k.val + r.val, by omega⟩ l = devAt mk A r ⟨128 * k.val + l.val, by omega⟩ := fun r k l => by
    unfold devRow devAt
    rw [hM, hA]
  have hv : ∑ q : Fin 16, ∑ l : Fin 128, devRow M (k0_pay175 i M P) (meanOf mk A) q l * devRow M (k0_pay175 i M P) (meanOf mk A) q l = ∑ r, ∑ t, devAt mk A r t * devAt mk A r t :=
    sum_rows (fun q l => devRow M (k0_pay175 i M P) (meanOf mk A) q l * devRow M (k0_pay175 i M P) (meanOf mk A) q l) (fun r t => devAt mk A r t * devAt mk A r t) fun r k l => congrArg₂ (· * ·) (hd r k l) (hd r k l)
  have hc : (k0_pay176 (F := Ideal) n0 n1 : EReal) = countOf mk := hn
  rw [pay178_at, hmu, hv, hd, hM, hc]
  rfl

end Cert.KernelIdeal.Critic

end
end
-- ==== Proof.KernelIdealReturns.lean ====
module

public import proofs.«01_k».proof.Proof.KernelIdealPoint
public import proofs.«01_k».proof.Proof.KernelIdealDecay
public import proofs.«01_k».proof.Proof.KernelIdealWhite

/-!
# The kernel's second and third results, element by element

What the run leaves in the second result is, at every sequence and position, the advantage of that position, and in the third
the return.
-/

@[expose] public section

set_option maxRecDepth 16384

noncomputable section

namespace Cert.KernelIdeal.Critic

open Idealize.ShloMosaic Idealize.ShloMosaic.TcCoe Idealize.ShloMosaic.Tactic
open Idealize.SL Idealize.SL.Sem
open Cert.Critic Cert.KernelIdeal.Gen

/-- The rows of rewards. -/
def rewRows (M : IVec S16x128 1) (sc kl : FVec Ideal S16x128 .f32) (last : IVec S16x128 1) : FVec Ideal S16x128 .f32 :=
  select M (addf kl (select last sc zeros)) zeros

theorem rewRows_at (M : IVec S16x128 1) (sc kl : FVec Ideal S16x128 .f32) (last : IVec S16x128 1) (q : Fin 16) (l : Fin 128) :
    rewRows M sc kl last (ix2 q l) = Scalar.select (M (ix2 q l)) ((kl (ix2 q l) : EReal) + Scalar.select (last (ix2 q l)) (sc (ix2 q l) : EReal) 0) 0 := by
  pointwise [rewRows, zeros]

theorem deltaRows_at (M : IVec S16x128 1) (sc v kl : FVec Ideal S16x128 .f32) (last : IVec S16x128 1) (q : Fin 16) (l : Fin 128) :
    deltaRows M sc v kl last (ix2 q l) = Scalar.select (M (ix2 q l)) ((rewRows M sc kl last (ix2 q l) : EReal) + 1 * (nextRows v (ix2 q l) : EReal) - (v (ix2 q l) : EReal)) 0 := by
  pointwise [deltaRows, rewRows, zeros]

theorem sums_at (M : IVec S16x128 1) (A B : FVec Ideal S16x128 .f32) (q : Fin 16) (l : Fin 128) :
    select M (addf A B) zeros (ix2 q l) = Scalar.select (M (ix2 q l)) ((A (ix2 q l) : EReal) + (B (ix2 q l) : EReal)) 0 := by
  pointwise [zeros]

theorem slice_lo (P : FVec Ideal S16x256 .f32) (q : Fin 16) (l : Fin 128) :
    extractStridedSlice S16x128 ![0, 0] P slices_S16x256_o0_0_S16x128 (ix2 q l) = P (ix2 q ⟨l.val, by omega⟩) := by
  pointwise

theorem slice_hi (P : FVec Ideal S16x256 .f32) (q : Fin 16) (l : Fin 128) :
    extractStridedSlice S16x128 ![0, 128] P slices_S16x256_o0_128_S16x128 (ix2 q l) = P (ix2 q ⟨128 + l.val, by omega⟩) := by
  pointwise

/-- The decayed sum at place `l` of chunk `k`. -/
theorem sumAt_chunk (vv rw : Fin 1024 → EReal) (p len : BitVec 32) (k : Fin 8) (l : Fin 128) :
    sumAt vv rw p len ⟨128 * k.val + l.val, by omega⟩ = Scalar.select (maskBit p len (128 * k.val + l.val))
      (localAt (deltaAt vv rw p len) k l + nextAt (deltaAt vv rw p len) k * pw (128 - l.val)) 0 := by
  have hk : (⟨(128 * k.val + l.val) / 128, by omega⟩ : Fin 8) = k := Fin.ext (by show (128 * k.val + l.val) / 128 = k.val; omega)
  have hl : (⟨(128 * k.val + l.val) % 128, by omega⟩ : Fin 128) = l := Fin.ext (by show (128 * k.val + l.val) % 128 = l.val; omega)
  have hm : (128 * k.val + l.val) % 128 = l.val := by omega
  unfold sumAt
  simp only [hk, hl, hm]

section Core

variable (M : IVec S16x128 1) (sc v kl : FVec Ideal S16x128 .f32) (last : IVec S16x128 1) (vv rw : Fin 1024 → EReal) (p len : BitVec 32) (r : Fin 2)
  (hM : ∀ (k : Fin 8) (l : Fin 128), M (ix2 ⟨2 * k.val + r.val, by omega⟩ l) = maskBit p len (128 * k.val + l.val))
  (hv : ∀ (k : Fin 8) (l : Fin 128), v (ix2 ⟨2 * k.val + r.val, by omega⟩ l) = vv ⟨128 * k.val + l.val, by omega⟩)
  (hr : ∀ (k : Fin 8) (l : Fin 128), rewRows M sc kl last (ix2 ⟨2 * k.val + r.val, by omega⟩ l) = rw ⟨128 * k.val + l.val, by omega⟩)

include hv in
theorem next_chunk (k : Fin 8) (l : Fin 128) : nextRows v (ix2 ⟨2 * k.val + r.val, by omega⟩ l)
    = if h : 128 * k.val + l.val + 1 < 1024 then vv ⟨128 * k.val + l.val + 1, h⟩ else 0 := by
  rw [next_at]
  by_cases h : l.val + 1 < 128
  · rw [dif_pos h, dif_pos (by omega)]
    exact hv k ⟨l.val + 1, h⟩
  · rw [dif_neg h]
    have hu : rowAt (up 14#32 v) r 0 k.val = rowAt v r 0 (k.val + 1) := up_at 1 (Or.inl rfl) v r 0 k.val
    unfold rowAt at hu
    rw [dif_pos k.isLt] at hu
    refine hu.trans ?_
    by_cases hk : k.val + 1 < 8
    · rw [dif_pos hk, dif_pos (by omega)]
      refine (hv ⟨k.val + 1, hk⟩ 0).trans (congrArg vv (Fin.ext ?_))
      show 128 * (k.val + 1) + 0 = 128 * k.val + l.val + 1
      omega
    · rw [dif_neg hk, dif_neg (by omega)]

include hM hv hr in
theorem delta_chunk (k : Fin 8) (l : Fin 128) : deltaRows M sc v kl last (ix2 ⟨2 * k.val + r.val, by omega⟩ l) = deltaAt vv rw p len ⟨128 * k.val + l.val, by omega⟩ := by
  rw [deltaRows_at, hM, hv, hr, next_chunk v vv r hv]
  rfl

include hM hv hr in
/-- Place `l` of chunk `k` of the rows of sums. -/
theorem sum_core (k : Fin 8) (l : Fin 128) : k0_pay175 i0 M (k0_pay174 i0 i1 M sc v kl last) (ix2 ⟨2 * k.val + r.val, by omega⟩ l)
    = sumAt vv rw p len ⟨128 * k.val + l.val, by omega⟩ := by
  have hd := delta_chunk M sc v kl last vv rw p len r hM hv hr
  rw [sumAt_chunk, pay175_eq, pay174_eq]
  generalize hP : matmul dot_S16x128_S128x256_S16x256_1_0_0_1_n_n (some .fp32) (deltaRows M sc v kl last) both2 (constant S16x256 .f32 0x00000000#32) = P
  have hlo : ∀ (k : Fin 8) (l : Fin 128), P (ix2 ⟨2 * k.val + r.val, by omega⟩ ⟨l.val, by omega⟩) = localAt (deltaAt vv rw p len) k l := fun k l => by
    rw [← hP, prod_at]
    exact Finset.sum_congr rfl fun j _ => by rw [hd, both2_lo, within_at]
  have hhi : ∀ k : ℕ, rowAt (extractStridedSlice S16x128 ![0, 128] P slices_S16x256_o0_128_S16x128) r l k = carryAt (deltaAt vv rw p len) l k := fun k => by
    unfold rowAt carryAt
    by_cases hk : k < 8
    · rw [dif_pos hk, dif_pos hk, slice_hi, ← hP, prod_at]
      exact Finset.sum_congr rfl fun j _ => by rw [hd ⟨k, hk⟩ j, both2_hi, across_at]
    · rw [dif_neg hk, dif_neg hk]
  have hc : doubled (extractStridedSlice S16x128 ![0, 128] P slices_S16x256_o0_128_S16x128) (ix2 ⟨2 * k.val + r.val, by omega⟩ l)
      = nextAt (deltaAt vv rw p len) k * pw (128 - l.val) := by
    have h := doubled_at (extractStridedSlice S16x128 ![0, 128] P slices_S16x256_o0_128_S16x128) r l k.val
    rw [funext hhi, carry_sum] at h
    unfold rowAt at h
    rw [dif_pos k.isLt] at h
    exact h
  rw [sums_at, slice_lo, hlo, hc, hM]

end Core

/-- A piece of 128 positions of both sequences, from position `o`. -/
def slB (X : S2x1024.Idx → Elt Ideal .bf16) (o : ℕ) (inb : ∀ a, (![0, o] : Fin 2 → ℕ) a + S2x128.size a ≤ S2x1024.size a) : Vec Ideal S2x128 .bf16 :=
  fun x => X ((Rect.unit (s := S2x1024) ![0, o] S2x128.size inb).toLoadRect.idx x)

theorem slB_apply (X : S2x1024.Idx → Elt Ideal .bf16) (o : ℕ) (inb : ∀ a, (![0, o] : Fin 2 → ℕ) a + S2x128.size a ≤ S2x1024.size a) (a : Fin 2) (l : Fin 128) :
    slB X o inb (ix2 a l) = X (ix2 a ⟨o + l.val, Nat.lt_of_lt_of_le (Nat.add_lt_add_left l.isLt o) (inb 1)⟩) := by
  refine congrArg X (funext fun b => Fin.ext ?_)
  refine (ValueKit.rect_emb_unit_val (s := S2x1024) ![0, o] S2x128.size inb (ix2 a l) b).trans ?_
  match b with
  | ⟨0, _⟩ => exact Nat.zero_add _
  | ⟨1, _⟩ => rfl

theorem piecesB_apply (X : S2x1024.Idx → Elt Ideal .bf16) (k : Fin 8) (a : Fin 2) (l : Fin 128) :
    (![slB X 0 inb_S2x1024_S2x128_0_0, slB X 128 inb_S2x1024_S2x128_0_128, slB X 256 inb_S2x1024_S2x128_0_256, slB X 384 inb_S2x1024_S2x128_0_384, slB X 512 inb_S2x1024_S2x128_0_512, slB X 640 inb_S2x1024_S2x128_0_640, slB X 768 inb_S2x1024_S2x128_0_768, slB X 896 inb_S2x1024_S2x128_0_896] : Fin 8 → Vec Ideal S2x128 .bf16) k (ix2 a l)
      = X (ix2 a ⟨128 * k.val + l.val, by omega⟩) :=
  match k with
  | ⟨0, _⟩ => slB_apply X 0 inb_S2x1024_S2x128_0_0 a l
  | ⟨1, _⟩ => slB_apply X 128 inb_S2x1024_S2x128_0_128 a l
  | ⟨2, _⟩ => slB_apply X 256 inb_S2x1024_S2x128_0_256 a l
  | ⟨3, _⟩ => slB_apply X 384 inb_S2x1024_S2x128_0_384 a l
  | ⟨4, _⟩ => slB_apply X 512 inb_S2x1024_S2x128_0_512 a l
  | ⟨5, _⟩ => slB_apply X 640 inb_S2x1024_S2x128_0_640 a l
  | ⟨6, _⟩ => slB_apply X 768 inb_S2x1024_S2x128_0_768 a l
  | ⟨7, _⟩ => slB_apply X 896 inb_S2x1024_S2x128_0_896 a l

/-- One lane of the scaled differences of the log probabilities. -/
theorem pay172_at (a0 a1 a2 a3 a4 a5 a6 a7 b0 b1 b2 b3 b4 b5 b6 b7 : Vec Ideal S2x128 .bf16) (q : Fin 16) (l : Fin 128) :
    k0_pay172 (k0_pay169 a0) (k0_pay170 a1) (k0_pay171 a2) a3 a4 a5 a6 a7 b0 b1 b2 b3 b4 b5 b6 b7 (ix2 q l)
      = Ideal.ofBits .f32 0xBD4CCCCD#32 * (((![a0, a1, a2, a3, a4, a5, a6, a7] : Fin 8 → Vec Ideal S2x128 .bf16) ⟨q.val / 2, by omega⟩ (ix2 ⟨q.val % 2, by omega⟩ l) : EReal)
        - ((![b0, b1, b2, b3, b4, b5, b6, b7] : Fin 8 → Vec Ideal S2x128 .bf16) ⟨q.val / 2, by omega⟩ (ix2 ⟨q.val % 2, by omega⟩ l) : EReal)) := by
  pointwise [k0_pay172, k0_pay169, k0_pay170, k0_pay171]
  fin_vals q with hq
  all_goals simp only [hq, Nat.reduceSub, Nat.reduceLT, ↓reduceDIte]
  all_goals rfl

/-- The answer's last position. -/
theorem pay173_at (p0 p1 l0 l1 : BitVec 32) (r : Fin 2) (k : Fin 8) (l : Fin 128) :
    k0_pay173 (k0_pay163 (iota .tc S16x128 32 [0] iota_S16x128_d0_w32) (iota .tc S16x128 32 [1] iota_S16x128_d1_w32) 2#32 k0_pay160 k0_pay161 k0_pay162)
      (k0_pay165 (Scalar.addi p0 l0) (Scalar.addi p1 l1) (iota .tc S16x128 32 [0] iota_S16x128_d0_w32)) (ix2 ⟨2 * k.val + r.val, by omega⟩ l)
      = IntOp.cmpi .eq (BitVec.ofNat 32 (128 * k.val + l.val)) (IntOp.subi (IntOp.addi ((![p0, p1] : Fin 2 → BitVec 32) r) ((![l0, l1] : Fin 2 → BitVec 32) r)) 1#32) := by
  have hk : (2 * k.val + r.val) / 2 = k.val := by omega
  have hr : (2 * k.val + r.val) % 2 = r.val := by omega
  pointwise [k0_pay173, k0_pay165]
  rw [pos_word, odd_row]
  simp only [hk, hr]
  match r with
  | ⟨0, _⟩ => rfl
  | ⟨1, _⟩ => rfl

/-- The score of the row's sequence. -/
theorem pay167_at (s0 s1 : Elt Ideal .f32) (r : Fin 2) (k : Fin 8) (l : Fin 128) :
    k0_pay167 (k0_pay164 (iota .tc S16x128 32 [0] iota_S16x128_d0_w32)) s0 s1 (ix2 ⟨2 * k.val + r.val, by omega⟩ l) = (![s0, s1] : Fin 2 → Elt Ideal .f32) r := by
  have hr : (2 * k.val + r.val) % 2 = r.val := by omega
  pointwise [k0_pay167]
  rw [odd_row]
  simp only [hr]
  match r with
  | ⟨0, _⟩ => rfl
  | ⟨1, _⟩ => rfl

/-- The rows of the mask. -/
theorem maskRows_at (p0 p1 l0 l1 : Elt Ideal .i32) (start len : IVec ⟨1, ![2]⟩ 32) (r : Fin 2) (hp : (![p0, p1] : Fin 2 → BitVec 32) r = start (ix1 r)) (hl : (![l0, l1] : Fin 2 → BitVec 32) r = len (ix1 r))
    (k : Fin 8) (l : Fin 128) : maskOf (F := Ideal) p0 p1 l0 l1 (ix2 ⟨2 * k.val + r.val, by omega⟩ l) = maskBit (start (ix1 r)) (len (ix1 r)) (128 * k.val + l.val) := by
  have h := mask_at p0 p1 l0 l1 r ⟨128 * k.val + l.val, by omega⟩ ⟨2 * k.val + r.val, by omega⟩ l
    (by show 2 * k.val + r.val = 2 * ((128 * k.val + l.val) / 128) + r.val; omega) (by show l.val = (128 * k.val + l.val) % 128; omega)
  rw [hp, hl] at h
  exact h

/-- The rows of sums from the words, the scores, the rows of values and the pieces. -/
theorem sumsRaw_at (p0 p1 l0 l1 : Elt Ideal .i32) (s0 s1 : Elt Ideal .f32) (v : FVec Ideal S16x128 .f32) (a0 a1 a2 a3 a4 a5 a6 a7 b0 b1 b2 b3 b4 b5 b6 b7 : Vec Ideal S2x128 .bf16)
    (start len : IVec ⟨1, ![2]⟩ 32) (score : FVec Ideal ⟨1, ![2]⟩ .f32) (lp lr : FVec Ideal ⟨2, ![2, 1024]⟩ .bf16) (vv : Fin 1024 → EReal) (r : Fin 2)
    (hp : (![p0, p1] : Fin 2 → BitVec 32) r = start (ix1 r)) (hl : (![l0, l1] : Fin 2 → BitVec 32) r = len (ix1 r))
    (hs : (![s0, s1] : Fin 2 → Elt Ideal .f32) r = score (ix1 r))
    (ha : ∀ (k : Fin 8) (l : Fin 128), (![a0, a1, a2, a3, a4, a5, a6, a7] : Fin 8 → Vec Ideal S2x128 .bf16) k (ix2 r l) = lp (ix2 r ⟨128 * k.val + l.val, by omega⟩))
    (hb : ∀ (k : Fin 8) (l : Fin 128), (![b0, b1, b2, b3, b4, b5, b6, b7] : Fin 8 → Vec Ideal S2x128 .bf16) k (ix2 r l) = lr (ix2 r ⟨128 * k.val + l.val, by omega⟩))
    (hv : ∀ (k : Fin 8) (l : Fin 128), v (ix2 ⟨2 * k.val + r.val, by omega⟩ l) = vv ⟨128 * k.val + l.val, by omega⟩) (k : Fin 8) (l : Fin 128) :
    k0_pay175 (iota .tc S16x128 32 [0] iota_S16x128_d0_w32) (maskOf (F := Ideal) p0 p1 l0 l1) (k0_pay174 (iota .tc S16x128 32 [0] iota_S16x128_d0_w32) (iota .tc S16x128 32 [1] iota_S16x128_d1_w32) (maskOf (F := Ideal) p0 p1 l0 l1)
      (k0_pay167 (k0_pay164 (iota .tc S16x128 32 [0] iota_S16x128_d0_w32)) s0 s1) v
      (k0_pay172 (k0_pay169 a0) (k0_pay170 a1) (k0_pay171 a2) a3 a4 a5 a6 a7 b0 b1 b2 b3 b4 b5 b6 b7)
      (k0_pay173 (k0_pay163 (iota .tc S16x128 32 [0] iota_S16x128_d0_w32) (iota .tc S16x128 32 [1] iota_S16x128_d1_w32) 2#32 k0_pay160 k0_pay161 k0_pay162)
        (k0_pay165 (Scalar.addi p0 l0) (Scalar.addi p1 l1) (iota .tc S16x128 32 [0] iota_S16x128_d0_w32)))) (ix2 ⟨2 * k.val + r.val, by omega⟩ l)
      = sumAt vv (rewardAt lp lr score len start r) (start (ix1 r)) (len (ix1 r)) ⟨128 * k.val + l.val, by omega⟩ := by
  have hM := maskRows_at p0 p1 l0 l1 start len r hp hl
  have hr : ∀ (k : Fin 8) (l : Fin 128), rewRows (maskOf (F := Ideal) p0 p1 l0 l1) (k0_pay167 (k0_pay164 (iota .tc S16x128 32 [0] iota_S16x128_d0_w32)) s0 s1)
      (k0_pay172 (k0_pay169 a0) (k0_pay170 a1) (k0_pay171 a2) a3 a4 a5 a6 a7 b0 b1 b2 b3 b4 b5 b6 b7)
      (k0_pay173 (k0_pay163 (iota .tc S16x128 32 [0] iota_S16x128_d0_w32) (iota .tc S16x128 32 [1] iota_S16x128_d1_w32) 2#32 k0_pay160 k0_pay161 k0_pay162)
        (k0_pay165 (Scalar.addi p0 l0) (Scalar.addi p1 l1) (iota .tc S16x128 32 [0] iota_S16x128_d0_w32))) (ix2 ⟨2 * k.val + r.val, by omega⟩ l)
      = rewardAt lp lr score len start r ⟨128 * k.val + l.val, by omega⟩ := fun k l => by
    have hk : (⟨(2 * k.val + r.val) / 2, by omega⟩ : Fin 8) = k := Fin.ext (by show (2 * k.val + r.val) / 2 = k.val; omega)
    have hq : (⟨(2 * k.val + r.val) % 2, by omega⟩ : Fin 2) = r := Fin.ext (by show (2 * k.val + r.val) % 2 = r.val; omega)
    rw [rewRows_at, hM, pay173_at, pay167_at, pay172_at, hp, hl, hs]
    simp only [hk, hq]
    rw [ha, hb]
    rfl
  exact sum_core _ _ _ _ _ vv _ (start (ix1 r)) (len (ix1 r)) r hM hv hr k l

/-- The lanes of the third result from the words, the scores, the rows of values and the pieces. -/
theorem retsRaw_at (p0 p1 l0 l1 : Elt Ideal .i32) (s0 s1 : Elt Ideal .f32) (v : FVec Ideal S16x128 .f32) (a0 a1 a2 a3 a4 a5 a6 a7 b0 b1 b2 b3 b4 b5 b6 b7 : Vec Ideal S2x128 .bf16)
    (start len : IVec ⟨1, ![2]⟩ 32) (score : FVec Ideal ⟨1, ![2]⟩ .f32) (lp lr : FVec Ideal ⟨2, ![2, 1024]⟩ .bf16) (vv : Fin 1024 → EReal) (r : Fin 2)
    (hp : (![p0, p1] : Fin 2 → BitVec 32) r = start (ix1 r)) (hl : (![l0, l1] : Fin 2 → BitVec 32) r = len (ix1 r))
    (hs : (![s0, s1] : Fin 2 → Elt Ideal .f32) r = score (ix1 r))
    (ha : ∀ (k : Fin 8) (l : Fin 128), (![a0, a1, a2, a3, a4, a5, a6, a7] : Fin 8 → Vec Ideal S2x128 .bf16) k (ix2 r l) = lp (ix2 r ⟨128 * k.val + l.val, by omega⟩))
    (hb : ∀ (k : Fin 8) (l : Fin 128), (![b0, b1, b2, b3, b4, b5, b6, b7] : Fin 8 → Vec Ideal S2x128 .bf16) k (ix2 r l) = lr (ix2 r ⟨128 * k.val + l.val, by omega⟩))
    (hv : ∀ (k : Fin 8) (l : Fin 128), v (ix2 ⟨2 * k.val + r.val, by omega⟩ l) = vv ⟨128 * k.val + l.val, by omega⟩) (k : Fin 8) (l : Fin 128) :
    retsRaw (F := Ideal) p0 p1 l0 l1 s0 s1 v a0 a1 a2 a3 a4 a5 a6 a7 b0 b1 b2 b3 b4 b5 b6 b7 (ix2 ⟨2 * k.val + r.val, by omega⟩ l)
      = returnAt vv (rewardAt lp lr score len start r) (start (ix1 r)) (len (ix1 r)) ⟨128 * k.val + l.val, by omega⟩ := by
  have h := sumsRaw_at p0 p1 l0 l1 s0 s1 v a0 a1 a2 a3 a4 a5 a6 a7 b0 b1 b2 b3 b4 b5 b6 b7 start len score lp lr vv r hp hl hs ha hb hv k l
  exact congrArg₂ (fun x y : EReal => x + y) h (hv k l)

/-- The lanes of the second result from the words, the scores, the rows of values and the pieces. -/
theorem advsRaw_at (p0 p1 l0 l1 : Elt Ideal .i32) (s0 s1 : Elt Ideal .f32) (v : FVec Ideal S16x128 .f32) (a0 a1 a2 a3 a4 a5 a6 a7 b0 b1 b2 b3 b4 b5 b6 b7 : Vec Ideal S2x128 .bf16)
    (start len : IVec ⟨1, ![2]⟩ 32) (score : FVec Ideal ⟨1, ![2]⟩ .f32) (lp lr : FVec Ideal ⟨2, ![2, 1024]⟩ .bf16) (vv : Fin 2 → Fin 1024 → EReal)
    (hp : ∀ r, (![p0, p1] : Fin 2 → BitVec 32) r = start (ix1 r)) (hl : ∀ r, (![l0, l1] : Fin 2 → BitVec 32) r = len (ix1 r))
    (hs : ∀ r, (![s0, s1] : Fin 2 → Elt Ideal .f32) r = score (ix1 r))
    (ha : ∀ (r : Fin 2) (k : Fin 8) (l : Fin 128), (![a0, a1, a2, a3, a4, a5, a6, a7] : Fin 8 → Vec Ideal S2x128 .bf16) k (ix2 r l) = lp (ix2 r ⟨128 * k.val + l.val, by omega⟩))
    (hb : ∀ (r : Fin 2) (k : Fin 8) (l : Fin 128), (![b0, b1, b2, b3, b4, b5, b6, b7] : Fin 8 → Vec Ideal S2x128 .bf16) k (ix2 r l) = lr (ix2 r ⟨128 * k.val + l.val, by omega⟩))
    (hv : ∀ (r : Fin 2) (k : Fin 8) (l : Fin 128), v (ix2 ⟨2 * k.val + r.val, by omega⟩ l) = vv r ⟨128 * k.val + l.val, by omega⟩) (r : Fin 2) (k : Fin 8) (l : Fin 128) :
    advsRaw (F := Ideal) p0 p1 l0 l1 s0 s1 v a0 a1 a2 a3 a4 a5 a6 a7 b0 b1 b2 b3 b4 b5 b6 b7 (ix2 ⟨2 * k.val + r.val, by omega⟩ l)
      = advAt vv (rewardAt lp lr score len start) start len r ⟨128 * k.val + l.val, by omega⟩ := by
  have hn : (((((Scalar.addi (cntW (clampW p0) (clampW (Scalar.addi p0 l0))) (cntW (clampW p1) (clampW (Scalar.addi p1 l1)))).toInt : ℝ)) : EReal))
      = countOf (fun r t => maskBit (start (ix1 r)) (len (ix1 r)) t.val) := by
    have h := count_word start len
    rw [← hp 0, ← hp 1, ← hl 0, ← hl 1] at h
    exact h
  unfold advsRaw advsFrom
  exact white_at _ _ _ _ _ (fun r t => maskBit (start (ix1 r)) (len (ix1 r)) t.val) (fun r => sumAt (vv r) (rewardAt lp lr score len start r) (start (ix1 r)) (len (ix1 r))) hn
    (fun r k l => maskRows_at p0 p1 l0 l1 start len r (hp r) (hl r) k l)
    (fun r k l => sumsRaw_at p0 p1 l0 l1 s0 s1 v a0 a1 a2 a3 a4 a5 a6 a7 b0 b1 b2 b3 b4 b5 b6 b7 start len score lp lr (vv r) r (hp r) (hl r) (hs r) (ha r) (hb r) (hv r) k l) r k l

theorem score_at (X2 : S2.Idx → Elt Ideal .f32) (s0 s1 : Elt Ideal .f32) (h0 : s0 = X2 (ix1 0)) (h1 : s1 = X2 (ix1 1)) (r : Fin 2) : (![s0, s1] : Fin 2 → Elt Ideal .f32) r = X2 (ix1 r) := by
  match r with
  | ⟨0, _⟩ => exact h0
  | ⟨1, _⟩ => exact h1

/-- The lanes of the third result, one by one. -/
theorem rets_at (X0 X1 : S2.Idx → Elt Ideal .i32) (X2 : S2.Idx → Elt Ideal .f32) (X3 X4 : S1.Idx → Elt Ideal .f32) (X7 : S2x1024.Idx → Elt Ideal .f32) (X8 X9 : S2x1024.Idx → Elt Ideal .bf16)
    (f : Vec Ideal S16x128 .f32) (vv : Fin 1024 → EReal) (r : Fin 2)
    (hv : ∀ (k : Fin 8) (l : Fin 128), Vals X0 X1 X3 X4 X7 f (ix2 ⟨2 * k.val + r.val, by omega⟩ l) = vv ⟨128 * k.val + l.val, by omega⟩) (k : Fin 8) (l : Fin 128) :
    Rets X0 X1 X2 X3 X4 X7 X8 X9 f (ix2 ⟨2 * k.val + r.val, by omega⟩ l)
      = returnAt vv (rewardAt X8 X9 X2 X1 X0 r) (X0 (ix1 r)) (X1 (ix1 r)) ⟨128 * k.val + l.val, by omega⟩ := by
  have h0 : ∀ h, X2 ((Rect.unit (s := S2) ![0] S1.size inb_S2_S1_0).toLoadRect.idx (Shape.Idx.first h)) = X2 (ix1 0) := fun h => congrArg X2 (funext fun a => match a with | ⟨0, _⟩ => rfl)
  have h1 : ∀ h, X2 ((Rect.unit (s := S2) ![1] S1.size inb_S2_S1_1).toLoadRect.idx (Shape.Idx.first h)) = X2 (ix1 1) := fun h => congrArg X2 (funext fun a => match a with | ⟨0, _⟩ => rfl)
  unfold Rets
  rw [h0, h1]
  have h := retsRaw_at (tab X0 0) (tab X0 1) (tab X1 0) (tab X1 1) (X2 (ix1 0)) (X2 (ix1 1)) (Vals X0 X1 X3 X4 X7 f) (slB X8 0 inb_S2x1024_S2x128_0_0) (slB X8 128 inb_S2x1024_S2x128_0_128) (slB X8 256 inb_S2x1024_S2x128_0_256) (slB X8 384 inb_S2x1024_S2x128_0_384) (slB X8 512 inb_S2x1024_S2x128_0_512) (slB X8 640 inb_S2x1024_S2x128_0_640) (slB X8 768 inb_S2x1024_S2x128_0_768) (slB X8 896 inb_S2x1024_S2x128_0_896) (slB X9 0 inb_S2x1024_S2x128_0_0) (slB X9 128 inb_S2x1024_S2x128_0_128) (slB X9 256 inb_S2x1024_S2x128_0_256) (slB X9 384 inb_S2x1024_S2x128_0_384) (slB X9 512 inb_S2x1024_S2x128_0_512) (slB X9 640 inb_S2x1024_S2x128_0_640) (slB X9 768 inb_S2x1024_S2x128_0_768) (slB X9 896 inb_S2x1024_S2x128_0_896) X0 X1 X2 X8 X9 vv r (tab_eq X0 r) (tab_eq X1 r)
    (score_at X2 _ _ rfl rfl r) (fun k l => piecesB_apply X8 k r l) (fun k l => piecesB_apply X9 k r l) hv k l
  unfold slB at h
  exact h

/-- The lanes of the second result, one by one. -/
theorem advs_at (X0 X1 : S2.Idx → Elt Ideal .i32) (X2 : S2.Idx → Elt Ideal .f32) (X3 X4 : S1.Idx → Elt Ideal .f32) (X7 : S2x1024.Idx → Elt Ideal .f32) (X8 X9 : S2x1024.Idx → Elt Ideal .bf16)
    (f : Vec Ideal S16x128 .f32) (vv : Fin 2 → Fin 1024 → EReal)
    (hv : ∀ (r : Fin 2) (k : Fin 8) (l : Fin 128), Vals X0 X1 X3 X4 X7 f (ix2 ⟨2 * k.val + r.val, by omega⟩ l) = vv r ⟨128 * k.val + l.val, by omega⟩) (r : Fin 2) (k : Fin 8) (l : Fin 128) :
    Advs X0 X1 X2 X3 X4 X7 X8 X9 f (ix2 ⟨2 * k.val + r.val, by omega⟩ l)
      = advAt vv (rewardAt X8 X9 X2 X1 X0) X0 X1 r ⟨128 * k.val + l.val, by omega⟩ := by
  have h0 : ∀ h, X2 ((Rect.unit (s := S2) ![0] S1.size inb_S2_S1_0).toLoadRect.idx (Shape.Idx.first h)) = X2 (ix1 0) := fun h => congrArg X2 (funext fun a => match a with | ⟨0, _⟩ => rfl)
  have h1 : ∀ h, X2 ((Rect.unit (s := S2) ![1] S1.size inb_S2_S1_1).toLoadRect.idx (Shape.Idx.first h)) = X2 (ix1 1) := fun h => congrArg X2 (funext fun a => match a with | ⟨0, _⟩ => rfl)
  unfold Advs
  rw [h0, h1]
  have h := advsRaw_at (tab X0 0) (tab X0 1) (tab X1 0) (tab X1 1) (X2 (ix1 0)) (X2 (ix1 1)) (Vals X0 X1 X3 X4 X7 f) (slB X8 0 inb_S2x1024_S2x128_0_0) (slB X8 128 inb_S2x1024_S2x128_0_128) (slB X8 256 inb_S2x1024_S2x128_0_256) (slB X8 384 inb_S2x1024_S2x128_0_384) (slB X8 512 inb_S2x1024_S2x128_0_512) (slB X8 640 inb_S2x1024_S2x128_0_640) (slB X8 768 inb_S2x1024_S2x128_0_768) (slB X8 896 inb_S2x1024_S2x128_0_896) (slB X9 0 inb_S2x1024_S2x128_0_0) (slB X9 128 inb_S2x1024_S2x128_0_128) (slB X9 256 inb_S2x1024_S2x128_0_256) (slB X9 384 inb_S2x1024_S2x128_0_384) (slB X9 512 inb_S2x1024_S2x128_0_512) (slB X9 640 inb_S2x1024_S2x128_0_640) (slB X9 768 inb_S2x1024_S2x128_0_768) (slB X9 896 inb_S2x1024_S2x128_0_896) X0 X1 X2 X8 X9 vv (tab_eq X0) (tab_eq X1)
    (score_at X2 _ _ rfl rfl) (fun r k l => piecesB_apply X8 k r l) (fun r k l => piecesB_apply X9 k r l) hv r k l
  unfold slB at h
  exact h

/-- The third result, element by element. -/
theorem resR_value (V : Hid Ideal) (X0 X1 : S2.Idx → Elt Ideal .i32) (X2 : S2.Idx → Elt Ideal .f32) (X3 X4 : S1.Idx → Elt Ideal .f32) (X6 : S128x128.Idx → Elt Ideal .fp8e4m3)
    (X7 : S2x1024.Idx → Elt Ideal .f32) (X8 X9 : S2x1024.Idx → Elt Ideal .bf16) (X : S2x1024.Idx → Elt Ideal .f32) (w : FVec Ideal ⟨1, ![16384]⟩ .fp8e4m3)
    (hw : ∀ k : Fin 16384, X6 (ix2 ⟨k.val / 128, by omega⟩ ⟨k.val % 128, by omega⟩) = w (ix1 k))
    (h : ResR V X0 X1 X2 X3 X4 X6 X7 X8 X9 X) (r : Fin 2) (t : Fin 1024) :
    X (ix2 r t) = returnAt (valueAt V X7 w X3 X4 X1 X0 r) (rewardAt X8 X9 X2 X1 X0 r) (X0 (ix1 r)) (X1 (ix1 r)) t := by
  obtain ⟨Wc, f, hF, hR, hX⟩ := h
  have hv : ∀ (k : Fin 8) (l : Fin 128), Vals X0 X1 X3 X4 X7 f (ix2 ⟨2 * k.val + r.val, by omega⟩ l) = valueAt V X7 w X3 X4 X1 X0 r ⟨128 * k.val + l.val, by omega⟩ := fun k l => by
    have hq : (⟨2 * k.val + r.val, by omega⟩ : Fin 16).val = 2 * ((⟨128 * k.val + l.val, by omega⟩ : Fin 1024).val / 128) + r.val := by
      show 2 * k.val + r.val = 2 * ((128 * k.val + l.val) / 128) + r.val; omega
    have hl : l.val = (⟨128 * k.val + l.val, by omega⟩ : Fin 1024).val % 128 := by
      show l.val = (128 * k.val + l.val) % 128; omega
    rw [vals_at X0 X1 X3 X4 X7 f r ⟨128 * k.val + l.val, by omega⟩ ⟨2 * k.val + r.val, by omega⟩ l hq hl]
    unfold valueAt
    have hrow := row_at V Wc X0 X1 X6 w f hF hR hw r ⟨128 * k.val + l.val, by omega⟩ ⟨2 * k.val + r.val, by omega⟩ l hq hl
    rw [tab_eq, tab_eq] at hrow ⊢
    by_cases hb : maskBit (X0 (ix1 r)) (X1 (ix1 r)) (128 * k.val + l.val) = 1#1
    · rw [hrow hb]
    · unfold Scalar.select
      exact (if_neg hb).trans (if_neg hb).symm
  have hq : 2 * (t.val / 128) + r.val < 16 := by omega
  rw [hX (ix2 r t) (ix2 ⟨2 * (t.val / 128) + r.val, hq⟩ ⟨t.val % 128, by omega⟩) t.isLt rfl rfl]
  refine (rets_at X0 X1 X2 X3 X4 X7 X8 X9 f _ r hv ⟨t.val / 128, by omega⟩ ⟨t.val % 128, by omega⟩).trans ?_
  exact congrArg _ (Fin.ext (Nat.div_add_mod t.val 128))

/-- The second result, element by element. -/
theorem resA_value (V : Hid Ideal) (X0 X1 : S2.Idx → Elt Ideal .i32) (X2 : S2.Idx → Elt Ideal .f32) (X3 X4 : S1.Idx → Elt Ideal .f32) (X6 : S128x128.Idx → Elt Ideal .fp8e4m3)
    (X7 : S2x1024.Idx → Elt Ideal .f32) (X8 X9 : S2x1024.Idx → Elt Ideal .bf16) (X : S2x1024.Idx → Elt Ideal .f32) (w : FVec Ideal ⟨1, ![16384]⟩ .fp8e4m3)
    (hw : ∀ k : Fin 16384, X6 (ix2 ⟨k.val / 128, by omega⟩ ⟨k.val % 128, by omega⟩) = w (ix1 k))
    (h : ResA V X0 X1 X2 X3 X4 X6 X7 X8 X9 X) (r : Fin 2) (t : Fin 1024) :
    X (ix2 r t) = advAt (valueAt V X7 w X3 X4 X1 X0) (rewardAt X8 X9 X2 X1 X0) X0 X1 r t := by
  obtain ⟨Wc, f, hF, hR, hX⟩ := h
  have hv : ∀ (r : Fin 2) (k : Fin 8) (l : Fin 128), Vals X0 X1 X3 X4 X7 f (ix2 ⟨2 * k.val + r.val, by omega⟩ l) = valueAt V X7 w X3 X4 X1 X0 r ⟨128 * k.val + l.val, by omega⟩ := fun r k l => by
    have hq : (⟨2 * k.val + r.val, by omega⟩ : Fin 16).val = 2 * ((⟨128 * k.val + l.val, by omega⟩ : Fin 1024).val / 128) + r.val := by
      show 2 * k.val + r.val = 2 * ((128 * k.val + l.val) / 128) + r.val; omega
    have hl : l.val = (⟨128 * k.val + l.val, by omega⟩ : Fin 1024).val % 128 := by
      show l.val = (128 * k.val + l.val) % 128; omega
    rw [vals_at X0 X1 X3 X4 X7 f r ⟨128 * k.val + l.val, by omega⟩ ⟨2 * k.val + r.val, by omega⟩ l hq hl]
    unfold valueAt
    have hrow := row_at V Wc X0 X1 X6 w f hF hR hw r ⟨128 * k.val + l.val, by omega⟩ ⟨2 * k.val + r.val, by omega⟩ l hq hl
    rw [tab_eq, tab_eq] at hrow ⊢
    by_cases hb : maskBit (X0 (ix1 r)) (X1 (ix1 r)) (128 * k.val + l.val) = 1#1
    · rw [hrow hb]
    · unfold Scalar.select
      exact (if_neg hb).trans (if_neg hb).symm
  have hq : 2 * (t.val / 128) + r.val < 16 := by omega
  rw [hX (ix2 r t) (ix2 ⟨2 * (t.val / 128) + r.val, hq⟩ ⟨t.val % 128, by omega⟩) t.isLt rfl rfl]
  refine (advs_at X0 X1 X2 X3 X4 X7 X8 X9 f (valueAt V X7 w X3 X4 X1 X0) hv r ⟨t.val / 128, by omega⟩ ⟨t.val % 128, by omega⟩).trans ?_
  exact congrArg _ (Fin.ext (Nat.div_add_mod t.val 128))

variable (m : (ℓ : Loc nD τ sig) → Buf (Elt Ideal) ℓ) (ρ : Dev nD → PrngReg)

theorem score_blk (c : Dev nD) : iblk m c 2 t₀ = m ((c : Thread nD τ).loc main_arg7) := by
  funext x
  idx_vars x
  blk_point [iblk, V]
  rw [show win0_2.index t₀ 0 = 0 from rfl]; omega
theorem lp_blk (c : Dev nD) : iblk m c 7 t₀ = m ((c : Thread nD τ).loc main_arg5) := by
  funext x
  idx_vars x
  blk_point [iblk, V]
  · rw [show win0_7.index t₀ 0 = 0 from rfl]; omega
  · rw [show win0_7.index t₀ 1 = 0 from rfl]; omega
theorem lr_blk (c : Dev nD) : iblk m c 8 t₀ = m ((c : Thread nD τ).loc main_arg6) := by
  funext x
  idx_vars x
  blk_point [iblk, V]
  · rw [show win0_8.index t₀ 0 = 0 from rfl]; omega
  · rw [show win0_8.index t₀ 1 = 0 from rfl]; omega

/-- The run: the third result holds the return of every sequence and position. -/
theorem run_returns : θ_run defs (onTc (τ := τ) (main (F := Ideal))) (s₀ m ρ) (fun r => ∀ (c : Dev nD) (i : S2x1024.Idx),
    r.2.mem ((c : Thread nD τ).loc main_v1_2) i
      = returnAt (valueAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg8)) (m ((c : Thread nD τ).loc main_arg9)) (i 0))
        (rewardAt (m ((c : Thread nD τ).loc main_arg5)) (m ((c : Thread nD τ).loc main_arg6)) (m ((c : Thread nD τ).loc main_arg7)) (m ((c : Thread nD τ).loc main_arg8)) (m ((c : Thread nD τ).loc main_arg9)) (i 0))
        (m ((c : Thread nD τ).loc main_arg9) (ix1 (i 0))) (m ((c : Thread nD τ).loc main_arg8) (ix1 (i 0))) (i 1)) := by
  refine (θ_run defs _ _).mono (fun r h c i => ?_) (run_main m ρ)
  obtain ⟨X, hX, hG⟩ := ((h.1 c).1 11).emb_eq_of_wholeAt (t₀ := t₀) (by decide +kernel)
  have hR := (dats m c).toRRel_leaves (w := 11) rfl hX
  have hR : ResR (V m c main_arg0) (iblk m c 0 t₀) (iblk m c 1 t₀) (iblk m c 2 t₀) (iblk m c 3 t₀) (iblk m c 4 t₀) (iblk m c 5 t₀) (iblk m c 6 t₀) (iblk m c 7 t₀) (iblk m c 8 t₀) X := hR
  rw [V_main_arg0, start_blk, len_blk, ws_blk, b_blk, hs_blk, score_blk, lp_blk, lr_blk] at hR
  have hv := resR_value _ _ _ _ _ _ _ _ _ _ _ (m ((c : Thread nD τ).loc main_arg2)) (w_blk m c) hR (i 0) (i 1)
  rw [← hv]
  refine (congrArg (r.2.mem ((c : Thread nD τ).loc main_v1_2)) (?_ : i = _)).trans ((hG i).trans ?_)
  · funext a; exact Fin.ext (by blk_simp)
  · refine congrArg X ?_
    funext a
    match a with
    | ⟨0, _⟩ => rfl
    | ⟨1, _⟩ => rfl

/-- The run: the second result holds the advantage of every sequence and position. -/
theorem run_advantages : θ_run defs (onTc (τ := τ) (main (F := Ideal))) (s₀ m ρ) (fun r => ∀ (c : Dev nD) (i : S2x1024.Idx),
    r.2.mem ((c : Thread nD τ).loc main_v1_1) i
      = advAt (valueAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9))) (rewardAt (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg9)) (m ((c : Thread nD τ).loc main_arg8)) (i 0) (i 1)) := by
  refine (θ_run defs _ _).mono (fun r h c i => ?_) (run_main m ρ)
  obtain ⟨X, hX, hG⟩ := ((h.1 c).1 10).emb_eq_of_wholeAt (t₀ := t₀) (by decide +kernel)
  have hR := (dats m c).toRRel_leaves (w := 10) rfl hX
  have hR : ResA (V m c main_arg0) (iblk m c 0 t₀) (iblk m c 1 t₀) (iblk m c 2 t₀) (iblk m c 3 t₀) (iblk m c 4 t₀) (iblk m c 5 t₀) (iblk m c 6 t₀) (iblk m c 7 t₀) (iblk m c 8 t₀) X := hR
  rw [V_main_arg0, start_blk, len_blk, ws_blk, b_blk, hs_blk, score_blk, lp_blk, lr_blk] at hR
  have hv := resA_value _ _ _ _ _ _ _ _ _ _ _ (m ((c : Thread nD τ).loc main_arg2)) (w_blk m c) hR (i 0) (i 1)
  rw [← hv]
  refine (congrArg (r.2.mem ((c : Thread nD τ).loc main_v1_1)) (?_ : i = _)).trans ((hG i).trans ?_)
  · funext a; exact Fin.ext (by blk_simp)
  · refine congrArg X ?_
    funext a
    match a with
    | ⟨0, _⟩ => rfl
    | ⟨1, _⟩ => rfl

end Cert.KernelIdeal.Critic

end
end
-- ==== Proof.RefReturns.lean ====
module

public import proofs.«01_k».proof.Proof.Gen.ReferenceIdeal.Frame
public import proofs.«01_k».proof.Proof.Returns
public import Idealize.ShloMosaic.Lib.Tactic.WordOmega
public import Idealize.ShloMosaic.Lib.Pipeline.ValueKit.Geometry
public import Idealize.ShloMosaic.Lib.Pipeline.ValueKit.Point
public import Idealize.ShloMosaic.Lib.StableHlo.RunRead

/-!
# The reference's third result, as the host lines compute it
-/

@[expose] public section

set_option maxRecDepth 16384

noncomputable section

namespace Cert.ReferenceIdeal.Critic

open Idealize.ShloMosaic Idealize.ShloMosaic.TcCoe Idealize.ShloMosaic.Tactic
open Idealize.SL Idealize.SL.Sem
open Cert.Critic Cert.ReferenceIdeal.Gen

def zeros : FVec Ideal S2x1024 .f32 := broadcastInDim S2x1024 ![] bcast_S_S2x1024 (constant S_ .f32 0x00000000#32)

def hostPos : IVec S1x1024 32 := broadcastInDim S1x1024 ![1] bcast_S1024_S1x1024_1 (iotaInDim S1024 32 0)
def hostStart (start : IVec S2 32) : IVec S2x1 32 := broadcastInDim S2x1 ![0] bcast_S2_S2x1_0 start
def hostEnd (len start : IVec S2 32) : IVec S2x1 32 := addi (hostStart start) (hostStart len)

/-- The mask. -/
def hostMask (len start : IVec S2 32) : IVec S2x1024 1 :=
  andi (cmpi .sge (broadcastInDim S2x1024 ![0, 1] bcast_S1x1024_S2x1024_0_1 hostPos) (broadcastInDim S2x1024 ![0, 1] bcast_S2x1_S2x1024_0_1 (hostStart start)))
    (cmpi .slt (broadcastInDim S2x1024 ![0, 1] bcast_S1x1024_S2x1024_0_1 hostPos) (broadcastInDim S2x1024 ![0, 1] bcast_S2x1_S2x1024_0_1 (hostEnd len start)))

/-- The rewards. -/
def hostReward (M : IVec S2x1024 1) (lp lr : FVec Ideal S2x1024 .bf16) (score : FVec Ideal S2 .f32) (pos : IVec S1x1024 32) (e : IVec S2x1 32) : FVec Ideal S2x1024 .f32 :=
  select M (addf (mulf (broadcastInDim S2x1024 ![] bcast_S_S2x1024 (constant S_ .f32 0xBD4CCCCD#32)) (subf (extf .f32 lp bitsLt_bf16_f32) (extf .f32 lr bitsLt_bf16_f32)))
      (select (cmpi .eq (broadcastInDim S2x1024 ![0, 1] bcast_S1x1024_S2x1024_0_1 pos)
          (broadcastInDim S2x1024 ![0, 1] bcast_S2x1_S2x1024_0_1 (subi e (broadcastInDim S2x1 ![] bcast_S_S2x1 (constantI S_ 32 1#32)))))
        (broadcastInDim S2x1024 ![0, 1] bcast_S2x1_S2x1024_0_1 (broadcastInDim S2x1 ![0] bcast_S2_S2x1_0 score)) zeros)) zeros

/-- The masked differences. -/
def hostDelta (M : IVec S2x1024 1) (v rw : FVec Ideal S2x1024 .f32) : FVec Ideal S2x1024 .f32 :=
  select M (subf (addf rw (mulf (broadcastInDim S2x1024 ![] bcast_S_S2x1024 (constant S_ .f32 0x3F800000#32))
    (concatenate S2x1024 1 [⟨S2x1023, extractStridedSlice S2x1023 ![0, 1] v slices_S2x1024_S2x1023_0_1⟩, ⟨S2x1, broadcastInDim S2x1 ![] bcast_S_S2x1 (constant S_ .f32 0x00000000#32)⟩] concatenates_S2x1023_S2x1_S2x1024_d1))) v) zeros

def hostDist : IVec S128x128 32 :=
  subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))

/-- The powers within a chunk. -/
def hostM (c : FVec Ideal S_ .f32) : FVec Ideal S128x128 .f32 :=
  select (cmpi .sge hostDist (broadcastInDim S128x128 ![] bcast_S_S128x128 (constantI S_ 32 0#32)))
    (Host.powf (broadcastInDim S128x128 ![] bcast_S_S128x128 c) (sitofp .f32 (maxsi hostDist (broadcastInDim S128x128 ![] bcast_S_S128x128 (constantI S_ 32 0#32)))))
    (broadcastInDim S128x128 ![] bcast_S_S128x128 (constant S_ .f32 0x00000000#32))

def hostStep : IVec S8x8 32 :=
  subi (subi (broadcastInDim S8x8 ![0, 1] bcast_S8x1_S8x8_0_1 (broadcastInDim S8x1 ![0] bcast_S8_S8x1_0 (iotaInDim S8 32 0)))
    (broadcastInDim S8x8 ![0, 1] bcast_S1x8_S8x8_0_1 (broadcastInDim S1x8 ![1] bcast_S8_S1x8_1 (iotaInDim S8 32 0)))) (broadcastInDim S8x8 ![] bcast_S_S8x8 (constantI S_ 32 1#32))

/-- The powers from chunk to chunk. -/
def hostQ (c : FVec Ideal S_ .f32) : FVec Ideal S8x8 .f32 :=
  select (cmpi .sge hostStep (broadcastInDim S8x8 ![] bcast_S_S8x8 (constantI S_ 32 0#32)))
    (Host.powf (broadcastInDim S8x8 ![] bcast_S_S8x8 c) (sitofp .f32 (muli (broadcastInDim S8x8 ![] bcast_S_S8x8 (constantI S_ 32 128#32)) (maxsi hostStep (broadcastInDim S8x8 ![] bcast_S_S8x8 (constantI S_ 32 0#32))))))
    (broadcastInDim S8x8 ![] bcast_S_S8x8 (constant S_ .f32 0x00000000#32))

/-- The powers that carry the sums of the chunks after it to a place of a chunk. -/
def hostTail (c : FVec Ideal S_ .f32) : FVec Ideal S128 .f32 :=
  Host.powf (broadcastInDim S128 ![] bcast_S_S128 c) (sitofp .f32 (subi (broadcastInDim S128 ![] bcast_S_S128 (constantI S_ 32 128#32)) (iotaInDim S128 32 0)))

def hostLocal (d : FVec Ideal S2x1024 .f32) (c : FVec Ideal S_ .f32) : FVec Ideal S2x8x128 .f32 :=
  Host.dotGeneral dot_S2x8x128_S128x128_S2x8x128_2_0_01_1_n_n (some .fp32) (shapeCast S2x8x128 d shapeCasts_S2x1024_S2x8x128) (hostM c)

def hostNext (L : FVec Ideal S2x8x128 .f32) (c : FVec Ideal S_ .f32) : FVec Ideal S2x8 .f32 :=
  Host.dotGeneral dot_S2x8_S8x8_S2x8_1_0_0_1_n_n (some .fp32) (shapeCast S2x8 (extractStridedSlice S2x8x1 ![0, 0, 0] L slices_S2x8x128_S2x8x1_0_0_0) shapeCasts_S2x8x1_S2x8) (hostQ c)

/-- The decayed sums, chunk by chunk, laid down again. -/
def hostSums (d : FVec Ideal S2x1024 .f32) (c : FVec Ideal S_ .f32) : FVec Ideal S2x1024 .f32 :=
  shapeCast S2x1024 (addf (hostLocal d c) (mulf (broadcastInDim S2x8x128 ![0, 1, 2] bcast_S2x8x1_S2x8x128_0_1_2 (broadcastInDim S2x8x1 ![0, 1] bcast_S2x8_S2x8x1_0_1 (hostNext (hostLocal d c) c)))
    (broadcastInDim S2x8x128 ![0, 1, 2] bcast_S1x1x128_S2x8x128_0_1_2 (broadcastInDim S1x1x128 ![2] bcast_S128_S1x1x128_2 (hostTail c))))) shapeCasts_S2x8x128_S2x1024

theorem read_reward (X : Valuation τ sig (Elt Ideal)) :
    StableHlo.after (hostOps1_5 (F := Ideal)) (StableHlo.after (hostOps1_4 (F := Ideal)) (StableHlo.after (hostOps1_3 (F := Ideal)) (StableHlo.after (hostOps1_2 (F := Ideal)) X))) (Proc.devRef .tc main_v35)
      = hostReward (X (Proc.devRef .tc main_v12)) (X (Proc.devRef .tc main_arg5)) (X (Proc.devRef .tc main_arg6)) (X (Proc.devRef .tc main_arg7)) (X (Proc.devRef .tc main_v2)) (X (Proc.devRef .tc main_v5)) := by
  unfold hostOps1_5 hostOps1_4 hostOps1_3 hostOps1_2
  after_results
  rfl

theorem read_delta (X : Valuation τ sig (Elt Ideal)) :
    StableHlo.after (hostOps1_7 (F := Ideal)) (StableHlo.after (hostOps1_6 (F := Ideal)) X) (Proc.devRef .tc main_v44)
      = hostDelta (X (Proc.devRef .tc main_v12)) (X (Proc.devRef .tc main_v21)) (X (Proc.devRef .tc main_v35)) := by
  unfold hostOps1_7 hostOps1_6
  after_results
  rfl

theorem read_decay (X : Valuation τ sig (Elt Ideal)) :
    StableHlo.after (hostOps1_7 (F := Ideal)) (StableHlo.after (hostOps1_6 (F := Ideal)) X) (Proc.devRef .tc main_v43)
      = shapeCast S_ (X (Proc.devRef .tc main_v0_2)) shapeCasts_S1_S_ := by
  unfold hostOps1_7 hostOps1_6
  after_results
  rfl

theorem read_head (X : Valuation τ sig (Elt Ideal)) :
    StableHlo.after (hostOps1_9 (F := Ideal)) (StableHlo.after (hostOps1_8 (F := Ideal)) X) (Proc.devRef .tc main_v59) = hostM (X (Proc.devRef .tc main_v43)) := by
  unfold hostOps1_9 hostOps1_8
  after_results
  rfl

theorem read_pos (X : Valuation τ sig (Elt Ideal)) :
    StableHlo.after (hostOps1_9 (F := Ideal)) (StableHlo.after (hostOps1_8 (F := Ideal)) X) (Proc.devRef .tc main_v46) = iotaInDim S128 32 0 := by
  unfold hostOps1_9 hostOps1_8
  after_results

theorem read_cut (X : Valuation τ sig (Elt Ideal)) :
    StableHlo.after (hostOps1_9 (F := Ideal)) (StableHlo.after (hostOps1_8 (F := Ideal)) X) (Proc.devRef .tc main_v45) = shapeCast S2x8x128 (X (Proc.devRef .tc main_v44)) shapeCasts_S2x1024_S2x8x128 := by
  unfold hostOps1_9 hostOps1_8
  after_results
  rfl

theorem read_sums (X : Valuation τ sig (Elt Ideal)) (d : FVec Ideal S2x1024 .f32) (h59 : X (Proc.devRef .tc main_v59) = hostM (X (Proc.devRef .tc main_v43)))
    (h46 : X (Proc.devRef .tc main_v46) = iotaInDim S128 32 0) (h45 : X (Proc.devRef .tc main_v45) = shapeCast S2x8x128 d shapeCasts_S2x1024_S2x8x128) :
    StableHlo.after (hostOps1_12 (F := Ideal)) (StableHlo.after (hostOps1_11 (F := Ideal)) (StableHlo.after (hostOps1_10 (F := Ideal)) X)) (Proc.devRef .tc main_v93)
      = hostSums d (X (Proc.devRef .tc main_v43)) := by
  unfold hostOps1_12 hostOps1_11 hostOps1_10
  after_results
  rw [h59, h46, h45]
  rfl

theorem read_zero (X : Valuation τ sig (Elt Ideal)) :
    StableHlo.after (hostOps1_12 (F := Ideal)) X (Proc.devRef .tc main_cst_15) = constant (F := Ideal) S_ .f32 0x00000000#32 := by
  unfold hostOps1_12
  after_results

theorem read_ret (X : Valuation τ sig (Elt Ideal)) (h0 : X (Proc.devRef .tc main_cst_15) = constant (F := Ideal) S_ .f32 0x00000000#32) :
    StableHlo.after (hostOps1_14 (F := Ideal)) (StableHlo.after (hostOps1_13 (F := Ideal)) X) (Proc.devRef .tc main_v95)
      = addf (F := Ideal) (φ := .f32) (s := S2x1024) (select (X (Proc.devRef .tc main_v12)) (X (Proc.devRef .tc main_v93)) zeros) (X (Proc.devRef .tc main_v21)) := by
  unfold hostOps1_14 hostOps1_13
  after_results
  rw [h0]
  rfl

theorem read_mask (X : Valuation τ sig (Elt Ideal)) :
    StableHlo.after (hostOps1_1 (F := Ideal)) (StableHlo.after (hostOps1 (F := Ideal)) X) (Proc.devRef .tc main_v12)
      = hostMask (X (Proc.devRef .tc main_arg8)) (X (Proc.devRef .tc main_arg9)) := by
  unfold hostOps1_1 hostOps1
  after_results
  rfl
theorem read_position (X : Valuation τ sig (Elt Ideal)) :
    StableHlo.after (hostOps1_1 (F := Ideal)) (StableHlo.after (hostOps1 (F := Ideal)) X) (Proc.devRef .tc main_v2) = hostPos := by
  unfold hostOps1_1 hostOps1
  after_results
  rfl
theorem read_end (X : Valuation τ sig (Elt Ideal)) :
    StableHlo.after (hostOps1_1 (F := Ideal)) (StableHlo.after (hostOps1 (F := Ideal)) X) (Proc.devRef .tc main_v5)
      = hostEnd (X (Proc.devRef .tc main_arg8)) (X (Proc.devRef .tc main_arg9)) := by
  unfold hostOps1_1 hostOps1
  after_results
  rfl

/-! ## Read element by element -/

theorem mask_apply (len start : IVec S2 32) (r : Fin 2) (t : Fin 1024) : hostMask len start (ix2 r t) = maskBit (start (ix1 r)) (len (ix1 r)) t.val := by
  pointwise [hostMask, hostPos, hostEnd, hostStart, maskBit]

theorem reward_apply (lp lr : FVec Ideal S2x1024 .bf16) (score : FVec Ideal S2 .f32) (len start : IVec S2 32) (r : Fin 2) (t : Fin 1024) :
    hostReward (hostMask len start) lp lr score hostPos (hostEnd len start) (ix2 r t) = rewardAt lp lr score len start r t := by
  pointwise [hostReward, hostMask, hostPos, hostEnd, hostStart, rewardAt, maskBit, zeros]

theorem delta_apply (len start : IVec S2 32) (v rw : FVec Ideal S2x1024 .f32) (r : Fin 2) (t : Fin 1024) :
    hostDelta (hostMask len start) v rw (ix2 r t) = deltaAt (fun t => v (ix2 r t)) (fun t => rw (ix2 r t)) (start (ix1 r)) (len (ix1 r)) t := by
  pointwise [hostDelta, hostMask, hostPos, hostEnd, hostStart, deltaAt, maskBit, zeros]
  refine congrArg (fun x => Scalar.select _ (rw (ix2 r t) + x - v (ix2 r t)) 0) ?_
  by_cases h : t.val < 1023
  · rw [dif_pos h, dif_pos (by omega)]
    exact congrArg v (congrArg (ix2 r ·) (Fin.ext (Nat.add_comm _ _)))
  · rw [dif_neg h, dif_neg (by omega)]

/-- A power of the decay whose exponent is a whole number given as a word. -/
theorem power_word (x : EReal) (hx : x = ((19 / 20 : ℝ) : EReal)) (w : BitVec 32) (n : ℕ) (h : w = BitVec.ofNat 32 n) (hn : n < 1024) :
    Ideal.pow x (FloatOps.sitofp (F := Ideal) FTy.f32 w) = pw n := by
  have hi : w.toInt = (n : ℤ) := by
    rw [h, BitVec.toInt_eq_toNat_cond, BitVec.toNat_ofNat, Nat.mod_eq_of_lt (by omega)]
    exact if_pos (by omega)
  rw [← pow_pw n, ← hi, hx]
  rfl

theorem M_apply (c : FVec Ideal S_ .f32) (hc : c = fun _ => ((19 / 20 : ℝ) : EReal)) (j l : Fin 128) : hostM c (ix2 j l) = if l.val ≤ j.val then pw (j.val - l.val) else 0 := by
  pointwise [hostM, hostDist]
  by_cases h : l.val ≤ j.val
  · have hd : IntOp.subi (BitVec.ofNat 32 j.val) (BitVec.ofNat 32 l.val) = BitVec.ofNat 32 (j.val - l.val) := by unfold IntOp.subi; word_omega
    rw [if_pos h, hd, show IntOp.cmpi CmpIPredicate.sge (BitVec.ofNat 32 (j.val - l.val)) 0#32 = 1#1 from by word_omega]
    exact power_word _ (congrFun hc ix0) _ (j.val - l.val) ((by decide +kernel : ∀ n : Fin 128, IntOp.maxsi (BitVec.ofNat 32 n.val) 0#32 = BitVec.ofNat 32 n.val) ⟨j.val - l.val, by omega⟩) (by omega)
  · rw [if_neg h, show IntOp.cmpi CmpIPredicate.sge (IntOp.subi (BitVec.ofNat 32 j.val) (BitVec.ofNat 32 l.val)) 0#32 = 0#1 from by unfold IntOp.subi; word_omega]
    rfl

theorem Q_apply (c : FVec Ideal S_ .f32) (hc : c = fun _ => ((19 / 20 : ℝ) : EReal)) (j l : Fin 8) : hostQ c (ix2 j l) = if l.val + 1 ≤ j.val then pw (128 * (j.val - l.val - 1)) else 0 := by
  pointwise [hostQ, hostStep]
  have hw : ∀ j l : Fin 8, l.val + 1 ≤ j.val → IntOp.cmpi CmpIPredicate.sge (IntOp.subi (IntOp.subi (BitVec.ofNat 32 j.val) (BitVec.ofNat 32 l.val)) 1#32) 0#32 = 1#1
      ∧ IntOp.muli 128#32 (IntOp.maxsi (IntOp.subi (IntOp.subi (BitVec.ofNat 32 j.val) (BitVec.ofNat 32 l.val)) 1#32) 0#32) = BitVec.ofNat 32 (128 * (j.val - l.val - 1)) := by
    decide +kernel
  have hn : ∀ j l : Fin 8, ¬ l.val + 1 ≤ j.val → IntOp.cmpi CmpIPredicate.sge (IntOp.subi (IntOp.subi (BitVec.ofNat 32 j.val) (BitVec.ofNat 32 l.val)) 1#32) 0#32 = 0#1 := by
    decide +kernel
  by_cases h : l.val + 1 ≤ j.val
  · rw [if_pos h, (hw j l h).1]
    exact power_word _ (congrFun hc ix0) _ (128 * (j.val - l.val - 1)) (hw j l h).2 (by omega)
  · rw [if_neg h, hn j l h]
    rfl

theorem tail_apply (c : FVec Ideal S_ .f32) (hc : c = fun _ => ((19 / 20 : ℝ) : EReal)) (l : Fin 128) : hostTail c (ix1 l) = pw (128 - l.val) := by
  pointwise [hostTail]
  exact power_word _ (congrFun hc ix0) _ (128 - l.val) (by unfold IntOp.subi; word_omega) (by omega)

theorem local_apply (d : FVec Ideal S2x1024 .f32) (c : FVec Ideal S_ .f32) (r : Fin 2) (k : Fin 8) (l : Fin 128) :
    hostLocal d c (ix3 r k l) = ∑ j : Fin 128, (d (ix2 r ⟨128 * k.val + j.val, by omega⟩) : EReal) * (hostM c (ix2 j l) : EReal) := by
  pointwise [hostLocal]
  exact Finset.sum_congr rfl fun j _ => congrArg (fun x => d (ix2 r x) * hostM c (ix2 j l)) (Fin.ext (congrArg (· + j.val) (Nat.mul_comm k.val 128)))

theorem next_apply (L : FVec Ideal S2x8x128 .f32) (c : FVec Ideal S_ .f32) (r : Fin 2) (k : Fin 8) :
    hostNext L c (ix2 r k) = ∑ i : Fin 8, (L (ix3 r i 0) : EReal) * (hostQ c (ix2 i k) : EReal) := by
  pointwise [hostNext]

theorem sums_apply (d : FVec Ideal S2x1024 .f32) (c : FVec Ideal S_ .f32) (r : Fin 2) (t : Fin 1024) :
    hostSums d c (ix2 r t) = (hostLocal d c (ix3 r ⟨t.val / 128, by omega⟩ ⟨t.val % 128, by omega⟩) : EReal)
      + (hostNext (hostLocal d c) c (ix2 r ⟨t.val / 128, by omega⟩) : EReal) * (hostTail c (ix1 ⟨t.val % 128, by omega⟩) : EReal) := by
  pointwise [hostSums]

/-- The third result from the second kind of values: the masked sums and the values. -/
theorem ret_apply (len start : IVec S2 32) (lp lr : FVec Ideal S2x1024 .bf16) (score : FVec Ideal S2 .f32) (v : FVec Ideal S2x1024 .f32)
    (c : FVec Ideal S_ .f32) (hc : c = fun _ => ((19 / 20 : ℝ) : EReal)) (r : Fin 2) (t : Fin 1024) :
    addf (F := Ideal) (φ := .f32) (select (hostMask len start) (hostSums (hostDelta (hostMask len start) v (hostReward (hostMask len start) lp lr score hostPos (hostEnd len start))) c) zeros) v (ix2 r t)
      = returnAt (fun t => v (ix2 r t)) (rewardAt lp lr score len start r) (start (ix1 r)) (len (ix1 r)) t := by
  have hd : ∀ t, hostDelta (hostMask len start) v (hostReward (hostMask len start) lp lr score hostPos (hostEnd len start)) (ix2 r t)
      = deltaAt (fun t => v (ix2 r t)) (rewardAt lp lr score len start r) (start (ix1 r)) (len (ix1 r)) t := fun t => by
    rw [delta_apply]
    exact congrArg (fun f => deltaAt _ f _ _ t) (funext fun t => reward_apply lp lr score len start r t)
  have hL : ∀ k l, hostLocal (hostDelta (hostMask len start) v (hostReward (hostMask len start) lp lr score hostPos (hostEnd len start))) c (ix3 r k l)
      = localAt (deltaAt (fun t => v (ix2 r t)) (rewardAt lp lr score len start r) (start (ix1 r)) (len (ix1 r))) k l := fun k l => by
    rw [local_apply]
    exact Finset.sum_congr rfl fun j _ => by rw [hd, M_apply c hc]
  have hN : ∀ k, hostNext (hostLocal (hostDelta (hostMask len start) v (hostReward (hostMask len start) lp lr score hostPos (hostEnd len start))) c) c (ix2 r k)
      = nextAt (deltaAt (fun t => v (ix2 r t)) (rewardAt lp lr score len start r) (start (ix1 r)) (len (ix1 r))) k := fun k => by
    rw [next_apply]
    exact Finset.sum_congr rfl fun j _ => by rw [hL, Q_apply c hc]
  pointwise [zeros]
  rw [mask_apply, sums_apply, hL, hN, tail_apply c hc]
  rfl

end Cert.ReferenceIdeal.Critic

end
end
-- ==== Proof.RefValue.lean ====
module

public import proofs.«01_k».proof.Proof.Gen.ReferenceIdeal.Frame
public import proofs.«01_k».proof.Proof.Spec
public import proofs.«01_k».proof.Proof.RefReturns
public import Idealize.ShloMosaic.Lib.Pipeline.ValueKit.Geometry
public import Idealize.ShloMosaic.Lib.Pipeline.ValueKit.Point
public import Idealize.ShloMosaic.Lib.StableHlo.RunRead

/-!
# The reference's first and third results

Read off the run of the reference: the arrays that the widening leaves, then the host lines.
-/

@[expose] public section

set_option maxRecDepth 16384

noncomputable section

namespace Cert.ReferenceIdeal.Critic

open Idealize.ShloMosaic Idealize.ShloMosaic.TcCoe Idealize.ShloMosaic.Tactic
open Idealize.SL Idealize.SL.Sem
open Cert.Critic Cert.ReferenceIdeal.Gen

/-- The first result as the host lines compute it, from the widened hidden rows and weights and the other arguments. -/
def hostVals (h : FVec Ideal S2x1024x16384 .f32) (w : FVec Ideal S16384 .f32) (hs : FVec Ideal S2x1024 .f32) (ws b : FVec Ideal S1 .f32)
    (len start : IVec S2 32) : FVec Ideal S2x1024 .f32 :=
  let t := broadcastInDim S2x1024 ![0, 1] bcast_S1x1024_S2x1024_0_1 (broadcastInDim S1x1024 ![1] bcast_S1024_S1x1024_1 (iotaInDim S1024 32 0))
  let s := broadcastInDim S2x1 ![0] bcast_S2_S2x1_0 start
  let e := addi s (broadcastInDim S2x1 ![0] bcast_S2_S2x1_0 len)
  select (andi (cmpi .sge t (broadcastInDim S2x1024 ![0, 1] bcast_S2x1_S2x1024_0_1 s)) (cmpi .slt t (broadcastInDim S2x1024 ![0, 1] bcast_S2x1_S2x1024_0_1 e)))
    (addf (mulf (mulf (Host.dotGeneral dot_S2x1024x16384_S16384_S2x1024_2_0_01_n_n_n none h w) hs)
      (broadcastInDim S2x1024 ![] bcast_S_S2x1024 (shapeCast S_ ws shapeCasts_S1_S_)))
      (broadcastInDim S2x1024 ![] bcast_S_S2x1024 (shapeCast S_ b shapeCasts_S1_S_)))
    (broadcastInDim S2x1024 ![] bcast_S_S2x1024 (constant S_ .f32 0x00000000#32))

theorem hostVals_apply (h : FVec Ideal S2x1024x16384 .f32) (w : FVec Ideal S16384 .f32) (hs : FVec Ideal S2x1024 .f32) (ws b : FVec Ideal S1 .f32)
    (len start : IVec S2 32) (r : Fin 2) (t : Fin 1024) : hostVals h w hs ws b len start (ix2 r t) = valueAt h hs w ws b len start r t := by
  pointwise [hostVals, valueAt, dotRow, maskBit]

/-- The host lines after the region, read at the first result. -/
theorem tail_read (X : Valuation τ sig (Elt Ideal)) :
    StableHlo.after (hostOps1_1 (F := Ideal)) (StableHlo.after (hostOps1 (F := Ideal)) X) (Proc.devRef .tc main_v21)
      = hostVals (X (Proc.devRef .tc main_v0_0)) (X (Proc.devRef .tc main_v0_1)) (X (Proc.devRef .tc main_arg1)) (X (Proc.devRef .tc main_arg3)) (X (Proc.devRef .tc main_arg4))
          (X (Proc.devRef .tc main_arg8)) (X (Proc.devRef .tc main_arg9)) := by
  unfold hostOps1_1 hostOps1
  after_results
  rfl

/-- The third result as the host lines compute it. -/
def hostRets (h : FVec Ideal S2x1024x16384 .f32) (w : FVec Ideal S16384 .f32) (d : FVec Ideal S1 .f32) (hs : FVec Ideal S2x1024 .f32) (ws b : FVec Ideal S1 .f32)
    (lp lr : FVec Ideal S2x1024 .bf16) (score : FVec Ideal S2 .f32) (len start : IVec S2 32) : FVec Ideal S2x1024 .f32 :=
  addf (F := Ideal) (φ := .f32) (select (hostMask len start) (hostSums (hostDelta (hostMask len start) (hostVals h w hs ws b len start)
    (hostReward (hostMask len start) lp lr score hostPos (hostEnd len start))) (shapeCast S_ d shapeCasts_S1_S_)) zeros) (hostVals h w hs ws b len start)

theorem hostRets_apply (h : FVec Ideal S2x1024x16384 .f32) (w : FVec Ideal S16384 .f32) (d : FVec Ideal S1 .f32) (hd : d = fun _ => ((19 / 20 : ℝ) : EReal)) (hs : FVec Ideal S2x1024 .f32) (ws b : FVec Ideal S1 .f32)
    (lp lr : FVec Ideal S2x1024 .bf16) (score : FVec Ideal S2 .f32) (len start : IVec S2 32) (r : Fin 2) (t : Fin 1024) :
    hostRets h w d hs ws b lp lr score len start (ix2 r t)
      = returnAt (valueAt h hs w ws b len start r) (rewardAt lp lr score len start r) (start (ix1 r)) (len (ix1 r)) t := by
  refine (ret_apply len start lp lr score (hostVals h w hs ws b len start) (shapeCast S_ d shapeCasts_S1_S_) (by rw [hd]; rfl) r t).trans ?_
  exact congrArg (fun f => returnAt f _ _ _ t) (funext fun t => hostVals_apply h w hs ws b len start r t)

/-- The host lines after the region, read at the third result. -/
theorem tail_returns (X : Valuation τ sig (Elt Ideal)) :
    StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X))))))))))))))) (Proc.devRef .tc main_v95)
      = hostRets (X (Proc.devRef .tc main_v0_0)) (X (Proc.devRef .tc main_v0_1)) (X (Proc.devRef .tc main_v0_2)) (X (Proc.devRef .tc main_arg1)) (X (Proc.devRef .tc main_arg3)) (X (Proc.devRef .tc main_arg4))
          (X (Proc.devRef .tc main_arg5)) (X (Proc.devRef .tc main_arg6)) (X (Proc.devRef .tc main_arg7)) (X (Proc.devRef .tc main_arg8)) (X (Proc.devRef .tc main_arg9)) := by
  have h43 : StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))))) (Proc.devRef .tc main_v43) = shapeCast S_ (X (Proc.devRef .tc main_v0_2)) shapeCasts_S1_S_ := by
    rw [StableHlo.after_of_writes_sub (r := main_v43) hostOps1_9 _ hostOps1_9_writes (by decide +kernel), StableHlo.after_of_writes_sub (r := main_v43) hostOps1_8 _ hostOps1_8_writes (by decide +kernel), read_decay, StableHlo.after_of_writes_sub (r := main_v0_2) hostOps1_5 _ hostOps1_5_writes (by decide +kernel), StableHlo.after_of_writes_sub (r := main_v0_2) hostOps1_4 _ hostOps1_4_writes (by decide +kernel), StableHlo.after_of_writes_sub (r := main_v0_2) hostOps1_3 _ hostOps1_3_writes (by decide +kernel), StableHlo.after_of_writes_sub (r := main_v0_2) hostOps1_2 _ hostOps1_2_writes (by decide +kernel), StableHlo.after_of_writes_sub (r := main_v0_2) hostOps1_1 _ hostOps1_1_writes (by decide +kernel), StableHlo.after_of_writes_sub (r := main_v0_2) hostOps1 _ hostOps1_writes (by decide +kernel)]
  have h43' : StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))) (Proc.devRef .tc main_v43) = StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))))) (Proc.devRef .tc main_v43) := by
    rw [StableHlo.after_of_writes_sub (r := main_v43) hostOps1_9 _ hostOps1_9_writes (by decide +kernel), StableHlo.after_of_writes_sub (r := main_v43) hostOps1_8 _ hostOps1_8_writes (by decide +kernel)]
  have hd : StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))) (Proc.devRef .tc main_v44) = hostDelta (hostMask (X (Proc.devRef .tc main_arg8)) (X (Proc.devRef .tc main_arg9))) (hostVals (X (Proc.devRef .tc main_v0_0)) (X (Proc.devRef .tc main_v0_1)) (X (Proc.devRef .tc main_arg1)) (X (Proc.devRef .tc main_arg3)) (X (Proc.devRef .tc main_arg4)) (X (Proc.devRef .tc main_arg8)) (X (Proc.devRef .tc main_arg9)))
      (hostReward (hostMask (X (Proc.devRef .tc main_arg8)) (X (Proc.devRef .tc main_arg9))) (X (Proc.devRef .tc main_arg5)) (X (Proc.devRef .tc main_arg6)) (X (Proc.devRef .tc main_arg7)) hostPos (hostEnd (X (Proc.devRef .tc main_arg8)) (X (Proc.devRef .tc main_arg9)))) := by
    rw [read_delta, read_reward, StableHlo.after_of_writes_sub (r := main_v12) hostOps1_5 _ hostOps1_5_writes (by decide +kernel), StableHlo.after_of_writes_sub (r := main_v12) hostOps1_4 _ hostOps1_4_writes (by decide +kernel), StableHlo.after_of_writes_sub (r := main_v12) hostOps1_3 _ hostOps1_3_writes (by decide +kernel), StableHlo.after_of_writes_sub (r := main_v12) hostOps1_2 _ hostOps1_2_writes (by decide +kernel), StableHlo.after_of_writes_sub (r := main_v21) hostOps1_5 _ hostOps1_5_writes (by decide +kernel), StableHlo.after_of_writes_sub (r := main_v21) hostOps1_4 _ hostOps1_4_writes (by decide +kernel), StableHlo.after_of_writes_sub (r := main_v21) hostOps1_3 _ hostOps1_3_writes (by decide +kernel), StableHlo.after_of_writes_sub (r := main_v21) hostOps1_2 _ hostOps1_2_writes (by decide +kernel), read_mask, read_position, read_end, tail_read,
      StableHlo.after_of_writes_sub (r := main_arg5) hostOps1_1 _ hostOps1_1_writes (by decide +kernel), StableHlo.after_of_writes_sub (r := main_arg5) hostOps1 _ hostOps1_writes (by decide +kernel), StableHlo.after_of_writes_sub (r := main_arg6) hostOps1_1 _ hostOps1_1_writes (by decide +kernel), StableHlo.after_of_writes_sub (r := main_arg6) hostOps1 _ hostOps1_writes (by decide +kernel), StableHlo.after_of_writes_sub (r := main_arg7) hostOps1_1 _ hostOps1_1_writes (by decide +kernel), StableHlo.after_of_writes_sub (r := main_arg7) hostOps1 _ hostOps1_writes (by decide +kernel)]
  rw [read_ret _ (read_zero _),
    StableHlo.after_of_writes_sub (r := main_v12) hostOps1_12 _ hostOps1_12_writes (by decide +kernel), StableHlo.after_of_writes_sub (r := main_v12) hostOps1_11 _ hostOps1_11_writes (by decide +kernel), StableHlo.after_of_writes_sub (r := main_v12) hostOps1_10 _ hostOps1_10_writes (by decide +kernel), StableHlo.after_of_writes_sub (r := main_v12) hostOps1_9 _ hostOps1_9_writes (by decide +kernel), StableHlo.after_of_writes_sub (r := main_v12) hostOps1_8 _ hostOps1_8_writes (by decide +kernel), StableHlo.after_of_writes_sub (r := main_v12) hostOps1_7 _ hostOps1_7_writes (by decide +kernel), StableHlo.after_of_writes_sub (r := main_v12) hostOps1_6 _ hostOps1_6_writes (by decide +kernel), StableHlo.after_of_writes_sub (r := main_v12) hostOps1_5 _ hostOps1_5_writes (by decide +kernel), StableHlo.after_of_writes_sub (r := main_v12) hostOps1_4 _ hostOps1_4_writes (by decide +kernel), StableHlo.after_of_writes_sub (r := main_v12) hostOps1_3 _ hostOps1_3_writes (by decide +kernel), StableHlo.after_of_writes_sub (r := main_v12) hostOps1_2 _ hostOps1_2_writes (by decide +kernel),
    StableHlo.after_of_writes_sub (r := main_v21) hostOps1_12 _ hostOps1_12_writes (by decide +kernel), StableHlo.after_of_writes_sub (r := main_v21) hostOps1_11 _ hostOps1_11_writes (by decide +kernel), StableHlo.after_of_writes_sub (r := main_v21) hostOps1_10 _ hostOps1_10_writes (by decide +kernel), StableHlo.after_of_writes_sub (r := main_v21) hostOps1_9 _ hostOps1_9_writes (by decide +kernel), StableHlo.after_of_writes_sub (r := main_v21) hostOps1_8 _ hostOps1_8_writes (by decide +kernel), StableHlo.after_of_writes_sub (r := main_v21) hostOps1_7 _ hostOps1_7_writes (by decide +kernel), StableHlo.after_of_writes_sub (r := main_v21) hostOps1_6 _ hostOps1_6_writes (by decide +kernel), StableHlo.after_of_writes_sub (r := main_v21) hostOps1_5 _ hostOps1_5_writes (by decide +kernel), StableHlo.after_of_writes_sub (r := main_v21) hostOps1_4 _ hostOps1_4_writes (by decide +kernel), StableHlo.after_of_writes_sub (r := main_v21) hostOps1_3 _ hostOps1_3_writes (by decide +kernel), StableHlo.after_of_writes_sub (r := main_v21) hostOps1_2 _ hostOps1_2_writes (by decide +kernel), read_mask, tail_read,
    read_sums _ _ ((read_head _).trans (congrArg hostM h43')) (read_pos _) (read_cut _), h43, hd]
  rfl

variable (m : (ℓ : Loc nD τ sig) → Buf (Elt Ideal) ℓ) (ρ : Dev nD → PrngReg)

/-- The one point of the region. -/
abbrev t₀ : Fin cfg0.N := ⟨0, by decide⟩

/-- The widened hidden rows after the region. -/
theorem wide_hidden (c : Dev nD) : (dats m 0 c).arrAt 2 cfg0.N = m ((c : Thread nD τ).loc main_arg0) := by
  refine (dats m 0 c).arrAt_eq_of_covers 2 _ (by decide +kernel) fun t hf y => ?_
  blk_simp
  rw [after0_2]
  frame_out
  pointwise [k0_pay1]
  blk_point [iblk, V]
  all_goals rfl

/-- The widened weights after the region. -/
theorem wide_weights (c : Dev nD) : (dats m 0 c).arrAt 3 cfg0.N = m ((c : Thread nD τ).loc main_arg2) := by
  refine (dats m 0 c).arrAt_eq_of_covers 3 _ (by decide +kernel) fun t hf y => ?_
  blk_simp
  rw [after0_3]
  frame_out
  pointwise [k0_pay2]
  blk_point [iblk, V]
  all_goals rfl

/-- The decay after the region. -/
theorem wide_decay (c : Dev nD) : (dats m 0 c).arrAt 4 cfg0.N = (fun _ => ((19 / 20 : ℝ) : EReal) : FVec Ideal S1 .f32) := by
  refine (dats m 0 c).arrAt_eq_of_covers 4 _ (by decide +kernel) fun t hf y => ?_
  blk_simp
  rw [after0_4]
  frame_out
  pointwise [k0_pay3]
  exact IdealRules.named_const.ideal_named_scalar (φ := .f32) κ "decay" 0x3F733333#32 _ rfl

/-- What the run leaves in the first result. -/
theorem result (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] c main_v21
      = hostVals (m ((c : Thread nD τ).loc main_arg0)) (m ((c : Thread nD τ).loc main_arg2)) (m ((c : Thread nD τ).loc main_arg1)) (m ((c : Thread nD τ).loc main_arg3))
          (m ((c : Thread nD τ).loc main_arg4)) (m ((c : Thread nD τ).loc main_arg8)) (m ((c : Thread nD τ).loc main_arg9)) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_v21) hostOps1_15 _ hostOps1_15_writes (by decide +kernel),
    StableHlo.after_of_writes_sub (r := main_v21) hostOps1_14 _ hostOps1_14_writes (by decide +kernel),
    StableHlo.after_of_writes_sub (r := main_v21) hostOps1_13 _ hostOps1_13_writes (by decide +kernel),
    StableHlo.after_of_writes_sub (r := main_v21) hostOps1_12 _ hostOps1_12_writes (by decide +kernel),
    StableHlo.after_of_writes_sub (r := main_v21) hostOps1_11 _ hostOps1_11_writes (by decide +kernel),
    StableHlo.after_of_writes_sub (r := main_v21) hostOps1_10 _ hostOps1_10_writes (by decide +kernel),
    StableHlo.after_of_writes_sub (r := main_v21) hostOps1_9 _ hostOps1_9_writes (by decide +kernel),
    StableHlo.after_of_writes_sub (r := main_v21) hostOps1_8 _ hostOps1_8_writes (by decide +kernel),
    StableHlo.after_of_writes_sub (r := main_v21) hostOps1_7 _ hostOps1_7_writes (by decide +kernel),
    StableHlo.after_of_writes_sub (r := main_v21) hostOps1_6 _ hostOps1_6_writes (by decide +kernel),
    StableHlo.after_of_writes_sub (r := main_v21) hostOps1_5 _ hostOps1_5_writes (by decide +kernel),
    StableHlo.after_of_writes_sub (r := main_v21) hostOps1_4 _ hostOps1_4_writes (by decide +kernel),
    StableHlo.after_of_writes_sub (r := main_v21) hostOps1_3 _ hostOps1_3_writes (by decide +kernel),
    StableHlo.after_of_writes_sub (r := main_v21) hostOps1_2 _ hostOps1_2_writes (by decide +kernel),
    tail_read,
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_arg8 (by exact (by decide : ∀ w, Pipeline.arrRef spec0 w ≠ main_arg8)),
    Pipeline.withArrays_of_ne _ c (V0 m c) _ main_arg9 (by exact (by decide : ∀ w, Pipeline.arrRef spec0 w ≠ main_arg9))]
  rw [show Pipeline.withArrays spec0 c (V0 m c) (fun w => (dats m 0 c).arrAt w cfg0.N) (Proc.devRef .tc main_v0_0) = m ((c : Thread nD τ).loc main_arg0) from
      (Pipeline.withArrays_arr spec0 (by decide) c (V0 m c) _ 2).trans (wide_hidden m c),
    show Pipeline.withArrays spec0 c (V0 m c) (fun w => (dats m 0 c).arrAt w cfg0.N) (Proc.devRef .tc main_v0_1) = m ((c : Thread nD τ).loc main_arg2) from
      (Pipeline.withArrays_arr spec0 (by decide) c (V0 m c) _ 3).trans (wide_weights m c)]
  rfl

/-- The run of the reference: the first result holds the value of every sequence and position. -/
theorem run_values (ρ : Dev nD → PrngReg) : θ_run defs (onTc (τ := τ) (main (F := Ideal))) ⟨m, fun _ => 0, ρ⟩ (fun r => ∀ (c : Dev nD) (i : S2x1024.Idx),
    r.2.mem ((c : Thread nD τ).loc main_v21) i
      = valueAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg8)) (m ((c : Thread nD τ).loc main_arg9)) (i 0) (i 1)) := by
  refine (θ_run defs _ _).mono (fun r h c i => ?_) (run_main m ρ)
  have hr := ((h c).2 main_v21 (Pipeline.mem_restRefs_of main_v21 (by decide) (by decide))).trans (result m c)
  have hi : i = ix2 (i 0) (i 1) := funext fun a => match a with
    | ⟨0, _⟩ => rfl
    | ⟨1, _⟩ => rfl
  exact (congrFun hr i).trans ((congrArg _ hi).trans (hostVals_apply _ _ _ _ _ _ _ (i 0) (i 1)))

/-- What the run leaves in the third result. -/
theorem result_returns (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] c main_v95
      = hostRets (m ((c : Thread nD τ).loc main_arg0)) (m ((c : Thread nD τ).loc main_arg2)) (fun _ => ((19 / 20 : ℝ) : EReal)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    StableHlo.after_of_writes_sub (r := main_v95) hostOps1_15 _ hostOps1_15_writes (by decide +kernel),
    tail_returns,
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6)),
    Pipeline.withArrays_of_ne _ c (V0 m c) _ main_arg7 (by exact (by decide : ∀ w, Pipeline.arrRef spec0 w ≠ main_arg7)),
    Pipeline.withArrays_of_ne _ c (V0 m c) _ main_arg8 (by exact (by decide : ∀ w, Pipeline.arrRef spec0 w ≠ main_arg8)),
    Pipeline.withArrays_of_ne _ c (V0 m c) _ main_arg9 (by exact (by decide : ∀ w, Pipeline.arrRef spec0 w ≠ main_arg9))]
  rw [show Pipeline.withArrays spec0 c (V0 m c) (fun w => (dats m 0 c).arrAt w cfg0.N) (Proc.devRef .tc main_v0_0) = m ((c : Thread nD τ).loc main_arg0) from
      (Pipeline.withArrays_arr spec0 (by decide) c (V0 m c) _ 2).trans (wide_hidden m c),
    show Pipeline.withArrays spec0 c (V0 m c) (fun w => (dats m 0 c).arrAt w cfg0.N) (Proc.devRef .tc main_v0_1) = m ((c : Thread nD τ).loc main_arg2) from
      (Pipeline.withArrays_arr spec0 (by decide) c (V0 m c) _ 3).trans (wide_weights m c),
    show Pipeline.withArrays spec0 c (V0 m c) (fun w => (dats m 0 c).arrAt w cfg0.N) (Proc.devRef .tc main_v0_2) = (fun _ => ((19 / 20 : ℝ) : EReal) : FVec Ideal S1 .f32) from
      (Pipeline.withArrays_arr spec0 (by decide) c (V0 m c) _ 4).trans (wide_decay m c)]
  rfl

/-- The run of the reference: the third result holds the return of every sequence and position. -/
theorem run_returns (ρ : Dev nD → PrngReg) : θ_run defs (onTc (τ := τ) (main (F := Ideal))) ⟨m, fun _ => 0, ρ⟩ (fun r => ∀ (c : Dev nD) (i : S2x1024.Idx),
    r.2.mem ((c : Thread nD τ).loc main_v95) i
      = returnAt (valueAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) (i 0)) (rewardAt (m ((c : Thread nD τ).loc main_arg5)) (m ((c : Thread nD τ).loc main_arg6)) (m ((c : Thread nD τ).loc main_arg7)) (m ((c : Thread nD τ).loc main_arg8)) (m ((c : Thread nD τ).loc main_arg9)) (i 0)) (m ((c : Thread nD τ).loc main_arg9) (ix1 (i 0))) (m ((c : Thread nD τ).loc main_arg8) (ix1 (i 0))) (i 1)) := by
  refine (θ_run defs _ _).mono (fun r h c i => ?_) (run_main m ρ)
  have hr := ((h c).2 main_v95 (Pipeline.mem_restRefs_of main_v95 (by decide) (by decide))).trans (result_returns m c)
  have hi : i = ix2 (i 0) (i 1) := funext fun a => match a with
    | ⟨0, _⟩ => rfl
    | ⟨1, _⟩ => rfl
  exact (congrFun hr i).trans ((congrArg _ hi).trans (hostRets_apply _ _ _ rfl _ _ _ _ _ _ _ _ (i 0) (i 1)))

end Cert.ReferenceIdeal.Critic

end
end
-- ==== Proof.RefAdvantages.lean ====
module

public import proofs.«01_k».proof.Proof.RefValue
public import proofs.«01_k».proof.Proof.Advantages

/-!
# The reference's second result

Read off the run of the reference: the masked sums, whitened by their mean and their variance.
-/

@[expose] public section

set_option maxRecDepth 16384

noncomputable section

namespace Cert.ReferenceIdeal.Critic

open Idealize.ShloMosaic Idealize.ShloMosaic.TcCoe Idealize.ShloMosaic.Tactic
open Idealize.SL Idealize.SL.Sem
open Cert.Critic Cert.ReferenceIdeal.Gen

/-- The mask as numbers. -/
def hostNum (M : IVec S2x1024 1) : FVec Ideal S2x1024 .f32 := uitofp .f32 M
/-- The sum of a whole array. -/
def hostTotal (x : FVec Ideal S2x1024 .f32) : FVec Ideal S_ .f32 := Host.reduceAdd x (constant S_ .f32 0x00000000#32) reducesTo_S2x1024_S_d0_1 h_S_
def hostMean (M : IVec S2x1024 1) (A : FVec Ideal S2x1024 .f32) : FVec Ideal S_ .f32 := Host.divf (hostTotal (mulf (hostNum M) A)) (hostTotal (hostNum M))
def hostDev (M : IVec S2x1024 1) (A : FVec Ideal S2x1024 .f32) : FVec Ideal S2x1024 .f32 := subf A (broadcastInDim S2x1024 ![] bcast_S_S2x1024 (hostMean M A))
def hostVar (M : IVec S2x1024 1) (A : FVec Ideal S2x1024 .f32) : FVec Ideal S_ .f32 :=
  Host.divf (hostTotal (mulf (hostNum M) (mulf (hostDev M A) (hostDev M A)))) (subf (hostTotal (hostNum M)) (constant S_ .f32 0x3F800000#32))
/-- The whitened array. -/
def hostWhite (M : IVec S2x1024 1) (A : FVec Ideal S2x1024 .f32) : FVec Ideal S2x1024 .f32 :=
  select M (mulf (hostDev M A) (broadcastInDim S2x1024 ![] bcast_S_S2x1024 (Host.rsqrt (addf (hostVar M A) (constant S_ .f32 0x322BCC77#32))))) zeros

theorem total_apply (x : FVec Ideal S2x1024 .f32) (j : S_.Idx) : hostTotal x j = ∑ r : Fin 2, ∑ t : Fin 1024, (x (ix2 r t) : EReal) := by
  pointwise [hostTotal]

theorem num_apply (M : IVec S2x1024 1) (r : Fin 2) (t : Fin 1024) : (hostNum M (ix2 r t) : EReal) = (((M (ix2 r t)).toNat : ℝ) : EReal) := by
  pointwise [hostNum]
  rfl

theorem mean_apply (M : IVec S2x1024 1) (A : FVec Ideal S2x1024 .f32) (j : S_.Idx) :
    hostMean M A j = Ideal.div (hostTotal (mulf (hostNum M) A) j : EReal) (hostTotal (hostNum M) j : EReal) := by
  pointwise [hostMean]

theorem dev_apply (M : IVec S2x1024 1) (A : FVec Ideal S2x1024 .f32) (mu : EReal) (h : ∀ j, hostMean M A j = mu) (r : Fin 2) (t : Fin 1024) :
    hostDev M A (ix2 r t) = (A (ix2 r t) : EReal) - mu := by
  unfold hostDev
  rw [show hostMean M A = fun _ => mu from funext h]
  pointwise

theorem var_apply (M : IVec S2x1024 1) (A : FVec Ideal S2x1024 .f32) (j : S_.Idx) :
    hostVar M A j = Ideal.div (hostTotal (mulf (hostNum M) (mulf (hostDev M A) (hostDev M A))) j : EReal) ((hostTotal (hostNum M) j : EReal) - 1) := by
  pointwise [hostVar]

theorem white_apply (M : IVec S2x1024 1) (A : FVec Ideal S2x1024 .f32) (va : EReal) (h : ∀ j, hostVar M A j = va) (r : Fin 2) (t : Fin 1024) :
    hostWhite M A (ix2 r t) = Scalar.select (M (ix2 r t)) ((hostDev M A (ix2 r t) : EReal) * Ideal.rsqrt (va + Ideal.ofBits .f32 0x322BCC77#32)) 0 := by
  unfold hostWhite
  rw [show hostVar M A = fun _ => va from funext h]
  pointwise [zeros]

/-- The whitened array is the advantage of every sequence and position. -/
theorem hostWhite_apply (M : IVec S2x1024 1) (A : FVec Ideal S2x1024 .f32) (mk : Fin 2 → Fin 1024 → BitVec 1) (B : Fin 2 → Fin 1024 → EReal)
    (hM : ∀ r t, M (ix2 r t) = mk r t) (hA : ∀ r t, A (ix2 r t) = B r t) (hB : ∀ r t, ((((mk r t).toNat : ℝ)) : EReal) * B r t = B r t) (r : Fin 2) (t : Fin 1024) :
    hostWhite M A (ix2 r t) = whiteAt mk B r t := by
  have hn : ∀ j, hostTotal (hostNum M) j = countOf mk := fun j => by
    rw [total_apply]
    exact Finset.sum_congr rfl fun r _ => Finset.sum_congr rfl fun t _ => by rw [num_apply, hM, bit_num]
  have ht : ∀ j, hostTotal (mulf (hostNum M) A) j = ∑ r, ∑ t, B r t := fun j => by
    rw [total_apply]
    refine Finset.sum_congr rfl fun r _ => Finset.sum_congr rfl fun t _ => ?_
    refine (congrArg₂ (· * ·) ((num_apply M r t).trans (by rw [hM])) (hA r t)).trans (hB r t)
  have hmu : ∀ j, hostMean M A j = meanOf mk B := fun j => by
    rw [mean_apply, hn, ht]
    rfl
  have hd : ∀ r t, hostDev M A (ix2 r t) = B r t - meanOf mk B := fun r t => by
    rw [dev_apply M A _ hmu, hA]
  have hva : ∀ j, hostVar M A j = varOf mk B := fun j => by
    rw [var_apply, hn]
    refine congrArg (Ideal.div · _) ((total_apply _ j).trans ?_)
    refine Finset.sum_congr rfl fun r _ => Finset.sum_congr rfl fun t _ => ?_
    refine (congrArg₂ (· * ·) ((num_apply M r t).trans (by rw [hM])) (congrArg₂ (· * ·) (hd r t) (hd r t))).trans ?_
    exact bit_square (mk r t) _
  rw [white_apply M A _ hva, hd, hM]
  exact select_mul _ _ _

theorem read_adv (X : Valuation τ sig (Elt Ideal)) (h0 : X (Proc.devRef .tc main_cst_15) = constant (F := Ideal) S_ .f32 0x00000000#32) :
    StableHlo.after (hostOps1_15 (F := Ideal)) (StableHlo.after (hostOps1_14 (F := Ideal)) (StableHlo.after (hostOps1_13 (F := Ideal)) X)) (Proc.devRef .tc main_v114)
      = hostWhite (X (Proc.devRef .tc main_v12)) (select (X (Proc.devRef .tc main_v12)) (X (Proc.devRef .tc main_v93)) zeros) := by
  unfold hostOps1_15 hostOps1_14 hostOps1_13
  after_results
  rw [h0]
  rfl

/-- The second result as the host lines compute it. -/
def hostAdvs (h : FVec Ideal S2x1024x16384 .f32) (w : FVec Ideal S16384 .f32) (d : FVec Ideal S1 .f32) (hs : FVec Ideal S2x1024 .f32) (ws b : FVec Ideal S1 .f32)
    (lp lr : FVec Ideal S2x1024 .bf16) (score : FVec Ideal S2 .f32) (len start : IVec S2 32) : FVec Ideal S2x1024 .f32 :=
  hostWhite (hostMask len start) (select (hostMask len start) (hostSums (hostDelta (hostMask len start) (hostVals h w hs ws b len start)
    (hostReward (hostMask len start) lp lr score hostPos (hostEnd len start))) (shapeCast S_ d shapeCasts_S1_S_)) zeros)

theorem sum_apply (len start : IVec S2 32) (lp lr : FVec Ideal S2x1024 .bf16) (score : FVec Ideal S2 .f32) (v : FVec Ideal S2x1024 .f32)
    (c : FVec Ideal S_ .f32) (hc : c = fun _ => ((19 / 20 : ℝ) : EReal)) (r : Fin 2) (t : Fin 1024) :
    select (hostMask len start) (hostSums (hostDelta (hostMask len start) v (hostReward (hostMask len start) lp lr score hostPos (hostEnd len start))) c) zeros (ix2 r t)
      = sumAt (fun t => v (ix2 r t)) (rewardAt lp lr score len start r) (start (ix1 r)) (len (ix1 r)) t := by
  have hd : ∀ t, hostDelta (hostMask len start) v (hostReward (hostMask len start) lp lr score hostPos (hostEnd len start)) (ix2 r t)
      = deltaAt (fun t => v (ix2 r t)) (rewardAt lp lr score len start r) (start (ix1 r)) (len (ix1 r)) t := fun t => by
    rw [delta_apply]
    exact congrArg (fun f => deltaAt _ f _ _ t) (funext fun t => reward_apply lp lr score len start r t)
  have hL : ∀ k l, hostLocal (hostDelta (hostMask len start) v (hostReward (hostMask len start) lp lr score hostPos (hostEnd len start))) c (ix3 r k l)
      = localAt (deltaAt (fun t => v (ix2 r t)) (rewardAt lp lr score len start r) (start (ix1 r)) (len (ix1 r))) k l := fun k l => by
    rw [local_apply]
    exact Finset.sum_congr rfl fun j _ => by rw [hd, M_apply c hc]
  have hN : ∀ k, hostNext (hostLocal (hostDelta (hostMask len start) v (hostReward (hostMask len start) lp lr score hostPos (hostEnd len start))) c) c (ix2 r k)
      = nextAt (deltaAt (fun t => v (ix2 r t)) (rewardAt lp lr score len start r) (start (ix1 r)) (len (ix1 r))) k := fun k => by
    rw [next_apply]
    exact Finset.sum_congr rfl fun j _ => by rw [hL, Q_apply c hc]
  pointwise [zeros]
  rw [mask_apply, sums_apply, hL, hN, tail_apply c hc]
  rfl

theorem hostAdvs_apply (h : FVec Ideal S2x1024x16384 .f32) (w : FVec Ideal S16384 .f32) (d : FVec Ideal S1 .f32) (hd : d = fun _ => ((19 / 20 : ℝ) : EReal)) (hs : FVec Ideal S2x1024 .f32) (ws b : FVec Ideal S1 .f32)
    (lp lr : FVec Ideal S2x1024 .bf16) (score : FVec Ideal S2 .f32) (len start : IVec S2 32) (r : Fin 2) (t : Fin 1024) :
    hostAdvs h w d hs ws b lp lr score len start (ix2 r t)
      = advAt (valueAt h hs w ws b len start) (rewardAt lp lr score len start) start len r t := by
  refine hostWhite_apply _ _ _ _ (fun r t => mask_apply len start r t) (fun r t => ?_) (fun r t => bit_sumAt _ _ _ _ t) r t
  refine (sum_apply len start lp lr score (hostVals h w hs ws b len start) (shapeCast S_ d shapeCasts_S1_S_) (by rw [hd]; rfl) r t).trans ?_
  exact congrArg (fun f => sumAt f _ _ _ t) (funext fun t => hostVals_apply h w hs ws b len start r t)

/-- The host lines after the region, read at the second result. -/
theorem tail_advantages (X : Valuation τ sig (Elt Ideal)) :
    StableHlo.after (hostOps1_15 (F := Ideal)) (StableHlo.after (hostOps1_14 (F := Ideal)) (StableHlo.after (hostOps1_13 (F := Ideal)) (StableHlo.after (hostOps1_12 (F := Ideal)) (StableHlo.after (hostOps1_11 (F := Ideal)) (StableHlo.after (hostOps1_10 (F := Ideal)) (StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))))))))))) (Proc.devRef .tc main_v114)
      = hostAdvs (X (Proc.devRef .tc main_v0_0)) (X (Proc.devRef .tc main_v0_1)) (X (Proc.devRef .tc main_v0_2)) (X (Proc.devRef .tc main_arg1)) (X (Proc.devRef .tc main_arg3)) (X (Proc.devRef .tc main_arg4))
          (X (Proc.devRef .tc main_arg5)) (X (Proc.devRef .tc main_arg6)) (X (Proc.devRef .tc main_arg7)) (X (Proc.devRef .tc main_arg8)) (X (Proc.devRef .tc main_arg9)) := by
  have h43 : StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))))) (Proc.devRef .tc main_v43) = shapeCast S_ (X (Proc.devRef .tc main_v0_2)) shapeCasts_S1_S_ := by
    rw [StableHlo.after_of_writes_sub (r := main_v43) hostOps1_9 _ hostOps1_9_writes (by decide +kernel), StableHlo.after_of_writes_sub (r := main_v43) hostOps1_8 _ hostOps1_8_writes (by decide +kernel), read_decay, StableHlo.after_of_writes_sub (r := main_v0_2) hostOps1_5 _ hostOps1_5_writes (by decide +kernel), StableHlo.after_of_writes_sub (r := main_v0_2) hostOps1_4 _ hostOps1_4_writes (by decide +kernel), StableHlo.after_of_writes_sub (r := main_v0_2) hostOps1_3 _ hostOps1_3_writes (by decide +kernel), StableHlo.after_of_writes_sub (r := main_v0_2) hostOps1_2 _ hostOps1_2_writes (by decide +kernel), StableHlo.after_of_writes_sub (r := main_v0_2) hostOps1_1 _ hostOps1_1_writes (by decide +kernel), StableHlo.after_of_writes_sub (r := main_v0_2) hostOps1 _ hostOps1_writes (by decide +kernel)]
  have h43' : StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))) (Proc.devRef .tc main_v43) = StableHlo.after (hostOps1_9 (F := Ideal)) (StableHlo.after (hostOps1_8 (F := Ideal)) (StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))))) (Proc.devRef .tc main_v43) := by
    rw [StableHlo.after_of_writes_sub (r := main_v43) hostOps1_9 _ hostOps1_9_writes (by decide +kernel), StableHlo.after_of_writes_sub (r := main_v43) hostOps1_8 _ hostOps1_8_writes (by decide +kernel)]
  have hd : StableHlo.after (hostOps1_7 (F := Ideal)) (StableHlo.after (hostOps1_6 (F := Ideal)) (StableHlo.after (hostOps1_5 (F := Ideal)) (StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) (X)))))))) (Proc.devRef .tc main_v44) = hostDelta (hostMask (X (Proc.devRef .tc main_arg8)) (X (Proc.devRef .tc main_arg9))) (hostVals (X (Proc.devRef .tc main_v0_0)) (X (Proc.devRef .tc main_v0_1)) (X (Proc.devRef .tc main_arg1)) (X (Proc.devRef .tc main_arg3)) (X (Proc.devRef .tc main_arg4)) (X (Proc.devRef .tc main_arg8)) (X (Proc.devRef .tc main_arg9)))
      (hostReward (hostMask (X (Proc.devRef .tc main_arg8)) (X (Proc.devRef .tc main_arg9))) (X (Proc.devRef .tc main_arg5)) (X (Proc.devRef .tc main_arg6)) (X (Proc.devRef .tc main_arg7)) hostPos (hostEnd (X (Proc.devRef .tc main_arg8)) (X (Proc.devRef .tc main_arg9)))) := by
    rw [read_delta, read_reward, StableHlo.after_of_writes_sub (r := main_v12) hostOps1_5 _ hostOps1_5_writes (by decide +kernel), StableHlo.after_of_writes_sub (r := main_v12) hostOps1_4 _ hostOps1_4_writes (by decide +kernel), StableHlo.after_of_writes_sub (r := main_v12) hostOps1_3 _ hostOps1_3_writes (by decide +kernel), StableHlo.after_of_writes_sub (r := main_v12) hostOps1_2 _ hostOps1_2_writes (by decide +kernel), StableHlo.after_of_writes_sub (r := main_v21) hostOps1_5 _ hostOps1_5_writes (by decide +kernel), StableHlo.after_of_writes_sub (r := main_v21) hostOps1_4 _ hostOps1_4_writes (by decide +kernel), StableHlo.after_of_writes_sub (r := main_v21) hostOps1_3 _ hostOps1_3_writes (by decide +kernel), StableHlo.after_of_writes_sub (r := main_v21) hostOps1_2 _ hostOps1_2_writes (by decide +kernel), read_mask, read_position, read_end, tail_read,
      StableHlo.after_of_writes_sub (r := main_arg5) hostOps1_1 _ hostOps1_1_writes (by decide +kernel), StableHlo.after_of_writes_sub (r := main_arg5) hostOps1 _ hostOps1_writes (by decide +kernel), StableHlo.after_of_writes_sub (r := main_arg6) hostOps1_1 _ hostOps1_1_writes (by decide +kernel), StableHlo.after_of_writes_sub (r := main_arg6) hostOps1 _ hostOps1_writes (by decide +kernel), StableHlo.after_of_writes_sub (r := main_arg7) hostOps1_1 _ hostOps1_1_writes (by decide +kernel), StableHlo.after_of_writes_sub (r := main_arg7) hostOps1 _ hostOps1_writes (by decide +kernel)]
  rw [read_adv _ (read_zero _),
    StableHlo.after_of_writes_sub (r := main_v12) hostOps1_12 _ hostOps1_12_writes (by decide +kernel), StableHlo.after_of_writes_sub (r := main_v12) hostOps1_11 _ hostOps1_11_writes (by decide +kernel), StableHlo.after_of_writes_sub (r := main_v12) hostOps1_10 _ hostOps1_10_writes (by decide +kernel), StableHlo.after_of_writes_sub (r := main_v12) hostOps1_9 _ hostOps1_9_writes (by decide +kernel), StableHlo.after_of_writes_sub (r := main_v12) hostOps1_8 _ hostOps1_8_writes (by decide +kernel), StableHlo.after_of_writes_sub (r := main_v12) hostOps1_7 _ hostOps1_7_writes (by decide +kernel), StableHlo.after_of_writes_sub (r := main_v12) hostOps1_6 _ hostOps1_6_writes (by decide +kernel), StableHlo.after_of_writes_sub (r := main_v12) hostOps1_5 _ hostOps1_5_writes (by decide +kernel), StableHlo.after_of_writes_sub (r := main_v12) hostOps1_4 _ hostOps1_4_writes (by decide +kernel), StableHlo.after_of_writes_sub (r := main_v12) hostOps1_3 _ hostOps1_3_writes (by decide +kernel), StableHlo.after_of_writes_sub (r := main_v12) hostOps1_2 _ hostOps1_2_writes (by decide +kernel),
    read_mask,
    read_sums _ _ ((read_head _).trans (congrArg hostM h43')) (read_pos _) (read_cut _), h43, hd]
  rfl

variable (m : (ℓ : Loc nD τ sig) → Buf (Elt Ideal) ℓ) (ρ : Dev nD → PrngReg)

theorem result_advantages (c : Dev nD) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15] c main_v114
      = hostAdvs (m ((c : Thread nD τ).loc main_arg0)) (m ((c : Thread nD τ).loc main_arg2)) (fun _ => ((19 / 20 : ℝ) : EReal)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append,
    tail_advantages,
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4)),
    Pipeline.withArrays_of_ne _ c (V0 m c) _ main_arg5 (by exact (by decide : ∀ w, Pipeline.arrRef spec0 w ≠ main_arg5)),
    Pipeline.withArrays_of_ne _ c (V0 m c) _ main_arg6 (by exact (by decide : ∀ w, Pipeline.arrRef spec0 w ≠ main_arg6)),
    Pipeline.withArrays_of_ne _ c (V0 m c) _ main_arg7 (by exact (by decide : ∀ w, Pipeline.arrRef spec0 w ≠ main_arg7)),
    Pipeline.withArrays_of_ne _ c (V0 m c) _ main_arg8 (by exact (by decide : ∀ w, Pipeline.arrRef spec0 w ≠ main_arg8)),
    Pipeline.withArrays_of_ne _ c (V0 m c) _ main_arg9 (by exact (by decide : ∀ w, Pipeline.arrRef spec0 w ≠ main_arg9))]
  rw [show Pipeline.withArrays spec0 c (V0 m c) (fun w => (dats m 0 c).arrAt w cfg0.N) (Proc.devRef .tc main_v0_0) = m ((c : Thread nD τ).loc main_arg0) from
      (Pipeline.withArrays_arr spec0 (by decide) c (V0 m c) _ 2).trans (wide_hidden m c),
    show Pipeline.withArrays spec0 c (V0 m c) (fun w => (dats m 0 c).arrAt w cfg0.N) (Proc.devRef .tc main_v0_1) = m ((c : Thread nD τ).loc main_arg2) from
      (Pipeline.withArrays_arr spec0 (by decide) c (V0 m c) _ 3).trans (wide_weights m c),
    show Pipeline.withArrays spec0 c (V0 m c) (fun w => (dats m 0 c).arrAt w cfg0.N) (Proc.devRef .tc main_v0_2) = (fun _ => ((19 / 20 : ℝ) : EReal) : FVec Ideal S1 .f32) from
      (Pipeline.withArrays_arr spec0 (by decide) c (V0 m c) _ 4).trans (wide_decay m c)]
  rfl

/-- The run of the reference: the second result holds the advantage of every sequence and position. -/
theorem run_advantages (ρ : Dev nD → PrngReg) : θ_run defs (onTc (τ := τ) (main (F := Ideal))) ⟨m, fun _ => 0, ρ⟩ (fun r => ∀ (c : Dev nD) (i : S2x1024.Idx),
    r.2.mem ((c : Thread nD τ).loc main_v114) i
      = advAt (valueAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9))) (rewardAt (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg9)) (m ((c : Thread nD τ).loc main_arg8)) (i 0) (i 1)) := by
  refine (θ_run defs _ _).mono (fun r h c i => ?_) (run_main m ρ)
  have hr := ((h c).2 main_v114 (Pipeline.mem_restRefs_of main_v114 (by decide) (by decide))).trans (result_advantages m c)
  have hi : i = ix2 (i 0) (i 1) := funext fun a => match a with
    | ⟨0, _⟩ => rfl
    | ⟨1, _⟩ => rfl
  exact (congrFun hr i).trans ((congrArg _ hi).trans (hostAdvs_apply _ _ _ rfl _ _ _ _ _ _ _ _ (i 0) (i 1)))

end Cert.ReferenceIdeal.Critic

end
end
-- ==== Proof.lean ====
module

public import proofs.«01_k».proof.Defs
public import proofs.«01_k».proof.Proof.Frame
public import proofs.«01_k».proof.Proof.KernelIdealReturns
public import proofs.«01_k».proof.Proof.RefAdvantages
public import Idealize.ShloMosaic.Adequacy
public import Idealize.ShloMosaic.Init

@[expose] public section

noncomputable section

namespace Cert.Proof

open Idealize.ShloMosaic Idealize.SL.Sem

/-- Over the reals the kernel and the reference end with the same three results. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c i => Cert.Critic.valueAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (i 0) (i 1),
    fun c i => Cert.Critic.advAt (Cert.Critic.valueAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (Cert.Critic.rewardAt (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg9)) (m ((c.tc : Thread Cert.KernelIdeal.nD Cert.KernelIdeal.τ).loc Cert.KernelIdeal.main_arg8)) (i 0) (i 1),
    fun c i => Cert.Critic.returnAt (Cert.Critic.valueAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (i 0)) (Cert.Critic.rewardAt (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (i 0)) ((m ((c.tc : Thread Cert.KernelIdeal.nD Cert.KernelIdeal.τ).loc Cert.KernelIdeal.main_arg9)) (ix1 (i 0))) ((m ((c.tc : Thread Cert.KernelIdeal.nD Cert.KernelIdeal.τ).loc Cert.KernelIdeal.main_arg8)) (ix1 (i 0))) (i 1), ?_, ?_⟩
  · refine (θ_run _ _ _).mono (fun r h c => ⟨funext fun i => h.1.1 c i, funext fun i => h.1.2.1 c i, funext fun i => h.1.2.2 c i, h.2.1 c⟩)
      (θ_run_and (θ_run_and (Cert.KernelIdeal.Critic.run_values m g) (θ_run_and (Cert.KernelIdeal.Critic.run_advantages m g) (Cert.KernelIdeal.Critic.run_returns m g))) (Cert.KernelIdeal.Critic.frame m g))
  · refine (θ_run _ _ _).mono (fun r h c => ⟨funext fun i => ?_, funext fun i => ?_, funext fun i => ?_, h.2 c⟩)
      (θ_run_and (θ_run_and (Cert.ReferenceIdeal.Critic.run_values m' g') (θ_run_and (Cert.ReferenceIdeal.Critic.run_advantages m' g') (Cert.ReferenceIdeal.Critic.run_returns m' g'))) (Cert.ReferenceIdeal.Gen.unchanged m' g'))
    · obtain ⟨h0, h1, h2, h3, h4, _, _, _, h8, h9⟩ := hm c
      refine (h.1.1 c i).trans ?_
      rw [h0, h1, h2, h3, h4, h8, h9]
    · obtain ⟨h0, h1, h2, h3, h4, h5, h6, h7, h8, h9⟩ := hm c
      refine (h.1.2.1 c i).trans ?_
      rw [h0, h1, h2, h3, h4, h5, h6, h7, h8, h9]
    · obtain ⟨h0, h1, h2, h3, h4, h5, h6, h7, h8, h9⟩ := hm c
      refine (h.1.2.2 c i).trans ?_
      rw [h0, h1, h2, h3, h4, h5, h6, h7, h8, h9]

/-- The constants that the idealization names round to the words that the kernel holds. -/
theorem preserves : Cert.preserves_Kernel_KernelIdeal :=
  ⟨IdealRules.named_const.statement Cert.KernelIdeal.κ _ _ _ _ rfl, IdealRules.named_const.statement Cert.KernelIdeal.κ _ _ _ _ rfl,
    IdealRules.named_const.statement Cert.KernelIdeal.κ _ _ _ _ rfl, IdealRules.named_const.statement Cert.KernelIdeal.κ _ _ _ _ rfl⟩

/-- Every claim of the certificate: the three frames, that the idealization only names constants, and the three results over the reals. -/
theorem claim : Cert.Claim :=
  ⟨Cert.Kernel.Gen.facts, Cert.KernelIdeal.Gen.facts, Cert.ReferenceIdeal.Gen.facts,
    fun m ρ _ => Cert.Kernel.Critic.frame m ρ,
    fun m ρ _ => Cert.KernelIdeal.Critic.frame m ρ,
    fun m ρ _ => Cert.ReferenceIdeal.Gen.frame m ρ,
    preserves,
    algebraic⟩

end Cert.Proof

end
